-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_all_finite [hPre_all_finite : Cert.Pre_all_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_all_finite [hPre_all_finite : Cert.Pre_all_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_all_finite [hKernel5Ideal : Cert.Kernel5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_all_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_all_finite [hReference5Ideal : Cert.Reference5Ideal.Facts] [hPre_all_finite : Cert.Pre_all_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_all_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19)
      ∧ r.2.mem ((c.tc : Thread Cert.Kernel12.nD Cert.Kernel12.τ).loc Cert.Kernel12.main_arg20) = m ((c.tc : Thread Cert.Kernel12.nD Cert.Kernel12.τ).loc Cert.Kernel12.main_arg20)
      ∧ r.2.mem ((c.tc : Thread Cert.Kernel12.nD Cert.Kernel12.τ).loc Cert.Kernel12.main_arg21) = m ((c.tc : Thread Cert.Kernel12.nD Cert.Kernel12.τ).loc Cert.Kernel12.main_arg21)
      ∧ r.2.mem ((c.tc : Thread Cert.Kernel12.nD Cert.Kernel12.τ).loc Cert.Kernel12.main_arg22) = m ((c.tc : Thread Cert.Kernel12.nD Cert.Kernel12.τ).loc Cert.Kernel12.main_arg22)
      ∧ r.2.mem ((c.tc : Thread Cert.Kernel12.nD Cert.Kernel12.τ).loc Cert.Kernel12.main_arg23) = m ((c.tc : Thread Cert.Kernel12.nD Cert.Kernel12.τ).loc Cert.Kernel12.main_arg23)
      ∧ r.2.mem ((c.tc : Thread Cert.Kernel12.nD Cert.Kernel12.τ).loc Cert.Kernel12.main_arg24) = m ((c.tc : Thread Cert.Kernel12.nD Cert.Kernel12.τ).loc Cert.Kernel12.main_arg24)
      ∧ r.2.mem ((c.tc : Thread Cert.Kernel12.nD Cert.Kernel12.τ).loc Cert.Kernel12.main_arg25) = m ((c.tc : Thread Cert.Kernel12.nD Cert.Kernel12.τ).loc Cert.Kernel12.main_arg25)
      ∧ r.2.mem ((c.tc : Thread Cert.Kernel12.nD Cert.Kernel12.τ).loc Cert.Kernel12.main_arg26) = m ((c.tc : Thread Cert.Kernel12.nD Cert.Kernel12.τ).loc Cert.Kernel12.main_arg26)
      ∧ r.2.mem ((c.tc : Thread Cert.Kernel12.nD Cert.Kernel12.τ).loc Cert.Kernel12.main_arg27) = m ((c.tc : Thread Cert.Kernel12.nD Cert.Kernel12.τ).loc Cert.Kernel12.main_arg27)
      ∧ r.2.mem ((c.tc : Thread Cert.Kernel12.nD Cert.Kernel12.τ).loc Cert.Kernel12.main_arg28) = m ((c.tc : Thread Cert.Kernel12.nD Cert.Kernel12.τ).loc Cert.Kernel12.main_arg28)
      ∧ r.2.mem ((c.tc : Thread Cert.Kernel12.nD Cert.Kernel12.τ).loc Cert.Kernel12.main_arg29) = m ((c.tc : Thread Cert.Kernel12.nD Cert.Kernel12.τ).loc Cert.Kernel12.main_arg29)
      ∧ r.2.mem ((c.tc : Thread Cert.Kernel12.nD Cert.Kernel12.τ).loc Cert.Kernel12.main_arg30) = m ((c.tc : Thread Cert.Kernel12.nD Cert.Kernel12.τ).loc Cert.Kernel12.main_arg30)
      ∧ r.2.mem ((c.tc : Thread Cert.Kernel12.nD Cert.Kernel12.τ).loc Cert.Kernel12.main_arg31) = m ((c.tc : Thread Cert.Kernel12.nD Cert.Kernel12.τ).loc Cert.Kernel12.main_arg31)
      ∧ r.2.mem ((c.tc : Thread Cert.Kernel12.nD Cert.Kernel12.τ).loc Cert.Kernel12.main_arg32) = m ((c.tc : Thread Cert.Kernel12.nD Cert.Kernel12.τ).loc Cert.Kernel12.main_arg32)
      ∧ r.2.mem ((c.tc : Thread Cert.Kernel12.nD Cert.Kernel12.τ).loc Cert.Kernel12.main_arg33) = m ((c.tc : Thread Cert.Kernel12.nD Cert.Kernel12.τ).loc Cert.Kernel12.main_arg33)
      ∧ r.2.mem ((c.tc : Thread Cert.Kernel12.nD Cert.Kernel12.τ).loc Cert.Kernel12.main_arg34) = m ((c.tc : Thread Cert.Kernel12.nD Cert.Kernel12.τ).loc Cert.Kernel12.main_arg34)
      ∧ r.2.mem ((c.tc : Thread Cert.Kernel12.nD Cert.Kernel12.τ).loc Cert.Kernel12.main_arg35) = m ((c.tc : Thread Cert.Kernel12.nD Cert.Kernel12.τ).loc Cert.Kernel12.main_arg35))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
      ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
      ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
      ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
      ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
      ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
      ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
      ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
      ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
      ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
      ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
      ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
      ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
      ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
      ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
      ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
      ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19)
      ∧ r.2.mem ((c.tc : Thread Cert.Reference12Ideal.nD Cert.Reference12Ideal.τ).loc Cert.Reference12Ideal.main_arg20) = m ((c.tc : Thread Cert.Reference12Ideal.nD Cert.Reference12Ideal.τ).loc Cert.Reference12Ideal.main_arg20)
      ∧ r.2.mem ((c.tc : Thread Cert.Reference12Ideal.nD Cert.Reference12Ideal.τ).loc Cert.Reference12Ideal.main_arg21) = m ((c.tc : Thread Cert.Reference12Ideal.nD Cert.Reference12Ideal.τ).loc Cert.Reference12Ideal.main_arg21)
      ∧ r.2.mem ((c.tc : Thread Cert.Reference12Ideal.nD Cert.Reference12Ideal.τ).loc Cert.Reference12Ideal.main_arg22) = m ((c.tc : Thread Cert.Reference12Ideal.nD Cert.Reference12Ideal.τ).loc Cert.Reference12Ideal.main_arg22)
      ∧ r.2.mem ((c.tc : Thread Cert.Reference12Ideal.nD Cert.Reference12Ideal.τ).loc Cert.Reference12Ideal.main_arg23) = m ((c.tc : Thread Cert.Reference12Ideal.nD Cert.Reference12Ideal.τ).loc Cert.Reference12Ideal.main_arg23)
      ∧ r.2.mem ((c.tc : Thread Cert.Reference12Ideal.nD Cert.Reference12Ideal.τ).loc Cert.Reference12Ideal.main_arg24) = m ((c.tc : Thread Cert.Reference12Ideal.nD Cert.Reference12Ideal.τ).loc Cert.Reference12Ideal.main_arg24)
      ∧ r.2.mem ((c.tc : Thread Cert.Reference12Ideal.nD Cert.Reference12Ideal.τ).loc Cert.Reference12Ideal.main_arg25) = m ((c.tc : Thread Cert.Reference12Ideal.nD Cert.Reference12Ideal.τ).loc Cert.Reference12Ideal.main_arg25)
      ∧ r.2.mem ((c.tc : Thread Cert.Reference12Ideal.nD Cert.Reference12Ideal.τ).loc Cert.Reference12Ideal.main_arg26) = m ((c.tc : Thread Cert.Reference12Ideal.nD Cert.Reference12Ideal.τ).loc Cert.Reference12Ideal.main_arg26)
      ∧ r.2.mem ((c.tc : Thread Cert.Reference12Ideal.nD Cert.Reference12Ideal.τ).loc Cert.Reference12Ideal.main_arg27) = m ((c.tc : Thread Cert.Reference12Ideal.nD Cert.Reference12Ideal.τ).loc Cert.Reference12Ideal.main_arg27)
      ∧ r.2.mem ((c.tc : Thread Cert.Reference12Ideal.nD Cert.Reference12Ideal.τ).loc Cert.Reference12Ideal.main_arg28) = m ((c.tc : Thread Cert.Reference12Ideal.nD Cert.Reference12Ideal.τ).loc Cert.Reference12Ideal.main_arg28)
      ∧ r.2.mem ((c.tc : Thread Cert.Reference12Ideal.nD Cert.Reference12Ideal.τ).loc Cert.Reference12Ideal.main_arg29) = m ((c.tc : Thread Cert.Reference12Ideal.nD Cert.Reference12Ideal.τ).loc Cert.Reference12Ideal.main_arg29)
      ∧ r.2.mem ((c.tc : Thread Cert.Reference12Ideal.nD Cert.Reference12Ideal.τ).loc Cert.Reference12Ideal.main_arg30) = m ((c.tc : Thread Cert.Reference12Ideal.nD Cert.Reference12Ideal.τ).loc Cert.Reference12Ideal.main_arg30)
      ∧ r.2.mem ((c.tc : Thread Cert.Reference12Ideal.nD Cert.Reference12Ideal.τ).loc Cert.Reference12Ideal.main_arg31) = m ((c.tc : Thread Cert.Reference12Ideal.nD Cert.Reference12Ideal.τ).loc Cert.Reference12Ideal.main_arg31)
      ∧ r.2.mem ((c.tc : Thread Cert.Reference12Ideal.nD Cert.Reference12Ideal.τ).loc Cert.Reference12Ideal.main_arg32) = m ((c.tc : Thread Cert.Reference12Ideal.nD Cert.Reference12Ideal.τ).loc Cert.Reference12Ideal.main_arg32)
      ∧ r.2.mem ((c.tc : Thread Cert.Reference12Ideal.nD Cert.Reference12Ideal.τ).loc Cert.Reference12Ideal.main_arg33) = m ((c.tc : Thread Cert.Reference12Ideal.nD Cert.Reference12Ideal.τ).loc Cert.Reference12Ideal.main_arg33)
      ∧ r.2.mem ((c.tc : Thread Cert.Reference12Ideal.nD Cert.Reference12Ideal.τ).loc Cert.Reference12Ideal.main_arg34) = m ((c.tc : Thread Cert.Reference12Ideal.nD Cert.Reference12Ideal.τ).loc Cert.Reference12Ideal.main_arg34)
      ∧ r.2.mem ((c.tc : Thread Cert.Reference12Ideal.nD Cert.Reference12Ideal.τ).loc Cert.Reference12Ideal.main_arg35) = m ((c.tc : Thread Cert.Reference12Ideal.nD Cert.Reference12Ideal.τ).loc Cert.Reference12Ideal.main_arg35))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_all_finite [hKernel5Ideal : Cert.Kernel5Ideal.Facts] [hReference5Ideal : Cert.Reference5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_all_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)) (v5 : (c : Dev Cert.Kernel5Ideal.nD) → Buf (Elt Ideal) ((c.tc : Thread Cert.Kernel5Ideal.nD Cert.Kernel5Ideal.τ).loc Cert.Kernel5Ideal.main_v6_5)) (v6 : (c : Dev Cert.Kernel5Ideal.nD) → Buf (Elt Ideal) ((c.tc : Thread Cert.Kernel5Ideal.nD Cert.Kernel5Ideal.τ).loc Cert.Kernel5Ideal.main_v6_6)) (v7 : (c : Dev Cert.Kernel5Ideal.nD) → Buf (Elt Ideal) ((c.tc : Thread Cert.Kernel5Ideal.nD Cert.Kernel5Ideal.τ).loc Cert.Kernel5Ideal.main_v6_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_v6_5) = v5 c
          ∧ r.2.mem ((c.tc : Thread Cert.Kernel5Ideal.nD Cert.Kernel5Ideal.τ).loc Cert.Kernel5Ideal.main_v6_6) = v6 c
          ∧ r.2.mem ((c.tc : Thread Cert.Kernel5Ideal.nD Cert.Kernel5Ideal.τ).loc Cert.Kernel5Ideal.main_v6_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v113) = v0 c
          ∧ r.2.mem ((c.tc : Thread Cert.Reference5Ideal.nD Cert.Reference5Ideal.τ).loc Cert.Reference5Ideal.main_v118) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_v117) = v3 c
          ∧ r.2.mem ((c.tc : Thread Cert.Reference5Ideal.nD Cert.Reference5Ideal.τ).loc Cert.Reference5Ideal.main_v119) = v4 c
          ∧ r.2.mem ((c.tc : Thread Cert.Reference5Ideal.nD Cert.Reference5Ideal.τ).loc Cert.Reference5Ideal.main_v120) = v5 c
          ∧ r.2.mem ((c.tc : Thread Cert.Reference5Ideal.nD Cert.Reference5Ideal.τ).loc Cert.Reference5Ideal.main_v121) = v6 c
          ∧ r.2.mem ((c.tc : Thread Cert.Reference5Ideal.nD Cert.Reference5Ideal.τ).loc Cert.Reference5Ideal.main_v109) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v34) = v1 c
          ∧ r.2.mem ((c.tc : Thread Cert.Reference6Ideal.nD Cert.Reference6Ideal.τ).loc Cert.Reference6Ideal.main_v35) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v34) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v33) = v2 c
          ∧ r.2.mem ((c.tc : Thread Cert.Reference9Ideal.nD Cert.Reference9Ideal.τ).loc Cert.Reference9Ideal.main_v34) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_v7) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)
      ∧ m' ((c.tc : Thread Cert.Reference12Ideal.nD Cert.Reference12Ideal.τ).loc Cert.Reference12Ideal.main_arg20) = m ((c.tc : Thread Cert.Kernel12Ideal.nD Cert.Kernel12Ideal.τ).loc Cert.Kernel12Ideal.main_arg20)
      ∧ m' ((c.tc : Thread Cert.Reference12Ideal.nD Cert.Reference12Ideal.τ).loc Cert.Reference12Ideal.main_arg21) = m ((c.tc : Thread Cert.Kernel12Ideal.nD Cert.Kernel12Ideal.τ).loc Cert.Kernel12Ideal.main_arg21)
      ∧ m' ((c.tc : Thread Cert.Reference12Ideal.nD Cert.Reference12Ideal.τ).loc Cert.Reference12Ideal.main_arg22) = m ((c.tc : Thread Cert.Kernel12Ideal.nD Cert.Kernel12Ideal.τ).loc Cert.Kernel12Ideal.main_arg22)
      ∧ m' ((c.tc : Thread Cert.Reference12Ideal.nD Cert.Reference12Ideal.τ).loc Cert.Reference12Ideal.main_arg23) = m ((c.tc : Thread Cert.Kernel12Ideal.nD Cert.Kernel12Ideal.τ).loc Cert.Kernel12Ideal.main_arg23)
      ∧ m' ((c.tc : Thread Cert.Reference12Ideal.nD Cert.Reference12Ideal.τ).loc Cert.Reference12Ideal.main_arg24) = m ((c.tc : Thread Cert.Kernel12Ideal.nD Cert.Kernel12Ideal.τ).loc Cert.Kernel12Ideal.main_arg24)
      ∧ m' ((c.tc : Thread Cert.Reference12Ideal.nD Cert.Reference12Ideal.τ).loc Cert.Reference12Ideal.main_arg25) = m ((c.tc : Thread Cert.Kernel12Ideal.nD Cert.Kernel12Ideal.τ).loc Cert.Kernel12Ideal.main_arg25)
      ∧ m' ((c.tc : Thread Cert.Reference12Ideal.nD Cert.Reference12Ideal.τ).loc Cert.Reference12Ideal.main_arg26) = m ((c.tc : Thread Cert.Kernel12Ideal.nD Cert.Kernel12Ideal.τ).loc Cert.Kernel12Ideal.main_arg26)
      ∧ m' ((c.tc : Thread Cert.Reference12Ideal.nD Cert.Reference12Ideal.τ).loc Cert.Reference12Ideal.main_arg27) = m ((c.tc : Thread Cert.Kernel12Ideal.nD Cert.Kernel12Ideal.τ).loc Cert.Kernel12Ideal.main_arg27)
      ∧ m' ((c.tc : Thread Cert.Reference12Ideal.nD Cert.Reference12Ideal.τ).loc Cert.Reference12Ideal.main_arg28) = m ((c.tc : Thread Cert.Kernel12Ideal.nD Cert.Kernel12Ideal.τ).loc Cert.Kernel12Ideal.main_arg28)
      ∧ m' ((c.tc : Thread Cert.Reference12Ideal.nD Cert.Reference12Ideal.τ).loc Cert.Reference12Ideal.main_arg29) = m ((c.tc : Thread Cert.Kernel12Ideal.nD Cert.Kernel12Ideal.τ).loc Cert.Kernel12Ideal.main_arg29)
      ∧ m' ((c.tc : Thread Cert.Reference12Ideal.nD Cert.Reference12Ideal.τ).loc Cert.Reference12Ideal.main_arg30) = m ((c.tc : Thread Cert.Kernel12Ideal.nD Cert.Kernel12Ideal.τ).loc Cert.Kernel12Ideal.main_arg30)
      ∧ m' ((c.tc : Thread Cert.Reference12Ideal.nD Cert.Reference12Ideal.τ).loc Cert.Reference12Ideal.main_arg31) = m ((c.tc : Thread Cert.Kernel12Ideal.nD Cert.Kernel12Ideal.τ).loc Cert.Kernel12Ideal.main_arg31)
      ∧ m' ((c.tc : Thread Cert.Reference12Ideal.nD Cert.Reference12Ideal.τ).loc Cert.Reference12Ideal.main_arg32) = m ((c.tc : Thread Cert.Kernel12Ideal.nD Cert.Kernel12Ideal.τ).loc Cert.Kernel12Ideal.main_arg32)
      ∧ m' ((c.tc : Thread Cert.Reference12Ideal.nD Cert.Reference12Ideal.τ).loc Cert.Reference12Ideal.main_arg33) = m ((c.tc : Thread Cert.Kernel12Ideal.nD Cert.Kernel12Ideal.τ).loc Cert.Kernel12Ideal.main_arg33)
      ∧ m' ((c.tc : Thread Cert.Reference12Ideal.nD Cert.Reference12Ideal.τ).loc Cert.Reference12Ideal.main_arg34) = m ((c.tc : Thread Cert.Kernel12Ideal.nD Cert.Kernel12Ideal.τ).loc Cert.Kernel12Ideal.main_arg34)
      ∧ m' ((c.tc : Thread Cert.Reference12Ideal.nD Cert.Reference12Ideal.τ).loc Cert.Reference12Ideal.main_arg35) = m ((c.tc : Thread Cert.Kernel12Ideal.nD Cert.Kernel12Ideal.τ).loc Cert.Kernel12Ideal.main_arg35)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)) (v4 : (c : Dev Cert.Kernel12Ideal.nD) → Buf (Elt Ideal) ((c.tc : Thread Cert.Kernel12Ideal.nD Cert.Kernel12Ideal.τ).loc Cert.Kernel12Ideal.main_v4_4)) (v5 : (c : Dev Cert.Kernel12Ideal.nD) → Buf (Elt Ideal) ((c.tc : Thread Cert.Kernel12Ideal.nD Cert.Kernel12Ideal.τ).loc Cert.Kernel12Ideal.main_v4_5)) (v6 : (c : Dev Cert.Kernel12Ideal.nD) → Buf (Elt Ideal) ((c.tc : Thread Cert.Kernel12Ideal.nD Cert.Kernel12Ideal.τ).loc Cert.Kernel12Ideal.main_v4_6)) (v7 : (c : Dev Cert.Kernel12Ideal.nD) → Buf (Elt Ideal) ((c.tc : Thread Cert.Kernel12Ideal.nD Cert.Kernel12Ideal.τ).loc Cert.Kernel12Ideal.main_v4_7)) (v8 : (c : Dev Cert.Kernel12Ideal.nD) → Buf (Elt Ideal) ((c.tc : Thread Cert.Kernel12Ideal.nD Cert.Kernel12Ideal.τ).loc Cert.Kernel12Ideal.main_v4_8)) (v9 : (c : Dev Cert.Kernel12Ideal.nD) → Buf (Elt Ideal) ((c.tc : Thread Cert.Kernel12Ideal.nD Cert.Kernel12Ideal.τ).loc Cert.Kernel12Ideal.main_v4_9)) (v10 : (c : Dev Cert.Kernel12Ideal.nD) → Buf (Elt Ideal) ((c.tc : Thread Cert.Kernel12Ideal.nD Cert.Kernel12Ideal.τ).loc Cert.Kernel12Ideal.main_v4_10)) (v11 : (c : Dev Cert.Kernel12Ideal.nD) → Buf (Elt Ideal) ((c.tc : Thread Cert.Kernel12Ideal.nD Cert.Kernel12Ideal.τ).loc Cert.Kernel12Ideal.main_v4_11)) (v12 : (c : Dev Cert.Kernel12Ideal.nD) → Buf (Elt Ideal) ((c.tc : Thread Cert.Kernel12Ideal.nD Cert.Kernel12Ideal.τ).loc Cert.Kernel12Ideal.main_v4_12)) (v13 : (c : Dev Cert.Kernel12Ideal.nD) → Buf (Elt Ideal) ((c.tc : Thread Cert.Kernel12Ideal.nD Cert.Kernel12Ideal.τ).loc Cert.Kernel12Ideal.main_v4_13)) (v14 : (c : Dev Cert.Kernel12Ideal.nD) → Buf (Elt Ideal) ((c.tc : Thread Cert.Kernel12Ideal.nD Cert.Kernel12Ideal.τ).loc Cert.Kernel12Ideal.main_v4_14)) (v15 : (c : Dev Cert.Kernel12Ideal.nD) → Buf (Elt Ideal) ((c.tc : Thread Cert.Kernel12Ideal.nD Cert.Kernel12Ideal.τ).loc Cert.Kernel12Ideal.main_v4_15)) (v16 : (c : Dev Cert.Kernel12Ideal.nD) → Buf (Elt Ideal) ((c.tc : Thread Cert.Kernel12Ideal.nD Cert.Kernel12Ideal.τ).loc Cert.Kernel12Ideal.main_v4_16)) (v17 : (c : Dev Cert.Kernel12Ideal.nD) → Buf (Elt Ideal) ((c.tc : Thread Cert.Kernel12Ideal.nD Cert.Kernel12Ideal.τ).loc Cert.Kernel12Ideal.main_v4_17)) (v18 : (c : Dev Cert.Kernel12Ideal.nD) → Buf (Elt Ideal) ((c.tc : Thread Cert.Kernel12Ideal.nD Cert.Kernel12Ideal.τ).loc Cert.Kernel12Ideal.main_v4_18)) (v19 : (c : Dev Cert.Kernel12Ideal.nD) → Buf (Elt Ideal) ((c.tc : Thread Cert.Kernel12Ideal.nD Cert.Kernel12Ideal.τ).loc Cert.Kernel12Ideal.main_v4_19)) (v20 : (c : Dev Cert.Kernel12Ideal.nD) → Buf (Elt Ideal) ((c.tc : Thread Cert.Kernel12Ideal.nD Cert.Kernel12Ideal.τ).loc Cert.Kernel12Ideal.main_v4_20)) (v21 : (c : Dev Cert.Kernel12Ideal.nD) → Buf (Elt Ideal) ((c.tc : Thread Cert.Kernel12Ideal.nD Cert.Kernel12Ideal.τ).loc Cert.Kernel12Ideal.main_v4_21)) (v22 : (c : Dev Cert.Kernel12Ideal.nD) → Buf (Elt Ideal) ((c.tc : Thread Cert.Kernel12Ideal.nD Cert.Kernel12Ideal.τ).loc Cert.Kernel12Ideal.main_v4_22)) (v23 : (c : Dev Cert.Kernel12Ideal.nD) → Buf (Elt Ideal) ((c.tc : Thread Cert.Kernel12Ideal.nD Cert.Kernel12Ideal.τ).loc Cert.Kernel12Ideal.main_v4_23)) (v24 : (c : Dev Cert.Kernel12Ideal.nD) → Buf (Elt Ideal) ((c.tc : Thread Cert.Kernel12Ideal.nD Cert.Kernel12Ideal.τ).loc Cert.Kernel12Ideal.main_v4_24)) (v25 : (c : Dev Cert.Kernel12Ideal.nD) → Buf (Elt Ideal) ((c.tc : Thread Cert.Kernel12Ideal.nD Cert.Kernel12Ideal.τ).loc Cert.Kernel12Ideal.main_v4_25)) (v26 : (c : Dev Cert.Kernel12Ideal.nD) → Buf (Elt Ideal) ((c.tc : Thread Cert.Kernel12Ideal.nD Cert.Kernel12Ideal.τ).loc Cert.Kernel12Ideal.main_v4_26)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_v4_4) = v4 c
          ∧ r.2.mem ((c.tc : Thread Cert.Kernel12Ideal.nD Cert.Kernel12Ideal.τ).loc Cert.Kernel12Ideal.main_v4_5) = v5 c
          ∧ r.2.mem ((c.tc : Thread Cert.Kernel12Ideal.nD Cert.Kernel12Ideal.τ).loc Cert.Kernel12Ideal.main_v4_6) = v6 c
          ∧ r.2.mem ((c.tc : Thread Cert.Kernel12Ideal.nD Cert.Kernel12Ideal.τ).loc Cert.Kernel12Ideal.main_v4_7) = v7 c
          ∧ r.2.mem ((c.tc : Thread Cert.Kernel12Ideal.nD Cert.Kernel12Ideal.τ).loc Cert.Kernel12Ideal.main_v4_8) = v8 c
          ∧ r.2.mem ((c.tc : Thread Cert.Kernel12Ideal.nD Cert.Kernel12Ideal.τ).loc Cert.Kernel12Ideal.main_v4_9) = v9 c
          ∧ r.2.mem ((c.tc : Thread Cert.Kernel12Ideal.nD Cert.Kernel12Ideal.τ).loc Cert.Kernel12Ideal.main_v4_10) = v10 c
          ∧ r.2.mem ((c.tc : Thread Cert.Kernel12Ideal.nD Cert.Kernel12Ideal.τ).loc Cert.Kernel12Ideal.main_v4_11) = v11 c
          ∧ r.2.mem ((c.tc : Thread Cert.Kernel12Ideal.nD Cert.Kernel12Ideal.τ).loc Cert.Kernel12Ideal.main_v4_12) = v12 c
          ∧ r.2.mem ((c.tc : Thread Cert.Kernel12Ideal.nD Cert.Kernel12Ideal.τ).loc Cert.Kernel12Ideal.main_v4_13) = v13 c
          ∧ r.2.mem ((c.tc : Thread Cert.Kernel12Ideal.nD Cert.Kernel12Ideal.τ).loc Cert.Kernel12Ideal.main_v4_14) = v14 c
          ∧ r.2.mem ((c.tc : Thread Cert.Kernel12Ideal.nD Cert.Kernel12Ideal.τ).loc Cert.Kernel12Ideal.main_v4_15) = v15 c
          ∧ r.2.mem ((c.tc : Thread Cert.Kernel12Ideal.nD Cert.Kernel12Ideal.τ).loc Cert.Kernel12Ideal.main_v4_16) = v16 c
          ∧ r.2.mem ((c.tc : Thread Cert.Kernel12Ideal.nD Cert.Kernel12Ideal.τ).loc Cert.Kernel12Ideal.main_v4_17) = v17 c
          ∧ r.2.mem ((c.tc : Thread Cert.Kernel12Ideal.nD Cert.Kernel12Ideal.τ).loc Cert.Kernel12Ideal.main_v4_18) = v18 c
          ∧ r.2.mem ((c.tc : Thread Cert.Kernel12Ideal.nD Cert.Kernel12Ideal.τ).loc Cert.Kernel12Ideal.main_v4_19) = v19 c
          ∧ r.2.mem ((c.tc : Thread Cert.Kernel12Ideal.nD Cert.Kernel12Ideal.τ).loc Cert.Kernel12Ideal.main_v4_20) = v20 c
          ∧ r.2.mem ((c.tc : Thread Cert.Kernel12Ideal.nD Cert.Kernel12Ideal.τ).loc Cert.Kernel12Ideal.main_v4_21) = v21 c
          ∧ r.2.mem ((c.tc : Thread Cert.Kernel12Ideal.nD Cert.Kernel12Ideal.τ).loc Cert.Kernel12Ideal.main_v4_22) = v22 c
          ∧ r.2.mem ((c.tc : Thread Cert.Kernel12Ideal.nD Cert.Kernel12Ideal.τ).loc Cert.Kernel12Ideal.main_v4_23) = v23 c
          ∧ r.2.mem ((c.tc : Thread Cert.Kernel12Ideal.nD Cert.Kernel12Ideal.τ).loc Cert.Kernel12Ideal.main_v4_24) = v24 c
          ∧ r.2.mem ((c.tc : Thread Cert.Kernel12Ideal.nD Cert.Kernel12Ideal.τ).loc Cert.Kernel12Ideal.main_v4_25) = v25 c
          ∧ r.2.mem ((c.tc : Thread Cert.Kernel12Ideal.nD Cert.Kernel12Ideal.τ).loc Cert.Kernel12Ideal.main_v4_26) = v26 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
          ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
          ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
          ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
          ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
          ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
          ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
          ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
          ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
          ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
          ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
          ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
          ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
          ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
          ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
          ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
          ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v47) = v3 c
          ∧ r.2.mem ((c.tc : Thread Cert.Reference12Ideal.nD Cert.Reference12Ideal.τ).loc Cert.Reference12Ideal.main_v28) = v4 c
          ∧ r.2.mem ((c.tc : Thread Cert.Reference12Ideal.nD Cert.Reference12Ideal.τ).loc Cert.Reference12Ideal.main_v34) = v5 c
          ∧ r.2.mem ((c.tc : Thread Cert.Reference12Ideal.nD Cert.Reference12Ideal.τ).loc Cert.Reference12Ideal.main_v71) = v6 c
          ∧ r.2.mem ((c.tc : Thread Cert.Reference12Ideal.nD Cert.Reference12Ideal.τ).loc Cert.Reference12Ideal.main_v52) = v7 c
          ∧ r.2.mem ((c.tc : Thread Cert.Reference12Ideal.nD Cert.Reference12Ideal.τ).loc Cert.Reference12Ideal.main_v58) = v8 c
          ∧ r.2.mem ((c.tc : Thread Cert.Reference12Ideal.nD Cert.Reference12Ideal.τ).loc Cert.Reference12Ideal.main_v96) = v9 c
          ∧ r.2.mem ((c.tc : Thread Cert.Reference12Ideal.nD Cert.Reference12Ideal.τ).loc Cert.Reference12Ideal.main_v97) = v10 c
          ∧ r.2.mem ((c.tc : Thread Cert.Reference12Ideal.nD Cert.Reference12Ideal.τ).loc Cert.Reference12Ideal.main_v98) = v11 c
          ∧ r.2.mem ((c.tc : Thread Cert.Reference12Ideal.nD Cert.Reference12Ideal.τ).loc Cert.Reference12Ideal.main_v122) = v12 c
          ∧ r.2.mem ((c.tc : Thread Cert.Reference12Ideal.nD Cert.Reference12Ideal.τ).loc Cert.Reference12Ideal.main_v103) = v13 c
          ∧ r.2.mem ((c.tc : Thread Cert.Reference12Ideal.nD Cert.Reference12Ideal.τ).loc Cert.Reference12Ideal.main_v109) = v14 c
          ∧ r.2.mem ((c.tc : Thread Cert.Reference12Ideal.nD Cert.Reference12Ideal.τ).loc Cert.Reference12Ideal.main_v146) = v15 c
          ∧ r.2.mem ((c.tc : Thread Cert.Reference12Ideal.nD Cert.Reference12Ideal.τ).loc Cert.Reference12Ideal.main_v127) = v16 c
          ∧ r.2.mem ((c.tc : Thread Cert.Reference12Ideal.nD Cert.Reference12Ideal.τ).loc Cert.Reference12Ideal.main_v133) = v17 c
          ∧ r.2.mem ((c.tc : Thread Cert.Reference12Ideal.nD Cert.Reference12Ideal.τ).loc Cert.Reference12Ideal.main_v170) = v18 c
          ∧ r.2.mem ((c.tc : Thread Cert.Reference12Ideal.nD Cert.Reference12Ideal.τ).loc Cert.Reference12Ideal.main_v151) = v19 c
          ∧ r.2.mem ((c.tc : Thread Cert.Reference12Ideal.nD Cert.Reference12Ideal.τ).loc Cert.Reference12Ideal.main_v157) = v20 c
          ∧ r.2.mem ((c.tc : Thread Cert.Reference12Ideal.nD Cert.Reference12Ideal.τ).loc Cert.Reference12Ideal.main_v194) = v21 c
          ∧ r.2.mem ((c.tc : Thread Cert.Reference12Ideal.nD Cert.Reference12Ideal.τ).loc Cert.Reference12Ideal.main_v175) = v22 c
          ∧ r.2.mem ((c.tc : Thread Cert.Reference12Ideal.nD Cert.Reference12Ideal.τ).loc Cert.Reference12Ideal.main_v181) = v23 c
          ∧ r.2.mem ((c.tc : Thread Cert.Reference12Ideal.nD Cert.Reference12Ideal.τ).loc Cert.Reference12Ideal.main_v218) = v24 c
          ∧ r.2.mem ((c.tc : Thread Cert.Reference12Ideal.nD Cert.Reference12Ideal.τ).loc Cert.Reference12Ideal.main_v199) = v25 c
          ∧ r.2.mem ((c.tc : Thread Cert.Reference12Ideal.nD Cert.Reference12Ideal.τ).loc Cert.Reference12Ideal.main_v205) = v26 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19)
          ∧ r.2.mem ((c.tc : Thread Cert.Reference12Ideal.nD Cert.Reference12Ideal.τ).loc Cert.Reference12Ideal.main_arg20) = m' ((c.tc : Thread Cert.Reference12Ideal.nD Cert.Reference12Ideal.τ).loc Cert.Reference12Ideal.main_arg20)
          ∧ r.2.mem ((c.tc : Thread Cert.Reference12Ideal.nD Cert.Reference12Ideal.τ).loc Cert.Reference12Ideal.main_arg21) = m' ((c.tc : Thread Cert.Reference12Ideal.nD Cert.Reference12Ideal.τ).loc Cert.Reference12Ideal.main_arg21)
          ∧ r.2.mem ((c.tc : Thread Cert.Reference12Ideal.nD Cert.Reference12Ideal.τ).loc Cert.Reference12Ideal.main_arg22) = m' ((c.tc : Thread Cert.Reference12Ideal.nD Cert.Reference12Ideal.τ).loc Cert.Reference12Ideal.main_arg22)
          ∧ r.2.mem ((c.tc : Thread Cert.Reference12Ideal.nD Cert.Reference12Ideal.τ).loc Cert.Reference12Ideal.main_arg23) = m' ((c.tc : Thread Cert.Reference12Ideal.nD Cert.Reference12Ideal.τ).loc Cert.Reference12Ideal.main_arg23)
          ∧ r.2.mem ((c.tc : Thread Cert.Reference12Ideal.nD Cert.Reference12Ideal.τ).loc Cert.Reference12Ideal.main_arg24) = m' ((c.tc : Thread Cert.Reference12Ideal.nD Cert.Reference12Ideal.τ).loc Cert.Reference12Ideal.main_arg24)
          ∧ r.2.mem ((c.tc : Thread Cert.Reference12Ideal.nD Cert.Reference12Ideal.τ).loc Cert.Reference12Ideal.main_arg25) = m' ((c.tc : Thread Cert.Reference12Ideal.nD Cert.Reference12Ideal.τ).loc Cert.Reference12Ideal.main_arg25)
          ∧ r.2.mem ((c.tc : Thread Cert.Reference12Ideal.nD Cert.Reference12Ideal.τ).loc Cert.Reference12Ideal.main_arg26) = m' ((c.tc : Thread Cert.Reference12Ideal.nD Cert.Reference12Ideal.τ).loc Cert.Reference12Ideal.main_arg26)
          ∧ r.2.mem ((c.tc : Thread Cert.Reference12Ideal.nD Cert.Reference12Ideal.τ).loc Cert.Reference12Ideal.main_arg27) = m' ((c.tc : Thread Cert.Reference12Ideal.nD Cert.Reference12Ideal.τ).loc Cert.Reference12Ideal.main_arg27)
          ∧ r.2.mem ((c.tc : Thread Cert.Reference12Ideal.nD Cert.Reference12Ideal.τ).loc Cert.Reference12Ideal.main_arg28) = m' ((c.tc : Thread Cert.Reference12Ideal.nD Cert.Reference12Ideal.τ).loc Cert.Reference12Ideal.main_arg28)
          ∧ r.2.mem ((c.tc : Thread Cert.Reference12Ideal.nD Cert.Reference12Ideal.τ).loc Cert.Reference12Ideal.main_arg29) = m' ((c.tc : Thread Cert.Reference12Ideal.nD Cert.Reference12Ideal.τ).loc Cert.Reference12Ideal.main_arg29)
          ∧ r.2.mem ((c.tc : Thread Cert.Reference12Ideal.nD Cert.Reference12Ideal.τ).loc Cert.Reference12Ideal.main_arg30) = m' ((c.tc : Thread Cert.Reference12Ideal.nD Cert.Reference12Ideal.τ).loc Cert.Reference12Ideal.main_arg30)
          ∧ r.2.mem ((c.tc : Thread Cert.Reference12Ideal.nD Cert.Reference12Ideal.τ).loc Cert.Reference12Ideal.main_arg31) = m' ((c.tc : Thread Cert.Reference12Ideal.nD Cert.Reference12Ideal.τ).loc Cert.Reference12Ideal.main_arg31)
          ∧ r.2.mem ((c.tc : Thread Cert.Reference12Ideal.nD Cert.Reference12Ideal.τ).loc Cert.Reference12Ideal.main_arg32) = m' ((c.tc : Thread Cert.Reference12Ideal.nD Cert.Reference12Ideal.τ).loc Cert.Reference12Ideal.main_arg32)
          ∧ r.2.mem ((c.tc : Thread Cert.Reference12Ideal.nD Cert.Reference12Ideal.τ).loc Cert.Reference12Ideal.main_arg33) = m' ((c.tc : Thread Cert.Reference12Ideal.nD Cert.Reference12Ideal.τ).loc Cert.Reference12Ideal.main_arg33)
          ∧ r.2.mem ((c.tc : Thread Cert.Reference12Ideal.nD Cert.Reference12Ideal.τ).loc Cert.Reference12Ideal.main_arg34) = m' ((c.tc : Thread Cert.Reference12Ideal.nD Cert.Reference12Ideal.τ).loc Cert.Reference12Ideal.main_arg34)
          ∧ r.2.mem ((c.tc : Thread Cert.Reference12Ideal.nD Cert.Reference12Ideal.τ).loc Cert.Reference12Ideal.main_arg35) = m' ((c.tc : Thread Cert.Reference12Ideal.nD Cert.Reference12Ideal.τ).loc Cert.Reference12Ideal.main_arg35))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_v8) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)) (v6 : (c : Dev Cert.Kernel14Ideal.nD) → Buf (Elt Ideal) ((c.tc : Thread Cert.Kernel14Ideal.nD Cert.Kernel14Ideal.τ).loc Cert.Kernel14Ideal.main_v0_6)) (v7 : (c : Dev Cert.Kernel14Ideal.nD) → Buf (Elt Ideal) ((c.tc : Thread Cert.Kernel14Ideal.nD Cert.Kernel14Ideal.τ).loc Cert.Kernel14Ideal.main_v0_7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_v0_6) = v6 c
          ∧ r.2.mem ((c.tc : Thread Cert.Kernel14Ideal.nD Cert.Kernel14Ideal.τ).loc Cert.Kernel14Ideal.main_v0_7) = v7 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v2) = v1 c
          ∧ r.2.mem ((c.tc : Thread Cert.Reference14Ideal.nD Cert.Reference14Ideal.τ).loc Cert.Reference14Ideal.main_v3) = v2 c
          ∧ r.2.mem ((c.tc : Thread Cert.Reference14Ideal.nD Cert.Reference14Ideal.τ).loc Cert.Reference14Ideal.main_v4) = v3 c
          ∧ r.2.mem ((c.tc : Thread Cert.Reference14Ideal.nD Cert.Reference14Ideal.τ).loc Cert.Reference14Ideal.main_v5) = v4 c
          ∧ r.2.mem ((c.tc : Thread Cert.Reference14Ideal.nD Cert.Reference14Ideal.τ).loc Cert.Reference14Ideal.main_v6) = v5 c
          ∧ r.2.mem ((c.tc : Thread Cert.Reference14Ideal.nD Cert.Reference14Ideal.τ).loc Cert.Reference14Ideal.main_v7) = v6 c
          ∧ r.2.mem ((c.tc : Thread Cert.Reference14Ideal.nD Cert.Reference14Ideal.τ).loc Cert.Reference14Ideal.main_v8) = v7 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_all_finite (hKernel5Ideal := hKernel5Ideal) (hPre_all_finite := hPre_all_finite)
    ∧ quiescent_Reference5Ideal (hReference5Ideal := hReference5Ideal)
    ∧ quiescent_Reference5Ideal_pre_all_finite (hReference5Ideal := hReference5Ideal) (hPre_all_finite := hPre_all_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_all_finite (hKernel5Ideal := hKernel5Ideal) (hReference5Ideal := hReference5Ideal) (hPre_all_finite := hPre_all_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_all_finite.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2x2048x1024 : S_.BroadcastsInDim S2x2048x1024 (![] : Fin 0 → Fin S2x2048x1024.rank)
  bcast_S_S2x1x1024 : S_.BroadcastsInDim S2x1x1024 (![] : Fin 0 → Fin S2x1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_arg8 : FVec F S2x2048x1024 .f32) (main_v2 : IVec S2x2048x1024 1) (main_v5 : IVec S2x1x1024 1) (main_v8 : IVec S2x1x1024 1) (main_v11 : IVec S2x1x1024 1) (main_v14 : IVec S1024x5632 1) (main_v17 : IVec S2816x1024 1) : IVec S2x2048x1024 1 × IVec S2x1x1024 1 × IVec S2x1x1024 1 × IVec S2x1x1024 1 × IVec S1024x5632 1 × IVec S2816x1024 1 × IVec S1x1024 1 × IVec S1x1024 1 × IVec S2x2048x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S2x2048x1024 .f32 := Host.absf main_arg8
  let main_cst_7 : FVec F S_ .f32 := constant S_ .f32 0x7F800000#32
  let main_v25 : FVec F S2x2048x1024 .f32 := broadcastInDim S2x2048x1024 ![] bcast_S_S2x2048x1024 main_cst_7
  let main_v26 : IVec S2x2048x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S2x1x1024 .f32) (main_arg2 : FVec F S2x1x1024 .f32) (main_arg3 : FVec F S2x1x1024 .f32) (main_arg4 : FVec F S1024x5632 .f32) (main_arg5 : FVec F S2816x1024 .f32) (main_arg6 : FVec F S1x1024 .f32) (main_arg7 : FVec F S1x1024 .f32) (main_arg8 : FVec F S2x2048x1024 .f32) : IVec S2x2048x1024 1 × IVec S2x1x1024 1 × IVec S2x1x1024 1 × IVec S2x1x1024 1 × IVec S1024x5632 1 × IVec S2816x1024 1 × IVec S1x1024 1 × IVec S1x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1x1024 .f32 := Host.absf main_arg1
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : FVec F S2x1x1024 .f32 := Host.absf main_arg2
  let main_cst_1 : FVec F S_ .f32 := constant S_ .f32 0x7F800000#32
  let main_v7 : FVec F S2x1x1024 .f32 := broadcastInDim S2x1x1024 ![] bcast_S_S2x1x1024 main_cst_1
  let main_v8 : IVec S2x1x1024 1 := cmpf .olt main_v6 main_v7
  let main_v9 : FVec F S2x1x1024 .f32 := Host.absf main_arg3
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_arg7 main_arg8 main_v2 main_v5 main_v8 main_v11 main_v14 main_v17
-- ==== Pre_finite.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S2x1x1024 : S_.BroadcastsInDim S2x1x1024 (![] : Fin 0 → Fin S2x1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S2x2048x1024 .f32) (main_v2 : IVec S2x2048x1024 1) (main_v5 : IVec S2x1x1024 1) (main_v8 : IVec S2x1x1024 1) (main_v11 : IVec S2x1x1024 1) (main_v14 : IVec S1024x5632 1) (main_v17 : IVec S2816x1024 1) : IVec S2x2048x1024 1 × IVec S2x1x1024 1 × IVec S2x1x1024 1 × IVec S2x1x1024 1 × IVec S1024x5632 1 × IVec S2816x1024 1 × IVec S2x2048x1024 1 :=
  let main_v18 : FVec F S2x2048x1024 .f32 := Host.absf main_arg6
  let main_cst_5 : FVec F S_ .f32 := constant S_ .f32 0x7F800000#32
  let main_v19 : FVec F S2x2048x1024 .f32 := broadcastInDim S2x2048x1024 ![] bcast_S_S2x2048x1024 main_cst_5
  let main_v20 : IVec S2x2048x1024 1 := cmpf .olt main_v18 main_v19
  (main_v2, main_v5, main_v8, main_v11, main_v14, main_v17, main_v20)

def fn {F : FTy → Type} [FloatOps F] (main_arg0 : FVec F S2x2048x1024 .f32) (main_arg1 : FVec F S2x1x1024 .f32) (main_arg2 : FVec F S2x1x1024 .f32) (main_arg3 : FVec F S2x1x1024 .f32) (main_arg4 : FVec F S1024x5632 .f32) (main_arg5 : FVec F S2816x1024 .f32) (main_arg6 : FVec F S2x2048x1024 .f32) : IVec S2x2048x1024 1 × IVec S2x1x1024 1 × IVec S2x1x1024 1 × IVec S2x1x1024 1 × IVec S1024x5632 1 × IVec S2816x1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x1x1024 .f32 := Host.absf main_arg1
  let main_cst_0 : FVec F S_ .f32 := constant S_ .f32 0x7F800000#32
  let main_v4 : FVec F S2x1x1024 .f32 := broadcastInDim S2x1x1024 ![] bcast_S_S2x1x1024 main_cst_0
  let main_v5 : IVec S2x1x1024 1 := cmpf .olt main_v3 main_v4
  let main_v6 : FVec F S2x1x1024 .f32 := Host.absf main_arg2
  let main_cst_1 : FVec F S_ .f32 := constant S_ .f32 0x7F800000#32
  let main_v7 : FVec F S2x1x1024 .f32 := broadcastInDim S2x1x1024 ![] bcast_S_S2x1x1024 main_cst_1
  let main_v8 : IVec S2x1x1024 1 := cmpf .olt main_v6 main_v7
  let main_v9 : FVec F S2x1x1024 .f32 := Host.absf main_arg3
  let main_cst_2 : FVec F S_ .f32 := constant S_ .f32 0x7F800000#32
  let main_v10 : FVec F S2x1x1024 .f32 := broadcastInDim S2x1x1024 ![] bcast_S_S2x1x1024 main_cst_2
  let main_v11 : IVec S2x1x1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S2x2048x512 : Shape := ⟨3, ![2, 2048, 512]⟩
abbrev S3x512 : Shape := ⟨2, ![3, 512]⟩
abbrev S4096x512 : Shape := ⟨2, ![4096, 512]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 17
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S2x2048x512, .f32⟩
  | .hbm, ⟨5, _⟩ => ⟨S4096x512, .f32⟩
  | .hbm, ⟨6, _⟩ => ⟨S4096x512, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S3x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S3x128, .f32⟩
  | .local _ .vmem, ⟨9, _⟩ => ⟨S3x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S3x128, .f32⟩
  | .local _ .vmem, ⟨17, _⟩ => ⟨S3x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S2x2048x512 : Shape := ⟨3, ![2, 2048, 512]⟩
abbrev S3x512 : Shape := ⟨2, ![3, 512]⟩
abbrev S_ : Shape := ⟨0, ![]⟩
abbrev S2x2x512 : Shape := ⟨3, ![2, 2, 512]⟩
abbrev S2x2050x512 : Shape := ⟨3, ![2, 2050, 512]⟩
abbrev S1x512 : Shape := ⟨2, ![1, 512]⟩
abbrev S512 : Shape := ⟨1, ![512]⟩
abbrev S1x1x512 : Shape := ⟨3, ![1, 1, 512]⟩
abbrev S4096x512 : Shape := ⟨2, ![4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S3x512, .f32⟩
  | .hbm, ⟨4, _⟩ => ⟨S2x2048x512, .f32⟩
  | .hbm, ⟨5, _⟩ => ⟨S2x2048x512, .f32⟩
  | .hbm, ⟨6, _⟩ => ⟨S_, .f32⟩
  | .hbm, ⟨7, _⟩ => ⟨S2x2x512, .f32⟩
  | .hbm, ⟨8, _⟩ => ⟨S2x2050x512, .f32⟩
  | .hbm, ⟨9, _⟩ => ⟨S_, .f32⟩
  | .hbm, ⟨10, _⟩ => ⟨S2x2x512, .f32⟩
  | .hbm, ⟨11, _⟩ => ⟨S1x512, .f32⟩
  | .hbm, ⟨12, _⟩ => ⟨S512, .f32⟩
  | .hbm, ⟨13, _⟩ => ⟨S2x2048x512, .f32⟩
  | .hbm, ⟨14, _⟩ => ⟨S1x1x512, .f32⟩
  | .hbm, ⟨15, _⟩ => ⟨S2x2048x512, .f32⟩
  | .hbm, ⟨16, _⟩ => ⟨S2x2048x512, .f32⟩
  | .hbm, ⟨17, _⟩ => ⟨S1x512, .f32⟩
  | .hbm, ⟨18, _⟩ => ⟨S512, .f32⟩
  | .hbm, ⟨19, _⟩ => ⟨S2x2048x512, .f32⟩
  | .hbm, ⟨20, _⟩ => ⟨S1x1x512, .f32⟩
  | .hbm, ⟨21, _⟩ => ⟨S2x2048x512, .f32⟩
  | .hbm, ⟨22, _⟩ => ⟨S2x2048x512, .f32⟩
  | .hbm, ⟨23, _⟩ => ⟨S2x2048x512, .f32⟩
  | .hbm, ⟨24, _⟩ => ⟨S1x512, .f32⟩
  | .hbm, ⟨25, _⟩ => ⟨S512, .f32⟩
  | .hbm, ⟨26, _⟩ => ⟨S2x2048x512, .f32⟩
  | .hbm, ⟨27, _⟩ => ⟨S1x1x512, .f32⟩
  | .hbm, ⟨28, _⟩ => ⟨S2x2048x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S512, .f32⟩
  | .hbm, ⟨39, _⟩ => ⟨S1x1x512, .f32⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S2x2050x512, .f32⟩
  | .hbm, ⟨44, _⟩ => ⟨S1x512, .f32⟩
  | .hbm, ⟨45, _⟩ => ⟨S_, .f32⟩
  | .hbm, ⟨46, _⟩ => ⟨S3x512, .f32⟩
  | .hbm, ⟨47, _⟩ => ⟨S2x2048x512, .f32⟩
  | .hbm, ⟨48, _⟩ => ⟨S2x2048x512, .f32⟩
  | .hbm, ⟨49, _⟩ => ⟨S2x2048x512, .f32⟩
  | .hbm, ⟨50, _⟩ => ⟨S_, .f32⟩
  | .hbm, ⟨51, _⟩ => ⟨S512, .f32⟩
  | .hbm, ⟨52, _⟩ => ⟨S1x1x512, .f32⟩
  | .hbm, ⟨53, _⟩ => ⟨S_, .f32⟩
  | .hbm, ⟨54, _⟩ => ⟨S512, .f32⟩
  | .hbm, ⟨55, _⟩ => ⟨S_, .f32⟩
  | .hbm, ⟨56, _⟩ => ⟨S2x2050x512, .f32⟩
  | .hbm, ⟨57, _⟩ => ⟨S2x2050x512, .f32⟩
  | .hbm, ⟨58, _⟩ => ⟨S1x512, .f32⟩
  | .hbm, ⟨59, _⟩ => ⟨S_, .f32⟩
  | .hbm, ⟨60, _⟩ => ⟨S3x512, .f32⟩
  | .hbm, ⟨61, _⟩ => ⟨S3x512, .f32⟩
  | .hbm, ⟨62, _⟩ => ⟨S2x2048x512, .f32⟩
  | .hbm, ⟨63, _⟩ => ⟨S2x2048x512, .f32⟩
  | .hbm, ⟨64, _⟩ => ⟨S2x2048x512, .f32⟩
  | .hbm, ⟨65, _⟩ => ⟨S_, .f32⟩
  | .hbm, ⟨66, _⟩ => ⟨S512, .f32⟩
  | .hbm, ⟨67, _⟩ => ⟨S1x1x512, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S2x2050x512, .f32⟩
  | .hbm, ⟨72, _⟩ => ⟨S2x2050x512, .f32⟩
  | .hbm, ⟨73, _⟩ => ⟨S1x512, .f32⟩
  | .hbm, ⟨74, _⟩ => ⟨S_, .f32⟩
  | .hbm, ⟨75, _⟩ => ⟨S3x512, .f32⟩
  | .hbm, ⟨76, _⟩ => ⟨S3x512, .f32⟩
  | .hbm, ⟨77, _⟩ => ⟨S2x2x512, .f32⟩
  | .hbm, ⟨78, _⟩ => ⟨S2x2048x512, .f32⟩
  | .hbm, ⟨79, _⟩ => ⟨S2x2048x512, .f32⟩
  | .hbm, ⟨80, _⟩ => ⟨S2x2048x512, .f32⟩
  | .hbm, ⟨81, _⟩ => ⟨S4096x512, .f32⟩
  | .hbm, ⟨82, _⟩ => ⟨S4096x512, .bf16⟩
  | .hbm, ⟨83, _⟩ => ⟨S4096x512, .f32⟩
  | .hbm, ⟨84, _⟩ => ⟨S4096x512, .bf16⟩
  | .hbm, ⟨85, _⟩ => ⟨S4096x512, .f32⟩
  | .hbm, ⟨86, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S5632x1024 : Shape := ⟨2, ![5632, 1024]⟩
abbrev S2x2816x1024 : Shape := ⟨3, ![2, 2816, 1024]⟩
abbrev S2x2x1024 : Shape := ⟨3, ![2, 2, 1024]⟩
abbrev S512x1024 : Shape := ⟨2, ![512, 1024]⟩
abbrev S2x512x2816 : Shape := ⟨3, ![2, 512, 2816]⟩
abbrev S1x1x1024 : Shape := ⟨3, ![1, 1, 1024]⟩
abbrev S1x2x1024 : Shape := ⟨3, ![1, 2, 1024]⟩
abbrev S1024x1024 : Shape := ⟨2, ![1024, 1024]⟩
abbrev S1x512x1024 : Shape := ⟨3, ![1, 512, 1024]⟩
abbrev S1x1024x1024 : Shape := ⟨3, ![1, 1024, 1024]⟩
abbrev S768x1024 : Shape := ⟨2, ![768, 1024]⟩
abbrev S512x768 : Shape := ⟨2, ![512, 768]⟩
abbrev S1x512x768 : Shape := ⟨3, ![1, 512, 768]⟩
abbrev S1x768x1024 : Shape := ⟨3, ![1, 768, 1024]⟩
abbrev S1x1024 : Shape := ⟨2, ![1, 1024]⟩
abbrev S1024 : Shape := ⟨1, ![1024]⟩

abbrev nBuf : Space → Nat
  | .hbm => 37
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S2x2048x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x5632, .f32⟩
  | .hbm, ⟨15, _⟩ => ⟨S4096x2x2816, .f32⟩
  | .hbm, ⟨16, _⟩ => ⟨S2x4096x2816, .f32⟩
  | .hbm, ⟨17, _⟩ => ⟨S2x4096x2816, .bf16⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x2048x1024, .f32⟩
  | .hbm, ⟨25, _⟩ => ⟨S2x2048x1024, .f32⟩
  | .hbm, ⟨26, _⟩ => ⟨S4096x1024, .f32⟩
  | .hbm, ⟨27, _⟩ => ⟨S4096x1024, .bf16⟩
  | .hbm, ⟨28, _⟩ => ⟨S5632x1024, .f32⟩
  | .hbm, ⟨29, _⟩ => ⟨S5632x1024, .bf16⟩
  | .hbm, ⟨30, _⟩ => ⟨S2x2816x1024, .bf16⟩
  | .hbm, ⟨31, _⟩ => ⟨S2816x1024, .bf16⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S2x4096x2816, .bf16⟩
  | .hbm, ⟨36, _⟩ => ⟨S2x2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S2x512x2816, .bf16⟩
  | .local _ .vmem, ⟨7, _⟩ => ⟨S2x512x2816, .bf16⟩
  | .local _ .vmem, ⟨8, _⟩ => ⟨S1x1x1024, .f32⟩
  | .local _ .vmem, ⟨9, _⟩ => ⟨S1x1x1024, .f32⟩
  | .local _ .vmem, ⟨10, _⟩ => ⟨S2x2816x1024, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S2x512x2816, .bf16⟩
  | .local _ .vmem, ⟨15, _⟩ => ⟨S2x512x2816, .bf16⟩
  | .local _ .vmem, ⟨16, _⟩ => ⟨S1x2x1024, .f32⟩
  | .local _ .vmem, ⟨17, _⟩ => ⟨S1x2x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S_ : Shape := ⟨0, ![]⟩
abbrev S2x2048x5632 : Shape := ⟨3, ![2, 2048, 5632]⟩
abbrev S2x2048x2816 : Shape := ⟨3, ![2, 2048, 2816]⟩
abbrev S2x1024 : Shape := ⟨2, ![2, 1024]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S2x2x1024 : Shape := ⟨3, ![2, 2, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S2x2048x1024, .f32⟩
  | .hbm, ⟨7, _⟩ => ⟨S_, .f32⟩
  | .hbm, ⟨8, _⟩ => ⟨S2x2048x5632, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x5632, .f32⟩
  | .hbm, ⟨17, _⟩ => ⟨S2x2048x5632, .f32⟩
  | .hbm, ⟨18, _⟩ => ⟨S2x2048x2816, .f32⟩
  | .hbm, ⟨19, _⟩ => ⟨S2x2048x2816, .f32⟩
  | .hbm, ⟨20, _⟩ => ⟨S_, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S_, .f32⟩
  | .hbm, ⟨59, _⟩ => ⟨S2x2048x1024, .f32⟩
  | .hbm, ⟨60, _⟩ => ⟨S2x2048x1024, .f32⟩
  | .hbm, ⟨61, _⟩ => ⟨S2x2048x5632, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x1x1024, .f32⟩
  | .hbm, ⟨66, _⟩ => ⟨S2x2048x1024, .f32⟩
  | .hbm, ⟨67, _⟩ => ⟨S_, .f32⟩
  | .hbm, ⟨68, _⟩ => ⟨S2x1024, .f32⟩
  | .hbm, ⟨69, _⟩ => ⟨S2x1x1024, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S4096x2x2816, .f32⟩
  | .hbm, ⟨74, _⟩ => ⟨S2x4096x2816, .f32⟩
  | .hbm, ⟨75, _⟩ => ⟨S2x4096x2816, .bf16⟩
  | .hbm, ⟨76, _⟩ => ⟨S4096x1024, .f32⟩
  | .hbm, ⟨77, _⟩ => ⟨S2x2x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v17_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v17_1 : Ref sig .tc := ⟨.hbm, 40, rfl⟩
abbrev main_v17_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_5 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S1x4096x2816 : Shape := ⟨3, ![1, 4096, 2816]⟩
abbrev S1x4096x1024 : Shape := ⟨3, ![1, 4096, 1024]⟩
abbrev S1x2x1x1408x1024 : Shape := ⟨5, ![1, 2, 1, 1408, 1024]⟩
abbrev S1x2048x1408 : Shape := ⟨3, ![1, 2048, 1408]⟩
abbrev S1x2048x1024 : Shape := ⟨3, ![1, 2048, 1024]⟩
abbrev S1x1x1x1408x1024 : Shape := ⟨5, ![1, 1, 1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S1x4096x2816, .bf16⟩
  | .hbm, ⟨4, _⟩ => ⟨S4096x1024, .bf16⟩
  | .hbm, ⟨5, _⟩ => ⟨S1x4096x1024, .bf16⟩
  | .hbm, ⟨6, _⟩ => ⟨S1x2x1x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1x1408x1024, .bf16⟩
  | .local _ .vmem, ⟨5, _⟩ => ⟨S1x1x1x1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2x1x1408x1024 : Shape := ⟨5, ![1, 2, 1, 1408, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1x2x1x1408x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S4096x2x2816 : Shape := ⟨3, ![4096, 2, 2816]⟩
abbrev S2x4096x2816 : Shape := ⟨3, ![2, 4096, 2816]⟩
abbrev S1x4096x1024 : Shape := ⟨3, ![1, 4096, 1024]⟩
abbrev S2x2x1x1408x1024 : Shape := ⟨5, ![2, 2, 1, 1408, 1024]⟩
abbrev S1x2048x1408 : Shape := ⟨3, ![1, 2048, 1408]⟩
abbrev S1x2048x1024 : Shape := ⟨3, ![1, 2048, 1024]⟩
abbrev S1x1x1x1408x1024 : Shape := ⟨5, ![1, 1, 1, 1408, 1024]⟩
abbrev S1408x1024 : Shape := ⟨2, ![1408, 1024]⟩
abbrev S2048x1408 : Shape := ⟨2, ![2048, 1408]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S4096x2x2816, .f32⟩
  | .hbm, ⟨3, _⟩ => ⟨S2x4096x2816, .f32⟩
  | .hbm, ⟨4, _⟩ => ⟨S2x4096x2816, .bf16⟩
  | .hbm, ⟨5, _⟩ => ⟨S4096x1024, .bf16⟩
  | .hbm, ⟨6, _⟩ => ⟨S1x4096x1024, .bf16⟩
  | .hbm, ⟨7, _⟩ => ⟨S2x2x1x1408x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1x1408x1024, .bf16⟩
  | .local _ .vmem, ⟨5, _⟩ => ⟨S1x1x1x1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 2], ![false, false, false, false]⟩

def k0_cond2 (i : grid0.Coords) : BitVec 1 :=
  let arg3 : BitVec 32 := BitVec.ofNat 32 (i 3).val
  let c1_i32 : BitVec 32 := 1#32
  let v13 : BitVec 1 := Scalar.cmpi .eq arg3 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg3.toNat, c0_i32.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference4Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩
abbrev S2x2x1x1408x1024 : Shape := ⟨5, ![2, 2, 1, 1408, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | .hbm, ⟨9, _⟩ => ⟨S2x2x1x1408x1024, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S2x2816x1024 : Shape := ⟨3, ![2, 2816, 1024]⟩
abbrev S4096x1024 : Shape := ⟨2, ![4096, 1024]⟩
abbrev S2x4096x2816 : Shape := ⟨3, ![2, 4096, 2816]⟩
abbrev S4096x2816 : Shape := ⟨2, ![4096, 2816]⟩
abbrev S1x128 : Shape := ⟨2, ![1, 128]⟩
abbrev S2x1024 : Shape := ⟨2, ![2, 1024]⟩
abbrev S512x1024 : Shape := ⟨2, ![512, 1024]⟩
abbrev S1x1x1024 : Shape := ⟨3, ![1, 1, 1024]⟩
abbrev S2x512x2816 : Shape := ⟨3, ![2, 512, 2816]⟩
abbrev S512x2816 : Shape := ⟨2, ![512, 2816]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x768x1024 : Shape := ⟨3, ![1, 768, 1024]⟩
abbrev S768x1024 : Shape := ⟨2, ![768, 1024]⟩
abbrev S512x768 : Shape := ⟨2, ![512, 768]⟩
abbrev S1x512x768 : Shape := ⟨3, ![1, 512, 768]⟩
abbrev S512 : Shape := ⟨1, ![512]⟩
abbrev S512x1 : Shape := ⟨2, ![512, 1]⟩
abbrev S1024 : Shape := ⟨1, ![1024]⟩
abbrev S1 : Shape := ⟨1, ![1]⟩
abbrev S1x1x1 : Shape := ⟨3, ![1, 1, 1]⟩

abbrev nBuf : Space → Nat
  | .hbm => 23
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x5632, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S2x2048x1024, .f32⟩
  | .hbm, ⟨9, _⟩ => ⟨S5632x1024, .f32⟩
  | .hbm, ⟨10, _⟩ => ⟨S5632x1024, .bf16⟩
  | .hbm, ⟨11, _⟩ => ⟨S2x2816x1024, .bf16⟩
  | .hbm, ⟨12, _⟩ => ⟨S2816x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S2x4096x2816, .bf16⟩
  | .hbm, ⟨18, _⟩ => ⟨S4096x2816, .bf16⟩
  | .hbm, ⟨19, _⟩ => ⟨S4096x1024, .bf16⟩
  | .hbm, ⟨20, _⟩ => ⟨S1x128, .f32⟩
  | .hbm, ⟨21, _⟩ => ⟨S2x1024, .f32⟩
  | .hbm, ⟨22, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S2x2816x1024, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S2x512x2816, .bf16⟩
  | .local _ .vmem, ⟨19, _⟩ => ⟨S2x512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x1024, .bf16⟩
  | .local _ .vmem, ⟨23, _⟩ => ⟨S512x1024, .bf16⟩
  | .local _ .vmem, ⟨24, _⟩ => ⟨S1x128, .f32⟩
  | .local _ .vmem, ⟨25, _⟩ => ⟨S2x1024, .f32⟩
  | .local _ .vmem, ⟨26, _⟩ => ⟨S1x1x1024, .f32⟩
  | .local _ .vmem, ⟨27, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S2x2048x1024 : Shape := ⟨3, ![2, 2048, 1024]⟩
abbrev S2x1x1024 : Shape := ⟨3, ![2, 1, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2x2048x5632 : Shape := ⟨3, ![2, 2048, 5632]⟩
abbrev S2x2048x2816 : Shape := ⟨3, ![2, 2048, 2816]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩
abbrev S2x1024 : Shape := ⟨2, ![2, 1024]⟩
abbrev S4096x2x2816 : Shape := ⟨3, ![4096, 2, 2816]⟩
abbrev S2x4096x2816 : Shape := ⟨3, ![2, 4096, 2816]⟩
abbrev S4096x1024 : Shape := ⟨2, ![4096, 1024]⟩
abbrev S4096x2816 : Shape := ⟨2, ![4096, 2816]⟩
abbrev S1x128 : Shape := ⟨2, ![1, 128]⟩

abbrev nBuf : Space → Nat
  | .hbm => 172
  | .vmem => 0
  | .smem => 0
  | _ => 0

abbrev hbmTy0_0 (i : Nat) : BufTy := match i % 128 with
  | 0 => ⟨S2x2048x1024, .f32⟩
  | 1 => ⟨S2x1x1024, .f32⟩
  | 2 => ⟨S2x1x1024, .f32⟩
  | 3 => ⟨S2x1x1024, .f32⟩
  | 4 => ⟨S1024x5632, .f32⟩
  | 5 => ⟨S2816x1024, .f32⟩
  | 6 => ⟨S1x1024, .f32⟩
  | 7 => ⟨S1x1024, .f32⟩
  | 8 => ⟨S2x2048x1024, .f32⟩
  | 9 => ⟨S_, .f32⟩
  | 10 => ⟨S2x2048x1024, .f32⟩
  | 11 => ⟨S_, .f32⟩
  | 12 => ⟨S2x1x1024, .f32⟩
  | 13 => ⟨S2x1x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x5632, .f32⟩
  | 19 => ⟨S2x2048x2816, .f32⟩
  | 20 => ⟨S2x2048x2816, .f32⟩
  | 21 => ⟨S2x2048x2816, .f32⟩
  | 22 => ⟨S2x2048x2816, .f32⟩
  | 23 => ⟨S_, .f32⟩
  | 24 => ⟨S2x2048x2816, .f32⟩
  | 25 => ⟨S2x2048x2816, .f32⟩
  | 26 => ⟨S_, .f32⟩
  | 27 => ⟨S2x2048x2816, .f32⟩
  | 28 => ⟨S2x2048x2816, .f32⟩
  | 29 => ⟨S2x2048x2816, .f32⟩
  | 30 => ⟨S2x2048x2816, .f32⟩
  | 31 => ⟨S2x2048x1024, .f32⟩
  | 32 => ⟨S2x2048x1024, .f32⟩
  | 33 => ⟨S_, .f32⟩
  | 34 => ⟨S2x2048x1024, .f32⟩
  | 35 => ⟨S2x2048x1024, .f32⟩
  | 36 => ⟨S_, .f32⟩
  | 37 => ⟨S2x1x1024, .f32⟩
  | 38 => ⟨S2x1x1024, .f32⟩
  | 39 => ⟨S_, .f32⟩
  | 40 => ⟨S2x1x1024, .f32⟩
  | 41 => ⟨S2x1x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S_, .f32⟩
  | 47 => ⟨S2x2048, .f32⟩
  | 48 => ⟨S2x2048x1, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S2x2048x1024, .f32⟩
  | 55 => ⟨S_, .f32⟩
  | 56 => ⟨S2x2048x1024, .f32⟩
  | 57 => ⟨S2x2048x1024, .f32⟩
  | 58 => ⟨S_, .f32⟩
  | 59 => ⟨S2x2048, .f32⟩
  | 60 => ⟨S2x2048x1, .f32⟩
  | 61 => ⟨S_, .f32⟩
  | 62 => ⟨S2x2048x1, .f32⟩
  | 63 => ⟨S2x2048x1, .f32⟩
  | 64 => ⟨S2x2048x1024, .f32⟩
  | 65 => ⟨S2x2048x1024, .f32⟩
  | 66 => ⟨S_, .f32⟩
  | 67 => ⟨S2x2048x1, .f32⟩
  | 68 => ⟨S2x2048x1, .f32⟩
  | 69 => ⟨S2x2048x1, .f32⟩
  | 70 => ⟨S2x2048x1, .f32⟩
  | 71 => ⟨S_, .f32⟩
  | 72 => ⟨S2x2048x1, .f32⟩
  | 73 => ⟨S2x2048x1, .f32⟩
  | 74 => ⟨S2x2048x1024, .f32⟩
  | 75 => ⟨S2x2048x1024, .f32⟩
  | 76 => ⟨S1x1x1024, .f32⟩
  | 77 => ⟨S2x2048x1024, .f32⟩
  | 78 => ⟨S2x2048x1024, .f32⟩
  | 79 => ⟨S1x1x1024, .f32⟩
  | 80 => ⟨S2x2048x1024, .f32⟩
  | 81 => ⟨S2x2048x1024, .f32⟩
  | 82 => ⟨S2x2048x1024, .f32⟩
  | 83 => ⟨S2x2048x1024, .f32⟩
  | 84 => ⟨S_, .f32⟩
  | 85 => ⟨S2x2048x1024, .f32⟩
  | 86 => ⟨S2x2048x1024, .f32⟩
  | 87 => ⟨S_, .f32⟩
  | 88 => ⟨S2x2048, .f32⟩
  | 89 => ⟨S_, .f32⟩
  | 90 => ⟨S2x2048, .f32⟩
  | 91 => ⟨S2x2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S2x2048x1024, .f32⟩
  | 104 => ⟨S2x2048x1024, .f32⟩
  | 105 => ⟨S_, .f32⟩
  | 106 => ⟨S1024, .f32⟩
  | 107 => ⟨S1x1x1024, .f32⟩
  | 108 => ⟨S_, .f32⟩
  | 109 => ⟨S1024, .f32⟩
  | 110 => ⟨S1x1024, .f32⟩
  | 111 => ⟨S2x2048x1024, .f32⟩
  | 112 => ⟨S_, .f32⟩
  | 113 => ⟨S1024, .f32⟩
  | 114 => ⟨S1x1x1024, .f32⟩
  | 115 => ⟨S2x2048x1024, .f32⟩
  | 116 => ⟨S2x2048x1024, .f32⟩
  | 117 => ⟨S_, .f32⟩
  | 118 => ⟨S1024, .f32⟩
  | 119 => ⟨S1x1024, .f32⟩
  | 120 => ⟨S2x2048x1024, .f32⟩
  | 121 => ⟨S_, .f32⟩
  | 122 => ⟨S2x2048, .f32⟩
  | 123 => ⟨S2x2048x1, .f32⟩
  | 124 => ⟨S2x2048x1024, .f32⟩
  | 125 => ⟨S2x2048x1024, .f32⟩
  | 126 => ⟨S2x2048x1, .f32⟩
  | 127 => ⟨S2x2048x1024, .f32⟩
  | _ => ⟨S2x2048x1024, .f32⟩

abbrev hbmTy0_1 (i : Nat) : BufTy := match i % 128 with
  | 0 => ⟨S_, .f32⟩
  | 1 => ⟨S2x2048, .f32⟩
  | 2 => ⟨S2x2048x1, .f32⟩
  | 3 => ⟨S_, .f32⟩
  | 4 => ⟨S2x2048x1, .f32⟩
  | 5 => ⟨S2x2048x1, .f32⟩
  | 6 => ⟨S_, .f32⟩
  | 7 => ⟨S2x2048, .f32⟩
  | 8 => ⟨S2x2048x1024, .f32⟩
  | 9 => ⟨S2x2048x1024, .f32⟩
  | 10 => ⟨S2x2048x1024, .f32⟩
  | 11 => ⟨S_, .f32⟩
  | 12 => ⟨S2x2048, .f32⟩
  | 13 => ⟨S2x2048x1, .f32⟩
  | 14 => ⟨S2x2048x1024, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S_, .f32⟩
  | 27 => ⟨S2x1024, .f32⟩
  | 28 => ⟨S2x1x1024, .f32⟩
  | 29 => ⟨S_, .f32⟩
  | 30 => ⟨S2x1x1024, .f32⟩
  | 31 => ⟨S2x1x1024, .f32⟩
  | 32 => ⟨S4096x2x2816, .f32⟩
  | 33 => ⟨S2x4096x2816, .f32⟩
  | 34 => ⟨S2x4096x2816, .bf16⟩
  | 35 => ⟨S4096x1024, .f32⟩
  | 36 => ⟨S4096x1024, .f32⟩
  | 37 => ⟨S4096x1024, .f32⟩
  | 38 => ⟨S4096x2816, .f32⟩
  | 39 => ⟨S4096x2816, .bf16⟩
  | 40 => ⟨S4096x1024, .bf16⟩
  | 41 => ⟨S4096x1024, .bf16⟩
  | 42 => ⟨S1x128, .f32⟩
  | 43 => ⟨S2x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_v60 : Ref sig .tc := ⟨.hbm, 93, rfl⟩
abbrev main_cst_15 : Ref sig .tc := ⟨.hbm, 94, rfl⟩
abbrev main_v61 : Ref sig .tc := ⟨.hbm, 95, rfl⟩
abbrev main_cst_16 : Ref sig .tc := ⟨.hbm, 96, rfl⟩
abbrev main_cst_17 : Ref sig .tc := ⟨.hbm, 97, rfl⟩
abbrev main_v62 : Ref sig .tc := ⟨.hbm, 98, rfl⟩
abbrev main_v63 : Ref sig .tc := ⟨.hbm, 99, rfl⟩
abbrev main_cst_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_v69 : Ref sig .tc := ⟨.hbm, 107, rfl⟩
abbrev main_cst_20 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_21 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_22 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_23 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_24 : Ref sig .tc := ⟨.hbm, 128, rfl⟩
abbrev main_v86 : Ref sig .tc := ⟨.hbm, 129, rfl⟩
abbrev main_v87 : Ref sig .tc := ⟨.hbm, 130, rfl⟩
abbrev main_cst_25 : Ref sig .tc := ⟨.hbm, 131, rfl⟩
abbrev main_v88 : Ref sig .tc := ⟨.hbm, 132, rfl⟩
abbrev main_v89 : Ref sig .tc := ⟨.hbm, 133, rfl⟩
abbrev main_cst_26 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_27 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_28 : Ref sig .tc := ⟨.hbm, 144, rfl⟩
abbrev main_v98 : Ref sig .tc := ⟨.hbm, 145, rfl⟩
abbrev main_v99 : Ref sig .tc := ⟨.hbm, 146, rfl⟩
abbrev main_cst_29 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_30 : Ref sig .tc := ⟨.hbm, 154, rfl⟩
abbrev main_v106 : Ref sig .tc := ⟨.hbm, 155, rfl⟩
abbrev main_v107 : Ref sig .tc := ⟨.hbm, 156, rfl⟩
abbrev main_cst_31 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩

abbrev nD : Nat := 1
abbrev τ : Topo := Topo.v7x

variable {F : FTy → Type} [FloatOps F]
-- ==== Kernel6.lean ====
abbrev S1x1024x704 : Shape := ⟨3, ![1, 1024, 704]⟩
abbrev S704x512 : Shape := ⟨2, ![704, 512]⟩
abbrev S3x704x512 : Shape := ⟨3, ![3, 704, 512]⟩
abbrev S1024x704 : Shape := ⟨2, ![1024, 704]⟩
abbrev S704x1024 : Shape := ⟨2, ![704, 1024]⟩
abbrev S352x1024 : Shape := ⟨2, ![352, 1024]⟩
abbrev S352x512 : Shape := ⟨2, ![352, 512]⟩
abbrev S3x352x512 : Shape := ⟨3, ![3, 352, 512]⟩
abbrev S1x352x512 : Shape := ⟨3, ![1, 352, 512]⟩

abbrev nBuf : Space → Nat
  | .hbm => 17
  | .vmem => 22
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x512, .f32⟩
  | .hbm, ⟨4, _⟩ => ⟨S704x512, .f32⟩
  | .hbm, ⟨5, _⟩ => ⟨S3x704x512, .bf16⟩
  | .hbm, ⟨6, _⟩ => ⟨S3x704x512, .bf16⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S1024x704, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x512, .f32⟩
  | .local _ .vmem, ⟨7, _⟩ => ⟨S352x512, .f32⟩
  | .local _ .vmem, ⟨8, _⟩ => ⟨S352x512, .f32⟩
  | .local _ .vmem, ⟨9, _⟩ => ⟨S352x512, .f32⟩
  | .local _ .vmem, ⟨10, _⟩ => ⟨S3x352x512, .bf16⟩
  | .local _ .vmem, ⟨11, _⟩ => ⟨S3x352x512, .bf16⟩
  | .local _ .vmem, ⟨12, _⟩ => ⟨S3x352x512, .bf16⟩
  | .local _ .vmem, ⟨13, _⟩ => ⟨S3x352x512, .bf16⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x352x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x352x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S1x1024x704 : Shape := ⟨3, ![1, 1024, 704]⟩
abbrev S704x512 : Shape := ⟨2, ![704, 512]⟩
abbrev S3x704x512 : Shape := ⟨3, ![3, 704, 512]⟩
abbrev S704x1024 : Shape := ⟨2, ![704, 1024]⟩
abbrev S3x704x1024 : Shape := ⟨3, ![3, 704, 1024]⟩
abbrev S_ : Shape := ⟨0, ![]⟩
abbrev S1024x704 : Shape := ⟨2, ![1024, 704]⟩

abbrev nBuf : Space → Nat
  | .hbm => 54
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x512, .f32⟩
  | .hbm, ⟨4, _⟩ => ⟨S704x512, .f32⟩
  | .hbm, ⟨5, _⟩ => ⟨S3x704x512, .bf16⟩
  | .hbm, ⟨6, _⟩ => ⟨S3x704x512, .bf16⟩
  | .hbm, ⟨7, _⟩ => ⟨S704x1024, .f32⟩
  | .hbm, ⟨8, _⟩ => ⟨S3x704x1024, .bf16⟩
  | .hbm, ⟨9, _⟩ => ⟨S3x704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S1024x704, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S1024x704, .f32⟩
  | .hbm, ⟨47, _⟩ => ⟨S_, .f32⟩
  | .hbm, ⟨48, _⟩ => ⟨S1024x704, .f32⟩
  | .hbm, ⟨49, _⟩ => ⟨S1024x704, .f32⟩
  | .hbm, ⟨50, _⟩ => ⟨S704x1024, .f32⟩
  | .hbm, ⟨51, _⟩ => ⟨S704x1024, .f32⟩
  | .hbm, ⟨52, _⟩ => ⟨S704x1024, .f32⟩
  | .hbm, ⟨53, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel7.lean ====
abbrev S1x1024x704 : Shape := ⟨3, ![1, 1024, 704]⟩
abbrev S704x1024 : Shape := ⟨2, ![704, 1024]⟩
abbrev S3x704x1024 : Shape := ⟨3, ![3, 704, 1024]⟩
abbrev S1024x704 : Shape := ⟨2, ![1024, 704]⟩
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S3x704x1024, .bf16⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S3x352x1024, .bf16⟩
  | .local _ .vmem, ⟨9, _⟩ => ⟨S3x352x1024, .bf16⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
abbrev S1x1024x704 : Shape := ⟨3, ![1, 1024, 704]⟩
abbrev S704x1024 : Shape := ⟨2, ![704, 1024]⟩
abbrev S3x704x1024 : Shape := ⟨3, ![3, 704, 1024]⟩
abbrev S1024x704 : Shape := ⟨2, ![1024, 704]⟩
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 15
  | .vmem => 18
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S3x704x1024, .bf16⟩
  | .hbm, ⟨5, _⟩ => ⟨S1024x704, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S3x352x1024, .bf16⟩
  | .local _ .vmem, ⟨9, _⟩ => ⟨S3x352x1024, .bf16⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1x1024x704 : Shape := ⟨3, ![1, 1024, 704]⟩
abbrev S704x1024 : Shape := ⟨2, ![704, 1024]⟩
abbrev S3x704x1024 : Shape := ⟨3, ![3, 704, 1024]⟩
abbrev S_ : Shape := ⟨0, ![]⟩
abbrev S1024x704 : Shape := ⟨2, ![1024, 704]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S704x1024, .f32⟩
  | .hbm, ⟨4, _⟩ => ⟨S3x704x1024, .bf16⟩
  | .hbm, ⟨5, _⟩ => ⟨S3x704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S704x1024, .f32⟩
  | .hbm, ⟨47, _⟩ => ⟨S704x1024, .f32⟩
  | .hbm, ⟨48, _⟩ => ⟨S704x1024, .f32⟩
  | .hbm, ⟨49, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel8.lean ====
abbrev S1x352x1024 : Shape := ⟨3, ![1, 352, 1024]⟩
abbrev S352x1024 : Shape := ⟨2, ![352, 1024]⟩
abbrev S3x352x1024 : Shape := ⟨3, ![3, 352, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S352x1024, .f32⟩
  | .hbm, ⟨4, _⟩ => ⟨S3x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S3x352x1024, .bf16⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel8Ideal.lean ====
abbrev S1x352x1024 : Shape := ⟨3, ![1, 352, 1024]⟩
abbrev S352x1024 : Shape := ⟨2, ![352, 1024]⟩
abbrev S3x352x1024 : Shape := ⟨3, ![3, 352, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S352x1024, .f32⟩
  | .hbm, ⟨4, _⟩ => ⟨S3x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S3x352x1024, .bf16⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S1x352x1024 : Shape := ⟨3, ![1, 352, 1024]⟩
abbrev S352x1024 : Shape := ⟨2, ![352, 1024]⟩
abbrev S3x352x1024 : Shape := ⟨3, ![3, 352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S352x1024, .f32⟩
  | .hbm, ⟨4, _⟩ => ⟨S3x352x1024, .bf16⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel9.lean ====
abbrev S1x1024x288 : Shape := ⟨3, ![1, 1024, 288]⟩
abbrev S288x1024 : Shape := ⟨2, ![288, 1024]⟩
abbrev S3x288x1024 : Shape := ⟨3, ![3, 288, 1024]⟩
abbrev S1024x288 : Shape := ⟨2, ![1024, 288]⟩
abbrev S1x288x1024 : Shape := ⟨3, ![1, 288, 1024]⟩

abbrev nBuf : Space → Nat
  | .hbm => 15
  | .vmem => 9
  | .smem => 0
  | _ => 0

abbrev bufTy : (tb : Table) → Fin (tcTables nBuf tb) → BufTy
  | .hbm, ⟨0, _⟩ => ⟨S1x1024x288, .f32⟩
  | .hbm, ⟨1, _⟩ => ⟨S1x1024x288, .f32⟩
  | .hbm, ⟨2, _⟩ => ⟨S1x1024x288, .f32⟩
  | .hbm, ⟨3, _⟩ => ⟨S288x1024, .f32⟩
  | .hbm, ⟨4, _⟩ => ⟨S3x288x1024, .bf16⟩
  | .hbm, ⟨5, _⟩ => ⟨S1024x288, .f32⟩
  | .hbm, ⟨6, _⟩ => ⟨S288x1024, .f32⟩
  | .hbm, ⟨7, _⟩ => ⟨S1024x288, .f32⟩
  | .hbm, ⟨8, _⟩ => ⟨S288x1024, .f32⟩
  | .hbm, ⟨9, _⟩ => ⟨S1024x288, .f32⟩
  | .hbm, ⟨10, _⟩ => ⟨S288x1024, .f32⟩
  | .hbm, ⟨11, _⟩ => ⟨S288x1024, .f32⟩
  | .hbm, ⟨12, _⟩ => ⟨S288x1024, .f32⟩
  | .hbm, ⟨13, _⟩ => ⟨S288x1024, .f32⟩
  | .hbm, ⟨14, _⟩ => ⟨S288x1024, .f32⟩
  | .local _ .vmem, ⟨0, _⟩ => ⟨S288x1024, .f32⟩
  | .local _ .vmem, ⟨1, _⟩ => ⟨S288x1024, .f32⟩
  | .local _ .vmem, ⟨2, _⟩ => ⟨S288x1024, .f32⟩
  | .local _ .vmem, ⟨3, _⟩ => ⟨S288x1024, .f32⟩
  | .local _ .vmem, ⟨4, _⟩ => ⟨S3x288x1024, .bf16⟩
  | .local _ .vmem, ⟨5, _⟩ => ⟨S288x1024, .f32⟩
  | .local _ .vmem, ⟨6, _⟩ => ⟨S288x1024, .f32⟩
  | .local _ .vmem, ⟨7, _⟩ => ⟨S288x1024, .f32⟩
  | .local _ .vmem, ⟨8, _⟩ => ⟨S288x1024, .f32⟩
  | _, _ => ⟨S1x1024x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S288x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S288x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x288x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S288x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S288x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S288x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S288x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S1x1024x288 : Shape := ⟨3, ![1, 1024, 288]⟩
abbrev S288x1024 : Shape := ⟨2, ![288, 1024]⟩
abbrev S3x288x1024 : Shape := ⟨3, ![3, 288, 1024]⟩
abbrev S_ : Shape := ⟨0, ![]⟩
abbrev S1024x288 : Shape := ⟨2, ![1024, 288]⟩

abbrev nBuf : Space → Nat
  | .hbm => 50
  | .vmem => 0
  | .smem => 0
  | _ => 0

abbrev bufTy : (tb : Table) → Fin (tcTables nBuf tb) → BufTy
  | .hbm, ⟨0, _⟩ => ⟨S1x1024x288, .f32⟩
  | .hbm, ⟨1, _⟩ => ⟨S1x1024x288, .f32⟩
  | .hbm, ⟨2, _⟩ => ⟨S1x1024x288, .f32⟩
  | .hbm, ⟨3, _⟩ => ⟨S288x1024, .f32⟩
  | .hbm, ⟨4, _⟩ => ⟨S3x288x1024, .bf16⟩
  | .hbm, ⟨5, _⟩ => ⟨S3x288x1024, .f32⟩
  | .hbm, ⟨6, _⟩ => ⟨S_, .f32⟩
  | .hbm, ⟨7, _⟩ => ⟨S288x1024, .f32⟩
  | .hbm, ⟨8, _⟩ => ⟨S288x1024, .f32⟩
  | .hbm, ⟨9, _⟩ => ⟨S1024x288, .f32⟩
  | .hbm, ⟨10, _⟩ => ⟨S1024x288, .f32⟩
  | .hbm, ⟨11, _⟩ => ⟨S1024x288, .f32⟩
  | .hbm, ⟨12, _⟩ => ⟨S1024x288, .f32⟩
  | .hbm, ⟨13, _⟩ => ⟨S_, .f32⟩
  | .hbm, ⟨14, _⟩ => ⟨S1024x288, .f32⟩
  | .hbm, ⟨15, _⟩ => ⟨S1024x288, .f32⟩
  | .hbm, ⟨16, _⟩ => ⟨S_, .f32⟩
  | .hbm, ⟨17, _⟩ => ⟨S1024x288, .f32⟩
  | .hbm, ⟨18, _⟩ => ⟨S1024x288, .f32⟩
  | .hbm, ⟨19, _⟩ => ⟨S1024x288, .f32⟩
  | .hbm, ⟨20, _⟩ => ⟨S_, .f32⟩
  | .hbm, ⟨21, _⟩ => ⟨S1024x288, .f32⟩
  | .hbm, ⟨22, _⟩ => ⟨S1024x288, .f32⟩
  | .hbm, ⟨23, _⟩ => ⟨S1024x288, .f32⟩
  | .hbm, ⟨24, _⟩ => ⟨S_, .f32⟩
  | .hbm, ⟨25, _⟩ => ⟨S1024x288, .f32⟩
  | .hbm, ⟨26, _⟩ => ⟨S1024x288, .f32⟩
  | .hbm, ⟨27, _⟩ => ⟨S1024x288, .f32⟩
  | .hbm, ⟨28, _⟩ => ⟨S_, .f32⟩
  | .hbm, ⟨29, _⟩ => ⟨S1024x288, .f32⟩
  | .hbm, ⟨30, _⟩ => ⟨S1024x288, .f32⟩
  | .hbm, ⟨31, _⟩ => ⟨S_, .f32⟩
  | .hbm, ⟨32, _⟩ => ⟨S1024x288, .f32⟩
  | .hbm, ⟨33, _⟩ => ⟨S1024x288, .f32⟩
  | .hbm, ⟨34, _⟩ => ⟨S1024x288, .f32⟩
  | .hbm, ⟨35, _⟩ => ⟨S_, .f32⟩
  | .hbm, ⟨36, _⟩ => ⟨S1024x288, .f32⟩
  | .hbm, ⟨37, _⟩ => ⟨S1024x288, .f32⟩
  | .hbm, ⟨38, _⟩ => ⟨S1024x288, .f32⟩
  | .hbm, ⟨39, _⟩ => ⟨S_, .f32⟩
  | .hbm, ⟨40, _⟩ => ⟨S1024x288, .f32⟩
  | .hbm, ⟨41, _⟩ => ⟨S1024x288, .f32⟩
  | .hbm, ⟨42, _⟩ => ⟨S1024x288, .f32⟩
  | .hbm, ⟨43, _⟩ => ⟨S_, .f32⟩
  | .hbm, ⟨44, _⟩ => ⟨S1024x288, .f32⟩
  | .hbm, ⟨45, _⟩ => ⟨S1024x288, .f32⟩
  | .hbm, ⟨46, _⟩ => ⟨S288x1024, .f32⟩
  | .hbm, ⟨47, _⟩ => ⟨S288x1024, .f32⟩
  | .hbm, ⟨48, _⟩ => ⟨S288x1024, .f32⟩
  | .hbm, ⟨49, _⟩ => ⟨S288x1024, .f32⟩
  | _, _ => ⟨S1x1024x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel10.lean ====
abbrev S1x128x1024 : Shape := ⟨3, ![1, 128, 1024]⟩
abbrev S128x1024 : Shape := ⟨2, ![128, 1024]⟩
abbrev S3x128x1024 : Shape := ⟨3, ![3, 128, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S128x1024, .f32⟩
  | .hbm, ⟨4, _⟩ => ⟨S3x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S3x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference10Ideal.lean ====
abbrev S1x128x1024 : Shape := ⟨3, ![1, 128, 1024]⟩
abbrev S128x1024 : Shape := ⟨2, ![128, 1024]⟩
abbrev S3x128x1024 : Shape := ⟨3, ![3, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S128x1024, .f32⟩
  | .hbm, ⟨4, _⟩ => ⟨S3x128x1024, .bf16⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel11.lean ====
abbrev S1x1024x1152 : Shape := ⟨3, ![1, 1024, 1152]⟩
abbrev S1024x1152 : Shape := ⟨2, ![1024, 1152]⟩
abbrev S512x1152 : Shape := ⟨2, ![512, 1152]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1152, .f32⟩
  | .hbm, ⟨1, _⟩ => ⟨S1x1024x1152, .f32⟩
  | .hbm, ⟨2, _⟩ => ⟨S1x1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S1x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S1x1024x1152 : Shape := ⟨3, ![1, 1024, 1152]⟩
abbrev S1024x1152 : Shape := ⟨2, ![1024, 1152]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1152, .f32⟩
  | .hbm, ⟨1, _⟩ => ⟨S1x1024x1152, .f32⟩
  | .hbm, ⟨2, _⟩ => ⟨S1x1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S_, .f32⟩
  | .hbm, ⟨11, _⟩ => ⟨S1024x1152, .f32⟩
  | .hbm, ⟨12, _⟩ => ⟨S1024x1152, .f32⟩
  | .hbm, ⟨13, _⟩ => ⟨S1024x1152, .f32⟩
  | .hbm, ⟨14, _⟩ => ⟨S_, .f32⟩
  | .hbm, ⟨15, _⟩ => ⟨S1024x1152, .f32⟩
  | .hbm, ⟨16, _⟩ => ⟨S1024x1152, .f32⟩
  | .hbm, ⟨17, _⟩ => ⟨S1024x1152, .f32⟩
  | .hbm, ⟨18, _⟩ => ⟨S_, .f32⟩
  | .hbm, ⟨19, _⟩ => ⟨S1024x1152, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S_, .f32⟩
  | .hbm, ⟨26, _⟩ => ⟨S1024x1152, .f32⟩
  | .hbm, ⟨27, _⟩ => ⟨S1024x1152, .f32⟩
  | .hbm, ⟨28, _⟩ => ⟨S1024x1152, .f32⟩
  | .hbm, ⟨29, _⟩ => ⟨S_, .f32⟩
  | .hbm, ⟨30, _⟩ => ⟨S1024x1152, .f32⟩
  | .hbm, ⟨31, _⟩ => ⟨S1024x1152, .f32⟩
  | .hbm, ⟨32, _⟩ => ⟨S1024x1152, .f32⟩
  | .hbm, ⟨33, _⟩ => ⟨S_, .f32⟩
  | .hbm, ⟨34, _⟩ => ⟨S1024x1152, .f32⟩
  | .hbm, ⟨35, _⟩ => ⟨S1024x1152, .f32⟩
  | .hbm, ⟨36, _⟩ => ⟨S1024x1152, .f32⟩
  | .hbm, ⟨37, _⟩ => ⟨S_, .f32⟩
  | .hbm, ⟨38, _⟩ => ⟨S1024x1152, .f32⟩
  | .hbm, ⟨39, _⟩ => ⟨S1024x1152, .f32⟩
  | _, _ => ⟨S1x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S1x9216 : Shape := ⟨2, ![1, 9216]⟩
abbrev S1x1024 : Shape := ⟨2, ![1, 1024]⟩
abbrev S1x3x64 : Shape := ⟨3, ![1, 3, 64]⟩
abbrev S1x8 : Shape := ⟨2, ![1, 8]⟩
abbrev S3x1x64 : Shape := ⟨3, ![3, 1, 64]⟩

abbrev nBuf : Space → Nat
  | .hbm => 67
  | .vmem => 63
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S1x9216, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x3x64, .f32⟩
  | .hbm, ⟨13, _⟩ => ⟨S1x3x64, .f32⟩
  | .hbm, ⟨14, _⟩ => ⟨S1x3x64, .f32⟩
  | .hbm, ⟨15, _⟩ => ⟨S1x3x64, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S3x1x64, .f32⟩
  | .hbm, ⟨37, _⟩ => ⟨S3x1x64, .f32⟩
  | .hbm, ⟨38, _⟩ => ⟨S3x1x64, .f32⟩
  | .hbm, ⟨39, _⟩ => ⟨S3x1x64, .f32⟩
  | .hbm, ⟨40, _⟩ => ⟨S1x9216, .f32⟩
  | .hbm, ⟨41, _⟩ => ⟨S1x9216, .f32⟩
  | .hbm, ⟨42, _⟩ => ⟨S1x9216, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S3x1x64, .f32⟩
  | .hbm, ⟨50, _⟩ => ⟨S3x1x64, .f32⟩
  | .hbm, ⟨51, _⟩ => ⟨S3x1x64, .f32⟩
  | .hbm, ⟨52, _⟩ => ⟨S1x8, .f32⟩
  | .hbm, ⟨53, _⟩ => ⟨S1x8, .f32⟩
  | .hbm, ⟨54, _⟩ => ⟨S1x8, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .local _ .vmem, ⟨0, _⟩ => ⟨S1x9216, .f32⟩
  | .local _ .vmem, ⟨1, _⟩ => ⟨S1x9216, .f32⟩
  | .local _ .vmem, ⟨2, _⟩ => ⟨S1x9216, .f32⟩
  | .local _ .vmem, ⟨3, _⟩ => ⟨S1x9216, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S3x1x64, .f32⟩
  | .local _ .vmem, ⟨13, _⟩ => ⟨S3x1x64, .f32⟩
  | .local _ .vmem, ⟨14, _⟩ => ⟨S3x1x64, .f32⟩
  | .local _ .vmem, ⟨15, _⟩ => ⟨S3x1x64, .f32⟩
  | .local _ .vmem, ⟨16, _⟩ => ⟨S1x8, .f32⟩
  | .local _ .vmem, ⟨17, _⟩ => ⟨S1x8, .f32⟩
  | .local _ .vmem, ⟨18, _⟩ => ⟨S1x8, .f32⟩
  | .local _ .vmem, ⟨19, _⟩ => ⟨S1x8, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x9216, .f32⟩
  | .local _ .vmem, ⟨37, _⟩ => ⟨S1x9216, .f32⟩
  | .local _ .vmem, ⟨38, _⟩ => ⟨S1x9216, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S3x1x64, .f32⟩
  | .local _ .vmem, ⟨46, _⟩ => ⟨S3x1x64, .f32⟩
  | .local _ .vmem, ⟨47, _⟩ => ⟨S3x1x64, .f32⟩
  | .local _ .vmem, ⟨48, _⟩ => ⟨S1x8, .f32⟩
  | .local _ .vmem, ⟨49, _⟩ => ⟨S1x8, .f32⟩
  | .local _ .vmem, ⟨50, _⟩ => ⟨S1x8, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | _, _ => ⟨S1x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v4_4 : Ref sig .tc := ⟨.hbm, 44, rfl⟩
abbrev main_v4_5 : Ref sig .tc := ⟨.hbm, 45, rfl⟩
abbrev main_v4_6 : Ref sig .tc := ⟨.hbm, 46, rfl⟩
abbrev main_v4_7 : Ref sig .tc := ⟨.hbm, 47, rfl⟩
abbrev main_v4_8 : Ref sig .tc := ⟨.hbm, 48, rfl⟩
abbrev main_v4_9 : Ref sig .tc := ⟨.hbm, 49, rfl⟩
abbrev main_v4_10 : Ref sig .tc := ⟨.hbm, 50, rfl⟩
abbrev main_v4_11 : Ref sig .tc := ⟨.hbm, 51, rfl⟩
abbrev main_v4_12 : Ref sig .tc := ⟨.hbm, 52, rfl⟩
abbrev main_v4_13 : Ref sig .tc := ⟨.hbm, 53, rfl⟩
abbrev main_v4_14 : Ref sig .tc := ⟨.hbm, 54, rfl⟩
abbrev main_v4_15 : Ref sig .tc := ⟨.hbm, 55, rfl⟩
abbrev main_v4_16 : Ref sig .tc := ⟨.hbm, 56, rfl⟩
abbrev main_v4_17 : Ref sig .tc := ⟨.hbm, 57, rfl⟩
abbrev main_v4_18 : Ref sig .tc := ⟨.hbm, 58, rfl⟩
abbrev main_v4_19 : Ref sig .tc := ⟨.hbm, 59, rfl⟩
abbrev main_v4_20 : Ref sig .tc := ⟨.hbm, 60, rfl⟩
abbrev main_v4_21 : Ref sig .tc := ⟨.hbm, 61, rfl⟩
abbrev main_v4_22 : Ref sig .tc := ⟨.hbm, 62, rfl⟩
abbrev main_v4_23 : Ref sig .tc := ⟨.hbm, 63, rfl⟩
abbrev main_v4_24 : Ref sig .tc := ⟨.hbm, 64, rfl⟩
abbrev main_v4_25 : Ref sig .tc := ⟨.hbm, 65, rfl⟩
abbrev main_v4_26 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S1x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x9216 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x9216 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x9216 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S3x1x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S3x1x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S3x1x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x8 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x8 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x8 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== Reference12Ideal.lean ====
abbrev S1x9216 : Shape := ⟨2, ![1, 9216]⟩
abbrev S1x1024 : Shape := ⟨2, ![1, 1024]⟩
abbrev S1x3x64 : Shape := ⟨3, ![1, 3, 64]⟩
abbrev S1x8 : Shape := ⟨2, ![1, 8]⟩
abbrev S_ : Shape := ⟨0, ![]⟩
abbrev S3x1x64 : Shape := ⟨3, ![3, 1, 64]⟩

abbrev nBuf : Space → Nat
  | .hbm => 336
  | .vmem => 0
  | .smem => 0
  | _ => 0

abbrev hbmTy0_0 (i : Nat) : BufTy := match i % 128 with
  | 0 => ⟨S1x9216, .f32⟩
  | 1 => ⟨S1x9216, .f32⟩
  | 2 => ⟨S1x9216, .f32⟩
  | 3 => ⟨S1x9216, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x3x64, .f32⟩
  | 13 => ⟨S1x3x64, .f32⟩
  | 14 => ⟨S1x3x64, .f32⟩
  | 15 => ⟨S1x3x64, .f32⟩
  | 16 => ⟨S1x8, .f32⟩
  | 17 => ⟨S1x8, .f32⟩
  | 18 => ⟨S1x8, .f32⟩
  | 19 => ⟨S1x8, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S_, .f32⟩
  | 37 => ⟨S1x9216, .f32⟩
  | 38 => ⟨S1x9216, .f32⟩
  | 39 => ⟨S_, .f32⟩
  | 40 => ⟨S1x9216, .f32⟩
  | 41 => ⟨S1x9216, .f32⟩
  | 42 => ⟨S1x9216, .f32⟩
  | 43 => ⟨S_, .f32⟩
  | 44 => ⟨S1x9216, .f32⟩
  | 45 => ⟨S1x9216, .f32⟩
  | 46 => ⟨S1x9216, .f32⟩
  | 47 => ⟨S_, .f32⟩
  | 48 => ⟨S1x9216, .f32⟩
  | 49 => ⟨S1x9216, .f32⟩
  | 50 => ⟨S1x9216, .f32⟩
  | 51 => ⟨S_, .f32⟩
  | 52 => ⟨S1x9216, .f32⟩
  | 53 => ⟨S1x9216, .f32⟩
  | 54 => ⟨S_, .f32⟩
  | 55 => ⟨S1x9216, .f32⟩
  | 56 => ⟨S1x9216, .f32⟩
  | 57 => ⟨S1x9216, .f32⟩
  | 58 => ⟨S_, .f32⟩
  | 59 => ⟨S1x9216, .f32⟩
  | 60 => ⟨S1x9216, .f32⟩
  | 61 => ⟨S1x9216, .f32⟩
  | 62 => ⟨S_, .f32⟩
  | 63 => ⟨S1x9216, .f32⟩
  | 64 => ⟨S1x9216, .f32⟩
  | 65 => ⟨S1x9216, .f32⟩
  | 66 => ⟨S_, .f32⟩
  | 67 => ⟨S1x9216, .f32⟩
  | 68 => ⟨S1x9216, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x9216, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x3x64, .f32⟩
  | 9 => ⟨S1x3x64, .f32⟩
  | 10 => ⟨S_, .f32⟩
  | 11 => ⟨S1x3x64, .f32⟩
  | 12 => ⟨S1x3x64, .f32⟩
  | 13 => ⟨S1x3x64, .f32⟩
  | 14 => ⟨S_, .f32⟩
  | 15 => ⟨S1x3x64, .f32⟩
  | 16 => ⟨S1x3x64, .f32⟩
  | 17 => ⟨S1x3x64, .f32⟩
  | 18 => ⟨S_, .f32⟩
  | 19 => ⟨S1x3x64, .f32⟩
  | 20 => ⟨S1x3x64, .f32⟩
  | 21 => ⟨S1x3x64, .f32⟩
  | 22 => ⟨S_, .f32⟩
  | 23 => ⟨S1x3x64, .f32⟩
  | 24 => ⟨S1x3x64, .f32⟩
  | 25 => ⟨S_, .f32⟩
  | 26 => ⟨S1x3x64, .f32⟩
  | 27 => ⟨S1x3x64, .f32⟩
  | 28 => ⟨S1x3x64, .f32⟩
  | 29 => ⟨S_, .f32⟩
  | 30 => ⟨S1x3x64, .f32⟩
  | 31 => ⟨S1x3x64, .f32⟩
  | 32 => ⟨S1x3x64, .f32⟩
  | 33 => ⟨S_, .f32⟩
  | 34 => ⟨S1x3x64, .f32⟩
  | 35 => ⟨S1x3x64, .f32⟩
  | 36 => ⟨S1x3x64, .f32⟩
  | 37 => ⟨S_, .f32⟩
  | 38 => ⟨S1x3x64, .f32⟩
  | 39 => ⟨S1x3x64, .f32⟩
  | 40 => ⟨S3x1x64, .f32⟩
  | 41 => ⟨S3x1x64, .f32⟩
  | 42 => ⟨S3x1x64, .f32⟩
  | 43 => ⟨S_, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S1x8, .f32⟩
  | 50 => ⟨S_, .f32⟩
  | 51 => ⟨S1x8, .f32⟩
  | 52 => ⟨S1x8, .f32⟩
  | 53 => ⟨S1x8, .f32⟩
  | 54 => ⟨S_, .f32⟩
  | 55 => ⟨S1x8, .f32⟩
  | 56 => ⟨S1x8, .f32⟩
  | 57 => ⟨S1x8, .f32⟩
  | 58 => ⟨S_, .f32⟩
  | 59 => ⟨S1x8, .f32⟩
  | 60 => ⟨S1x8, .f32⟩
  | 61 => ⟨S_, .f32⟩
  | 62 => ⟨S1x8, .f32⟩
  | 63 => ⟨S1x8, .f32⟩
  | 64 => ⟨S1x8, .f32⟩
  | 65 => ⟨S_, .f32⟩
  | 66 => ⟨S1x8, .f32⟩
  | 67 => ⟨S1x8, .f32⟩
  | 68 => ⟨S1x8, .f32⟩
  | 69 => ⟨S_, .f32⟩
  | 70 => ⟨S1x8, .f32⟩
  | 71 => ⟨S1x8, .f32⟩
  | 72 => ⟨S1x8, .f32⟩
  | 73 => ⟨S_, .f32⟩
  | 74 => ⟨S1x8, .f32⟩
  | 75 => ⟨S1x8, .f32⟩
  | 76 => ⟨S_, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S1x1024, .f32⟩
  | 106 => ⟨S_, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S1x9216, .f32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | _ => ⟨S1x9216, .f32⟩

abbrev hbmTy (i : Nat) : BufTy := match i / 128 with
  | 0 => hbmTy0_0 i
  | 1 => hbmTy0_1 i
  | 2 => hbmTy0_2 i
  | _ => ⟨S1x9216, .f32⟩

abbrev bufTy : (tb : Table) → Fin (tcTables nBuf tb) → BufTy
  | .hbm, ⟨i, _⟩ => hbmTy i
  | _, _ => ⟨S1x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_cst_35 : Ref sig .tc := ⟨.hbm, 171, rfl⟩
abbrev main_v99 : Ref sig .tc := ⟨.hbm, 172, rfl⟩
abbrev main_v100 : Ref sig .tc := ⟨.hbm, 173, rfl⟩
abbrev main_cst_36 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_37 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_38 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_cst_39 : Ref sig .tc := ⟨.hbm, 186, rfl⟩
abbrev main_v110 : Ref sig .tc := ⟨.hbm, 187, rfl⟩
abbrev main_v111 : Ref sig .tc := ⟨.hbm, 188, rfl⟩
abbrev main_cst_40 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_41 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_42 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_43 : Ref sig .tc := ⟨.hbm, 201, rfl⟩
abbrev main_v121 : Ref sig .tc := ⟨.hbm, 202, rfl⟩
abbrev main_v122 : Ref sig .tc := ⟨.hbm, 203, rfl⟩
abbrev main_cst_44 : Ref sig .tc := ⟨.hbm, 204, rfl⟩
abbrev main_v123 : Ref sig .tc := ⟨.hbm, 205, rfl⟩
abbrev main_v124 : Ref sig .tc := ⟨.hbm, 206, rfl⟩
abbrev main_cst_45 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_46 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_47 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_cst_48 : Ref sig .tc := ⟨.hbm, 219, rfl⟩
abbrev main_v134 : Ref sig .tc := ⟨.hbm, 220, rfl⟩
abbrev main_v135 : Ref sig .tc := ⟨.hbm, 221, rfl⟩
abbrev main_cst_49 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_cst_50 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_cst_51 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_52 : Ref sig .tc := ⟨.hbm, 234, rfl⟩
abbrev main_v145 : Ref sig .tc := ⟨.hbm, 235, rfl⟩
abbrev main_v146 : Ref sig .tc := ⟨.hbm, 236, rfl⟩
abbrev main_cst_53 : Ref sig .tc := ⟨.hbm, 237, rfl⟩
abbrev main_v147 : Ref sig .tc := ⟨.hbm, 238, rfl⟩
abbrev main_v148 : Ref sig .tc := ⟨.hbm, 239, rfl⟩
abbrev main_cst_54 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_cst_55 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_cst_56 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_57 : Ref sig .tc := ⟨.hbm, 252, rfl⟩
abbrev main_v158 : Ref sig .tc := ⟨.hbm, 253, rfl⟩
abbrev main_v159 : Ref sig .tc := ⟨.hbm, 254, rfl⟩
abbrev main_cst_58 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_cst_59 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_cst_60 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_61 : Ref sig .tc := ⟨.hbm, 267, rfl⟩
abbrev main_v169 : Ref sig .tc := ⟨.hbm, 268, rfl⟩
abbrev main_v170 : Ref sig .tc := ⟨.hbm, 269, rfl⟩
abbrev main_cst_62 : Ref sig .tc := ⟨.hbm, 270, rfl⟩
abbrev main_v171 : Ref sig .tc := ⟨.hbm, 271, rfl⟩
abbrev main_v172 : Ref sig .tc := ⟨.hbm, 272, rfl⟩
abbrev main_cst_63 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_64 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_65 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_cst_66 : Ref sig .tc := ⟨.hbm, 285, rfl⟩
abbrev main_v182 : Ref sig .tc := ⟨.hbm, 286, rfl⟩
abbrev main_v183 : Ref sig .tc := ⟨.hbm, 287, rfl⟩
abbrev main_cst_67 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_cst_68 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_cst_69 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_cst_70 : Ref sig .tc := ⟨.hbm, 300, rfl⟩
abbrev main_v193 : Ref sig .tc := ⟨.hbm, 301, rfl⟩
abbrev main_v194 : Ref sig .tc := ⟨.hbm, 302, rfl⟩
abbrev main_cst_71 : Ref sig .tc := ⟨.hbm, 303, rfl⟩
abbrev main_v195 : Ref sig .tc := ⟨.hbm, 304, rfl⟩
abbrev main_v196 : Ref sig .tc := ⟨.hbm, 305, rfl⟩
abbrev main_cst_72 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_cst_73 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_cst_74 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_cst_75 : Ref sig .tc := ⟨.hbm, 318, rfl⟩
abbrev main_v206 : Ref sig .tc := ⟨.hbm, 319, rfl⟩
abbrev main_v207 : Ref sig .tc := ⟨.hbm, 320, rfl⟩
abbrev main_cst_76 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_cst_77 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_cst_78 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_cst_79 : Ref sig .tc := ⟨.hbm, 333, rfl⟩
abbrev main_v217 : Ref sig .tc := ⟨.hbm, 334, rfl⟩
abbrev main_v218 : Ref sig .tc := ⟨.hbm, 335, rfl⟩

abbrev nD : Nat := 1
abbrev τ : Topo := Topo.v7x

variable {F : FTy → Type} [FloatOps F]
-- ==== Kernel13.lean ====
abbrev S16x1024 : Shape := ⟨2, ![16, 1024]⟩
abbrev S16x1152 : Shape := ⟨2, ![16, 1152]⟩
abbrev S_ : Shape := ⟨0, ![]⟩
abbrev S1024x1152 : Shape := ⟨2, ![1024, 1152]⟩
abbrev S1x1152 : Shape := ⟨2, ![1, 1152]⟩
abbrev S1152 : Shape := ⟨1, ![1152]⟩

abbrev nBuf : Space → Nat
  | .hbm => 14
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S16x1152, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .bf16⟩
  | .hbm, ⟨12, _⟩ => ⟨S1024x1152, .f32⟩
  | .hbm, ⟨13, _⟩ => ⟨S1x1152, .f32⟩
  | .local _ .vmem, ⟨0, _⟩ => ⟨S16x1024, .bf16⟩
  | .local _ .vmem, ⟨1, _⟩ => ⟨S16x1152, .f32⟩
  | .local _ .vmem, ⟨2, _⟩ => ⟨S1024x1152, .f32⟩
  | .local _ .vmem, ⟨3, _⟩ => ⟨S1x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference13Ideal.lean ====
abbrev S16x1024 : Shape := ⟨2, ![16, 1024]⟩
abbrev S16x1152 : Shape := ⟨2, ![16, 1152]⟩
abbrev S_ : Shape := ⟨0, ![]⟩
abbrev S1024x1152 : Shape := ⟨2, ![1024, 1152]⟩
abbrev S1x1152 : Shape := ⟨2, ![1, 1152]⟩
abbrev S1152 : Shape := ⟨1, ![1152]⟩
abbrev S1152x1024 : Shape := ⟨2, ![1152, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1152, .f32⟩
  | .hbm, ⟨2, _⟩ => ⟨S_, .f32⟩
  | .hbm, ⟨3, _⟩ => ⟨S1024x1152, .f32⟩
  | .hbm, ⟨4, _⟩ => ⟨S_, .f32⟩
  | .hbm, ⟨5, _⟩ => ⟨S1x1152, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1152, .f32⟩
  | .hbm, ⟨16, _⟩ => ⟨S16x1152, .f32⟩
  | .hbm, ⟨17, _⟩ => ⟨S16x1152, .f32⟩
  | .hbm, ⟨18, _⟩ => ⟨S16x1152, .f32⟩
  | .hbm, ⟨19, _⟩ => ⟨S_, .f32⟩
  | .hbm, ⟨20, _⟩ => ⟨S1152, .f32⟩
  | .hbm, ⟨21, _⟩ => ⟨S1x1152, .f32⟩
  | .hbm, ⟨22, _⟩ => ⟨S1152x1024, .f32⟩
  | .hbm, ⟨23, _⟩ => ⟨S1024x1152, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Kernel14.lean ====
abbrev S8x8x1024 : Shape := ⟨3, ![8, 8, 1024]⟩
abbrev S1x1024 : Shape := ⟨2, ![1, 1024]⟩
abbrev S1x8 : Shape := ⟨2, ![1, 8]⟩
abbrev S1x1 : Shape := ⟨2, ![1, 1]⟩
abbrev S1x8x1024 : Shape := ⟨3, ![1, 8, 1024]⟩
abbrev S8x1024 : Shape := ⟨2, ![8, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x8, .f32⟩
  | .hbm, ⟨8, _⟩ => ⟨S1x1, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x8, .f32⟩
  | .local _ .vmem, ⟨8, _⟩ => ⟨S1x1, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference14Ideal.lean ====
abbrev S8x8x1024 : Shape := ⟨3, ![8, 8, 1024]⟩
abbrev S_ : Shape := ⟨0, ![]⟩
abbrev S8x1024 : Shape := ⟨2, ![8, 1024]⟩
abbrev S1x1024 : Shape := ⟨2, ![1, 1024]⟩
abbrev S1x8 : Shape := ⟨2, ![1, 8]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x8, .f32⟩
  | .hbm, ⟨10, _⟩ => ⟨S1x1, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel15.lean ====
abbrev S8x3x512 : Shape := ⟨3, ![8, 3, 512]⟩
abbrev S3x512 : Shape := ⟨2, ![3, 512]⟩
abbrev S1x3x512 : Shape := ⟨3, ![1, 3, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x3x512, .f32⟩
  | .hbm, ⟨1, _⟩ => ⟨S3x512, .f32⟩
  | .local _ .vmem, ⟨0, _⟩ => ⟨S8x3x512, .f32⟩
  | .local _ .vmem, ⟨1, _⟩ => ⟨S3x512, .f32⟩
  | _, _ => ⟨S8x3x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference15Ideal.lean ====
abbrev S8x3x512 : Shape := ⟨3, ![8, 3, 512]⟩
abbrev S_ : Shape := ⟨0, ![]⟩
abbrev S3x512 : Shape := ⟨2, ![3, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x3x512, .f32⟩
  | .hbm, ⟨1, _⟩ => ⟨S_, .f32⟩
  | .hbm, ⟨2, _⟩ => ⟨S3x512, .f32⟩
  | _, _ => ⟨S8x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.ConvMath.lean ====
/-
  Hand-written. The gated short convolution's gradient as plain arithmetic over the extended reals: the shift of a sequence
  by a number of steps in either direction with zeros moved in, the four gradients at an index, and the integer masks that
  the kernel's shifts are cut with.
-/
module

public import Idealize.ShloMosaic.Lib.Pointwise
public import Idealize.ShloMosaic.Lib.Pipeline.ValueKit.Point

@[expose] public section

noncomputable section

namespace Cert.Proof.Conv

open Idealize.ShloMosaic

/-- The sequence `k` steps earlier: element `s - k`, and zero where there is none. -/
def back {n : Nat} (k : Nat) (f : Fin n → EReal) (s : Fin n) : EReal :=
  if h : k ≤ s.val then f ⟨s.val - k, by omega⟩ else 0

/-- The sequence `k` steps later: element `s + k`, and zero where there is none. -/
def ahead {n : Nat} (k : Nat) (f : Fin n → EReal) (s : Fin n) : EReal :=
  if h : s.val + k < n then f ⟨s.val + k, h⟩ else 0

/-- The arrays of the problem: two sequences of 2048 tokens of 512 channels. -/
abbrev Act := (⟨3, ![2, 2048, 512]⟩ : Shape).Idx → EReal

/-- The three taps of each channel. -/
abbrev Taps := (⟨2, ![3, 512]⟩ : Shape).Idx → EReal

/-- The convolution's input: the gate before the convolution times the values. -/
def inp (c u : Act) (b : Fin 2) (d : Fin 512) (s : Fin 2048) : EReal := c (ix3 b s d) * u (ix3 b s d)

/-- The gradient at the convolution's output. -/
def gout (ct g : Act) (b : Fin 2) (d : Fin 512) (s : Fin 2048) : EReal := ct (ix3 b s d) * g (ix3 b s d)

/-- The gradient at the convolution's input: the taps against the later outputs. -/
def gin (w : Taps) (ct g : Act) (b : Fin 2) (d : Fin 512) (s : Fin 2048) : EReal :=
  w (ix2 2 d) * gout ct g b d s + w (ix2 1 d) * ahead 1 (gout ct g b d) s + w (ix2 0 d) * ahead 2 (gout ct g b d) s

/-- The convolution's output. -/
def conv (w : Taps) (c u : Act) (b : Fin 2) (d : Fin 512) (s : Fin 2048) : EReal :=
  w (ix2 2 d) * inp c u b d s + w (ix2 1 d) * back 1 (inp c u b d) s + w (ix2 0 d) * back 2 (inp c u b d) s

/-- A token of a sequence, in the axis of both sequences' tokens. -/
def tok (b : Fin 2) (s : Fin 2048) : Fin 4096 := ⟨b.val * 2048 + s.val, by have := b.isLt; have := s.isLt; omega⟩
/-- The sequence of a token of that axis. -/
def bOf (r : Fin 4096) : Fin 2 := ⟨r.val / 2048, by omega⟩
/-- Its place in the sequence. -/
def sOf (r : Fin 4096) : Fin 2048 := ⟨r.val % 2048, by omega⟩

theorem bOf_tok (b : Fin 2) (s : Fin 2048) : bOf (tok b s) = b :=
  Fin.ext (by show (b.val * 2048 + s.val) / 2048 = b.val; have := s.isLt; omega)

theorem sOf_tok (b : Fin 2) (s : Fin 2048) : sOf (tok b s) = s :=
  Fin.ext (by show (b.val * 2048 + s.val) % 2048 = s.val; have := s.isLt; omega)

/-- The gradient of a factor of the convolution's input (`c` is the other factor), tokens of both sequences in one axis. -/
def gradU (w : Taps) (ct g c : Act) : (⟨2, ![4096, 512]⟩ : Shape).Idx → EReal := fun i =>
  gin w ct g (bOf (i 0)) (i 1) (sOf (i 0)) * c (ix3 (bOf (i 0)) (sOf (i 0)) (i 1))

/-- The gradient of the gate after the convolution. -/
def gradB (w : Taps) (ct c u : Act) : (⟨2, ![4096, 512]⟩ : Shape).Idx → EReal := fun i =>
  ct (ix3 (bOf (i 0)) (sOf (i 0)) (i 1)) * conv w c u (bOf (i 0)) (i 1) (sOf (i 0))

/-- The gradient of the taps: each tap's shifted input against the gradient at the output, over both sequences. -/
def gradW (ct g c u : Act) : (⟨2, ![3, 512]⟩ : Shape).Idx → EReal := fun i =>
  ∑ b : Fin 2, ∑ s : Fin 2048, gout ct g b (i 1) s * back (2 - (i 0).val) (inp c u b (i 1)) s

theorem gradU_at (w : Taps) (ct g c : Act) (b : Fin 2) (s : Fin 2048) (d : Fin 512) :
    gradU w ct g c (ix2 (tok b s) d) = gin w ct g b d s * c (ix3 b s d) := by
  show gin w ct g (bOf (tok b s)) d (sOf (tok b s)) * c (ix3 (bOf (tok b s)) (sOf (tok b s)) d) = _
  rw [bOf_tok, sOf_tok]

theorem gradB_at (w : Taps) (ct c u : Act) (b : Fin 2) (s : Fin 2048) (d : Fin 512) :
    gradB w ct c u (ix2 (tok b s) d) = ct (ix3 b s d) * conv w c u b d s := by
  show ct (ix3 (bOf (tok b s)) (sOf (tok b s)) d) * conv w c u (bOf (tok b s)) d (sOf (tok b s)) = _
  rw [bOf_tok, sOf_tok]

/-- Every token of both sequences is a token of one of them. -/
theorem eq_tok (r : Fin 4096) : ∃ b s, r = tok b s :=
  ⟨bOf r, sOf r, Fin.ext (by show r.val = r.val / 2048 * 2048 + r.val % 2048; omega)⟩

/-- A shift by no step is the sequence. -/
theorem back_zero {n : Nat} (f : Fin n → EReal) (s : Fin n) : back 0 f s = f s := by
  unfold back; rw [dif_pos (Nat.zero_le _)]; rfl

/-- A small index's word, read signed. -/
theorem toInt_small (n : Nat) (h : n < 2147483648) : (BitVec.ofNat 32 n).toInt = (n : Int) := by
  rw [BitVec.toInt_eq_toNat_cond, BitVec.toNat_ofNat]; omega

/-- The mask of the rows before row `n`. -/
theorem select_lt (r n : Nat) (hr : r < 2147483648) (hn : n < 2147483648) (a b : EReal) :
    Scalar.select (IntOp.cmpi CmpIPredicate.slt (BitVec.ofNat 32 r) (BitVec.ofNat 32 n)) a b = if r < n then a else b := by
  have e : (BitVec.ofNat 32 r).slt (BitVec.ofNat 32 n) = decide (r < n) := by
    rw [BitVec.slt, toInt_small r hr, toInt_small n hn]; simp
  show Scalar.select (BitVec.ofBool ((BitVec.ofNat 32 r).slt (BitVec.ofNat 32 n))) a b = _
  rw [e]
  by_cases h : r < n
  · simp [h, Scalar.select]
  · simp [h, Scalar.select]

/-- The mask of the rows from row `n` on. -/
theorem select_ge (r n : Nat) (hr : r < 2147483648) (hn : n < 2147483648) (a b : EReal) :
    Scalar.select (IntOp.cmpi CmpIPredicate.sge (BitVec.ofNat 32 r) (BitVec.ofNat 32 n)) a b = if n ≤ r then a else b := by
  have e : (BitVec.ofNat 32 n).sle (BitVec.ofNat 32 r) = decide (n ≤ r) := by
    rw [BitVec.sle, toInt_small r hr, toInt_small n hn]; simp
  show Scalar.select (BitVec.ofBool ((BitVec.ofNat 32 n).sle (BitVec.ofNat 32 r))) a b = _
  rw [e]
  by_cases h : n ≤ r
  · simp [h, Scalar.select]
  · simp [h, Scalar.select]

end Cert.Proof.Conv

end
-- ==== Proof.ConvKernel.lean ====
/-
  Hand-written. The values that the gated convolution's gradient kernel computes, read at an index.
-/
module

public import proofs.«01_k».proof.Proof.Gen.KernelIdeal.Value
public import proofs.«01_k».proof.Proof.ConvMath
public import Idealize.ShloMosaic.Lib.Pipeline.ReadBack

@[expose] public section

set_option maxRecDepth 16384

noncomputable section

namespace Cert.Proof.Conv

open Idealize.ShloMosaic Idealize.SL.Sem Cert.KernelIdeal Cert.KernelIdeal.Gen Idealize.ShloMosaic.TcCoe
open Idealize.ShloMosaic.Pipeline (Dat Cfg Window)

section Payloads

variable (u cg d bg : Vec Ideal S2048x128 .bf16) (w2 w1 w0 : Vec Ideal S1x128 .f32)

/-- The convolution's input of the block. -/
theorem pay7_at (r : Fin 2048) (l : Fin 128) : k0_pay7 (F := Ideal) u cg (ix2 r l) = cg (ix2 r l) * u (ix2 r l) := by
  pointwise [k0_pay7, k0_pay4, k0_pay5]

/-- The convolution's input one token earlier. -/
theorem pay8_at (r : Fin 2048) (l : Fin 128) :
    k0_pay8 (F := Ideal) u cg (ix2 r l) = back 1 (fun s => cg (ix2 s l) * u (ix2 s l)) r := by
  pointwise [k0_pay8, k0_pay7, k0_pay4, k0_pay5]
  rw [select_ge r.val 1 (by omega) (by omega)]
  unfold back
  by_cases h : 1 ≤ r.val
  · rw [if_pos h, dif_pos h]
    have e : (⟨(r.val + 2048 - 1) % 2048, by omega⟩ : Fin 2048) = ⟨r.val - 1, by omega⟩ := Fin.ext (by show (r.val + 2048 - 1) % 2048 = r.val - 1; omega)
    rw [e]
  · rw [if_neg h, dif_neg h]

/-- The convolution's input two tokens earlier. -/
theorem pay9_at (r : Fin 2048) (l : Fin 128) :
    k0_pay9 (F := Ideal) u cg (ix2 r l) = back 2 (fun s => cg (ix2 s l) * u (ix2 s l)) r := by
  pointwise [k0_pay9, k0_pay7, k0_pay4, k0_pay5]
  rw [select_ge r.val 2 (by omega) (by omega)]
  unfold back
  by_cases h : 2 ≤ r.val
  · rw [if_pos h, dif_pos h]
    have e : (⟨(r.val + 2048 - 2) % 2048, by omega⟩ : Fin 2048) = ⟨r.val - 2, by omega⟩ := Fin.ext (by show (r.val + 2048 - 2) % 2048 = r.val - 2; omega)
    rw [e]
  · rw [if_neg h, dif_neg h]

/-- The gradient at the convolution's output. -/
theorem pay11_at (r : Fin 2048) (l : Fin 128) :
    k0_pay11 (F := Ideal) (k0_pay6 (F := Ideal) d) bg (ix2 r l) = d (ix2 r l) * bg (ix2 r l) := by
  pointwise [k0_pay11, k0_pay6]

/-- The gradient at the convolution's input. -/
theorem pay12_at (r : Fin 2048) (l : Fin 128) :
    k0_pay12 (F := Ideal) (k0_pay6 (F := Ideal) d) bg w2 w1 w0 (ix2 r l)
      = w2 (ix2 0 l) * (d (ix2 r l) * bg (ix2 r l)) + w1 (ix2 0 l) * ahead 1 (fun s => d (ix2 s l) * bg (ix2 s l)) r
        + w0 (ix2 0 l) * ahead 2 (fun s => d (ix2 s l) * bg (ix2 s l)) r := by
  pointwise [k0_pay12, k0_pay11, k0_pay6]
  rw [select_lt r.val 2047 (by omega) (by omega), select_lt r.val 2046 (by omega) (by omega)]
  congr 1
  · congr 1
    unfold ahead
    by_cases h : r.val < 2047
    · have e : (⟨(r.val + 2048 - 2047) % 2048, by omega⟩ : Fin 2048) = ⟨r.val + 1, by omega⟩ := Fin.ext (by show (r.val + 2048 - 2047) % 2048 = r.val + 1; omega)
      rw [if_pos h, dif_pos (by omega), e]
    · rw [if_neg h, dif_neg (by omega), mul_zero]
  · unfold ahead
    by_cases h : r.val < 2046
    · have e : (⟨(r.val + 2048 - 2046) % 2048, by omega⟩ : Fin 2048) = ⟨r.val + 2, by omega⟩ := Fin.ext (by show (r.val + 2048 - 2046) % 2048 = r.val + 2; omega)
      rw [if_pos h, dif_pos (by omega), e]
    · rw [if_neg h, dif_neg (by omega), mul_zero]

/-- What the block of the first gate's gradient holds. -/
theorem pay10_at (r : Fin 2048) (l : Fin 128) :
    k0_pay10 (F := Ideal) u cg d w2 w1 w0 (ix2 r l)
      = d (ix2 r l) * (w2 (ix2 0 l) * (cg (ix2 r l) * u (ix2 r l)) + w1 (ix2 0 l) * back 1 (fun s => cg (ix2 s l) * u (ix2 s l)) r
        + w0 (ix2 0 l) * back 2 (fun s => cg (ix2 s l) * u (ix2 s l)) r) := by
  pointwise [k0_pay10, k0_pay6]
  rw [pay7_at, pay8_at, pay9_at]

end Payloads

variable (m : (ℓ : Loc nD τ sig) → Buf (Elt Ideal) ℓ)

/-- The block of a point: its sequence, and its 128 channels. -/
theorem idx0 : ∀ t : Fin cfg0.N, win0_0.index t = ![t.val % 2, t.val / 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![t.val % 2, t.val / 2] := (by decide +kernel : ∀ t : Fin grid0.N, _)
theorem idx3 : ∀ t : Fin cfg0.N, win0_3.index t = ![t.val % 2, t.val / 2] := (by decide +kernel : ∀ t : Fin grid0.N, _)
theorem idx4 : ∀ t : Fin cfg0.N, win0_4.index t = ![0, t.val / 2] := (by decide +kernel : ∀ t : Fin grid0.N, _)
theorem idx5 : ∀ t : Fin cfg0.N, win0_5.index t = ![t.val % 2, t.val / 2] := (by decide +kernel : ∀ t : Fin grid0.N, _)
theorem idx6 : ∀ t : Fin cfg0.N, win0_6.index t = ![t.val % 2, t.val / 2] := (by decide +kernel : ∀ t : Fin grid0.N, _)
theorem idx7 : ∀ t : Fin cfg0.N, win0_7.index t = ![t.val % 2, t.val / 2] := (by decide +kernel : ∀ t : Fin grid0.N, _)
theorem idx8 : ∀ t : Fin cfg0.N, win0_8.index t = ![0, t.val / 2] := (by decide +kernel : ∀ t : Fin grid0.N, _)

/-- A point's sequence. -/
def seqOf (t : Fin cfg0.N) : Fin 2 := ⟨t.val % 2, by omega⟩
/-- A point's channel. -/
def chOf (t : Fin cfg0.N) (l : Fin 128) : Fin 512 :=
  ⟨t.val / 2 * 128 + l.val, by have h : t.val < 8 := t.isLt; have := l.isLt; omega⟩

theorem blk0 (c : Dev nD) (t : Fin cfg0.N) (r : Fin 2048) (l : Fin 128) :
    iblk m c 0 t (ix2 r l) = m ((c : Thread nD τ).loc main_arg4) (ix3 (seqOf t) r (chOf t l)) := by
  unfold seqOf chOf; blk_ext! [iblk, V, idx0]
theorem blk1 (c : Dev nD) (t : Fin cfg0.N) (r : Fin 2048) (l : Fin 128) :
    iblk m c 1 t (ix2 r l) = m ((c : Thread nD τ).loc main_arg0) (ix3 (seqOf t) r (chOf t l)) := by
  unfold seqOf chOf; blk_ext! [iblk, V, idx1]
theorem blk2 (c : Dev nD) (t : Fin cfg0.N) (r : Fin 2048) (l : Fin 128) :
    iblk m c 2 t (ix2 r l) = m ((c : Thread nD τ).loc main_arg1) (ix3 (seqOf t) r (chOf t l)) := by
  unfold seqOf chOf; blk_ext! [iblk, V, idx2]
theorem blk3 (c : Dev nD) (t : Fin cfg0.N) (r : Fin 2048) (l : Fin 128) :
    iblk m c 3 t (ix2 r l) = m ((c : Thread nD τ).loc main_arg2) (ix3 (seqOf t) r (chOf t l)) := by
  unfold seqOf chOf; blk_ext! [iblk, V, idx3]
/-- The taps' block: the taps of the point's channels. -/
theorem blk4 (c : Dev nD) (t : Fin cfg0.N) (k : Fin 3) (l : Fin 128) :
    iblk m c 4 t (ix2 k l) = m ((c : Thread nD τ).loc main_arg3) (ix2 k (chOf t l)) := by
  unfold chOf; blk_ext! [iblk, V, idx4]
/-- One tap of the taps' block. -/
theorem tap (c : Dev nD) (t : Fin cfg0.N) (k : Nat) (hk : k < 3) (inb) (l : Fin 128) :
    View.ld (iblk m c 4 t) (Rect.unit (s := S3x128) ![k, 0] ![1, 128] inb) (ix2 0 l)
      = m ((c : Thread nD τ).loc main_arg3) (ix2 ⟨k, hk⟩ (chOf t l)) := by
  rw [← blk4 m c t ⟨k, hk⟩ l]
  exact View.ld_unit_apply_of _ _ _ _ _ _ fun a => match a with
    | ⟨0, _⟩ => rfl
    | ⟨1, _⟩ => by show l.val = 0 + l.val; omega

/-- What every point leaves in the first output's block. -/
theorem outs5 (c : Dev nD) (t : Fin cfg0.N) : (outsAt0 m c t.val t.isLt).1
    = k0_pay13 (k0_pay5 (iblk m c 3 t)) (k0_pay6 (iblk m c 0 t)) (iblk m c 2 t)
      (View.ld (iblk m c 4 t) (Rect.unit ![2, 0] ![1, 128] inb_S3x128_S1x128_2_0))
      (View.ld (iblk m c 4 t) (Rect.unit ![1, 0] ![1, 128] inb_S3x128_S1x128_1_0))
      (View.ld (iblk m c 4 t) (Rect.unit ![0, 0] ![1, 128] inb_S3x128_S1x128_0_0)) := by
  by_cases h : t.val % 2 = 0
  · rw [outsAt0_A m c t h]; frame_out; rfl
  · rw [outsAt0_B m c t h]; frame_out; rfl

/-- What every point leaves in the second output's block. -/
theorem outs6 (c : Dev nD) (t : Fin cfg0.N) : (outsAt0 m c t.val t.isLt).2.1
    = k0_pay10 (iblk m c 1 t) (iblk m c 3 t) (iblk m c 0 t)
      (View.ld (iblk m c 4 t) (Rect.unit ![2, 0] ![1, 128] inb_S3x128_S1x128_2_0))
      (View.ld (iblk m c 4 t) (Rect.unit ![1, 0] ![1, 128] inb_S3x128_S1x128_1_0))
      (View.ld (iblk m c 4 t) (Rect.unit ![0, 0] ![1, 128] inb_S3x128_S1x128_0_0)) := by
  by_cases h : t.val % 2 = 0
  · rw [outsAt0_A m c t h]; frame_out; rfl
  · rw [outsAt0_B m c t h]; frame_out; rfl

/-- What every point leaves in the third output's block. -/
theorem outs7 (c : Dev nD) (t : Fin cfg0.N) : (outsAt0 m c t.val t.isLt).2.2.1
    = k0_pay14 (k0_pay4 (iblk m c 1 t)) (k0_pay6 (iblk m c 0 t)) (iblk m c 2 t)
      (View.ld (iblk m c 4 t) (Rect.unit ![2, 0] ![1, 128] inb_S3x128_S1x128_2_0))
      (View.ld (iblk m c 4 t) (Rect.unit ![1, 0] ![1, 128] inb_S3x128_S1x128_1_0))
      (View.ld (iblk m c 4 t) (Rect.unit ![0, 0] ![1, 128] inb_S3x128_S1x128_0_0)) := by
  by_cases h : t.val % 2 = 0
  · rw [outsAt0_A m c t h]; frame_out; rfl
  · rw [outsAt0_B m c t h]; frame_out; rfl

/-- Where a point's output blocks lie. -/
theorem emb5 (t : Fin cfg0.N) (r : Fin 2048) (l : Fin 128) :
    ((win0_5.blk t).view.emb (ix2 r l) : S4096x512.Idx) = ix2 (tok (seqOf t) r) (chOf t l) := by
  unfold tok seqOf chOf; blk_ext [idx5]
theorem emb6 (t : Fin cfg0.N) (r : Fin 2048) (l : Fin 128) :
    ((win0_6.blk t).view.emb (ix2 r l) : S4096x512.Idx) = ix2 (tok (seqOf t) r) (chOf t l) := by
  unfold tok seqOf chOf; blk_ext [idx6]
theorem emb7 (t : Fin cfg0.N) (r : Fin 2048) (l : Fin 128) :
    ((win0_7.blk t).view.emb (ix2 r l) : S4096x512.Idx) = ix2 (tok (seqOf t) r) (chOf t l) := by
  unfold tok seqOf chOf; blk_ext [idx7]
theorem emb8 (t : Fin cfg0.N) (k : Fin 3) (l : Fin 128) :
    ((win0_8.blk t).view.emb (ix2 k l) : S3x512.Idx) = ix2 k (chOf t l) := by
  unfold chOf; blk_ext [idx8]

/-- The first result: the gradient of the values. -/
theorem final5 (c : Dev nD) : (dats m 0 c).arrAt 5 cfg0.N
    = gradU (m ((c : Thread nD τ).loc main_arg3)) (m ((c : Thread nD τ).loc main_arg4)) (m ((c : Thread nD τ).loc main_arg1))
        (m ((c : Thread nD τ).loc main_arg2)) := by
  refine (dats m 0 c).arrAt_eq_of_covers 5 _ (by decide +kernel) fun t hf y => ?_
  blk_simp
  rw [after0_5, outs5]
  obtain ⟨r, l, rfl⟩ : ∃ (r : Fin 2048) (l : Fin 128), y = ix2 r l := ⟨y 0, y 1, eq_ix2 y⟩
  rw [emb5, gradU_at]
  pointwise [k0_pay13, k0_pay5]
  rw [pay12_at, tap m c t 2 (by omega), tap m c t 1 (by omega), tap m c t 0 (by omega)]
  simp only [blk0, blk2, blk3]
  rfl

/-- The second result: the gradient of the gate after the convolution. -/
theorem final6 (c : Dev nD) : (dats m 0 c).arrAt 6 cfg0.N
    = gradB (m ((c : Thread nD τ).loc main_arg3)) (m ((c : Thread nD τ).loc main_arg4)) (m ((c : Thread nD τ).loc main_arg2))
        (m ((c : Thread nD τ).loc main_arg0)) := by
  refine (dats m 0 c).arrAt_eq_of_covers 6 _ (by decide +kernel) fun t hf y => ?_
  blk_simp
  rw [after0_6, outs6]
  obtain ⟨r, l, rfl⟩ : ∃ (r : Fin 2048) (l : Fin 128), y = ix2 r l := ⟨y 0, y 1, eq_ix2 y⟩
  rw [emb6, gradB_at, pay10_at, tap m c t 2 (by omega), tap m c t 1 (by omega), tap m c t 0 (by omega)]
  simp only [blk0, blk1, blk3]
  rfl

/-- The third result: the gradient of the gate before the convolution. -/
theorem final7 (c : Dev nD) : (dats m 0 c).arrAt 7 cfg0.N
    = gradU (m ((c : Thread nD τ).loc main_arg3)) (m ((c : Thread nD τ).loc main_arg4)) (m ((c : Thread nD τ).loc main_arg1))
        (m ((c : Thread nD τ).loc main_arg0)) := by
  refine (dats m 0 c).arrAt_eq_of_covers 7 _ (by decide +kernel) fun t hf y => ?_
  blk_simp
  rw [after0_7, outs7]
  obtain ⟨r, l, rfl⟩ : ∃ (r : Fin 2048) (l : Fin 128), y = ix2 r l := ⟨y 0, y 1, eq_ix2 y⟩
  rw [emb7, gradU_at]
  pointwise [k0_pay14, k0_pay4]
  rw [pay12_at, tap m c t 2 (by omega), tap m c t 1 (by omega), tap m c t 0 (by omega)]
  simp only [blk0, blk2, blk1]
  rfl

/-- Three stored rows read back at an index: the row's own store. -/
theorem rows_at (P2 P1 P0 : Vec Ideal S1x128 .f32) (L : List (View.Piece (Elt Ideal) S3x128 .f32)) (k : Fin 3) (l : Fin 128)
    (i2 i1 i0) : View.canon (⟨Rect.unit (s := S3x128) ![2, 0] ![1, 128] i2, P2⟩ :: ⟨Rect.unit (s := S3x128) ![1, 0] ![1, 128] i1, P1⟩
      :: ⟨Rect.unit (s := S3x128) ![0, 0] ![1, 128] i0, P0⟩ :: L) (ix2 k l)
      = if k.val = 0 then P0 (ix2 0 l) else if k.val = 1 then P1 (ix2 0 l) else P2 (ix2 0 l) := by
  have hit : ∀ (o : Nat) (ho : o < 3) (inb) (P : Vec Ideal S1x128 .f32) (M : List (View.Piece (Elt Ideal) S3x128 .f32)),
      View.canon (⟨Rect.unit (s := S3x128) ![o, 0] ![1, 128] inb, P⟩ :: M) (ix2 ⟨o, ho⟩ l) = P (ix2 0 l) := by
    intro o ho inb P M
    rw [← View.canon_cons_emb (Rect.unit (s := S3x128) ![o, 0] ![1, 128] inb) P M (ix2 0 l)]
    congr 1
    funext a; apply Fin.ext
    rw [ValueKit.rect_emb_unit_val]
    match a with
    | ⟨0, _⟩ => rfl
    | ⟨1, _⟩ => show l.val = 0 + l.val; omega
  have miss : ∀ (o : Nat) (inb) (P : Vec Ideal S1x128 .f32) (M : List (View.Piece (Elt Ideal) S3x128 .f32)), k.val < o →
      View.canon (⟨Rect.unit (s := S3x128) ![o, 0] ![1, 128] inb, P⟩ :: M) (ix2 k l) = View.canon M (ix2 k l) := by
    intro o inb P M ho
    refine View.canon_cons_of_not_mem (⟨Rect.unit (s := S3x128) ![o, 0] ![1, 128] inb, P⟩) M fun h => ?_
    have h0 : o ≤ k.val := ((Rect.mem_set_unit (inb := inb)).mp h (0 : Fin 2)).1
    omega
  by_cases h0 : k.val = 0
  · rw [if_pos h0, miss 2 _ _ _ (by omega), miss 1 _ _ _ (by omega)]
    rw [show k = ⟨0, by omega⟩ from Fin.ext h0]
    exact hit 0 (by omega) _ _ _
  · rw [if_neg h0]
    by_cases h1 : k.val = 1
    · rw [if_pos h1, miss 2 _ _ _ (by omega)]
      rw [show k = ⟨1, by omega⟩ from Fin.ext h1]
      exact hit 1 (by omega) _ _ _
    · rw [if_neg h1]
      rw [show k = ⟨2, by omega⟩ from Fin.ext (by show k.val = 2; have := k.isLt; omega)]
      exact hit 2 (by omega) _ _ _

/-- A row of the taps' block as loaded. -/
theorem row_at (X : Vec Ideal S3x128 .f32) (k : Nat) (hk : k < 3) (inb) (l : Fin 128) :
    View.ld X (Rect.unit (s := S3x128) ![k, 0] ![1, 128] inb) (ix2 0 l) = X (ix2 ⟨k, hk⟩ l) :=
  View.ld_unit_apply_of _ _ _ _ _ _ fun a => match a with
    | ⟨0, _⟩ => rfl
    | ⟨1, _⟩ => by show l.val = 0 + l.val; omega

/-- What a point adds to the taps' gradient: its own sequence's part. -/
def part (c : Dev nD) (b : Fin 2) (k : Fin 3) (d : Fin 512) : EReal :=
  ∑ s : Fin 2048, gout (m ((c : Thread nD τ).loc main_arg4)) (m ((c : Thread nD τ).loc main_arg1)) b d s
    * back (2 - k.val) (inp (m ((c : Thread nD τ).loc main_arg2)) (m ((c : Thread nD τ).loc main_arg0)) b d) s

theorem row0_add (c : Dev nD) (t : Fin cfg0.N) (v : Vec Ideal S1x128 .f32) (l : Fin 128) :
    k0_pay1 (F := Ideal) (k0_pay9 (iblk m c 1 t) (iblk m c 3 t)) (k0_pay11 (k0_pay6 (iblk m c 0 t)) (iblk m c 2 t)) v (ix2 0 l)
      = v (ix2 0 l) + part m c (seqOf t) 0 (chOf t l) := by
  pointwise [k0_pay1]
  simp only [pay9_at, pay11_at, blk0, blk1, blk2, blk3]
  rfl
theorem row1_add (c : Dev nD) (t : Fin cfg0.N) (v : Vec Ideal S1x128 .f32) (l : Fin 128) :
    k0_pay2 (F := Ideal) (k0_pay8 (iblk m c 1 t) (iblk m c 3 t)) (k0_pay11 (k0_pay6 (iblk m c 0 t)) (iblk m c 2 t)) v (ix2 0 l)
      = v (ix2 0 l) + part m c (seqOf t) 1 (chOf t l) := by
  pointwise [k0_pay2]
  simp only [pay8_at, pay11_at, blk0, blk1, blk2, blk3]
  rfl
theorem row2_add (c : Dev nD) (t : Fin cfg0.N) (v : Vec Ideal S1x128 .f32) (l : Fin 128) :
    k0_pay3 (F := Ideal) (k0_pay7 (iblk m c 1 t) (iblk m c 3 t)) (k0_pay11 (k0_pay6 (iblk m c 0 t)) (iblk m c 2 t)) v (ix2 0 l)
      = v (ix2 0 l) + part m c (seqOf t) 2 (chOf t l) := by
  pointwise [k0_pay3]
  simp only [pay7_at, pay11_at, blk0, blk1, blk2, blk3]
  unfold part
  simp only [show 2 - (2 : Fin 3).val = 0 from rfl, back_zero]
  rfl

/-- The taps' block after a sequence's first point: its part. -/
theorem outs8_first (c : Dev nD) (t : Fin cfg0.N) (h : t.val % 2 = 0) (k : Fin 3) (l : Fin 128) :
    (outsAt0 m c t.val t.isLt).2.2.2 (ix2 k l) = part m c (seqOf t) k (chOf t l) := by
  rw [outsAt0_A m c t h]
  frame_out
  simp (disch := decide) only [View.readCov_skip, View.readCov_fill]
  rw [rows_at, row0_add, row1_add, row2_add, row_at _ 0 (by omega), row_at _ 1 (by omega), row_at _ 2 (by omega)]
  pointwise [k0_pay15]
  match k with
  | ⟨0, _⟩ => rfl
  | ⟨1, _⟩ => rfl
  | ⟨2, _⟩ => rfl

/-- The taps' block after its second point: what was there, and the point's part. -/
theorem outs8_next (c : Dev nD) (t : Fin cfg0.N) (h : ¬t.val % 2 = 0) (k : Fin 3) (l : Fin 128) :
    (outsAt0 m c t.val t.isLt).2.2.2 (ix2 k l)
      = (outsAt0 m c (t.val - 1) (Nat.lt_of_le_of_lt (Nat.sub_le _ _) t.isLt)).2.2.2 (ix2 k l) + part m c (seqOf t) k (chOf t l) := by
  rw [outsAt0_B m c t h]
  frame_out
  rw [rows_at, row0_add, row1_add, row2_add, row_at _ 0 (by omega), row_at _ 1 (by omega), row_at _ 2 (by omega)]
  match k with
  | ⟨0, _⟩ => rfl
  | ⟨1, _⟩ => rfl
  | ⟨2, _⟩ => rfl

/-- The fourth result: the gradient of the taps. -/
theorem final8 (c : Dev nD) : (dats m 0 c).arrAt 8 cfg0.N
    = gradW (m ((c : Thread nD τ).loc main_arg4)) (m ((c : Thread nD τ).loc main_arg1)) (m ((c : Thread nD τ).loc main_arg2))
        (m ((c : Thread nD τ).loc main_arg0)) := by
  refine (dats m 0 c).arrAt_eq_of_covers 8 _ (by decide +kernel) fun t hf y => ?_
  blk_simp
  obtain ⟨k, l, rfl⟩ : ∃ (k : Fin 3) (l : Fin 128), y = ix2 k l := ⟨y 0, y 1, eq_ix2 y⟩
  have hodd : t.val % 2 = 1 := (flush0_8 t).mp hf
  have lt : t.val - 1 < cfg0.N := Nat.lt_of_le_of_lt (Nat.sub_le _ _) t.isLt
  rw [after0_8, emb8, outs8_next m c t (by omega), outs8_first m c ⟨t.val - 1, lt⟩ (by show (t.val - 1) % 2 = 0; omega)]
  have e0 : seqOf ⟨t.val - 1, lt⟩ = 0 := Fin.ext (by show (t.val - 1) % 2 = 0; omega)
  have e1 : seqOf t = 1 := Fin.ext (by show t.val % 2 = 1; omega)
  have ec : chOf ⟨t.val - 1, lt⟩ l = chOf t l := Fin.ext (by show (t.val - 1) / 2 * 128 + l.val = t.val / 2 * 128 + l.val; omega)
  rw [e0, e1, ec]
  exact (Fin.sum_univ_two (f := fun b => part m c b k (chOf t l))).symm

end Cert.Proof.Conv

end
-- ==== Proof.ConvReference.lean ====
/-
  Hand-written. The reference's gated convolution gradient read to the plain formulas: the cut and extended arrays of its
  shifts, the two-axis sums of the taps' gradient, and each of its four results at an index.
-/
module

public import proofs.«01_k».proof.Proof.Gen.ReferenceIdeal.Run
public import proofs.«01_k».proof.Proof.Gen.ReferenceIdeal.Read
public import proofs.«01_k».proof.Proof.ConvMath

@[expose] public section

noncomputable section

namespace Cert.Proof.Conv

open Idealize.ShloMosaic Cert.ReferenceIdeal Cert.ReferenceIdeal.Read

/-- A rank-3 array summed over its first two axes. -/
theorem sum_first_two {n0 n1 n2 : Nat} (h : (⟨3, ![n0, n1, n2]⟩ : Shape).ReducesTo [0, 1] ⟨1, ![n2]⟩)
    (v : (⟨3, ![n0, n1, n2]⟩ : Shape).Idx → EReal) (d : Fin n2) :
    Ideal.hostReduceAdd h v 0 (ix1 d) = ∑ b : Fin n0, ∑ s : Fin n1, v (ix3 b s d) := by
  have dropv : ∀ i : (⟨3, ![n0, n1, n2]⟩ : Shape).Idx, ((h.drop i) 0).val = (i 2).val := fun i => rfl
  have fiber : ∀ i : (⟨3, ![n0, n1, n2]⟩ : Shape).Idx, h.drop i = ix1 d ↔ ∃ k : Fin n0 × Fin n1, ix3 k.1 k.2 d = i := by
    intro i
    constructor
    · intro e
      refine ⟨(i 0, i 1), ?_⟩
      have e2 : d = i 2 := Fin.ext (by rw [← dropv i, e]; rfl)
      rw [e2]
      exact (eq_ix3 i).symm
    · rintro ⟨k, rfl⟩
      funext a
      match a with
      | ⟨0, _⟩ => exact Fin.ext (dropv _)
  have inj : Function.Injective fun k : Fin n0 × Fin n1 => (ix3 k.1 k.2 d : (⟨3, ![n0, n1, n2]⟩ : Shape).Idx) := by
    intro a b e
    exact Prod.ext (congrFun e 0) (congrFun e 1)
  show (0 : EReal) + _ = _
  rw [zero_add, Finset.sum_filter_eq_sum_of_fiber _ (fun k : Fin n0 × Fin n1 => ix3 k.1 k.2 d) inj fiber v, Fintype.sum_prod_type]

/-- The reference's arrays. -/
abbrev RAct := (⟨S2x2048x512, .f32⟩ : BufTy).Contents (Elt Ideal)
/-- The reference's taps. -/
abbrev RTaps := (⟨S3x512, .f32⟩ : BufTy).Contents (Elt Ideal)

variable (u bg cg ct : RAct) (w : RTaps)

/-- The input with two zero steps put before it. -/
theorem ext_at (b : Fin 2) (s : Fin 2050) (d : Fin 512) :
    val_main_v2 (F := Ideal) u cg (ix3 b s d) = if h : s.val < 2 then 0 else inp cg u b d ⟨s.val - 2, by omega⟩ := by
  pointwise [val_main_v2, val_main_v1, val_main_v0, val_main_cst]
  rfl

/-- A place of the extended input is the input moved by what is missing to two. -/
theorem ext_back (b : Fin 2) (s : Fin 2048) (d : Fin 512) (k : Nat) (hk : k ≤ 2) (r : Fin 2050) (hr : r.val + k = s.val + 2) :
    val_main_v2 (F := Ideal) u cg (ix3 b r d) = back k (inp cg u b d) s := by
  rw [ext_at]
  unfold back
  by_cases h : k ≤ s.val
  · rw [dif_neg (by omega), dif_pos h]
    congr 1
    exact Fin.ext (by show r.val - 2 = s.val - k; omega)
  · rw [dif_pos (by omega), dif_neg h]

theorem v6_at (b : Fin 2) (s : Fin 2048) (d : Fin 512) :
    val_main_v6 (F := Ideal) u cg (ix3 b s d) = back 2 (inp cg u b d) s := by
  rw [val_main_v6_apply, eq_ix3 (idx_main_v6 (ix3 b s d))]
  exact ext_back u cg b s d 2 (by omega) _ rfl
theorem v12_at (b : Fin 2) (s : Fin 2048) (d : Fin 512) :
    val_main_v12 (F := Ideal) u cg (ix3 b s d) = back 1 (inp cg u b d) s := by
  rw [val_main_v12_apply, eq_ix3 (idx_main_v12 (ix3 b s d))]
  exact ext_back u cg b s d 1 (by omega) _ (by show 1 + s.val + 1 = s.val + 2; omega)
theorem v19_at (b : Fin 2) (s : Fin 2048) (d : Fin 512) :
    val_main_v19 (F := Ideal) u cg (ix3 b s d) = inp cg u b d s := by
  rw [val_main_v19_apply, eq_ix3 (idx_main_v19 (ix3 b s d)), ← back_zero (inp cg u b d) s]
  exact ext_back u cg b s d 0 (by omega) _ (by show 2 + s.val + 0 = s.val + 2; omega)

/-- The reference's convolution. -/
theorem conv_ref (b : Fin 2) (s : Fin 2048) (d : Fin 512) :
    val_main_v23 (F := Ideal) u cg w (ix3 b s d) = conv w cg u b d s := by
  pointwise [val_main_v23, val_main_v16, val_main_v22, val_main_v9, val_main_v15, val_main_v21, val_main_v20, val_main_v18,
    val_main_v17, val_main_v8, val_main_v7, val_main_v5, val_main_v4, val_main_v14, val_main_v13, val_main_v11, val_main_v10]
  simp only [v6_at, v12_at, v19_at]
  unfold conv
  rw [add_comm, add_comm (w (ix2 0 d) * _), ← add_assoc]

/-- A tap's gradient at its input's place. -/
theorem v28_at (b : Fin 2) (s : Fin 2048) (d : Fin 512) :
    val_main_v28 (F := Ideal) bg w ct (ix3 b s d) = w (ix2 2 d) * gout ct bg b d s := by
  pointwise [val_main_v28, val_main_v25, val_main_v27, val_main_v20, val_main_v18, val_main_v17]
  rw [mul_comm (bg _)]; rfl
theorem v37_at (b : Fin 2) (s : Fin 2048) (d : Fin 512) :
    val_main_v37 (F := Ideal) bg w ct (ix3 b s d) = w (ix2 1 d) * gout ct bg b d s := by
  pointwise [val_main_v37, val_main_v25, val_main_v36, val_main_v13, val_main_v11, val_main_v10]
  rw [mul_comm (bg _)]; rfl
theorem v48_at (b : Fin 2) (s : Fin 2048) (d : Fin 512) :
    val_main_v48 (F := Ideal) bg w ct (ix3 b s d) = w (ix2 0 d) * gout ct bg b d s := by
  pointwise [val_main_v48, val_main_v25, val_main_v47, val_main_v7, val_main_v5, val_main_v4]
  rw [mul_comm (bg _)]; rfl

/-- The reference's gradient at the convolution's input. -/
theorem gin_ref (b : Fin 2) (s : Fin 2048) (d : Fin 512) :
    val_main_v59 (F := Ideal) bg w ct (ix3 b s d) = gin w ct bg b d s := by
  pointwise [val_main_v59, val_main_v54, val_main_v43, val_main_v53, val_main_v33, val_main_v42, val_main_cst_3, val_main_cst_7,
    val_main_cst_11]
  rw [v28_at, show (if h : 1 ≤ 2 + s.val ∧ 2 + s.val - 1 < 2048 then
      val_main_v37 (F := Ideal) bg w ct (ix3 b ⟨2 + s.val - 1, h.2⟩ d) else 0) = w (ix2 1 d) * ahead 1 (gout ct bg b d) s from ?_,
    show (if h : 2 + s.val < 2048 then val_main_v48 (F := Ideal) bg w ct (ix3 b ⟨2 + s.val, h⟩ d) else 0)
      = w (ix2 0 d) * ahead 2 (gout ct bg b d) s from ?_]
  · rfl
  · unfold ahead
    by_cases h : s.val + 2 < 2048
    · rw [dif_pos h, dif_pos (by omega), v48_at]
      congr 2
      exact Fin.ext (by show 2 + s.val = s.val + 2; omega)
    · rw [dif_neg h, dif_neg (by omega), mul_zero]
  · unfold ahead
    by_cases h : s.val + 1 < 2048
    · rw [dif_pos h, dif_pos ⟨by omega, by omega⟩, v37_at]
      congr 2
      exact Fin.ext (by show 2 + s.val - 1 = s.val + 1; omega)
    · rw [dif_neg h, dif_neg (by omega), mul_zero]

/-- The reference's sums of the taps' gradients over both sequences. -/
theorem v30_at (d : Fin 512) : val_main_v30 (F := Ideal) u bg cg ct (ix1 d)
    = ∑ b : Fin 2, ∑ s : Fin 2048, gout ct bg b d s * inp cg u b d s := by
  pointwise [val_main_v30, val_main_cst_1]
  rw [sum_first_two]
  refine Finset.sum_congr rfl fun b _ => Finset.sum_congr rfl fun s _ => ?_
  pointwise [val_main_v29, val_main_v25]
  rw [v19_at, mul_comm (bg _)]; rfl
theorem v39_at (d : Fin 512) : val_main_v39 (F := Ideal) u bg cg ct (ix1 d)
    = ∑ b : Fin 2, ∑ s : Fin 2048, gout ct bg b d s * back 1 (inp cg u b d) s := by
  pointwise [val_main_v39, val_main_cst_5]
  rw [sum_first_two]
  refine Finset.sum_congr rfl fun b _ => Finset.sum_congr rfl fun s _ => ?_
  pointwise [val_main_v38, val_main_v25]
  rw [v12_at, mul_comm (bg _)]; rfl
theorem v50_at (d : Fin 512) : val_main_v50 (F := Ideal) u bg cg ct (ix1 d)
    = ∑ b : Fin 2, ∑ s : Fin 2048, gout ct bg b d s * back 2 (inp cg u b d) s := by
  pointwise [val_main_v50, val_main_cst_9]
  rw [sum_first_two]
  refine Finset.sum_congr rfl fun b _ => Finset.sum_congr rfl fun s _ => ?_
  pointwise [val_main_v49, val_main_v25]
  rw [v6_at, mul_comm (bg _)]; rfl

/-- A sum over two axes of one element each. -/
theorem sum_ones (h : (⟨3, ![1, 1, 512]⟩ : Shape).ReducesTo [0, 1] ⟨1, ![512]⟩)
    (v : (⟨3, ![1, 1, 512]⟩ : Shape).Idx → EReal) (d : Fin 512) : Ideal.hostReduceAdd h v 0 (ix1 d) = v (ix3 0 0 d) := by
  rw [sum_first_two, Fin.sum_univ_one, Fin.sum_univ_one]

theorem v32_at (d : Fin 512) : val_main_v32 (F := Ideal) u bg cg ct (ix1 d) = val_main_v30 (F := Ideal) u bg cg ct (ix1 d) := by
  pointwise [val_main_v32, val_main_cst_2]
  rw [sum_ones]
  pointwise [val_main_v31]
theorem v41_at (d : Fin 512) : val_main_v41 (F := Ideal) u bg cg ct (ix1 d) = val_main_v39 (F := Ideal) u bg cg ct (ix1 d) := by
  pointwise [val_main_v41, val_main_cst_6]
  rw [sum_ones]
  pointwise [val_main_v40]
theorem v52_at (d : Fin 512) : val_main_v52 (F := Ideal) u bg cg ct (ix1 d) = val_main_v50 (F := Ideal) u bg cg ct (ix1 d) := by
  pointwise [val_main_v52, val_main_cst_10]
  rw [sum_ones]
  pointwise [val_main_v51]

/-- The reference's gradient of the taps. -/
theorem gradW_ref : val_main_v57 (F := Ideal) u bg cg ct = gradW ct bg cg u := by
  funext i
  obtain ⟨k, d, rfl⟩ : ∃ (k : Fin 3) (d : Fin 512), i = ix2 k d := ⟨i 0, i 1, eq_ix2 i⟩
  pointwise [val_main_v57, val_main_v46, val_main_v56, val_main_v35, val_main_v45, val_main_v34, val_main_v44, val_main_v55,
    val_main_cst_4, val_main_cst_8, val_main_cst_12]
  rw [v32_at, v41_at, v52_at, v30_at, v39_at, v50_at]
  match k with
  | ⟨0, _⟩ =>
    rw [dif_neg (by simp), dif_neg (by simp), dif_pos (by simp), zero_add, zero_add]
    rfl
  | ⟨1, _⟩ =>
    rw [dif_neg (by simp), dif_pos (by simp), dif_neg (by simp), zero_add, add_zero]
    rfl
  | ⟨2, _⟩ =>
    rw [dif_pos (by simp), dif_neg (by simp), dif_neg (by simp), add_zero, add_zero]
    unfold gradW
    simp only [show 2 - ((ix2 (⟨2, by omega⟩ : Fin 3) d : (⟨2, ![3, 512]⟩ : Shape).Idx) 0).val = 0 from rfl, back_zero]
    rfl

/-- The reference's gradients of the values and of the two gates. -/
theorem gradU_ref : val_main_v63 (F := Ideal) bg cg w ct = gradU w ct bg cg := by
  funext i
  obtain ⟨r, d, rfl⟩ : ∃ (r : Fin 4096) (d : Fin 512), i = ix2 r d := ⟨i 0, i 1, eq_ix2 i⟩
  pointwise [val_main_v63, val_main_v62, val_main_v60]
  rw [gin_ref, mul_comm]; rfl
theorem gradB_ref : val_main_v65 (F := Ideal) u cg w ct = gradB w ct cg u := by
  funext i
  obtain ⟨r, d, rfl⟩ : ∃ (r : Fin 4096) (d : Fin 512), i = ix2 r d := ⟨i 0, i 1, eq_ix2 i⟩
  pointwise [val_main_v65, val_main_v64, val_main_v26]
  rw [conv_ref]; rfl
theorem gradC_ref : val_main_v67 (F := Ideal) u bg w ct = gradU w ct bg u := by
  funext i
  obtain ⟨r, d, rfl⟩ : ∃ (r : Fin 4096) (d : Fin 512), i = ix2 r d := ⟨i 0, i 1, eq_ix2 i⟩
  pointwise [val_main_v67, val_main_v66, val_main_v61]
  rw [gin_ref]; rfl

end Cert.Proof.Conv

end
-- ==== Proof.ConvClaim.lean ====
/-
  Hand-written. The gated short convolution's gradient: the kernel's run and the reference's run end at the same four
  gradients, from memories that agree on the arguments.
-/
module

public import proofs.«01_k».proof.Defs
public import proofs.«01_k».proof.Proof.ConvKernel
public import proofs.«01_k».proof.Proof.ConvReference

@[expose] public section

noncomputable section

namespace Cert.Proof.Conv

open Idealize.ShloMosaic Idealize.SL.Sem

/-- The kernel and the reference compute the same four gradients of the convolution. -/
theorem algebraic : Cert.algebraic_KernelIdeal_ReferenceIdeal := fun m ρ m' ρ' _ hag =>
  ⟨fun c => gradU (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => gradB (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg0)),
    fun c => gradU (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    fun c => gradW (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg0)),
    (θ_run _ _ _).mono (fun _ h c => by
      obtain ⟨h0, h1, h2, h3, ha⟩ := h c
      exact ⟨h0.trans (final5 m c), h1.trans (final6 m c), h2.trans (final7 m c), h3.trans (final8 m c), ha⟩)
      (Cert.KernelIdeal.Value.run_blocks m ρ),
    (θ_run _ _ _).mono (fun _ h c => by
      obtain ⟨h0, h1, h2, h3, ha⟩ := h c
      obtain ⟨e0, e1, e2, e3, e4⟩ := hag c
      rw [Cert.ReferenceIdeal.Read.val_main_v63_eq, gradU_ref, e1, e2, e3, e4] at h0
      rw [Cert.ReferenceIdeal.Read.val_main_v65_eq, gradB_ref, e0, e2, e3, e4] at h1
      rw [Cert.ReferenceIdeal.Read.val_main_v67_eq, gradC_ref, e0, e1, e3, e4] at h2
      rw [Cert.ReferenceIdeal.Read.val_main_v57_eq, gradW_ref, e0, e1, e2, e4] at h3
      exact ⟨h0, h1, h2, h3, ha⟩)
      (Cert.ReferenceIdeal.Value.run m' ρ')⟩

end Cert.Proof.Conv

end
-- ==== Proof.FfnMath.lean ====
/-
  Hand-written. The gradient of a feed-forward half-step as plain arithmetic over the extended reals: the gate and up
  products, the gradient at them, at the half-step's input and at its modulation, and the identity between the two ways of
  writing the gate's gradient, which needs its numbers to be real.
-/
module

public import Idealize.ShloMosaic.Lib.Pointwise
public import Idealize.ShloMosaic.Lib.IdealHost
public import Idealize.ShloMosaic.Lib.Pipeline.ValueKit.Point

@[expose] public section

noncomputable section

namespace Cert.Proof.Ffn

open Idealize.ShloMosaic

/-- An extended real that is a real number. -/
def IsReal (a : EReal) : Prop := ∃ r : ℝ, (r : EReal) = a

theorem IsReal.add {a b : EReal} (ha : IsReal a) (hb : IsReal b) : IsReal (a + b) := by
  obtain ⟨p, rfl⟩ := ha; obtain ⟨q, rfl⟩ := hb; exact ⟨p + q, EReal.coe_add p q⟩
theorem IsReal.mul {a b : EReal} (ha : IsReal a) (hb : IsReal b) : IsReal (a * b) := by
  obtain ⟨p, rfl⟩ := ha; obtain ⟨q, rfl⟩ := hb; exact ⟨p * q, EReal.coe_mul p q⟩
theorem IsReal.one : IsReal 1 := ⟨1, EReal.coe_one⟩
theorem IsReal.zero : IsReal 0 := ⟨0, EReal.coe_zero⟩
/-- A finite sum of reals is a real. -/
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A number whose size is below infinity is a real. -/
theorem IsReal.of_abs_lt {a : EReal} (h : max a (-a) < ⊤) : IsReal a := by
  induction a with
  | bot => simp at h
  | top => simp at h
  | coe r => exact ⟨r, rfl⟩
/-- The constant one half. -/
theorem IsReal.half : IsReal (Ideal.ofBits .f32 0x3F000000#32) :=
  ⟨(1 : ℝ) / 2, by simp [Ideal.ofBits, Ideal.ieee, -EReal.coe_mul]; norm_num⟩
/-- The pattern of infinity. -/
theorem ofBits_inf : Ideal.ofBits .f32 0x7F800000#32 = ⊤ := by
  simp [Ideal.ofBits, Ideal.ieee]

/-- The logistic function. -/
def logistic (g : EReal) : EReal := Ideal.div 1 (1 + Ideal.exp (-g))

/-- At a real, the logistic function is real. -/
theorem IsReal.logistic {g : EReal} (h : IsReal g) : IsReal (logistic g) := by
  obtain ⟨r, rfl⟩ := h
  refine ⟨1 / (1 + Real.exp (-r)), ?_⟩
  have hne : (1 + Real.exp (-r)) ≠ 0 := by positivity
  unfold Ffn.logistic
  rw [← EReal.coe_neg, Ideal.exp_coe, ← EReal.coe_one, ← EReal.coe_add, Ideal.div_coe hne, EReal.coe_one, one_mul]

/-- The gradient at a gate: `a` at the product of the gate's activation and the up value `u`, `g` the gate. -/
def gateGrad (a g u : EReal) : EReal := a * u * (logistic g * (1 + g * (1 - logistic g)))
/-- The gradient at an up value. -/
def upGrad (a g : EReal) : EReal := a * (g * logistic g)

/-- The two ways of writing the gate's gradient agree at reals. -/
theorem gateGrad_eq {a g u : EReal} (ha : IsReal a) (hg : IsReal g) (hu : IsReal u) :
    a * u * logistic g + g * (a * u) * (logistic g * (1 - logistic g)) = gateGrad a g u := by
  have hs := hg.logistic
  unfold gateGrad
  generalize logistic g = s at hs
  obtain ⟨a, rfl⟩ := ha; obtain ⟨g, rfl⟩ := hg; obtain ⟨u, rfl⟩ := hu; obtain ⟨s, rfl⟩ := hs
  rw [← EReal.coe_one]
  norm_cast
  ring

/-- Arrays: tokens of two sequences, a row for each sequence, the gate and up weight, the down weight. -/
abbrev Tok := (⟨3, ![2, 2048, 1024]⟩ : Shape).Idx → EReal
abbrev Row := (⟨3, ![2, 1, 1024]⟩ : Shape).Idx → EReal
abbrev UpW := (⟨2, ![1024, 5632]⟩ : Shape).Idx → EReal
abbrev DownW := (⟨2, ![2816, 1024]⟩ : Shape).Idx → EReal

/-- The gate's column of a hidden unit, and the up value's. -/
def gateCol (j : Fin 2816) : Fin 5632 := ⟨j.val, by omega⟩
def upCol (j : Fin 2816) : Fin 5632 := ⟨2816 + j.val, by omega⟩

section
variable (x : Tok) (sh sc gt : Row) (W : UpW) (D : DownW) (ct : Tok)

/-- The gate and up products. -/
def gu (s : Fin 2) (r : Fin 2048) (k : Fin 5632) : EReal :=
  ∑ d : Fin 1024, (x (ix3 s r d) * (1 + sc (ix3 s 0 d)) + sh (ix3 s 0 d)) * W (ix2 d k)
/-- The gradient at the half-step's product with the down weight. -/
def dOut (s : Fin 2) (r : Fin 2048) (d : Fin 1024) : EReal :=
  Ideal.ofBits .f32 0x3F000000#32 * (1 + gt (ix3 s 0 d)) * ct (ix3 s r d)
/-- The gradient at a hidden unit's activation. -/
def dAct (s : Fin 2) (r : Fin 2048) (j : Fin 2816) : EReal := ∑ d : Fin 1024, dOut gt ct s r d * D (ix2 j d)
/-- The gradient at a gate. -/
def dGate (s : Fin 2) (r : Fin 2048) (j : Fin 2816) : EReal :=
  gateGrad (dAct gt D ct s r j) (gu x sh sc W s r (gateCol j)) (gu x sh sc W s r (upCol j))
/-- The gradient at an up value. -/
def dUp (s : Fin 2) (r : Fin 2048) (j : Fin 2816) : EReal := upGrad (dAct gt D ct s r j) (gu x sh sc W s r (gateCol j))
/-- The gradient at the modulated input. -/
def dHid (s : Fin 2) (r : Fin 2048) (d : Fin 1024) : EReal :=
  ∑ j : Fin 2816, dGate x sh sc gt W D ct s r j * W (ix2 d (gateCol j))
    + ∑ j : Fin 2816, dUp x sh sc gt W D ct s r j * W (ix2 d (upCol j))

/-- A token's sequence and its place in it. -/
def seqOf (i : Fin 4096) : Fin 2 := ⟨i.val / 2048, by omega⟩
def posOf (i : Fin 4096) : Fin 2048 := ⟨i.val % 2048, by omega⟩

/-- The gradient at the input, at a token. -/
def dX (i : Fin 4096) (d : Fin 1024) : EReal :=
  Ideal.ofBits .f32 0x3F9837F0#32 * ct (ix3 (seqOf i) (posOf i) d)
    + dHid x sh sc gt W D ct (seqOf i) (posOf i) d * (1 + sc (ix3 (seqOf i) 0 d))
/-- The gradient at the gate products (first part) and the up products (second part), at a token. -/
def dGU (k : Fin 2) (i : Fin 4096) (j : Fin 2816) : EReal :=
  if k.val = 0 then dGate x sh sc gt W D ct (seqOf i) (posOf i) j else dUp x sh sc gt W D ct (seqOf i) (posOf i) j
/-- The gradient at a sequence's shift (first row) and scale (second row). -/
def dMod (s : Fin 2) (k : Fin 2) (d : Fin 1024) : EReal :=
  if k.val = 0 then ∑ r : Fin 2048, dHid x sh sc gt W D ct s r d
  else ∑ r : Fin 2048, dHid x sh sc gt W D ct s r d * x (ix3 s r d)

/-- Every argument's elements are reals. -/
structure Finite : Prop where
  x : ∀ i, IsReal (x i)
  sh : ∀ i, IsReal (sh i)
  sc : ∀ i, IsReal (sc i)
  gt : ∀ i, IsReal (gt i)
  W : ∀ i, IsReal (W i)
  D : ∀ i, IsReal (D i)
  ct : ∀ i, IsReal (ct i)

variable {x sh sc gt W D ct}

theorem Finite.gu (h : Finite x sh sc gt W D ct) (s r k) : IsReal (gu x sh sc W s r k) :=
  IsReal.sum _ _ fun _ => (((h.x _).mul (IsReal.one.add (h.sc _))).add (h.sh _)).mul (h.W _)
theorem Finite.dAct (h : Finite x sh sc gt W D ct) (s r j) : IsReal (dAct gt D ct s r j) :=
  IsReal.sum _ _ fun _ => ((IsReal.half.mul (IsReal.one.add (h.gt _))).mul (h.ct _)).mul (h.D _)

end

/-- A sum over the hidden units taken in the kernel's three chunks. -/
theorem sum_chunks (f : Fin 2816 → EReal) :
    ∑ j, f j = ∑ j : Fin 1024, f ⟨j.val, by omega⟩ + ∑ j : Fin 1024, f ⟨1024 + j.val, by omega⟩
      + ∑ j : Fin 768, f ⟨2048 + j.val, by omega⟩ := by
  have h := Fin.sum_univ_add (a := 2048) (b := 768) f
  have h' := Fin.sum_univ_add (a := 1024) (b := 1024) fun j : Fin 2048 => f (Fin.castAdd 768 j)
  rw [h, h']
  rfl

end Cert.Proof.Ffn

end
-- ==== Proof.FfnKernel.lean ====
/-
  Hand-written. The values that the feed-forward gradient kernel computes, read at an index.
-/
module

public import proofs.«01_k».proof.Proof.Gen.Kernel2Ideal.Value
public import proofs.«01_k».proof.Proof.FfnMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles
@[expose] public section
set_option maxRecDepth 16384
noncomputable section
namespace Cert.Proof.Ffn
open Idealize.ShloMosaic Idealize.SL.Sem Cert.Kernel2Ideal Cert.Kernel2Ideal.Gen Idealize.ShloMosaic.TcCoe
open Idealize.ShloMosaic.Pipeline (Dat Cfg Window)

section Payloads

/-- The first chunk's gradient at the gate. -/
theorem pay10_at (A : Vec Ideal S512x1024 .bf16) (D : Vec Ideal S1024x1024 .bf16) (G U : Vec Ideal S1x512x1024 .bf16)
    (r : Fin 512) (l : Fin 1024) :
    k0_pay10 (F := Ideal) (k0_pay6 G) (k0_pay7 G) (k0_pay9 A D U) (FloatOps.ofBits FTy.f32 1065353216#32) (ix2 r l)
      = gateGrad (∑ d : Fin 1024, A (ix2 r d) * D (ix2 l d)) (G (ix3 0 r l)) (U (ix3 0 r l)) := by
  pointwise [k0_pay10, k0_pay6, k0_pay7, k0_pay9, k0_pay5, k0_pay3]
  simp only [zero_sub]; rfl
/-- The first chunk's gradient at the up value. -/
theorem pay8_at (A : Vec Ideal S512x1024 .bf16) (D : Vec Ideal S1024x1024 .bf16) (G : Vec Ideal S1x512x1024 .bf16)
    (r : Fin 512) (l : Fin 1024) :
    k0_pay8 (F := Ideal) A D G (ix2 r l)
      = upGrad (∑ d : Fin 1024, A (ix2 r d) * D (ix2 l d)) (G (ix3 0 r l)) := by
  pointwise [k0_pay8, k0_pay6, k0_pay7, k0_pay5, k0_pay3]
  simp only [zero_sub]; rfl
/-- The second chunk's gradient at the gate. -/
theorem pay20_at (A : Vec Ideal S512x1024 .bf16) (D : Vec Ideal S1024x1024 .bf16) (G U : Vec Ideal S1x512x1024 .bf16)
    (r : Fin 512) (l : Fin 1024) :
    k0_pay20 (F := Ideal) (k0_pay14 (k0_pay3 A) D) (k0_pay15 G) (k0_pay16 U) (k0_pay17 G) (ix2 r l)
      = gateGrad (∑ d : Fin 1024, A (ix2 r d) * D (ix2 l d)) (G (ix3 0 r l)) (U (ix3 0 r l)) := by
  pointwise [k0_pay20, k0_pay14, k0_pay15, k0_pay16, k0_pay17, k0_pay3, k0_pay18]
  simp only [zero_sub]; rfl
/-- The second chunk's gradient at the up value. -/
theorem pay19_at (A : Vec Ideal S512x1024 .bf16) (D : Vec Ideal S1024x1024 .bf16) (G : Vec Ideal S1x512x1024 .bf16)
    (r : Fin 512) (l : Fin 1024) :
    k0_pay19 (F := Ideal) (k0_pay14 (k0_pay3 A) D) (k0_pay15 G) (k0_pay17 G) (ix2 r l)
      = upGrad (∑ d : Fin 1024, A (ix2 r d) * D (ix2 l d)) (G (ix3 0 r l)) := by
  pointwise [k0_pay19, k0_pay14, k0_pay15, k0_pay17, k0_pay3, k0_pay18]
  simp only [zero_sub]; rfl
/-- The last chunk's gradient at the gate. -/
theorem pay29_at (A : Vec Ideal S512x1024 .bf16) (D : Vec Ideal S768x1024 .bf16) (G U : Vec Ideal S1x512x768 .bf16)
    (r : Fin 512) (l : Fin 768) :
    k0_pay29 (F := Ideal) (k0_pay24 (k0_pay3 A) D) (k0_pay25 G) U (ix2 r l)
      = gateGrad (∑ d : Fin 1024, A (ix2 r d) * D (ix2 l d)) (G (ix3 0 r l)) (U (ix3 0 r l)) := by
  pointwise [k0_pay29, k0_pay24, k0_pay25, k0_pay26, k0_pay27, k0_pay3]
  simp only [zero_sub]; rfl
/-- The last chunk's gradient at the up value. -/
theorem pay28_at (A : Vec Ideal S512x1024 .bf16) (D : Vec Ideal S768x1024 .bf16) (G : Vec Ideal S1x512x768 .bf16)
    (r : Fin 512) (l : Fin 768) :
    k0_pay28 (F := Ideal) (k0_pay24 (k0_pay3 A) D) (k0_pay25 G) (ix2 r l)
      = upGrad (∑ d : Fin 1024, A (ix2 r d) * D (ix2 l d)) (G (ix3 0 r l)) := by
  pointwise [k0_pay28, k0_pay24, k0_pay25, k0_pay26, k0_pay27, k0_pay3]
  simp only [zero_sub]; rfl

/-- The first chunk's share of the gradient at the modulated input. -/
theorem pay13_at (a0 a1 a2 a4 c) (a3 : FVec Ideal S512x1024 .bf16) (V W : Vec Ideal S1x1024x1024 .bf16) (r : Fin 512) (l : Fin 1024) :
    k0_pay13 (F := Ideal) a0 a1 a2 a3 a4 c V W (ix2 r l)
      = a0 (ix2 r l) + ∑ j : Fin 1024, k0_pay10 a1 a2 a4 c (ix2 r j) * V (ix3 0 j l) + ∑ j : Fin 1024, a3 (ix2 r j) * W (ix3 0 j l) := by
  pointwise [k0_pay13]
/-- The second chunk's share. -/
theorem pay23_at (a0 a1 a2 a3 a4) (V W : Vec Ideal S1x1024x1024 .bf16) (r : Fin 512) (l : Fin 1024) :
    k0_pay23 (F := Ideal) a0 a1 a2 a3 a4 V W (ix2 r l)
      = a0 (ix2 r l) + ∑ j : Fin 1024, k0_pay20 a1 a2 a3 a4 (ix2 r j) * V (ix3 0 j l)
        + ∑ j : Fin 1024, k0_pay19 a1 a2 a4 (ix2 r j) * W (ix3 0 j l) := by
  pointwise [k0_pay23]
/-- The last chunk's share. -/
theorem pay32_at (a0 a1 a2 a3) (V W : Vec Ideal S1x768x1024 .bf16) (r : Fin 512) (l : Fin 1024) :
    k0_pay32 (F := Ideal) a0 a1 a2 a3 V W (ix2 r l)
      = a0 (ix2 r l) + ∑ j : Fin 768, k0_pay29 a1 a2 a3 (ix2 r j) * V (ix3 0 j l)
        + ∑ j : Fin 768, k0_pay28 a1 a2 (ix2 r j) * W (ix3 0 j l) := by
  pointwise [k0_pay32]
theorem pay4_at (r : Fin 512) (l : Fin 1024) : k0_pay4 (F := Ideal) (ix2 r l) = 0 := by
  pointwise [k0_pay4]
/-- The gradient at the input, from the one at the modulated input. -/
theorem pay33_at (dh ct) (s : Vec Ideal S1x1x1024 .f32) (r : Fin 512) (l : Fin 1024) :
    k0_pay33 (F := Ideal) dh ct s (ix2 r l)
      = Ideal.ofBits .f32 0x3F9837F0#32 * ct (ix2 r l) + dh (ix2 r l) * (1 + s (ix3 0 0 l)) := by
  pointwise [k0_pay33]
/-- The shift's row of the running sums. -/
theorem pay34_at (dh) (p : Vec Ideal S1x1x1024 .f32) (l : Fin 1024) :
    k0_pay34 (F := Ideal) dh p (ix3 0 0 l) = p (ix3 0 0 l) + ∑ r : Fin 512, dh (ix2 r l) := by
  pointwise [k0_pay34]
/-- The scale's row of the running sums. -/
theorem pay1_at (dh x) (p : Vec Ideal S1x1x1024 .f32) (l : Fin 1024) :
    k0_pay1 (F := Ideal) (k0_pay35 dh p x) (ix3 0 0 l) = p (ix3 0 0 l) + ∑ r : Fin 512, dh (ix2 r l) * x (ix2 r l) := by
  pointwise [k0_pay1, k0_pay35]
theorem pay2_at (k : Fin 2) (l : Fin 1024) : k0_pay2 (F := Ideal) (ix3 0 k l) = 0 := by
  pointwise [k0_pay2]
/-- The first chunk's stored gradient at the gate. -/
theorem pay11_at (a b c d) (r : Fin 512) (l : Fin 1024) : k0_pay11 (F := Ideal) a b c d (ix3 0 r l) = k0_pay10 a b c d (ix2 r l) := by
  pointwise [k0_pay11]
theorem pay12_at (a) (r : Fin 512) (l : Fin 1024) : k0_pay12 (F := Ideal) a (ix3 0 r l) = a (ix2 r l) := by
  pointwise [k0_pay12]
theorem pay21_at (a b c d) (r : Fin 512) (l : Fin 1024) : k0_pay21 (F := Ideal) a b c d (ix3 0 r l) = k0_pay20 a b c d (ix2 r l) := by
  pointwise [k0_pay21]
theorem pay22_at (a b c) (r : Fin 512) (l : Fin 1024) : k0_pay22 (F := Ideal) a b c (ix3 0 r l) = k0_pay19 a b c (ix2 r l) := by
  pointwise [k0_pay22]
theorem pay30_at (a b c) (r : Fin 512) (l : Fin 768) : k0_pay30 (F := Ideal) a b c (ix3 0 r l) = k0_pay29 a b c (ix2 r l) := by
  pointwise [k0_pay30]
theorem pay31_at (a b) (r : Fin 512) (l : Fin 768) : k0_pay31 (F := Ideal) a b (ix3 0 r l) = k0_pay28 a b (ix2 r l) := by
  pointwise [k0_pay31]

end Payloads

/-- Six sums in the two orders. -/
theorem sum_six (a b c d e f : EReal) : a + b + c + d + e + f = a + c + e + (b + d + f) := by
  ac_rfl

section Loads

/-- A load of part of the gate and up products' block. -/
theorem ldH (H : Vec Ideal S2x512x2816 .bf16) (p o n : Nat) (hp : p < 2) (ho : o + n ≤ 2816) (inb) (r : Fin 512) (j : Fin n) :
    View.ld H (Rect.unit (s := S2x512x2816) ![p, 0, o] ![1, 512, n] inb) (ix3 0 r j) = H (ix3 ⟨p, hp⟩ r ⟨o + j.val, by omega⟩) :=
  View.ld_unit_apply_of _ _ _ _ _ _ fun a => match a with
    | ⟨0, _⟩ => rfl
    | ⟨1, _⟩ => by show r.val = 0 + r.val; omega
    | ⟨2, _⟩ => rfl
/-- A load of part of the down weight. -/
theorem ldD (D : Vec Ideal S2816x1024 .bf16) (o n : Nat) (ho : o + n ≤ 2816) (inb) (j : Fin n) (d : Fin 1024) :
    View.ld D (Rect.unit (s := S2816x1024) ![o, 0] ![n, 1024] inb) (ix2 j d) = D (ix2 ⟨o + j.val, by omega⟩ d) :=
  View.ld_unit_apply_of _ _ _ _ _ _ fun a => match a with
    | ⟨0, _⟩ => rfl
    | ⟨1, _⟩ => by show d.val = 0 + d.val; omega
/-- A load of part of the gate and up weight. -/
theorem ldW (W : Vec Ideal S2x2816x1024 .bf16) (p o n : Nat) (hp : p < 2) (ho : o + n ≤ 2816) (inb) (j : Fin n) (d : Fin 1024) :
    View.ld W (Rect.unit (s := S2x2816x1024) ![p, o, 0] ![1, n, 1024] inb) (ix3 0 j d) = W (ix3 ⟨p, hp⟩ ⟨o + j.val, by omega⟩ d) :=
  View.ld_unit_apply_of _ _ _ _ _ _ fun a => match a with
    | ⟨0, _⟩ => rfl
    | ⟨1, _⟩ => rfl
    | ⟨2, _⟩ => by show d.val = 0 + d.val; omega
/-- A load of one row of the running sums. -/
theorem ldM (M : Vec Ideal S1x2x1024 .f32) (k : Nat) (hk : k < 2) (inb) (d : Fin 1024) :
    View.ld M (Rect.unit (s := S1x2x1024) ![0, k, 0] ![1, 1, 1024] inb) (ix3 0 0 d) = M (ix3 0 ⟨k, hk⟩ d) :=
  View.ld_unit_apply_of _ _ _ _ _ _ fun a => match a with
    | ⟨0, _⟩ => rfl
    | ⟨1, _⟩ => rfl
    | ⟨2, _⟩ => by show d.val = 0 + d.val; omega

end Loads

section Blocks

variable (A : Vec Ideal S512x1024 .bf16) (H : Vec Ideal S2x512x2816 .bf16) (W : Vec Ideal S2x2816x1024 .bf16)
  (D : Vec Ideal S2816x1024 .bf16)

/-- A block's gradient at the activations. -/
def bAct (r : Fin 512) (j : Fin 2816) : EReal := ∑ d : Fin 1024, A (ix2 r d) * D (ix2 j d)
/-- A block's gradient at the gates. -/
def bGate (r : Fin 512) (j : Fin 2816) : EReal := gateGrad (bAct A D r j) (H (ix3 0 r j)) (H (ix3 1 r j))
/-- A block's gradient at the up values. -/
def bUp (r : Fin 512) (j : Fin 2816) : EReal := upGrad (bAct A D r j) (H (ix3 0 r j))
/-- A block's gradient at the modulated input. -/
def bHid (r : Fin 512) (d : Fin 1024) : EReal :=
  ∑ j : Fin 2816, bGate A H D r j * W (ix3 0 j d) + ∑ j : Fin 2816, bUp A H D r j * W (ix3 1 j d)

/-- The gradient at the modulated input as the body builds it. -/
abbrev dhBlk : FVec Ideal S512x1024 .f32 :=
  k0_pay32
    (k0_pay23
      (k0_pay13 k0_pay4
        (k0_pay6 (View.ld H (Rect.unit ![0, 0, 0] ![1, 512, 1024] inb_S2x512x2816_S1x512x1024_0_0_0)))
        (k0_pay7 (View.ld H (Rect.unit ![0, 0, 0] ![1, 512, 1024] inb_S2x512x2816_S1x512x1024_0_0_0)))
        (k0_pay8 A (View.ld D (Rect.unit ![0, 0] ![1024, 1024] inb_S2816x1024_S1024x1024_0_0))
          (View.ld H (Rect.unit ![0, 0, 0] ![1, 512, 1024] inb_S2x512x2816_S1x512x1024_0_0_0)))
        (k0_pay9 A (View.ld D (Rect.unit ![0, 0] ![1024, 1024] inb_S2816x1024_S1024x1024_0_0))
          (View.ld H (Rect.unit ![1, 0, 0] ![1, 512, 1024] inb_S2x512x2816_S1x512x1024_1_0_0)))
        (FloatOps.ofBits FTy.f32 1065353216#32)
        (View.ld W (Rect.unit ![0, 0, 0] ![1, 1024, 1024] inb_S2x2816x1024_S1x1024x1024_0_0_0))
        (View.ld W (Rect.unit ![1, 0, 0] ![1, 1024, 1024] inb_S2x2816x1024_S1x1024x1024_1_0_0)))
      (k0_pay14 (k0_pay3 A) (View.ld D (Rect.unit ![1024, 0] ![1024, 1024] inb_S2816x1024_S1024x1024_1024_0)))
      (k0_pay15 (View.ld H (Rect.unit ![0, 0, 1024] ![1, 512, 1024] inb_S2x512x2816_S1x512x1024_0_0_1024)))
      (k0_pay16 (View.ld H (Rect.unit ![1, 0, 1024] ![1, 512, 1024] inb_S2x512x2816_S1x512x1024_1_0_1024)))
      (k0_pay17 (View.ld H (Rect.unit ![0, 0, 1024] ![1, 512, 1024] inb_S2x512x2816_S1x512x1024_0_0_1024)))
      (View.ld W (Rect.unit ![0, 1024, 0] ![1, 1024, 1024] inb_S2x2816x1024_S1x1024x1024_0_1024_0))
      (View.ld W (Rect.unit ![1, 1024, 0] ![1, 1024, 1024] inb_S2x2816x1024_S1x1024x1024_1_1024_0)))
    (k0_pay24 (k0_pay3 A) (View.ld D (Rect.unit ![2048, 0] ![768, 1024] inb_S2816x1024_S768x1024_2048_0)))
    (k0_pay25 (View.ld H (Rect.unit ![0, 0, 2048] ![1, 512, 768] inb_S2x512x2816_S1x512x768_0_0_2048)))
    (View.ld H (Rect.unit ![1, 0, 2048] ![1, 512, 768] inb_S2x512x2816_S1x512x768_1_0_2048))
    (View.ld W (Rect.unit ![0, 2048, 0] ![1, 768, 1024] inb_S2x2816x1024_S1x768x1024_0_2048_0))
    (View.ld W (Rect.unit ![1, 2048, 0] ![1, 768, 1024] inb_S2x2816x1024_S1x768x1024_1_2048_0))

/-- The first chunk's gate gradient, of the loaded parts. -/
theorem gate0 (r : Fin 512) (l : Fin 1024) (i0 i1 i2 i3 h) :
    k0_pay10 (F := Ideal) (k0_pay6 (View.ld H (Rect.unit (s := S2x512x2816) ![0, 0, 0] ![1, 512, 1024] i0)))
        (k0_pay7 (View.ld H (Rect.unit (s := S2x512x2816) ![0, 0, 0] ![1, 512, 1024] i1)))
        (k0_pay9 A (View.ld D (Rect.unit (s := S2816x1024) ![0, 0] ![1024, 1024] i2))
          (View.ld H (Rect.unit (s := S2x512x2816) ![1, 0, 0] ![1, 512, 1024] i3)))
        (FloatOps.ofBits FTy.f32 1065353216#32) (ix2 r l)
      = bGate A H D r ⟨l.val, h⟩ := by
  refine (pay10_at A _ _ _ r l).trans ?_
  unfold bGate bAct
  have e : ∀ h', (⟨0 + l.val, h'⟩ : Fin 2816) = ⟨l.val, h⟩ := fun _ => Fin.ext (Nat.zero_add _)
  simp only [ldH H 0 0 1024 (by omega) (by omega), ldH H 1 0 1024 (by omega) (by omega), ldD D 0 1024 (by omega), e]
  rfl
theorem up0 (r : Fin 512) (l : Fin 1024) (i0 i2 h) :
    k0_pay8 (F := Ideal) A (View.ld D (Rect.unit (s := S2816x1024) ![0, 0] ![1024, 1024] i2))
          (View.ld H (Rect.unit (s := S2x512x2816) ![0, 0, 0] ![1, 512, 1024] i0)) (ix2 r l)
      = bUp A H D r ⟨l.val, h⟩ := by
  refine (pay8_at A _ _ r l).trans ?_
  unfold bUp bAct
  have e : ∀ h', (⟨0 + l.val, h'⟩ : Fin 2816) = ⟨l.val, h⟩ := fun _ => Fin.ext (Nat.zero_add _)
  simp only [ldH H 0 0 1024 (by omega) (by omega), ldD D 0 1024 (by omega), e]
  rfl
theorem gate1 (r : Fin 512) (l : Fin 1024) (i0 i1 i2 i3 h) :
    k0_pay20 (F := Ideal) (k0_pay14 (k0_pay3 A) (View.ld D (Rect.unit (s := S2816x1024) ![1024, 0] ![1024, 1024] i2)))
        (k0_pay15 (View.ld H (Rect.unit (s := S2x512x2816) ![0, 0, 1024] ![1, 512, 1024] i0)))
        (k0_pay16 (View.ld H (Rect.unit (s := S2x512x2816) ![1, 0, 1024] ![1, 512, 1024] i3)))
        (k0_pay17 (View.ld H (Rect.unit (s := S2x512x2816) ![0, 0, 1024] ![1, 512, 1024] i1))) (ix2 r l)
      = bGate A H D r ⟨1024 + l.val, h⟩ := by
  refine (pay20_at A _ _ _ r l).trans ?_
  unfold bGate bAct
  simp only [ldH H 0 1024 1024 (by omega) (by omega), ldH H 1 1024 1024 (by omega) (by omega), ldD D 1024 1024 (by omega)]
  rfl
theorem up1 (r : Fin 512) (l : Fin 1024) (i0 i1 i2 h) :
    k0_pay19 (F := Ideal) (k0_pay14 (k0_pay3 A) (View.ld D (Rect.unit (s := S2816x1024) ![1024, 0] ![1024, 1024] i2)))
        (k0_pay15 (View.ld H (Rect.unit (s := S2x512x2816) ![0, 0, 1024] ![1, 512, 1024] i0)))
        (k0_pay17 (View.ld H (Rect.unit (s := S2x512x2816) ![0, 0, 1024] ![1, 512, 1024] i1))) (ix2 r l)
      = bUp A H D r ⟨1024 + l.val, h⟩ := by
  refine (pay19_at A _ _ r l).trans ?_
  unfold bUp bAct
  simp only [ldH H 0 1024 1024 (by omega) (by omega), ldD D 1024 1024 (by omega)]
  rfl
theorem gate2 (r : Fin 512) (l : Fin 768) (i0 i2 i3 h) :
    k0_pay29 (F := Ideal) (k0_pay24 (k0_pay3 A) (View.ld D (Rect.unit (s := S2816x1024) ![2048, 0] ![768, 1024] i2)))
        (k0_pay25 (View.ld H (Rect.unit (s := S2x512x2816) ![0, 0, 2048] ![1, 512, 768] i0)))
        (View.ld H (Rect.unit (s := S2x512x2816) ![1, 0, 2048] ![1, 512, 768] i3)) (ix2 r l)
      = bGate A H D r ⟨2048 + l.val, h⟩ := by
  refine (pay29_at A _ _ _ r l).trans ?_
  unfold bGate bAct
  simp only [ldH H 0 2048 768 (by omega) (by omega), ldH H 1 2048 768 (by omega) (by omega), ldD D 2048 768 (by omega)]
  rfl
theorem up2 (r : Fin 512) (l : Fin 768) (i0 i2 h) :
    k0_pay28 (F := Ideal) (k0_pay24 (k0_pay3 A) (View.ld D (Rect.unit (s := S2816x1024) ![2048, 0] ![768, 1024] i2)))
        (k0_pay25 (View.ld H (Rect.unit (s := S2x512x2816) ![0, 0, 2048] ![1, 512, 768] i0))) (ix2 r l)
      = bUp A H D r ⟨2048 + l.val, h⟩ := by
  refine (pay28_at A _ _ r l).trans ?_
  unfold bUp bAct
  simp only [ldH H 0 2048 768 (by omega) (by omega), ldD D 2048 768 (by omega)]
  rfl

/-- The body's gradient at the modulated input is the plain one of the block. -/
theorem dhBlk_at (r : Fin 512) (d : Fin 1024) : dhBlk A H W D (ix2 r d) = bHid A H W D r d := by
  unfold dhBlk bHid
  rw [pay32_at, pay23_at, pay13_at, pay4_at, sum_chunks, sum_chunks]
  have e : ∀ (l : Fin 1024) h', (⟨0 + l.val, h'⟩ : Fin 2816) = ⟨l.val, by omega⟩ := fun _ _ => Fin.ext (Nat.zero_add _)
  simp only [ldW W 0 0 1024 (by omega) (by omega), ldW W 1 0 1024 (by omega) (by omega),
    ldW W 0 1024 1024 (by omega) (by omega), ldW W 1 1024 1024 (by omega) (by omega),
    ldW W 0 2048 768 (by omega) (by omega), ldW W 1 2048 768 (by omega) (by omega), e]
  have h0 := fun l : Fin 1024 => gate0 A H D r l inb_S2x512x2816_S1x512x1024_0_0_0 inb_S2x512x2816_S1x512x1024_0_0_0
    inb_S2816x1024_S1024x1024_0_0 inb_S2x512x2816_S1x512x1024_1_0_0 (by omega)
  have h1 := fun l : Fin 1024 => up0 A H D r l inb_S2x512x2816_S1x512x1024_0_0_0 inb_S2816x1024_S1024x1024_0_0 (by omega)
  have h2 := fun l : Fin 1024 => gate1 A H D r l inb_S2x512x2816_S1x512x1024_0_0_1024 inb_S2x512x2816_S1x512x1024_0_0_1024
    inb_S2816x1024_S1024x1024_1024_0 inb_S2x512x2816_S1x512x1024_1_0_1024 (by omega)
  have h3 := fun l : Fin 1024 => up1 A H D r l inb_S2x512x2816_S1x512x1024_0_0_1024 inb_S2x512x2816_S1x512x1024_0_0_1024
    inb_S2816x1024_S1024x1024_1024_0 (by omega)
  have h4 := fun l : Fin 768 => gate2 A H D r l inb_S2x512x2816_S1x512x768_0_0_2048 inb_S2816x1024_S768x1024_2048_0
    inb_S2x512x2816_S1x512x768_1_0_2048 (by omega)
  have h5 := fun l : Fin 768 => up2 A H D r l inb_S2x512x2816_S1x512x768_0_0_2048 inb_S2816x1024_S768x1024_2048_0 (by omega)
  simp only [h0, h1, h2, h3, h4, h5]
  rw [zero_add]
  exact sum_six _ _ _ _ _ _

end Blocks

variable (m : (ℓ : Loc nD τ sig) → Buf (Elt Ideal) ℓ)

/-- The blocks of a point: its 512 tokens, and their sequence. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, t.val, 0] := (by decide +kernel : ∀ t : Fin grid0.N, _)
theorem idx9 : ∀ t : Fin cfg0.N, win0_9.index t = ![t.val / 4, 0, 0] := (by decide +kernel : ∀ t : Fin grid0.N, _)

/-- A point's sequence. -/
def sOf (t : Fin cfg0.N) : Fin 2 := ⟨t.val / 4, by have h : t.val < 8 := t.isLt; omega⟩
/-- A row's place in its sequence. -/
def pOf (t : Fin cfg0.N) (r : Fin 512) : Fin 2048 := ⟨t.val % 4 * 512 + r.val, by have := r.isLt; omega⟩

abbrev aX (c : Dev nD) : Tok := m ((c : Thread nD τ).loc main_arg0)
abbrev aSh (c : Dev nD) : Row := m ((c : Thread nD τ).loc main_arg1)
abbrev aSc (c : Dev nD) : Row := m ((c : Thread nD τ).loc main_arg2)
abbrev aGt (c : Dev nD) : Row := m ((c : Thread nD τ).loc main_arg3)
abbrev aW (c : Dev nD) : UpW := m ((c : Thread nD τ).loc main_arg4)
abbrev aD (c : Dev nD) : DownW := m ((c : Thread nD τ).loc main_arg5)
abbrev aCt (c : Dev nD) : Tok := m ((c : Thread nD τ).loc main_arg6)

theorem blk0 (c : Dev nD) (t : Fin cfg0.N) (r : Fin 512) (d : Fin 1024) :
    iblk m c 0 t (ix2 r d) = aCt m c (ix3 (sOf t) (pOf t r) d) := by
  unfold sOf pOf; blk_ext! [iblk, V, idx0]
theorem blk2 (c : Dev nD) (t : Fin cfg0.N) (r : Fin 512) (d : Fin 1024) :
    iblk m c 2 t (ix2 r d) = aX m c (ix3 (sOf t) (pOf t r) d) := by
  unfold sOf pOf; blk_ext! [iblk, V, idx2]
theorem blk4 (c : Dev nD) (t : Fin cfg0.N) (d : Fin 1024) :
    iblk m c 4 t (ix3 0 0 d) = aSc m c (ix3 (sOf t) 0 d) := by
  unfold sOf; blk_ext! [iblk, V, idx4]
/-- The column of the gate and up weight of a part and a hidden unit. -/
def colOf (k : Fin 2) (j : Fin 2816) : Fin 5632 := ⟨k.val * 2816 + j.val, by omega⟩
theorem colOf_zero (j : Fin 2816) : colOf 0 j = gateCol j := Fin.ext (by show 0 * 2816 + j.val = j.val; omega)
theorem colOf_one (j : Fin 2816) : colOf 1 j = upCol j := Fin.ext (by show 1 * 2816 + j.val = 2816 + j.val; omega)

theorem blk5 (c : Dev nD) (t : Fin cfg0.N) (k : Fin 2) (j : Fin 2816) (d : Fin 1024) :
    iblk m c 5 t (ix3 k j d) = aW m c (ix2 d (colOf k j)) := by
  unfold colOf; blk_ext! [iblk, V, idx5]
theorem blk6 (c : Dev nD) (t : Fin cfg0.N) (j : Fin 2816) (d : Fin 1024) :
    iblk m c 6 t (ix2 j d) = aD m c (ix2 j d) := by
  blk_ext! [iblk, V, idx6]

/-- A row's token among all. -/
def tOf (t : Fin cfg0.N) (r : Fin 512) : Fin 4096 := ⟨t.val * 512 + r.val, by have h : t.val < 8 := t.isLt; have := r.isLt; omega⟩
theorem seqOf_tOf (t : Fin cfg0.N) (r : Fin 512) : seqOf (tOf t r) = sOf t :=
  Fin.ext (by show (t.val * 512 + r.val) / 2048 = t.val / 4; omega)
theorem posOf_tOf (t : Fin cfg0.N) (r : Fin 512) : posOf (tOf t r) = pOf t r :=
  Fin.ext (by show (t.val * 512 + r.val) % 2048 = t.val % 4 * 512 + r.val; omega)

/-- The scaled gradient that the host prepares. -/
theorem V17_at (c : Dev nD) (i : Fin 4096) (d : Fin 1024) :
    V m c main_v17 (ix2 i d) = dOut (aGt m c) (aCt m c) (seqOf i) (posOf i) d := by
  unfold V; entry_read; pointwise
  rfl
/-- The gate and up products that the host prepares. -/
theorem V9_at (c : Dev nD) (k : Fin 2) (i : Fin 4096) (j : Fin 2816) :
    V m c main_v9 (ix3 k i j) = gu (aX m c) (aSh m c) (aSc m c) (aW m c) (seqOf i) (posOf i) (colOf k j) := by
  unfold V; entry_read; pointwise
  rfl
theorem emb1 (t : Fin cfg0.N) (r : Fin 512) (d : Fin 1024) :
    ((win0_1.blk t).view.emb (ix2 r d) : S4096x1024.Idx) = ix2 (tOf t r) d := by
  unfold tOf; blk_ext [idx1]
theorem emb3 (t : Fin cfg0.N) (k : Fin 2) (r : Fin 512) (j : Fin 2816) :
    ((win0_3.blk t).view.emb (ix3 k r j) : S2x4096x2816.Idx) = ix3 k (tOf t r) j := by
  unfold tOf; blk_ext [idx3]

theorem blk1 (c : Dev nD) (t : Fin cfg0.N) (r : Fin 512) (d : Fin 1024) :
    iblk m c 1 t (ix2 r d) = dOut (aGt m c) (aCt m c) (sOf t) (pOf t r) d := by
  rw [← seqOf_tOf t r, ← posOf_tOf t r, ← V17_at, ← emb1]; rfl
theorem blk3 (c : Dev nD) (t : Fin cfg0.N) (k : Fin 2) (r : Fin 512) (j : Fin 2816) :
    iblk m c 3 t (ix3 k r j) = gu (aX m c) (aSh m c) (aSc m c) (aW m c) (sOf t) (pOf t r) (colOf k j) := by
  rw [← seqOf_tOf t r, ← posOf_tOf t r, ← V9_at, ← emb3]; rfl

/-- A point's gradient at the modulated input. -/
theorem bHid_blk (c : Dev nD) (t : Fin cfg0.N) (r : Fin 512) (d : Fin 1024) :
    bHid (iblk m c 1 t) (iblk m c 3 t) (iblk m c 5 t) (iblk m c 6 t) r d
      = dHid (aX m c) (aSh m c) (aSc m c) (aGt m c) (aW m c) (aD m c) (aCt m c) (sOf t) (pOf t r) d := by
  unfold bHid bGate bUp bAct dHid dGate dUp dAct
  simp only [blk1, blk3, blk5, blk6, colOf_zero, colOf_one]

/-- The gradient at the modulated input at a point's row. -/
abbrev dh (c : Dev nD) (t : Fin cfg0.N) : FVec Ideal S512x1024 .f32 :=
  dhBlk (iblk m c 1 t) (iblk m c 3 t) (iblk m c 5 t) (iblk m c 6 t)

/-- What every point leaves in the first output's block. -/
theorem outs7 (c : Dev nD) (t : Fin cfg0.N) : (outsAt0 m c t.val t.isLt).1
    = k0_pay33 (dh m c t) (iblk m c 0 t) (iblk m c 4 t) := by
  by_cases h : t.val % 4 = 0
  · rw [outsAt0_A m c t h]; frame_out
  · rw [outsAt0_B m c t h]; frame_out

/-- The second output's block as the body stores it, in six parts. -/
abbrev parts (A : Vec Ideal S512x1024 .bf16) (H : Vec Ideal S2x512x2816 .bf16) (D : Vec Ideal S2816x1024 .bf16) :
    Vec Ideal S2x512x2816 .bf16 :=
  View.canon (Val := Elt Ideal)
      [⟨Rect.unit (s := S2x512x2816) ![1, 0, 2048] ![1, 512, 768] inb_S2x512x2816_S1x512x768_1_0_2048,
          k0_pay31 (F := Ideal)
            (k0_pay24 (k0_pay3 A) (View.ld D (Rect.unit ![2048, 0] ![768, 1024] inb_S2816x1024_S768x1024_2048_0)))
            (k0_pay25 (View.ld H (Rect.unit ![0, 0, 2048] ![1, 512, 768] inb_S2x512x2816_S1x512x768_0_0_2048)))⟩,
        ⟨Rect.unit ![0, 0, 2048] ![1, 512, 768] inb_S2x512x2816_S1x512x768_0_0_2048,
          k0_pay30 (F := Ideal)
            (k0_pay24 (k0_pay3 A) (View.ld D (Rect.unit ![2048, 0] ![768, 1024] inb_S2816x1024_S768x1024_2048_0)))
            (k0_pay25 (View.ld H (Rect.unit ![0, 0, 2048] ![1, 512, 768] inb_S2x512x2816_S1x512x768_0_0_2048)))
            (View.ld H (Rect.unit ![1, 0, 2048] ![1, 512, 768] inb_S2x512x2816_S1x512x768_1_0_2048))⟩,
        ⟨Rect.unit ![1, 0, 1024] ![1, 512, 1024] inb_S2x512x2816_S1x512x1024_1_0_1024,
          k0_pay22 (F := Ideal)
            (k0_pay14 (k0_pay3 A) (View.ld D (Rect.unit ![1024, 0] ![1024, 1024] inb_S2816x1024_S1024x1024_1024_0)))
            (k0_pay15 (View.ld H (Rect.unit ![0, 0, 1024] ![1, 512, 1024] inb_S2x512x2816_S1x512x1024_0_0_1024)))
            (k0_pay17 (View.ld H (Rect.unit ![0, 0, 1024] ![1, 512, 1024] inb_S2x512x2816_S1x512x1024_0_0_1024)))⟩,
        ⟨Rect.unit ![0, 0, 1024] ![1, 512, 1024] inb_S2x512x2816_S1x512x1024_0_0_1024,
          k0_pay21 (F := Ideal)
            (k0_pay14 (k0_pay3 A) (View.ld D (Rect.unit ![1024, 0] ![1024, 1024] inb_S2816x1024_S1024x1024_1024_0)))
            (k0_pay15 (View.ld H (Rect.unit ![0, 0, 1024] ![1, 512, 1024] inb_S2x512x2816_S1x512x1024_0_0_1024)))
            (k0_pay16 (View.ld H (Rect.unit ![1, 0, 1024] ![1, 512, 1024] inb_S2x512x2816_S1x512x1024_1_0_1024)))
            (k0_pay17 (View.ld H (Rect.unit ![0, 0, 1024] ![1, 512, 1024] inb_S2x512x2816_S1x512x1024_0_0_1024)))⟩,
        ⟨Rect.unit ![1, 0, 0] ![1, 512, 1024] inb_S2x512x2816_S1x512x1024_1_0_0,
          k0_pay12 (F := Ideal)
            (k0_pay8 A (View.ld D (Rect.unit ![0, 0] ![1024, 1024] inb_S2816x1024_S1024x1024_0_0))
              (View.ld H (Rect.unit ![0, 0, 0] ![1, 512, 1024] inb_S2x512x2816_S1x512x1024_0_0_0)))⟩,
        ⟨Rect.unit ![0, 0, 0] ![1, 512, 1024] inb_S2x512x2816_S1x512x1024_0_0_0,
          k0_pay11 (F := Ideal)
            (k0_pay6 (View.ld H (Rect.unit ![0, 0, 0] ![1, 512, 1024] inb_S2x512x2816_S1x512x1024_0_0_0)))
            (k0_pay7 (View.ld H (Rect.unit ![0, 0, 0] ![1, 512, 1024] inb_S2x512x2816_S1x512x1024_0_0_0)))
            (k0_pay9 A (View.ld D (Rect.unit ![0, 0] ![1024, 1024] inb_S2816x1024_S1024x1024_0_0))
              (View.ld H (Rect.unit ![1, 0, 0] ![1, 512, 1024] inb_S2x512x2816_S1x512x1024_1_0_0)))
            (FloatOps.ofBits FTy.f32 1065353216#32)⟩]

/-- Six stored parts of a block read back at an index. -/
theorem parts_at (A : Vec Ideal S512x1024 .bf16) (H : Vec Ideal S2x512x2816 .bf16) (D : Vec Ideal S2816x1024 .bf16)
    (k : Fin 2) (r : Fin 512) (j : Fin 2816) :
    parts A H D (ix3 k r j)
      = if k.val = 0 then bGate A H D r j else bUp A H D r j := by
  unfold parts
  canon_tiles x h using (View.cover_of_tiledBy _ ![1, 512, 256] (by sl_kernel_rfl) _)
  · obtain ⟨z, a, l, rfl⟩ : ∃ (z : Fin 1) (a : Fin 512) (l : Fin 768), x = ix3 z a l := ⟨x 0, x 1, x 2, eq_ix3 x⟩
    obtain rfl : z = 0 := Subsingleton.elim _ _
    replace h0 : k.val = 1 := h0
    obtain rfl : r = a := Fin.ext h1
    replace h2 : j.val = 2048 + l.val := h2
    rw [pay31_at, if_neg (by omega)]
    exact (up2 A H D r l _ _ (by omega)).trans (congrArg (bUp A H D r) (Fin.ext h2.symm))
  · obtain ⟨z, a, l, rfl⟩ : ∃ (z : Fin 1) (a : Fin 512) (l : Fin 768), x = ix3 z a l := ⟨x 0, x 1, x 2, eq_ix3 x⟩
    obtain rfl : z = 0 := Subsingleton.elim _ _
    replace h0 : k.val = 0 := h0
    obtain rfl : r = a := Fin.ext h1
    replace h2 : j.val = 2048 + l.val := h2
    rw [pay30_at, if_pos (by omega)]
    exact (gate2 A H D r l _ _ _ (by omega)).trans (congrArg (bGate A H D r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    replace h0 : k.val = 1 := h0
    obtain rfl : r = a := Fin.ext h1
    replace h2 : j.val = 1024 + l.val := h2
    rw [pay22_at, if_neg (by omega)]
    exact (up1 A H D r l _ _ _ (by omega)).trans (congrArg (bUp A H D r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    replace h0 : k.val = 0 := h0
    obtain rfl : r = a := Fin.ext h1
    replace h2 : j.val = 1024 + l.val := h2
    rw [pay21_at, if_pos (by omega)]
    exact (gate1 A H D r l _ _ _ _ (by omega)).trans (congrArg (bGate A H D r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    replace h0 : k.val = 1 := h0
    obtain rfl : r = a := Fin.ext h1
    replace h2 : j.val = l.val := h2
    rw [pay12_at, if_neg (by omega)]
    exact (up0 A H D r l _ _ (by omega)).trans (congrArg (bUp A H D r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    replace h0 : k.val = 0 := h0
    obtain rfl : r = a := Fin.ext h1
    replace h2 : j.val = l.val := h2
    rw [pay11_at, if_pos (by omega)]
    exact (gate0 A H D r l _ _ _ _ (by omega)).trans (congrArg (bGate A H D r) (Fin.ext h2.symm))

/-- A point's share of the gradient at the modulation. -/
def part (c : Dev nD) (t : Fin cfg0.N) (k : Fin 2) (d : Fin 1024) : EReal :=
  if k.val = 0 then ∑ r : Fin 512, dh m c t (ix2 r d) else ∑ r : Fin 512, dh m c t (ix2 r d) * iblk m c 2 t (ix2 r d)

/-- A token's term of the gradient at the modulation. -/
def modTerm (c : Dev nD) (s : Fin 2) (k : Fin 2) (d : Fin 1024) (r : Fin 2048) : EReal :=
  if k.val = 0 then dHid (aX m c) (aSh m c) (aSc m c) (aGt m c) (aW m c) (aD m c) (aCt m c) s r d
  else dHid (aX m c) (aSh m c) (aSc m c) (aGt m c) (aW m c) (aD m c) (aCt m c) s r d * aX m c (ix3 s r d)
theorem part_eq (c : Dev nD) (t : Fin cfg0.N) (k : Fin 2) (d : Fin 1024) :
    part m c t k d = ∑ r : Fin 512, modTerm m c (sOf t) k d (pOf t r) := by
  unfold part modTerm dh
  simp only [dhBlk_at, bHid_blk, blk2]
  by_cases h : k.val = 0
  · simp only [if_pos h]
  · simp only [if_neg h]
theorem dMod_eq (c : Dev nD) (s : Fin 2) (k : Fin 2) (d : Fin 1024) :
    dMod (aX m c) (aSh m c) (aSc m c) (aGt m c) (aW m c) (aD m c) (aCt m c) s k d = ∑ r : Fin 2048, modTerm m c s k d r := by
  unfold dMod modTerm
  by_cases h : k.val = 0
  · simp only [if_pos h]
  · simp only [if_neg h]
/-- A sum over a sequence taken in four blocks. -/
theorem sum_quarters (f : Fin 2048 → EReal) :
    ∑ r, f r = ∑ r : Fin 512, f ⟨0 * 512 + r.val, by omega⟩ + ∑ r : Fin 512, f ⟨1 * 512 + r.val, by omega⟩
      + ∑ r : Fin 512, f ⟨2 * 512 + r.val, by omega⟩ + ∑ r : Fin 512, f ⟨3 * 512 + r.val, by omega⟩ := by
  have h := Fin.sum_univ_add (a := 1536) (b := 512) f
  have h' := Fin.sum_univ_add (a := 1024) (b := 512) fun j : Fin 1536 => f (Fin.castAdd 512 j)
  have h'' := Fin.sum_univ_add (a := 512) (b := 512) fun j : Fin 1024 => f (Fin.castAdd 512 (Fin.castAdd 512 j))
  rw [h, h', h'']
  refine congrArg₂ _ (congrArg₂ _ (congrArg₂ _ ?_ rfl) rfl) rfl
  exact Finset.sum_congr rfl fun r _ => congrArg f (Fin.ext (by show r.val = 0 * 512 + r.val; omega))

/-- Two stored rows read back at an index: the row's own store. -/
theorem rows_at (P1 P0 : Vec Ideal S1x1x1024 .f32) (L : List (View.Piece (Elt Ideal) S1x2x1024 .f32)) (k : Fin 2) (d : Fin 1024)
    (i1 i0) : View.canon (⟨Rect.unit (s := S1x2x1024) ![0, 1, 0] ![1, 1, 1024] i1, P1⟩
      :: ⟨Rect.unit (s := S1x2x1024) ![0, 0, 0] ![1, 1, 1024] i0, P0⟩ :: L) (ix3 0 k d)
      = if k.val = 0 then P0 (ix3 0 0 d) else P1 (ix3 0 0 d) := by
  have hit : ∀ (o : Nat) (ho : o < 2) (inb) (P : Vec Ideal S1x1x1024 .f32) (M : List (View.Piece (Elt Ideal) S1x2x1024 .f32)),
      View.canon (⟨Rect.unit (s := S1x2x1024) ![0, o, 0] ![1, 1, 1024] inb, P⟩ :: M) (ix3 0 ⟨o, ho⟩ d) = P (ix3 0 0 d) := by
    intro o ho inb P M
    rw [← View.canon_cons_emb (Rect.unit (s := S1x2x1024) ![0, o, 0] ![1, 1, 1024] inb) P M (ix3 0 0 d)]
    congr 1
    funext a; apply Fin.ext
    rw [ValueKit.rect_emb_unit_val]
    match a with
    | ⟨0, _⟩ => rfl
    | ⟨1, _⟩ => rfl
    | ⟨2, _⟩ => show d.val = 0 + d.val; omega
  match k with
  | ⟨1, _⟩ => exact hit 1 (by omega) i1 P1 _
  | ⟨0, _⟩ =>
    refine (View.canon_cons_of_not_mem (⟨Rect.unit (s := S1x2x1024) ![0, 1, 0] ![1, 1, 1024] i1, P1⟩) _ fun h => ?_).trans (hit 0 (by omega) i0 P0 L)
    have := ((Rect.mem_set_unit (inb := i1)).mp h (1 : Fin 3)).1
    exact absurd this (by show ¬(1 ≤ 0); omega)

/-- What every point leaves in the second output's block. -/
theorem outs8 (c : Dev nD) (t : Fin cfg0.N) (k : Fin 2) (r : Fin 512) (j : Fin 2816) :
    (outsAt0 m c t.val t.isLt).2.1 (ix3 k r j)
      = if k.val = 0 then bGate (iblk m c 1 t) (iblk m c 3 t) (iblk m c 6 t) r j
        else bUp (iblk m c 1 t) (iblk m c 3 t) (iblk m c 6 t) r j := by
  by_cases h : t.val % 4 = 0
  · rw [outsAt0_A m c t h]; frame_out; exact parts_at _ _ _ _ _ _
  · rw [outsAt0_B m c t h]; frame_out; exact parts_at _ _ _ _ _ _

/-- The running sums after a sequence's first point: the point's share. -/
theorem outs9_first (c : Dev nD) (t : Fin cfg0.N) (h : t.val % 4 = 0) (k : Fin 2) (d : Fin 1024) :
    (outsAt0 m c t.val t.isLt).2.2 (ix3 0 k d) = 0 + part m c t k d := by
  rw [outsAt0_A m c t h]; frame_out
  simp (disch := decide) only [View.readCov_skip, View.readCov_fill]
  rw [rows_at, pay1_at, pay34_at, ldM _ 0 (by omega), ldM _ 1 (by omega), pay2_at, pay2_at]
  unfold part
  match k with
  | ⟨0, _⟩ => rfl
  | ⟨1, _⟩ => rfl

/-- The running sums after a later point: what was there, and the point's share. -/
theorem outs9_next (c : Dev nD) (t : Fin cfg0.N) (h : ¬t.val % 4 = 0) (k : Fin 2) (d : Fin 1024) :
    (outsAt0 m c t.val t.isLt).2.2 (ix3 0 k d)
      = (outsAt0 m c (t.val - 1) (Nat.lt_of_le_of_lt (Nat.sub_le _ _) t.isLt)).2.2 (ix3 0 k d) + part m c t k d := by
  rw [outsAt0_B m c t h]; frame_out
  rw [rows_at, pay1_at, pay34_at, ldM _ 0 (by omega), ldM _ 1 (by omega)]
  unfold part
  match k with
  | ⟨0, _⟩ => rfl
  | ⟨1, _⟩ => rfl

theorem emb7 (t : Fin cfg0.N) (r : Fin 512) (d : Fin 1024) :
    ((win0_7.blk t).view.emb (ix2 r d) : S4096x1024.Idx) = ix2 (tOf t r) d := by
  unfold tOf; blk_ext [idx7]
theorem emb8 (t : Fin cfg0.N) (k : Fin 2) (r : Fin 512) (j : Fin 2816) :
    ((win0_8.blk t).view.emb (ix3 k r j) : S2x4096x2816.Idx) = ix3 k (tOf t r) j := by
  unfold tOf; blk_ext [idx8]
theorem emb9 (t : Fin cfg0.N) (k : Fin 2) (d : Fin 1024) :
    ((win0_9.blk t).view.emb (ix3 0 k d) : S2x2x1024.Idx) = ix3 (sOf t) k d := by
  unfold sOf; blk_ext [idx9]

/-- The first result: the gradient at the input. -/
theorem final7 (c : Dev nD) : (dats m 0 c).arrAt 7 cfg0.N
    = fun i => dX (aX m c) (aSh m c) (aSc m c) (aGt m c) (aW m c) (aD m c) (aCt m c) (i 0) (i 1) := by
  refine (dats m 0 c).arrAt_eq_of_covers 7 _ (by decide +kernel) fun t hf y => ?_
  blk_simp
  rw [after0_7, outs7]
  obtain ⟨r, d, rfl⟩ : ∃ (r : Fin 512) (d : Fin 1024), y = ix2 r d := ⟨y 0, y 1, eq_ix2 y⟩
  rw [emb7, pay33_at]
  unfold dh
  rw [dhBlk_at, bHid_blk, blk0, blk4]
  show _ = dX _ _ _ _ _ _ _ (tOf t r) d
  unfold dX
  rw [seqOf_tOf, posOf_tOf]

/-- The second result: the gradient at the gate and up products. -/
theorem final8 (c : Dev nD) : (dats m 0 c).arrAt 8 cfg0.N
    = fun i => dGU (aX m c) (aSh m c) (aSc m c) (aGt m c) (aW m c) (aD m c) (aCt m c) (i 0) (i 1) (i 2) := by
  refine (dats m 0 c).arrAt_eq_of_covers 8 _ (by decide +kernel) fun t hf y => ?_
  blk_simp
  rw [after0_8]
  obtain ⟨k, r, j, rfl⟩ : ∃ (k : Fin 2) (r : Fin 512) (j : Fin 2816), y = ix3 k r j := ⟨y 0, y 1, y 2, eq_ix3 y⟩
  rw [emb8, outs8]
  show _ = dGU _ _ _ _ _ _ _ k (tOf t r) j
  unfold dGU bGate bUp bAct dGate dUp dAct
  rw [seqOf_tOf, posOf_tOf]
  simp only [blk1, blk3, blk6, colOf_zero, colOf_one]

/-- The third result: the gradient at the modulation. -/
theorem final9 (c : Dev nD) : (dats m 0 c).arrAt 9 cfg0.N
    = fun i => dMod (aX m c) (aSh m c) (aSc m c) (aGt m c) (aW m c) (aD m c) (aCt m c) (i 0) (i 1) (i 2) := by
  refine (dats m 0 c).arrAt_eq_of_covers 9 _ (by decide +kernel) fun t hf y => ?_
  blk_simp
  obtain ⟨k, d, rfl⟩ : ∃ (k : Fin 2) (d : Fin 1024), y = ix3 0 k d :=
    ⟨y 1, y 2, (eq_ix3 y).trans (congrArg (fun z : Fin 1 => ix3 z _ _) (Subsingleton.elim (α := Fin 1) _ _))⟩
  have h3 : t.val % 4 = 3 := (flush0_9 t).mp hf
  have ht : t.val < 8 := t.isLt
  have lt : ∀ n, t.val - n < cfg0.N := fun n => Nat.lt_of_le_of_lt (Nat.sub_le _ _) t.isLt
  rw [after0_9, emb9, outs9_next m c t (by omega)]
  have s1 := outs9_next m c ⟨t.val - 1, lt 1⟩ (by show ¬(t.val - 1) % 4 = 0; omega) k d
  have s2 := outs9_next m c ⟨t.val - 1 - 1, by have := lt 2; omega⟩ (by show ¬(t.val - 1 - 1) % 4 = 0; omega) k d
  have s3 := outs9_first m c ⟨t.val - 1 - 1 - 1, by have := lt 3; omega⟩ (by show (t.val - 1 - 1 - 1) % 4 = 0; omega) k d
  rw [s1, s2, s3, zero_add]
  show _ = dMod _ _ _ _ _ _ _ (sOf t) k d
  have q : ∀ (u : Fin cfg0.N) (n : Nat) (hn : n < 4), u.val / 4 = t.val / 4 → u.val % 4 = n →
      part m c u k d = ∑ r : Fin 512, modTerm m c (sOf t) k d ⟨n * 512 + r.val, by omega⟩ := by
    intro u n hn hs hr
    rw [part_eq, show sOf u = sOf t from Fin.ext hs]
    exact Finset.sum_congr rfl fun r _ => congrArg _ (Fin.ext (by show u.val % 4 * 512 + r.val = _; rw [hr]))
  rw [dMod_eq, sum_quarters]
  rw [q _ 0 (by omega) (by show (t.val - 1 - 1 - 1) / 4 = _; omega) (by show (t.val - 1 - 1 - 1) % 4 = _; omega),
    q _ 1 (by omega) (by show (t.val - 1 - 1) / 4 = _; omega) (by show (t.val - 1 - 1) % 4 = _; omega),
    q _ 2 (by omega) (by show (t.val - 1) / 4 = _; omega) (by show (t.val - 1) % 4 = _; omega),
    q t 3 (by omega) rfl h3]

end Cert.Proof.Ffn

end
-- ==== Proof.FfnReference.lean ====
/-
  Hand-written. The reference's gradient of a feed-forward half-step read to the plain formulas, each of its three results
  at an index.
-/
module

public import proofs.«01_k».proof.Proof.Gen.Reference2Ideal.Run
public import proofs.«01_k».proof.Proof.Gen.Reference2Ideal.Read
public import proofs.«01_k».proof.Proof.FfnMath

@[expose] public section

noncomputable section

namespace Cert.Proof.Ffn

open Idealize.ShloMosaic Cert.Reference2Ideal Cert.Reference2Ideal.Read

/-- The reference's arrays. -/
abbrev RTok := (⟨S2x2048x1024, .f32⟩ : BufTy).Contents (Elt Ideal)
abbrev RRow := (⟨S2x1x1024, .f32⟩ : BufTy).Contents (Elt Ideal)
abbrev RUpW := (⟨S1024x5632, .f32⟩ : BufTy).Contents (Elt Ideal)
abbrev RDownW := (⟨S2816x1024, .f32⟩ : BufTy).Contents (Elt Ideal)

variable (x ct : RTok) (sh sc gt : RRow) (W : RUpW) (D : RDownW)

/-- The gate and up products. -/
theorem gu_at (s : Fin 2) (r : Fin 2048) (k : Fin 5632) :
    val_main_v8 (F := Ideal) x sh sc W (ix3 s r k) = gu x sh sc W s r k := by
  pointwise [val_main_v8, val_main_v7, val_main_v6, val_main_v5, val_main_v4, val_main_v3, val_main_v2, val_main_v1,
    val_main_v0, val_main_cst, val_main_cst_0]
  rfl

/-- The gradient at the activation. -/
theorem dAct_at (s : Fin 2) (r : Fin 2048) (j : Fin 2816) :
    val_main_v27 (F := Ideal) gt D ct (ix3 s r j) = dAct gt D ct s r j := by
  pointwise [val_main_v27, val_main_v26, val_main_v25, val_main_v24, val_main_v16, val_main_v15, val_main_v14, val_main_v13,
    val_main_cst_2, val_main_cst_3]
  rfl

/-- The logistic function of the gate. -/
theorem logistic_at (s : Fin 2) (r : Fin 2048) (j : Fin 2816) :
    val_main_v17_2 (F := Ideal) x sh sc W (ix3 s r j) = logistic (gu x sh sc W s r (gateCol j)) := by
  pointwise [val_main_v17_2, val_main_call0_v4, val_main_call0_v3, val_main_call0_v2, val_main_call0_v1, val_main_call0_v0,
    val_main_v9, val_main_call0_cst, val_main_call0_cst_0]
  rw [gu_at]
  rfl

/-- The gradient at the gate. -/
theorem dGate_at (hf : Finite x sh sc gt W D ct) (s : Fin 2) (r : Fin 2048) (j : Fin 2816) :
    val_main_v30 (F := Ideal) x sh sc gt W D ct (ix3 s r j) = dGate x sh sc gt W D ct s r j := by
  pointwise [val_main_v30, val_main_call1_v2, val_main_call1_v1, val_main_call1_v0, val_main_v29, val_main_v10, val_main_v9,
    val_main_v17_1, val_main_call0_v7, val_main_call0_v6, val_main_call0_cst_1]
  rw [dAct_at, gu_at, gu_at, logistic_at]
  exact gateGrad_eq (hf.dAct s r j) (hf.gu s r (gateCol j)) (hf.gu s r (upCol j))

/-- The gradient at the up value. -/
theorem dUp_at (s : Fin 2) (r : Fin 2048) (j : Fin 2816) :
    val_main_v28 (F := Ideal) x sh sc gt W D ct (ix3 s r j) = dUp x sh sc gt W D ct s r j := by
  pointwise [val_main_v28, val_main_v17_0, val_main_v9]
  rw [dAct_at, gu_at, logistic_at]
  exact mul_comm _ _

/-- The gradient at the modulated input. -/
theorem dHid_at (hf : Finite x sh sc gt W D ct) (s : Fin 2) (r : Fin 2048) (d : Fin 1024) :
    val_main_v34 (F := Ideal) x sh sc gt W D ct (ix3 s r d) = dHid x sh sc gt W D ct s r d := by
  pointwise [val_main_v34, val_main_v33]
  simp only [dGate_at x ct sh sc gt W D hf, dUp_at]
  rfl

/-- The gradient at the input, at an index. -/
theorem dX_at (hf : Finite x sh sc gt W D ct) (i : Fin 4096) (d : Fin 1024) :
    val_main_v46 (F := Ideal) x sh sc gt W D ct (ix2 i d) = dX x sh sc gt W D ct i d := by
  pointwise [val_main_v46, val_main_v42, val_main_v41, val_main_v40, val_main_v32, val_main_v31, val_main_v23, val_main_cst_4,
    val_main_v2, val_main_v1, val_main_cst_0]
  rw [dHid_at x ct sh sc gt W D hf]
  rfl

/-- The gradient at the gate and up products, at an index. -/
theorem dGU_at (hf : Finite x sh sc gt W D ct) (k : Fin 2) (i : Fin 4096) (j : Fin 2816) :
    val_main_v45 (F := Ideal) x sh sc gt W D ct (ix3 k i j) = dGU x sh sc gt W D ct k i j := by
  pointwise [val_main_v45, val_main_v44, val_main_v43, val_main_v33]
  simp only [dGate_at x ct sh sc gt W D hf, dUp_at]
  have hj := j.isLt
  unfold dGU
  by_cases hk : k.val = 0
  · rw [dif_pos (by omega), if_pos hk]
    have e : (⟨k.val * 2816 + j.val, by omega⟩ : Fin 2816) = j := Fin.ext (by show k.val * 2816 + j.val = j.val; omega)
    rw [e]
    rfl
  · rw [dif_neg (by omega), if_neg hk]
    have hk2 := k.isLt
    have e : (⟨k.val * 2816 + j.val - 2816, by omega⟩ : Fin 2816) = j :=
      Fin.ext (by show k.val * 2816 + j.val - 2816 = j.val; omega)
    rw [e]
    rfl

/-- The gradient at the shift and the scale, at an index. -/
theorem dMod_at (hf : Finite x sh sc gt W D ct) (s k : Fin 2) (d : Fin 1024) :
    val_main_v47 (F := Ideal) x sh sc gt W D ct (ix3 s k d) = dMod x sh sc gt W D ct s k d := by
  pointwise [val_main_v47, val_main_v36, val_main_v39, val_main_v38, val_main_v35, val_main_v37, val_main_cst_5, val_main_cst_6]
  simp only [dHid_at x ct sh sc gt W D hf]
  unfold dMod
  by_cases hk : k.val = 0
  · rw [dif_pos (by omega), if_pos hk]
  · rw [dif_neg (by omega), if_neg hk]
    exact Finset.sum_congr rfl fun r _ => mul_comm _ _

/-- The reference's first result: the gradient at the input. -/
theorem dX_ref (hf : Finite x sh sc gt W D ct) :
    val_main_v46 (F := Ideal) x sh sc gt W D ct = fun i => dX x sh sc gt W D ct (i 0) (i 1) := by
  funext i
  rw [eq_ix2 i]
  exact dX_at x ct sh sc gt W D hf (i 0) (i 1)

/-- Its second: the gradient at the gate and up products. -/
theorem dGU_ref (hf : Finite x sh sc gt W D ct) :
    val_main_v45 (F := Ideal) x sh sc gt W D ct = fun i => dGU x sh sc gt W D ct (i 0) (i 1) (i 2) := by
  funext i
  rw [eq_ix3 i]
  exact dGU_at x ct sh sc gt W D hf (i 0) (i 1) (i 2)

/-- Its third: the gradient at the shift and the scale. -/
theorem dMod_ref (hf : Finite x sh sc gt W D ct) :
    val_main_v47 (F := Ideal) x sh sc gt W D ct = fun i => dMod x sh sc gt W D ct (i 0) (i 1) (i 2) := by
  funext i
  rw [eq_ix3 i]
  exact dMod_at x ct sh sc gt W D hf (i 0) (i 1) (i 2)

end Cert.Proof.Ffn

end
-- ==== Proof.FfnClaim.lean ====
/-
  Hand-written. The feed-forward half-step's gradient: the kernel's run and the reference's run end at the same three
  arrays, from memories that agree on the arguments and hold finite numbers there.
-/
module

public import proofs.«01_k».proof.Defs
public import proofs.«01_k».proof.Proof.Gen.Pre_finite
public import proofs.«01_k».proof.Proof.FfnKernel
public import proofs.«01_k».proof.Proof.FfnReference

@[expose] public section

set_option maxRecDepth 16384

noncomputable section

namespace Cert.Proof.Ffn

open Idealize.ShloMosaic Idealize.SL.Sem

/-- An array whose elements' sizes all test below infinity has real elements. -/
theorem real_of_test {s : Shape} (b : (⟨0, ![]⟩ : Shape).BroadcastsInDim s ![]) (x : FVec Ideal s .f32)
    (h : cmpf .olt (Host.absf x) (broadcastInDim s ![] b (constant (F := Ideal) ⟨0, ![]⟩ .f32 0x7F800000#32)) = fun _ => 1#1)
    (i : s.Idx) : IsReal (x i) := by
  have q : Ideal.cmp .olt (max (x i) (-(x i))) (Ideal.ofBits .f32 0x7F800000#32) = 1#1 := congrFun h i
  rw [ofBits_inf] at q
  refine IsReal.of_abs_lt ?_
  by_contra hn
  simp [Ideal.cmp, hn] at q

/-- The precondition says that every argument's elements are reals. -/
theorem finite_of_pre (m : (ℓ : Loc Cert.Kernel2Ideal.nD Cert.Kernel2Ideal.τ Cert.Kernel2Ideal.sig) → Buf (Elt Ideal) ℓ)
    (h : Cert.Pre_Kernel2Ideal_finite (hPre_finite := Cert.Pre_finite.Gen.facts) m) (c : Dev Cert.Kernel2Ideal.nD) :
    Finite (aX m c) (aSh m c) (aSc m c) (aGt m c) (aW m c) (aD m c) (aCt m c) := by
  obtain ⟨h0, h1, h2, h3, h4, h5, h6⟩ := h c
  exact ⟨real_of_test _ _ h0, real_of_test _ _ h1, real_of_test _ _ h2, real_of_test _ _ h3, real_of_test _ _ h4,
    real_of_test _ _ h5, real_of_test _ _ h6⟩

/-- The kernel and the reference compute the same gradients of the half-step, at finite numbers. -/
theorem algebraic : Cert.algebraic_Kernel2Ideal_Reference2Ideal_pre_finite (hPre_finite := Cert.Pre_finite.Gen.facts) :=
  fun m ρ m' ρ' hpre hag =>
  ⟨fun c i => dX (aX m c) (aSh m c) (aSc m c) (aGt m c) (aW m c) (aD m c) (aCt m c) (i 0) (i 1),
    fun c i => dGU (aX m c) (aSh m c) (aSc m c) (aGt m c) (aW m c) (aD m c) (aCt m c) (i 0) (i 1) (i 2),
    fun c i => dMod (aX m c) (aSh m c) (aSc m c) (aGt m c) (aW m c) (aD m c) (aCt m c) (i 0) (i 1) (i 2),
    (θ_run _ _ _).mono (fun _ h c => by
      obtain ⟨h0, h1, h2, ha⟩ := h c
      exact ⟨h0.trans (final7 m c), h1.trans (final8 m c), h2.trans (final9 m c), ha⟩)
      (Cert.Kernel2Ideal.Value.run_blocks m ρ),
    (θ_run _ _ _).mono (fun _ h c => by
      obtain ⟨h0, h1, h2, ha⟩ := h c
      obtain ⟨e0, e1, e2, e3, e4, e5, e6⟩ := hag c
      have hf := finite_of_pre m hpre c
      rw [Cert.Reference2Ideal.Read.val_main_v46_eq, e0, e1, e2, e3, e4, e5, e6] at h0
      rw [Cert.Reference2Ideal.Read.val_main_v45_eq, e0, e1, e2, e3, e4, e5, e6] at h1
      rw [Cert.Reference2Ideal.Read.val_main_v47_eq, e0, e1, e2, e3, e4, e5, e6] at h2
      exact ⟨h0.trans (dX_ref _ _ _ _ _ _ _ hf), h1.trans (dGU_ref _ _ _ _ _ _ _ hf), h2.trans (dMod_ref _ _ _ _ _ _ _ hf), ha⟩)
      (Cert.Reference2Ideal.Value.run m' ρ')⟩

end Cert.Proof.Ffn

end
-- ==== Proof.DownClaim.lean ====
/-
  Hand-written. The gradient of the feed-forward down weight: the kernel's two halves of the tokens, added up, are the
  sum over all tokens that the reference takes.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ReadBack
public import Idealize.ShloMosaic.Lib.Pointwise
public import Idealize.ShloMosaic.Lib.Pipeline.ValueKit.Point

@[expose] public section

set_option maxRecDepth 16384

noncomputable section

namespace Cert.Proof.Down

open Idealize.ShloMosaic Idealize.SL.Sem Cert.Kernel3Ideal Cert.Kernel3Ideal.Gen Idealize.ShloMosaic.TcCoe
open Idealize.ShloMosaic.Pipeline (Dat Cfg Window)

abbrev Left := (⟨2, ![4096, 2816]⟩ : Shape).Idx → EReal
abbrev Right := (⟨2, ![4096, 1024]⟩ : Shape).Idx → EReal

/-- The weight's row of a part, a half of it, and a row of it. -/
def rowOf (p : Fin 1) (q : Fin 2) (w : Fin 1408) : Fin 2816 := ⟨(p.val * 2 + q.val) * 1408 + w.val, by omega⟩
/-- The weight's gradient: a sum over the tokens. -/
def dW (a : Left) (b : Right) (p : Fin 1) (q : Fin 2) (w : Fin 1408) (d : Fin 1024) : EReal :=
  ∑ i : Fin 4096, a (ix2 i (rowOf p q w)) * b (ix2 i d)

/-- The sum over one half of the tokens. -/
def half (a : Left) (b : Right) (p : Fin 1) (q : Fin 2) (w : Fin 1408) (d : Fin 1024) (k : Nat) (hk : k < 2) : EReal :=
  ∑ r : Fin 2048, a (ix2 ⟨k * 2048 + r.val, by omega⟩ (rowOf p q w)) * b (ix2 ⟨k * 2048 + r.val, by omega⟩ d)

/-- A sum over the tokens taken in two halves. -/
theorem sum_halves (f : Fin 4096 → EReal) :
    ∑ i, f i = ∑ i : Fin 2048, f ⟨0 * 2048 + i.val, by omega⟩ + ∑ i : Fin 2048, f ⟨1 * 2048 + i.val, by omega⟩ := by
  rw [Fin.sum_univ_add (a := 2048) (b := 2048) f]
  refine congrArg₂ _ ?_ rfl
  exact Finset.sum_congr rfl fun r _ => congrArg f (Fin.ext (by show r.val = 0 * 2048 + r.val; omega))

section Payloads

/-- A point's sum, of its two blocks. -/
def partOf (a : Vec Ideal S1x2048x1408 .bf16) (b : Vec Ideal S1x2048x1024 .bf16) (w : Fin 1408) (d : Fin 1024) : EReal :=
  ∑ r : Fin 2048, a (ix3 0 r w) * b (ix3 0 r d)

theorem pay1_at (w : Fin 1408) (d : Fin 1024) : k0_pay1 (F := Ideal) (ix2 w d) = 0 := by
  pointwise [k0_pay1]
theorem pay2_at (s : Vec Ideal S1408x1024 .f32) (a : Vec Ideal S1x2048x1408 .bf16) (b : Vec Ideal S1x2048x1024 .bf16)
    (w : Fin 1408) (d : Fin 1024) :
    k0_pay2 (F := Ideal) s a b (ix2 w d) = s (ix2 w d) + ∑ r : Fin 2048, a (ix3 0 r w) * b (ix3 0 r d) := by
  pointwise [k0_pay2]
theorem pay3_at (s : Vec Ideal S1408x1024 .f32) (w : Fin 1408) (d : Fin 1024) :
    k0_pay3 (F := Ideal) s (ix5 0 0 0 w d) = s (ix2 w d) := by
  pointwise [k0_pay3]

end Payloads

variable (m : (ℓ : Loc nD τ sig) → Buf (Elt Ideal) ℓ)

/-- The blocks of a point. -/
theorem idx0 : ∀ t : Fin cfg0.N, win0_0.index t = ![0, t.val % 2, t.val / 2] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![0, t.val / 2, 0, 0, 0] := (by decide +kernel : ∀ t : Fin grid0.N, _)

/-- A point's part of the weight, and which half of the part's rows. -/
def pOf (t : Fin cfg0.N) : Fin 1 := 0
def qOf (t : Fin cfg0.N) : Fin 2 := ⟨t.val / 2, by have h : t.val < 4 := t.isLt; omega⟩
/-- A row's token, in a half of the tokens. -/
def tOf (k : Nat) (hk : k < 2) (r : Fin 2048) : Fin 4096 := ⟨k * 2048 + r.val, by omega⟩

theorem blk0 (c : Dev nD) (t : Fin cfg0.N) (r : Fin 2048) (w : Fin 1408) :
    iblk m c 0 t (ix3 0 r w) = (m ((c : Thread nD τ).loc main_arg0) : Left) (ix2 (tOf (t.val % 2) (by omega) r) (rowOf (pOf t) (qOf t) w)) := by
  have h : t.val < 4 := t.isLt
  unfold tOf rowOf pOf qOf; blk_ext! [iblk, V, idx0]
theorem blk1 (c : Dev nD) (t : Fin cfg0.N) (r : Fin 2048) (d : Fin 1024) :
    iblk m c 1 t (ix3 0 r d) = (m ((c : Thread nD τ).loc main_arg1) : Right) (ix2 (tOf (t.val % 2) (by omega) r) d) := by
  unfold tOf; blk_ext! [iblk, V, idx1]

/-- A point's share of the gradient. -/
def part (c : Dev nD) (t : Fin cfg0.N) (w : Fin 1408) (d : Fin 1024) : EReal :=
  partOf (iblk m c 0 t) (iblk m c 1 t) w d

/-- The running sum after a block's first point: the point's share. -/
theorem sum_first (c : Dev nD) (t : Fin cfg0.N) (h : t.val % 2 = 0) (w : Fin 1408) (d : Fin 1024) :
    (outsAt0 m c t.val t.isLt).2 (ix2 w d) = 0 + part m c t w d := by
  rw [outsAt0_A m c t h (by omega)]; frame_out
  refine (pay2_at _ _ _ w d).trans ?_
  rw [pay1_at]; rfl

/-- What a block's second point stores: the running sum, and the point's share. -/
theorem outs2 (c : Dev nD) (t : Fin cfg0.N) (h : t.val % 2 = 1) (w : Fin 1408) (d : Fin 1024) :
    (outsAt0 m c t.val t.isLt).1 (ix5 0 0 0 w d)
      = (outsAt0 m c (t.val - 1) (Nat.lt_of_le_of_lt (Nat.sub_le _ _) t.isLt)).2 (ix2 w d) + part m c t w d := by
  rw [outsAt0_B m c t (by omega) h]; frame_out
  refine (pay3_at _ w d).trans ((pay2_at _ _ _ w d).trans ?_)
  rw [read_unread_whole]; rfl

theorem part_eq (c : Dev nD) (t u : Fin cfg0.N) (hp : pOf u = pOf t) (hq : qOf u = qOf t) (k : Nat) (hk : k < 2) (hu : u.val % 2 = k)
    (w : Fin 1408) (d : Fin 1024) :
    part m c u w d = half (m ((c : Thread nD τ).loc main_arg0)) (m ((c : Thread nD τ).loc main_arg1)) (pOf t) (qOf t) w d k hk := by
  subst hu
  unfold part partOf
  simp only [blk0, blk1, hp, hq]
  rfl

theorem emb2 (t : Fin cfg0.N) (w : Fin 1408) (d : Fin 1024) :
    ((win0_2.blk t).view.emb (ix5 0 0 0 w d) : S1x2x1x1408x1024.Idx) = ix5 (pOf t) (qOf t) 0 w d := by
  have h : t.val < 4 := t.isLt
  unfold pOf qOf; blk_ext [idx2]

/-- The result: the weight's gradient. -/
theorem final2 (c : Dev nD) : (dats m 0 c).arrAt 2 cfg0.N
    = fun i => dW (m ((c : Thread nD τ).loc main_arg0)) (m ((c : Thread nD τ).loc main_arg1)) (i 0) (i 1) (i 3) (i 4) := by
  refine (dats m 0 c).arrAt_eq_of_covers 2 _ (by decide +kernel) fun t hf y => ?_
  blk_simp
  obtain ⟨z0, z1, z2, w, d, rfl⟩ : ∃ (z0 z1 z2 : Fin 1) (w : Fin 1408) (d : Fin 1024), y = ix5 z0 z1 z2 w d :=
    ⟨y 0, y 1, y 2, y 3, y 4, eq_ix5 y⟩
  obtain rfl : z0 = 0 := Subsingleton.elim _ _
  obtain rfl : z1 = 0 := Subsingleton.elim _ _
  obtain rfl : z2 = 0 := Subsingleton.elim _ _
  have h1 : t.val % 2 = 1 := (flush0_2 t).mp hf
  have ht : t.val < 4 := t.isLt
  have lt : t.val - 1 < cfg0.N := Nat.lt_of_le_of_lt (Nat.sub_le _ _) t.isLt
  rw [after0_2, emb2, outs2 m c t h1]
  have s := sum_first m c ⟨t.val - 1, lt⟩ (by show (t.val - 1) % 2 = 0; omega) w d
  rw [s, zero_add]
  show _ = dW _ _ (pOf t) (qOf t) w d
  unfold dW
  rw [sum_halves, part_eq m c t ⟨t.val - 1, lt⟩ rfl (Fin.ext (by show (t.val - 1) / 2 = t.val / 2; omega)) 0 (by omega) (by show (t.val - 1) % 2 = 0; omega),
    part_eq m c t t rfl rfl 1 (by omega) h1]
  rfl

section Reference
open Cert.Reference3Ideal.Read

theorem dW_at (x0 : Left) (x1 : Right) (p : Fin 1) (q : Fin 2) (z : Fin 1) (w : Fin 1408) (d : Fin 1024) :
    val_main_v5 (F := Ideal) x0 x1 (ix5 p q z w d) = dW x0 x1 p q w d := by
  pointwise [val_main_v5, val_main_v4, val_main_v3, val_main_v2]
  unfold dW rowOf
  refine Finset.sum_congr rfl fun i _ => (mul_comm _ _).trans (congrArg (fun k => x0 (ix2 i k) * x1 (ix2 i d)) (Fin.ext ?_))
  show q.val * 1408 + w.val = (p.val * 2 + q.val) * 1408 + w.val
  omega

/-- The reference's result: the weight's gradient. -/
theorem dW_ref (x0 : Left) (x1 : Right) : val_main_v5 (F := Ideal) x0 x1 = fun i => dW x0 x1 (i 0) (i 1) (i 3) (i 4) := by
  funext i
  rw [eq_ix5 i]
  exact dW_at x0 x1 (i 0) (i 1) (i 2) (i 3) (i 4)

end Reference

/-- The kernel and the reference compute the same gradient of the weight. -/
theorem algebraic : Cert.algebraic_Kernel3Ideal_Reference3Ideal := fun m ρ m' ρ' _ hag =>
  ⟨fun c i => dW (m ((c.tc : Thread nD τ).loc main_arg0)) (m ((c.tc : Thread nD τ).loc main_arg1)) (i 0) (i 1) (i 3) (i 4),
    (θ_run _ _ _).mono (fun _ h c => ⟨(h c).1.trans (final2 m c), (h c).2⟩) (Cert.Kernel3Ideal.Value.run_blocks m ρ),
    (θ_run _ _ _).mono (fun _ h c => by
      obtain ⟨h0, ha⟩ := h c
      obtain ⟨e0, e1⟩ := hag c
      rw [Cert.Reference3Ideal.Read.val_main_v5_eq, e0, e1] at h0
      exact ⟨h0.trans (dW_ref _ _), ha⟩)
      (Cert.Reference3Ideal.Value.run m' ρ')⟩

end Cert.Proof.Down

end
-- ==== Proof.UpClaim.lean ====
/-
  Hand-written. The gradient of the feed-forward gate and up weight: the kernel's two halves of the tokens, added up, are the
  sum over all tokens that the reference takes.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ReadBack
public import Idealize.ShloMosaic.Lib.Pointwise
public import Idealize.ShloMosaic.Lib.Pipeline.ValueKit.Point

@[expose] public section

set_option maxRecDepth 16384

noncomputable section

namespace Cert.Proof.Up

open Idealize.ShloMosaic Idealize.SL.Sem Cert.Kernel4Ideal Cert.Kernel4Ideal.Gen Idealize.ShloMosaic.TcCoe
open Idealize.ShloMosaic.Pipeline (Dat Cfg Window)

abbrev Left := (⟨2, ![4096, 5632]⟩ : Shape).Idx → EReal
abbrev Right := (⟨2, ![4096, 1024]⟩ : Shape).Idx → EReal

/-- The weight's row of a part, a half of it, and a row of it. -/
def rowOf (p : Fin 2) (q : Fin 2) (w : Fin 1408) : Fin 5632 := ⟨(p.val * 2 + q.val) * 1408 + w.val, by omega⟩
/-- The weight's gradient: a sum over the tokens. -/
def dW (a : Left) (b : Right) (p : Fin 2) (q : Fin 2) (w : Fin 1408) (d : Fin 1024) : EReal :=
  ∑ i : Fin 4096, a (ix2 i (rowOf p q w)) * b (ix2 i d)

/-- The sum over one half of the tokens. -/
def half (a : Left) (b : Right) (p : Fin 2) (q : Fin 2) (w : Fin 1408) (d : Fin 1024) (k : Nat) (hk : k < 2) : EReal :=
  ∑ r : Fin 2048, a (ix2 ⟨k * 2048 + r.val, by omega⟩ (rowOf p q w)) * b (ix2 ⟨k * 2048 + r.val, by omega⟩ d)

/-- A sum over the tokens taken in two halves. -/
theorem sum_halves (f : Fin 4096 → EReal) :
    ∑ i, f i = ∑ i : Fin 2048, f ⟨0 * 2048 + i.val, by omega⟩ + ∑ i : Fin 2048, f ⟨1 * 2048 + i.val, by omega⟩ := by
  rw [Fin.sum_univ_add (a := 2048) (b := 2048) f]
  refine congrArg₂ _ ?_ rfl
  exact Finset.sum_congr rfl fun r _ => congrArg f (Fin.ext (by show r.val = 0 * 2048 + r.val; omega))

section Payloads

/-- A point's sum, of its two blocks. -/
def partOf (a : Vec Ideal S1x2048x1408 .bf16) (b : Vec Ideal S1x2048x1024 .bf16) (w : Fin 1408) (d : Fin 1024) : EReal :=
  ∑ r : Fin 2048, a (ix3 0 r w) * b (ix3 0 r d)

theorem pay1_at (w : Fin 1408) (d : Fin 1024) : k0_pay1 (F := Ideal) (ix2 w d) = 0 := by
  pointwise [k0_pay1]
theorem pay2_at (s : Vec Ideal S1408x1024 .f32) (a : Vec Ideal S1x2048x1408 .bf16) (b : Vec Ideal S1x2048x1024 .bf16)
    (w : Fin 1408) (d : Fin 1024) :
    k0_pay2 (F := Ideal) s a b (ix2 w d) = s (ix2 w d) + ∑ r : Fin 2048, a (ix3 0 r w) * b (ix3 0 r d) := by
  pointwise [k0_pay2]
theorem pay3_at (s : Vec Ideal S1408x1024 .f32) (w : Fin 1408) (d : Fin 1024) :
    k0_pay3 (F := Ideal) s (ix5 0 0 0 w d) = s (ix2 w d) := by
  pointwise [k0_pay3]

end Payloads

variable (m : (ℓ : Loc nD τ sig) → Buf (Elt Ideal) ℓ)

/-- The blocks of a point. -/
theorem idx0 : ∀ t : Fin cfg0.N, win0_0.index t = ![t.val / 4, t.val % 2, t.val / 2 % 2] := (by decide +kernel : ∀ t : Fin grid0.N, _)
theorem idx1 : ∀ t : Fin cfg0.N, win0_1.index t = ![0, t.val % 2, 0] := (by decide +kernel : ∀ t : Fin grid0.N, _)
theorem idx2 : ∀ t : Fin cfg0.N, win0_2.index t = ![t.val / 4, t.val / 2 % 2, 0, 0, 0] := (by decide +kernel : ∀ t : Fin grid0.N, _)

/-- A point's part of the weight, and which half of the part's rows. -/
def pOf (t : Fin cfg0.N) : Fin 2 := ⟨t.val / 4, by have h : t.val < 8 := t.isLt; omega⟩
def qOf (t : Fin cfg0.N) : Fin 2 := ⟨t.val / 2 % 2, by omega⟩
/-- A row's token, in a half of the tokens. -/
def tOf (k : Nat) (hk : k < 2) (r : Fin 2048) : Fin 4096 := ⟨k * 2048 + r.val, by omega⟩

theorem blk0 (c : Dev nD) (t : Fin cfg0.N) (r : Fin 2048) (w : Fin 1408) :
    iblk m c 0 t (ix3 0 r w) = (m ((c : Thread nD τ).loc main_arg0) : Left) (ix2 (tOf (t.val % 2) (by omega) r) (rowOf (pOf t) (qOf t) w)) := by
  have h : t.val < 8 := t.isLt
  unfold tOf rowOf pOf qOf; blk_ext! [iblk, V, idx0]
theorem blk1 (c : Dev nD) (t : Fin cfg0.N) (r : Fin 2048) (d : Fin 1024) :
    iblk m c 1 t (ix3 0 r d) = (m ((c : Thread nD τ).loc main_arg1) : Right) (ix2 (tOf (t.val % 2) (by omega) r) d) := by
  unfold tOf; blk_ext! [iblk, V, idx1]

/-- A point's share of the gradient. -/
def part (c : Dev nD) (t : Fin cfg0.N) (w : Fin 1408) (d : Fin 1024) : EReal :=
  partOf (iblk m c 0 t) (iblk m c 1 t) w d

/-- The running sum after a block's first point: the point's share. -/
theorem sum_first (c : Dev nD) (t : Fin cfg0.N) (h : t.val % 2 = 0) (w : Fin 1408) (d : Fin 1024) :
    (outsAt0 m c t.val t.isLt).2 (ix2 w d) = 0 + part m c t w d := by
  rw [outsAt0_A m c t h (by omega)]; frame_out
  refine (pay2_at _ _ _ w d).trans ?_
  rw [pay1_at]; rfl

/-- What a block's second point stores: the running sum, and the point's share. -/
theorem outs2 (c : Dev nD) (t : Fin cfg0.N) (h : t.val % 2 = 1) (w : Fin 1408) (d : Fin 1024) :
    (outsAt0 m c t.val t.isLt).1 (ix5 0 0 0 w d)
      = (outsAt0 m c (t.val - 1) (Nat.lt_of_le_of_lt (Nat.sub_le _ _) t.isLt)).2 (ix2 w d) + part m c t w d := by
  rw [outsAt0_B m c t (by omega) h]; frame_out
  refine (pay3_at _ w d).trans ((pay2_at _ _ _ w d).trans ?_)
  rw [read_unread_whole]; rfl

theorem part_eq (c : Dev nD) (t u : Fin cfg0.N) (hp : pOf u = pOf t) (hq : qOf u = qOf t) (k : Nat) (hk : k < 2) (hu : u.val % 2 = k)
    (w : Fin 1408) (d : Fin 1024) :
    part m c u w d = half (m ((c : Thread nD τ).loc main_arg0)) (m ((c : Thread nD τ).loc main_arg1)) (pOf t) (qOf t) w d k hk := by
  subst hu
  unfold part partOf
  simp only [blk0, blk1, hp, hq]
  rfl

theorem emb2 (t : Fin cfg0.N) (w : Fin 1408) (d : Fin 1024) :
    ((win0_2.blk t).view.emb (ix5 0 0 0 w d) : S2x2x1x1408x1024.Idx) = ix5 (pOf t) (qOf t) 0 w d := by
  have h : t.val < 8 := t.isLt
  unfold pOf qOf; blk_ext [idx2]

/-- The result: the weight's gradient. -/
theorem final2 (c : Dev nD) : (dats m 0 c).arrAt 2 cfg0.N
    = fun i => dW (m ((c : Thread nD τ).loc main_arg0)) (m ((c : Thread nD τ).loc main_arg1)) (i 0) (i 1) (i 3) (i 4) := by
  refine (dats m 0 c).arrAt_eq_of_covers 2 _ (by decide +kernel) fun t hf y => ?_
  blk_simp
  obtain ⟨z0, z1, z2, w, d, rfl⟩ : ∃ (z0 z1 z2 : Fin 1) (w : Fin 1408) (d : Fin 1024), y = ix5 z0 z1 z2 w d :=
    ⟨y 0, y 1, y 2, y 3, y 4, eq_ix5 y⟩
  obtain rfl : z0 = 0 := Subsingleton.elim _ _
  obtain rfl : z1 = 0 := Subsingleton.elim _ _
  obtain rfl : z2 = 0 := Subsingleton.elim _ _
  have h1 : t.val % 2 = 1 := (flush0_2 t).mp hf
  have ht : t.val < 8 := t.isLt
  have lt : t.val - 1 < cfg0.N := Nat.lt_of_le_of_lt (Nat.sub_le _ _) t.isLt
  rw [after0_2, emb2, outs2 m c t h1]
  have s := sum_first m c ⟨t.val - 1, lt⟩ (by show (t.val - 1) % 2 = 0; omega) w d
  rw [s, zero_add]
  show _ = dW _ _ (pOf t) (qOf t) w d
  unfold dW
  rw [sum_halves, part_eq m c t ⟨t.val - 1, lt⟩ (Fin.ext (by show (t.val - 1) / 4 = t.val / 4; omega)) (Fin.ext (by show (t.val - 1) / 2 % 2 = t.val / 2 % 2; omega)) 0 (by omega) (by show (t.val - 1) % 2 = 0; omega),
    part_eq m c t t rfl rfl 1 (by omega) h1]
  rfl

section Reference
open Cert.Reference4Ideal.Read

theorem dW_at (x0 : Left) (x1 : Right) (p : Fin 2) (q : Fin 2) (z : Fin 1) (w : Fin 1408) (d : Fin 1024) :
    val_main_v6 (F := Ideal) x0 x1 (ix5 p q z w d) = dW x0 x1 p q w d := by
  pointwise [val_main_v6, val_main_v5, val_main_v4, val_main_v3, val_main_v2]
  unfold dW rowOf
  refine Finset.sum_congr rfl fun i _ => congrArg (fun k => x0 (ix2 i k) * x1 (ix2 i d)) (Fin.ext ?_)
  show p.val * 2816 + q.val * 1408 + w.val = (p.val * 2 + q.val) * 1408 + w.val
  omega

/-- The reference's result: the weight's gradient. -/
theorem dW_ref (x0 : Left) (x1 : Right) : val_main_v6 (F := Ideal) x0 x1 = fun i => dW x0 x1 (i 0) (i 1) (i 3) (i 4) := by
  funext i
  rw [eq_ix5 i]
  exact dW_at x0 x1 (i 0) (i 1) (i 2) (i 3) (i 4)

end Reference

/-- The kernel and the reference compute the same gradient of the weight. -/
theorem algebraic : Cert.algebraic_Kernel4Ideal_Reference4Ideal := fun m ρ m' ρ' _ hag =>
  ⟨fun c i => dW (m ((c.tc : Thread nD τ).loc main_arg0)) (m ((c.tc : Thread nD τ).loc main_arg1)) (i 0) (i 1) (i 3) (i 4),
    (θ_run _ _ _).mono (fun _ h c => ⟨(h c).1.trans (final2 m c), (h c).2⟩) (Cert.Kernel4Ideal.Value.run_blocks m ρ),
    (θ_run _ _ _).mono (fun _ h c => by
      obtain ⟨h0, ha⟩ := h c
      obtain ⟨e0, e1⟩ := hag c
      rw [Cert.Reference4Ideal.Read.val_main_v6_eq, e0, e1] at h0
      exact ⟨h0.trans (dW_ref _ _), ha⟩)
      (Cert.Reference4Ideal.Value.run m' ρ')⟩

end Cert.Proof.Up

end
-- ==== Proof.LossMath.lean ====
/-
  Hand-written. The second feed-forward half-step with the loss head as plain arithmetic over the extended reals: a layer
  normalisation of a row, its gradient, and the identity between the two ways of writing that gradient, which needs its
  numbers to be real.
-/
module

public import proofs.«01_k».proof.Proof.FfnMath

@[expose] public section

noncomputable section

namespace Cert.Proof.Loss

open Idealize.ShloMosaic
open Cert.Proof.Ffn (IsReal logistic Tok Row UpW DownW gateCol upCol seqOf posOf gu)

/-- The constants: the row's length, its inverse, the added variance, one half, two, minus one half, half the inverse length. -/
abbrev cN : EReal := Ideal.ofBits .f32 0x44800000#32
abbrev cInv : EReal := Ideal.ofBits .f32 0x3A800000#32
abbrev cEps : EReal := Ideal.ofBits .f32 0x3727C5AC#32
abbrev cHalf : EReal := Ideal.ofBits .f32 0x3F000000#32
abbrev cTwo : EReal := Ideal.ofBits .f32 0x40000000#32
abbrev cNegHalf : EReal := Ideal.ofBits .f32 0xBF000000#32
abbrev cHalfInv : EReal := Ideal.ofBits .f32 0x3A000000#32
abbrev cAlpha : EReal := Ideal.ofBits .f32 0x3F9837F0#32

theorem cN_eq : cN = ((1024 : ℝ) : EReal) := by
  simp [Ideal.ofBits, Ideal.ieee, -EReal.coe_mul]; norm_num
theorem cInv_eq : cInv = ((1 / 1024 : ℝ) : EReal) := by
  simp [Ideal.ofBits, Ideal.ieee, -EReal.coe_mul]; norm_num
theorem cHalf_eq : cHalf = ((1 / 2 : ℝ) : EReal) := by
  simp [Ideal.ofBits, Ideal.ieee, -EReal.coe_mul]; norm_num
theorem cTwo_eq : cTwo = ((2 : ℝ) : EReal) := by
  simp [Ideal.ofBits, Ideal.ieee, -EReal.coe_mul]; norm_num
theorem cNegHalf_eq : cNegHalf = ((-(1 / 2) : ℝ) : EReal) := by
  simp [Ideal.ofBits, Ideal.ieee, -EReal.coe_mul]; norm_num
theorem cHalfInv_eq : cHalfInv = ((1 / 2048 : ℝ) : EReal) := by
  simp [Ideal.ofBits, Ideal.ieee, -EReal.coe_mul]; norm_num
theorem cEps_pos : ∃ e : ℝ, 0 < e ∧ cEps = (e : EReal) := by
  refine ⟨(10995116 : ℝ) / 2 ^ 40, by positivity, ?_⟩
  simp [Ideal.ofBits, Ideal.ieee, -EReal.coe_mul]; norm_num
theorem cAlpha_real : IsReal cAlpha := by
  refine ⟨(9975792 : ℝ) / 2 ^ 23, ?_⟩
  simp [Ideal.ofBits, Ideal.ieee, -EReal.coe_mul]; norm_num

section Row
variable (R G B T : Fin 1024 → EReal)

/-- A row's mean. -/
def mean (f : Fin 1024 → EReal) : EReal := Ideal.div (∑ d, f d) cN
/-- A row less its mean. -/
def ctr (d : Fin 1024) : EReal := R d - mean R
/-- The row's variance with what is added to it. -/
def var : EReal := mean (fun d => ctr R d * ctr R d) + cEps
/-- The row's scale. -/
def rstd : EReal := Ideal.rsqrt (var R)
/-- The normalised row. -/
def nrm (d : Fin 1024) : EReal := ctr R d * rstd R
/-- The layer's output less the target. -/
def err (d : Fin 1024) : EReal := nrm R d * G d + B d - T d
/-- The loss's gradient at the layer's output. -/
def dOut (d : Fin 1024) : EReal := err R G B T d * cInv
/-- The loss's gradient at the normalised row. -/
def dNrm (d : Fin 1024) : EReal := dOut R G B T d * G d
/-- The loss's gradient at the row. -/
def dRow (d : Fin 1024) : EReal :=
  rstd R * (dNrm R G B T d - mean (dNrm R G B T) - nrm R d * mean (fun k => dNrm R G B T k * nrm R k))

end Row

/-- A hidden unit's activation, of its gate and its up value. -/
def actOf (g u : EReal) : EReal := g * logistic g * u

/-- The layer normalisation's gain or bias. -/
abbrev LnRow := (⟨2, ![1, 1024]⟩ : Shape).Idx → EReal
/-- The column of the gate and up weight of a part and a hidden unit. -/
def colOf (k : Fin 2) (j : Fin 2816) : Fin 5632 := ⟨k.val * 2816 + j.val, by omega⟩
/-- Of eight blocks of 512 tokens: a block's sequence, a row's place in it, and its place among all tokens. -/
def sOf (t : Fin 8) : Fin 2 := ⟨t.val / 4, by omega⟩
def pOf (t : Fin 8) (r : Fin 512) : Fin 2048 := ⟨t.val % 4 * 512 + r.val, by omega⟩
def tOf (t : Fin 8) (r : Fin 512) : Fin 4096 := ⟨t.val * 512 + r.val, by omega⟩
theorem seqOf_tOf (t : Fin 8) (r : Fin 512) : seqOf (tOf t r) = sOf t :=
  Fin.ext (by show (t.val * 512 + r.val) / 2048 = t.val / 4; omega)
theorem posOf_tOf (t : Fin 8) (r : Fin 512) : posOf (tOf t r) = pOf t r :=
  Fin.ext (by show (t.val * 512 + r.val) % 2048 = t.val % 4 * 512 + r.val; omega)

/-- A sum over a sequence taken in four blocks. -/
theorem sum_quarters {M : Type} [AddCommMonoid M] (f : Fin 2048 → M) :
    ∑ r, f r = ∑ r : Fin 512, f ⟨0 * 512 + r.val, by omega⟩ + ∑ r : Fin 512, f ⟨1 * 512 + r.val, by omega⟩
      + ∑ r : Fin 512, f ⟨2 * 512 + r.val, by omega⟩ + ∑ r : Fin 512, f ⟨3 * 512 + r.val, by omega⟩ := by
  have h := Fin.sum_univ_add (a := 1536) (b := 512) f
  have h' := Fin.sum_univ_add (a := 1024) (b := 512) fun j : Fin 1536 => f (Fin.castAdd 512 j)
  have h'' := Fin.sum_univ_add (a := 512) (b := 512) fun j : Fin 1024 => f (Fin.castAdd 512 (Fin.castAdd 512 j))
  rw [h, h', h'']
  refine congrArg₂ _ (congrArg₂ _ (congrArg₂ _ ?_ rfl) rfl) rfl
  exact Finset.sum_congr rfl fun r _ => congrArg f (Fin.ext (by show r.val = 0 * 512 + r.val; omega))

/-- A sum over both sequences taken in eight blocks. -/
theorem sum_blocks {M : Type} [AddCommMonoid M] (f : Fin 2 → Fin 2048 → M) :
    ∑ s, ∑ r, f s r = ∑ t : Fin 8, ∑ r : Fin 512, f (sOf t) (pOf t r) := by
  rw [Fin.sum_univ_two, sum_quarters, sum_quarters, Fin.sum_univ_eight]
  simp only [← add_assoc]
  rfl

/-- Eight running sums: the last is the sum of what each point adds. -/
theorem run_eight (v p : (n : Nat) → n < 8 → EReal) (h0 : v 0 (by omega) = 0 + p 0 (by omega))
    (h : ∀ n (hn : n + 1 < 8), v (n + 1) hn = v n (by omega) + p (n + 1) hn) :
    v 7 (by omega) = ∑ t : Fin 8, p t.val t.isLt := by
  rw [Fin.sum_univ_eight, h 6 (by omega), h 5 (by omega), h 4 (by omega), h 3 (by omega), h 2 (by omega), h 1 (by omega),
    h 0 (by omega), h0, zero_add]
  rfl

section Arrays
variable (x : Tok) (sh sc gt : Row) (W : UpW) (D : DownW) (lg lb : LnRow) (tg : Tok)

/-- The modulated input. -/
def hid (s : Fin 2) (r : Fin 2048) (d : Fin 1024) : EReal := x (ix3 s r d) * (1 + sc (ix3 s 0 d)) + sh (ix3 s 0 d)
/-- The activations. -/
def act (s : Fin 2) (r : Fin 2048) (j : Fin 2816) : EReal :=
  actOf (gu x sh sc W s r (colOf 0 j)) (gu x sh sc W s r (colOf 1 j))
/-- The half-step's product with the down weight. -/
def ff (s : Fin 2) (r : Fin 2048) (d : Fin 1024) : EReal := ∑ j : Fin 2816, act x sh sc W s r j * D (ix2 j d)
/-- The residual sum. -/
def res (s : Fin 2) (r : Fin 2048) (d : Fin 1024) : EReal :=
  cAlpha * x (ix3 s r d) + cHalf * (1 + gt (ix3 s 0 d)) * ff x sh sc W D s r d
/-- The output less the target. -/
def errT (s : Fin 2) (r : Fin 2048) (d : Fin 1024) : EReal :=
  err (res x sh sc gt W D s r) (fun k => lg (ix2 0 k)) (fun k => lb (ix2 0 k)) (fun k => tg (ix3 s r k)) d
/-- The gradient at the residual sum. -/
def dRes (s : Fin 2) (r : Fin 2048) (d : Fin 1024) : EReal :=
  dRow (res x sh sc gt W D s r) (fun k => lg (ix2 0 k)) (fun k => lb (ix2 0 k)) (fun k => tg (ix3 s r k)) d
/-- The gradient at the half-step. -/
def dFf (s : Fin 2) (r : Fin 2048) (d : Fin 1024) : EReal :=
  cHalf * (1 + gt (ix3 s 0 d)) * dRes x sh sc gt W D lg lb tg s r d
/-- The loss: the blocks' sums of squares, each scaled. -/
def loss : EReal := ∑ t : Fin 8, cHalfInv * ∑ r : Fin 512, ∑ d : Fin 1024,
  errT x sh sc gt W D lg lb tg (sOf t) (pOf t r) d * errT x sh sc gt W D lg lb tg (sOf t) (pOf t r) d
/-- A token's term of the gradient at the gain (first row) and the bias (second row). -/
def lnTerm (k : Fin 2) (d : Fin 1024) (s : Fin 2) (r : Fin 2048) : EReal :=
  if k.val = 0 then errT x sh sc gt W D lg lb tg s r d * cInv * nrm (res x sh sc gt W D s r) d
  else errT x sh sc gt W D lg lb tg s r d * cInv
/-- The gradient at the gain and the bias. -/
def dLn (k : Fin 2) (d : Fin 1024) : EReal := ∑ s, ∑ r, lnTerm x sh sc gt W D lg lb tg k d s r
/-- The gradient at a sequence's gate. -/
def dGt (s : Fin 2) (d : Fin 1024) : EReal :=
  ∑ r : Fin 2048, dRes x sh sc gt W D lg lb tg s r d * (cHalf * ff x sh sc W D s r d)

end Arrays

end Cert.Proof.Loss

end
-- ==== Proof.LossKernel.lean ====
/-
  Hand-written. The values that the second feed-forward half-step's kernel with the loss head computes, read at an index.
-/
module

public import proofs.«01_k».proof.Proof.Gen.Kernel5Ideal.Value
public import proofs.«01_k».proof.Proof.LossMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles
@[expose] public section
set_option maxRecDepth 16384
noncomputable section
namespace Cert.Proof.Loss
open Idealize.ShloMosaic Idealize.SL.Sem Cert.Kernel5Ideal Cert.Kernel5Ideal.Gen Idealize.ShloMosaic.TcCoe
open Idealize.ShloMosaic.Pipeline (Dat Cfg Window)
open Cert.Proof.Ffn (IsReal logistic Tok Row UpW DownW gateCol upCol seqOf posOf gu)

section Payloads

theorem pay2_at (X : Vec Ideal S512x1024 .f32) (r : Fin 512) (d : Fin 1024) : k0_pay2 (F := Ideal) X (ix2 r d) = X (ix2 r d) := by
  pointwise [k0_pay2]
/-- The modulated input. -/
theorem pay3_at (X : Vec Ideal S512x1024 .f32) (Sc Sh : Vec Ideal S1x1x1024 .f32) (r : Fin 512) (d : Fin 1024) :
    k0_pay3 (F := Ideal) X Sc Sh (ix2 r d) = X (ix2 r d) * (1 + Sc (ix3 0 0 d)) + Sh (ix3 0 0 d) := by
  pointwise [k0_pay3, k0_pay2]
theorem pay4_at (r : Fin 512) (l : Fin 1024) : k0_pay4 (F := Ideal) (ix2 r l) = 0 := by
  pointwise [k0_pay4]
/-- The gate and up products of a chunk, as computed and as stored. -/
theorem pay5_at (X : Vec Ideal S512x1024 .f32) (Sc Sh : Vec Ideal S1x1x1024 .f32) (W : Vec Ideal S1x1024x1024 .bf16)
    (r : Fin 512) (j : Fin 1024) :
    k0_pay5 (F := Ideal) X Sc Sh W (ix2 r j) = ∑ d : Fin 1024, k0_pay3 X Sc Sh (ix2 r d) * W (ix3 0 j d) := by
  pointwise [k0_pay5]
theorem pay6_at (X : Vec Ideal S512x1024 .f32) (Sc Sh : Vec Ideal S1x1x1024 .f32) (W : Vec Ideal S1x1024x1024 .bf16)
    (r : Fin 512) (j : Fin 1024) :
    k0_pay6 (F := Ideal) X Sc Sh W (ix2 r j) = ∑ d : Fin 1024, k0_pay3 X Sc Sh (ix2 r d) * W (ix3 0 j d) := by
  pointwise [k0_pay6]
theorem pay7_at (X Sc Sh W) (r : Fin 512) (j : Fin 1024) :
    k0_pay7 (F := Ideal) X Sc Sh W (ix3 0 r j) = k0_pay5 X Sc Sh W (ix2 r j) := by
  pointwise [k0_pay7]
theorem pay8_at (X Sc Sh W) (r : Fin 512) (j : Fin 1024) :
    k0_pay8 (F := Ideal) X Sc Sh W (ix3 0 r j) = k0_pay6 X Sc Sh W (ix2 r j) := by
  pointwise [k0_pay8]
theorem pay11_at (h : FVec Ideal S512x1024 .bf16) (W : Vec Ideal S1x1024x1024 .bf16) (r : Fin 512) (j : Fin 1024) :
    k0_pay11 (F := Ideal) h W (ix2 r j) = ∑ d : Fin 1024, h (ix2 r d) * W (ix3 0 j d) := by
  pointwise [k0_pay11]
theorem pay12_at (h : FVec Ideal S512x1024 .bf16) (W : Vec Ideal S1x1024x1024 .bf16) (r : Fin 512) (j : Fin 1024) :
    k0_pay12 (F := Ideal) h W (ix2 r j) = ∑ d : Fin 1024, h (ix2 r d) * W (ix3 0 j d) := by
  pointwise [k0_pay12]
theorem pay13_at (h W) (r : Fin 512) (j : Fin 1024) : k0_pay13 (F := Ideal) h W (ix3 0 r j) = k0_pay11 h W (ix2 r j) := by
  pointwise [k0_pay13]
theorem pay14_at (h W) (r : Fin 512) (j : Fin 1024) : k0_pay14 (F := Ideal) h W (ix3 0 r j) = k0_pay12 h W (ix2 r j) := by
  pointwise [k0_pay14]
theorem pay18_at (h : FVec Ideal S512x1024 .bf16) (W : Vec Ideal S1x768x1024 .bf16) (r : Fin 512) (j : Fin 768) :
    k0_pay18 (F := Ideal) h W (ix2 r j) = ∑ d : Fin 1024, h (ix2 r d) * W (ix3 0 j d) := by
  pointwise [k0_pay18]
theorem pay19_at (h : FVec Ideal S512x1024 .bf16) (W : Vec Ideal S1x768x1024 .bf16) (r : Fin 512) (j : Fin 768) :
    k0_pay19 (F := Ideal) h W (ix2 r j) = ∑ d : Fin 1024, h (ix2 r d) * W (ix3 0 j d) := by
  pointwise [k0_pay19]
theorem pay20_at (h W) (r : Fin 512) (j : Fin 768) : k0_pay20 (F := Ideal) h W (ix3 0 r j) = k0_pay18 h W (ix2 r j) := by
  pointwise [k0_pay20]
theorem pay21_at (h W) (r : Fin 512) (j : Fin 768) : k0_pay21 (F := Ideal) h W (ix3 0 r j) = k0_pay19 h W (ix2 r j) := by
  pointwise [k0_pay21]
/-- The activation of a chunk. -/
theorem pay9_at (g u : FVec Ideal S512x1024 .f32) (r : Fin 512) (j : Fin 1024) :
    k0_pay9 (F := Ideal) g u (FloatOps.ofBits FTy.f32 0#32) (ix2 r j) = actOf (g (ix2 r j)) (u (ix2 r j)) := by
  pointwise [k0_pay9]
  simp only [zero_sub]; rfl
theorem pay16_at (u : FVec Ideal S512x1024 .f32) (h : FVec Ideal S512x1024 .bf16) (W : Vec Ideal S1x1024x1024 .bf16)
    (r : Fin 512) (j : Fin 1024) :
    k0_pay16 (F := Ideal) u (k0_pay15 h W) (ix2 r j) = actOf (k0_pay11 h W (ix2 r j)) (u (ix2 r j)) := by
  pointwise [k0_pay16, k0_pay15]
  simp only [zero_sub]; rfl
theorem pay22_at (h : FVec Ideal S512x1024 .bf16) (W V : Vec Ideal S1x768x1024 .bf16) (r : Fin 512) (j : Fin 768) :
    k0_pay22 (F := Ideal) h W V (ix2 r j) = actOf (k0_pay18 h W (ix2 r j)) (k0_pay19 h V (ix2 r j)) := by
  pointwise [k0_pay22]
  simp only [zero_sub]; rfl
/-- A chunk's share of the product with the down weight. -/
theorem pay10_at (a : FVec Ideal S512x1024 .f32) (g u c) (D : Vec Ideal S1024x1024 .bf16) (r : Fin 512) (d : Fin 1024) :
    k0_pay10 (F := Ideal) a g u c D (ix2 r d) = a (ix2 r d) + ∑ j : Fin 1024, k0_pay9 g u c (ix2 r j) * D (ix2 j d) := by
  pointwise [k0_pay10]
theorem pay17_at (a : FVec Ideal S512x1024 .f32) (u s) (D : Vec Ideal S1024x1024 .bf16) (r : Fin 512) (d : Fin 1024) :
    k0_pay17 (F := Ideal) a u s D (ix2 r d) = a (ix2 r d) + ∑ j : Fin 1024, k0_pay16 u s (ix2 r j) * D (ix2 j d) := by
  pointwise [k0_pay17]
theorem pay23_at (a : FVec Ideal S512x1024 .f32) (s) (D : Vec Ideal S768x1024 .bf16) (r : Fin 512) (d : Fin 1024) :
    k0_pay23 (F := Ideal) a s D (ix2 r d) = a (ix2 r d) + ∑ j : Fin 768, s (ix2 r j) * D (ix2 j d) := by
  pointwise [k0_pay23]

section Norm
variable (x acc : FVec Ideal S512x1024 .f32) (a : FVec Ideal S512x768 .bf16) (D : Vec Ideal S768x1024 .bf16)
  (gt : Vec Ideal S1x1x1024 .f32)

/-- A row of the residual sum. -/
def resRow (r : Fin 512) (d : Fin 1024) : EReal :=
  cAlpha * x (ix2 r d) + cHalf * (1 + gt (ix3 0 0 d)) * k0_pay23 (F := Ideal) acc a D (ix2 r d)
theorem pay25_at (r : Fin 512) (d : Fin 1024) : k0_pay25 (F := Ideal) x acc a D gt (ix2 r d) = ctr (resRow x acc a D gt r) d := by
  pointwise [k0_pay25, k0_pay24]
  rfl
theorem pay26_at (r : Fin 512) : k0_pay26 (F := Ideal) x acc a D gt (ix2 r 0) = rstd (resRow x acc a D gt r) := by
  pointwise [k0_pay26]
  simp only [pay25_at]
  rfl
theorem pay27_at (r : Fin 512) (d : Fin 1024) : k0_pay27 (F := Ideal) x acc a D gt (ix2 r d) = nrm (resRow x acc a D gt r) d := by
  pointwise [k0_pay27]
  rw [pay25_at, pay26_at]
  rfl
variable (lg lb : Vec Ideal S1x1024 .f32) (t : Vec Ideal S512x1024 .f32)
theorem pay28_at (r : Fin 512) (d : Fin 1024) : k0_pay28 (F := Ideal) x acc a D gt lg lb t (ix2 r d)
    = err (resRow x acc a D gt r) (fun k => lg (ix2 0 k)) (fun k => lb (ix2 0 k)) (fun k => t (ix2 r k)) d := by
  pointwise [k0_pay28]
  rw [pay27_at]
  rfl
/-- The gradient at the residual sum. -/
theorem pay31_at (r : Fin 512) (d : Fin 1024) :
    k0_pay31 (F := Ideal) (k0_pay26 x acc a D gt) (k0_pay27 x acc a D gt) (k0_pay28 x acc a D gt lg lb t) k0_pay29 lg (ix2 r d)
    = dRow (resRow x acc a D gt r) (fun k => lg (ix2 0 k)) (fun k => lb (ix2 0 k)) (fun k => t (ix2 r k)) d := by
  pointwise [k0_pay31, k0_pay30, k0_pay29]
  simp only [pay26_at, pay27_at, pay28_at]
  rfl
theorem pay34_at (g : Vec Ideal S1x1x1024 .f32) (a b c e f) (r : Fin 512) (d : Fin 1024) :
    k0_pay34 (F := Ideal) (k0_pay24 g) a b c e f (ix2 r d) = cHalf * (1 + g (ix3 0 0 d)) * k0_pay31 a b c e f (ix2 r d) := by
  pointwise [k0_pay34, k0_pay24]
theorem pay32_at (a b c) (d : Fin 1024) : k0_pay32 (F := Ideal) a b c (ix2 0 d) = ∑ r : Fin 512, b (ix2 r d) * c (ix2 r d) * a (ix2 r d) := by
  pointwise [k0_pay32, k0_pay30]
theorem pay33_at (b c) (d : Fin 1024) : k0_pay33 (F := Ideal) b c (ix2 0 d) = ∑ r : Fin 512, b (ix2 r d) * c (ix2 r d) := by
  pointwise [k0_pay33, k0_pay30]
theorem pay29_at (r : Fin 512) (d : Fin 1024) : k0_pay29 (F := Ideal) (ix2 r d) = cInv := by
  pointwise [k0_pay29]
theorem pay35_at (l : Fin 128) : k0_pay35 (F := Ideal) (ix2 0 l) = 0 := by
  pointwise [k0_pay35]
theorem pay36_at (k : Fin 2) (d : Fin 1024) : k0_pay36 (F := Ideal) (ix2 k d) = 0 := by
  pointwise [k0_pay36]
theorem pay37_at (d : Fin 1024) : k0_pay37 (F := Ideal) (ix3 0 0 d) = 0 := by
  pointwise [k0_pay37]
/-- The running loss. -/
theorem pay38_at (e : FVec Ideal S512x1024 .f32) (p : Vec Ideal S1x128 .f32) (l : Fin 128) :
    k0_pay38 (F := Ideal) e p (ix2 0 l)
      = p (ix2 0 l) + cHalfInv * ∑ r : Fin 512, ∑ d : Fin 1024, e (ix2 r d) * e (ix2 r d) := by
  pointwise [k0_pay38]
theorem pay39_at (s p) (d : Fin 1024) : k0_pay39 (F := Ideal) s p (ix2 0 d) = p (ix2 0 d) + s (ix2 0 d) := by
  pointwise [k0_pay39]
theorem pay40_at (s p) (d : Fin 1024) : k0_pay40 (F := Ideal) s p (ix2 0 d) = p (ix2 0 d) + s (ix2 0 d) := by
  pointwise [k0_pay40]
theorem pay1_at (p : Vec Ideal S1x1x1024 .f32) (f e) (d : Fin 1024) :
    k0_pay1 (F := Ideal) (k0_pay41 p) (k0_pay42 f e) (ix3 0 0 d)
      = p (ix3 0 0 d) + ∑ r : Fin 512, e (ix2 r d) * (cHalf * f (ix2 r d)) := by
  pointwise [k0_pay1, k0_pay41, k0_pay42]

end Norm
end Payloads

section Loads

/-- A load of part of the down weight. -/
theorem ldD (D : Vec Ideal S2816x1024 .bf16) (o n : Nat) (ho : o + n ≤ 2816) (inb) (j : Fin n) (d : Fin 1024) :
    View.ld D (Rect.unit (s := S2816x1024) ![o, 0] ![n, 1024] inb) (ix2 j d) = D (ix2 ⟨o + j.val, by omega⟩ d) :=
  View.ld_unit_apply_of _ _ _ _ _ _ fun a => match a with
    | ⟨0, _⟩ => rfl
    | ⟨1, _⟩ => by show d.val = 0 + d.val; omega
/-- A load of part of the gate and up weight. -/
theorem ldW (W : Vec Ideal S2x2816x1024 .bf16) (p o n : Nat) (hp : p < 2) (ho : o + n ≤ 2816) (inb) (j : Fin n) (d : Fin 1024) :
    View.ld W (Rect.unit (s := S2x2816x1024) ![p, o, 0] ![1, n, 1024] inb) (ix3 0 j d) = W (ix3 ⟨p, hp⟩ ⟨o + j.val, by omega⟩ d) :=
  View.ld_unit_apply_of _ _ _ _ _ _ fun a => match a with
    | ⟨0, _⟩ => rfl
    | ⟨1, _⟩ => rfl
    | ⟨2, _⟩ => by show d.val = 0 + d.val; omega
/-- A load of one row of the running sums. -/
theorem ldM (M : Vec Ideal S2x1024 .f32) (k : Nat) (hk : k < 2) (inb) (d : Fin 1024) :
    View.ld M (Rect.unit (s := S2x1024) ![k, 0] ![1, 1024] inb) (ix2 0 d) = M (ix2 ⟨k, hk⟩ d) :=
  View.ld_unit_apply_of _ _ _ _ _ _ fun a => match a with
    | ⟨0, _⟩ => rfl
    | ⟨1, _⟩ => by show d.val = 0 + d.val; omega

end Loads

section Blocks

variable (X : Vec Ideal S512x1024 .f32) (Sh Sc Gt : Vec Ideal S1x1x1024 .f32) (W : Vec Ideal S2x2816x1024 .bf16)
  (D : Vec Ideal S2816x1024 .bf16) (G B : Vec Ideal S1x1024 .f32) (T : Vec Ideal S512x1024 .f32)

/-- A block's gate (first part) and up (second part) products. -/
def bGu (k : Fin 2) (r : Fin 512) (j : Fin 2816) : EReal :=
  ∑ d : Fin 1024, (X (ix2 r d) * (1 + Sc (ix3 0 0 d)) + Sh (ix3 0 0 d)) * W (ix3 k j d)
/-- A block's activations. -/
def bAct (r : Fin 512) (j : Fin 2816) : EReal := actOf (bGu X Sh Sc W 0 r j) (bGu X Sh Sc W 1 r j)
/-- A block's product with the down weight. -/
def bFf (r : Fin 512) (d : Fin 1024) : EReal := ∑ j : Fin 2816, bAct X Sh Sc W r j * D (ix2 j d)
/-- A block's residual sum. -/
def bRes (r : Fin 512) (d : Fin 1024) : EReal :=
  cAlpha * X (ix2 r d) + cHalf * (1 + Gt (ix3 0 0 d)) * bFf X Sh Sc W D r d

/-- The loaded chunks of the weights. -/
abbrev w00 : Vec Ideal S1x1024x1024 .bf16 := View.ld W (Rect.unit ![0, 0, 0] ![1, 1024, 1024] inb_S2x2816x1024_S1x1024x1024_0_0_0)
abbrev w10 : Vec Ideal S1x1024x1024 .bf16 := View.ld W (Rect.unit ![1, 0, 0] ![1, 1024, 1024] inb_S2x2816x1024_S1x1024x1024_1_0_0)
abbrev w01 : Vec Ideal S1x1024x1024 .bf16 := View.ld W (Rect.unit ![0, 1024, 0] ![1, 1024, 1024] inb_S2x2816x1024_S1x1024x1024_0_1024_0)
abbrev w11 : Vec Ideal S1x1024x1024 .bf16 := View.ld W (Rect.unit ![1, 1024, 0] ![1, 1024, 1024] inb_S2x2816x1024_S1x1024x1024_1_1024_0)
abbrev w02 : Vec Ideal S1x768x1024 .bf16 := View.ld W (Rect.unit ![0, 2048, 0] ![1, 768, 1024] inb_S2x2816x1024_S1x768x1024_0_2048_0)
abbrev w12 : Vec Ideal S1x768x1024 .bf16 := View.ld W (Rect.unit ![1, 2048, 0] ![1, 768, 1024] inb_S2x2816x1024_S1x768x1024_1_2048_0)
abbrev d0 : Vec Ideal S1024x1024 .bf16 := View.ld D (Rect.unit ![0, 0] ![1024, 1024] inb_S2816x1024_S1024x1024_0_0)
abbrev d1 : Vec Ideal S1024x1024 .bf16 := View.ld D (Rect.unit ![1024, 0] ![1024, 1024] inb_S2816x1024_S1024x1024_1024_0)
abbrev d2 : Vec Ideal S768x1024 .bf16 := View.ld D (Rect.unit ![2048, 0] ![768, 1024] inb_S2816x1024_S768x1024_2048_0)

/-- The product with the down weight over the first two chunks, and the last chunk's activations, as the body builds them. -/
abbrev accB : FVec Ideal S512x1024 .f32 :=
  k0_pay17
    (k0_pay10 k0_pay4 (k0_pay5 X Sc Sh (w00 W)) (k0_pay6 X Sc Sh (w10 W)) (FloatOps.ofBits FTy.f32 0#32) (d0 D))
    (k0_pay12 (k0_pay3 X Sc Sh) (w11 W)) (k0_pay15 (k0_pay3 X Sc Sh) (w01 W)) (d1 D)
abbrev lastB : FVec Ideal S512x768 .bf16 := k0_pay22 (k0_pay3 X Sc Sh) (w02 W) (w12 W)
/-- The row's scale, the normalised row, and the output less the target, as the body builds them. -/
abbrev rstdB : FVec Ideal S512x1 .f32 := k0_pay26 (k0_pay2 X) (accB X Sh Sc W D) (lastB X Sh Sc W) (d2 D) Gt
abbrev nrmB : FVec Ideal S512x1024 .f32 := k0_pay27 (k0_pay2 X) (accB X Sh Sc W D) (lastB X Sh Sc W) (d2 D) Gt
abbrev errB : FVec Ideal S512x1024 .f32 := k0_pay28 (k0_pay2 X) (accB X Sh Sc W D) (lastB X Sh Sc W) (d2 D) Gt G B T

theorem shift0 (l : Fin 1024) (h h') : (⟨0 + l.val, h'⟩ : Fin 2816) = ⟨l.val, h⟩ := Fin.ext (Nat.zero_add _)

/-- The chunks' gate and up products. -/
theorem gate0 (r : Fin 512) (l : Fin 1024) (h) : k0_pay5 (F := Ideal) X Sc Sh (w00 W) (ix2 r l) = bGu X Sh Sc W 0 r ⟨l.val, h⟩ := by
  rw [pay5_at]
  simp only [pay3_at, ldW W 0 0 1024 (by omega) (by omega), shift0 l h]
  rfl
theorem up0 (r : Fin 512) (l : Fin 1024) (h) : k0_pay6 (F := Ideal) X Sc Sh (w10 W) (ix2 r l) = bGu X Sh Sc W 1 r ⟨l.val, h⟩ := by
  rw [pay6_at]
  simp only [pay3_at, ldW W 1 0 1024 (by omega) (by omega), shift0 l h]
  rfl
theorem gate1 (r : Fin 512) (l : Fin 1024) (h) :
    k0_pay11 (F := Ideal) (k0_pay3 X Sc Sh) (w01 W) (ix2 r l) = bGu X Sh Sc W 0 r ⟨1024 + l.val, h⟩ := by
  rw [pay11_at]
  simp only [pay3_at, ldW W 0 1024 1024 (by omega) (by omega)]
  rfl
theorem up1 (r : Fin 512) (l : Fin 1024) (h) :
    k0_pay12 (F := Ideal) (k0_pay3 X Sc Sh) (w11 W) (ix2 r l) = bGu X Sh Sc W 1 r ⟨1024 + l.val, h⟩ := by
  rw [pay12_at]
  simp only [pay3_at, ldW W 1 1024 1024 (by omega) (by omega)]
  rfl
theorem gate2 (r : Fin 512) (l : Fin 768) (h) :
    k0_pay18 (F := Ideal) (k0_pay3 X Sc Sh) (w02 W) (ix2 r l) = bGu X Sh Sc W 0 r ⟨2048 + l.val, h⟩ := by
  rw [pay18_at]
  simp only [pay3_at, ldW W 0 2048 768 (by omega) (by omega)]
  rfl
theorem up2 (r : Fin 512) (l : Fin 768) (h) :
    k0_pay19 (F := Ideal) (k0_pay3 X Sc Sh) (w12 W) (ix2 r l) = bGu X Sh Sc W 1 r ⟨2048 + l.val, h⟩ := by
  rw [pay19_at]
  simp only [pay3_at, ldW W 1 2048 768 (by omega) (by omega)]
  rfl
/-- The chunks' activations. -/
theorem act0 (r : Fin 512) (l : Fin 1024) (h) :
    k0_pay9 (F := Ideal) (k0_pay5 X Sc Sh (w00 W)) (k0_pay6 X Sc Sh (w10 W)) (FloatOps.ofBits FTy.f32 0#32) (ix2 r l)
      = bAct X Sh Sc W r ⟨l.val, h⟩ := by
  rw [pay9_at, gate0 X Sh Sc W r l h, up0 X Sh Sc W r l h]; rfl
theorem act1 (r : Fin 512) (l : Fin 1024) (h) :
    k0_pay16 (F := Ideal) (k0_pay12 (k0_pay3 X Sc Sh) (w11 W)) (k0_pay15 (k0_pay3 X Sc Sh) (w01 W)) (ix2 r l)
      = bAct X Sh Sc W r ⟨1024 + l.val, h⟩ := by
  rw [pay16_at, gate1 X Sh Sc W r l h, up1 X Sh Sc W r l h]; rfl
theorem act2 (r : Fin 512) (l : Fin 768) (h) :
    k0_pay22 (F := Ideal) (k0_pay3 X Sc Sh) (w02 W) (w12 W) (ix2 r l) = bAct X Sh Sc W r ⟨2048 + l.val, h⟩ := by
  rw [pay22_at, gate2 X Sh Sc W r l h, up2 X Sh Sc W r l h]; rfl

/-- The body's product with the down weight is the plain one of the block. -/
theorem ffB_at (r : Fin 512) (d : Fin 1024) :
    k0_pay23 (F := Ideal) (accB X Sh Sc W D) (lastB X Sh Sc W) (d2 D) (ix2 r d) = bFf X Sh Sc W D r d := by
  unfold accB lastB bFf
  rw [pay23_at, pay17_at, pay10_at, pay4_at, zero_add, Ffn.sum_chunks]
  have h0 := fun l : Fin 1024 => act0 X Sh Sc W r l (by omega)
  have h1 := fun l : Fin 1024 => act1 X Sh Sc W r l (by omega)
  have h2 := fun l : Fin 768 => act2 X Sh Sc W r l (by omega)
  have e : ∀ (l : Fin 1024) h', (⟨0 + l.val, h'⟩ : Fin 2816) = ⟨l.val, by omega⟩ := fun _ _ => Fin.ext (Nat.zero_add _)
  simp only [h0, h1, h2, ldD D 0 1024 (by omega), ldD D 1024 1024 (by omega), ldD D 2048 768 (by omega), e]
theorem resB (r : Fin 512) : resRow (k0_pay2 X) (accB X Sh Sc W D) (lastB X Sh Sc W) (d2 D) Gt r = bRes X Sh Sc Gt W D r := by
  funext d
  unfold resRow
  rw [ffB_at, pay2_at]; rfl

/-- The three output blocks of products, stored in parts. -/
abbrev guParts : Vec Ideal S2x512x2816 .bf16 :=
  View.canon (Val := Elt Ideal)
      [⟨Rect.unit (s := S2x512x2816) ![1, 0, 2048] ![1, 512, 768] inb_S2x512x2816_S1x512x768_1_0_2048, k0_pay21 (F := Ideal) (k0_pay3 X Sc Sh) (w12 W)⟩,
        ⟨Rect.unit ![0, 0, 2048] ![1, 512, 768] inb_S2x512x2816_S1x512x768_0_0_2048, k0_pay20 (F := Ideal) (k0_pay3 X Sc Sh) (w02 W)⟩,
        ⟨Rect.unit ![1, 0, 1024] ![1, 512, 1024] inb_S2x512x2816_S1x512x1024_1_0_1024, k0_pay14 (F := Ideal) (k0_pay3 X Sc Sh) (w11 W)⟩,
        ⟨Rect.unit ![0, 0, 1024] ![1, 512, 1024] inb_S2x512x2816_S1x512x1024_0_0_1024, k0_pay13 (F := Ideal) (k0_pay3 X Sc Sh) (w01 W)⟩,
        ⟨Rect.unit ![1, 0, 0] ![1, 512, 1024] inb_S2x512x2816_S1x512x1024_1_0_0, k0_pay8 (F := Ideal) X Sc Sh (w10 W)⟩,
        ⟨Rect.unit ![0, 0, 0] ![1, 512, 1024] inb_S2x512x2816_S1x512x1024_0_0_0, k0_pay7 (F := Ideal) X Sc Sh (w00 W)⟩]
abbrev actParts : Vec Ideal S512x2816 .bf16 :=
  View.canon (Val := Elt Ideal)
      [⟨Rect.unit (s := S512x2816) ![0, 2048] ![512, 768] inb_S512x2816_S512x768_0_2048, k0_pay22 (F := Ideal) (k0_pay3 X Sc Sh) (w02 W) (w12 W)⟩,
        ⟨Rect.unit ![0, 1024] ![512, 1024] inb_S512x2816_S512x1024_0_1024,
          k0_pay16 (F := Ideal) (k0_pay12 (k0_pay3 X Sc Sh) (w11 W)) (k0_pay15 (k0_pay3 X Sc Sh) (w01 W))⟩,
        ⟨Rect.unit ![0, 0] ![512, 1024] inb_S512x2816_S512x1024_0_0,
          k0_pay9 (F := Ideal) (k0_pay5 X Sc Sh (w00 W)) (k0_pay6 X Sc Sh (w10 W)) (FloatOps.ofBits FTy.f32 0#32)⟩]

theorem guParts_at (k : Fin 2) (r : Fin 512) (j : Fin 2816) : guParts X Sh Sc W (ix3 k r j) = bGu X Sh Sc W k r j := by
  unfold guParts
  canon_tiles x h using (View.cover_of_tiledBy _ ![1, 512, 256] (by sl_kernel_rfl) _)
  · obtain ⟨z, a, l, rfl⟩ : ∃ (z : Fin 1) (a : Fin 512) (l : Fin 768), x = ix3 z a l := ⟨x 0, x 1, x 2, eq_ix3 x⟩
    obtain rfl : z = 0 := Subsingleton.elim _ _
    obtain rfl : k = 1 := Fin.ext h0
    obtain rfl : r = a := Fin.ext h1
    replace h2 : j.val = 2048 + l.val := h2
    rw [pay21_at]
    exact (up2 X Sh Sc W r l (by omega)).trans (congrArg (bGu X Sh Sc W 1 r) (Fin.ext h2.symm))
  · obtain ⟨z, a, l, rfl⟩ : ∃ (z : Fin 1) (a : Fin 512) (l : Fin 768), x = ix3 z a l := ⟨x 0, x 1, x 2, eq_ix3 x⟩
    obtain rfl : z = 0 := Subsingleton.elim _ _
    obtain rfl : k = 0 := Fin.ext h0
    obtain rfl : r = a := Fin.ext h1
    replace h2 : j.val = 2048 + l.val := h2
    rw [pay20_at]
    exact (gate2 X Sh Sc W r l (by omega)).trans (congrArg (bGu X Sh Sc W 0 r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    obtain rfl : k = 1 := Fin.ext h0
    obtain rfl : r = a := Fin.ext h1
    replace h2 : j.val = 1024 + l.val := h2
    rw [pay14_at]
    exact (up1 X Sh Sc W r l (by omega)).trans (congrArg (bGu X Sh Sc W 1 r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    obtain rfl : k = 0 := Fin.ext h0
    obtain rfl : r = a := Fin.ext h1
    replace h2 : j.val = 1024 + l.val := h2
    rw [pay13_at]
    exact (gate1 X Sh Sc W r l (by omega)).trans (congrArg (bGu X Sh Sc W 0 r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    obtain rfl : k = 1 := Fin.ext h0
    obtain rfl : r = a := Fin.ext h1
    replace h2 : j.val = l.val := h2
    rw [pay8_at]
    exact (up0 X Sh Sc W r l (by omega)).trans (congrArg (bGu X Sh Sc W 1 r) (Fin.ext h2.symm))
  · obtain ⟨z, a, l, rfl⟩ : ∃ (z : Fin 1) (a : Fin 512) (l : Fin 1024), x = ix3 z a l := ⟨x 0, x 1, x 2, eq_ix3 x⟩
    obtain rfl : z = 0 := Subsingleton.elim _ _
    obtain rfl : k = 0 := Fin.ext h0
    obtain rfl : r = a := Fin.ext h1
    replace h2 : j.val = l.val := h2
    rw [pay7_at]
    exact (gate0 X Sh Sc W r l (by omega)).trans (congrArg (bGu X Sh Sc W 0 r) (Fin.ext h2.symm))

theorem actParts_at (r : Fin 512) (j : Fin 2816) : actParts X Sh Sc W (ix2 r j) = bAct X Sh Sc W r j := by
  unfold actParts
  canon_tiles x h using (View.cover_of_tiledBy _ ![512, 256] (by sl_kernel_rfl) _)
  · obtain ⟨a, l, rfl⟩ : ∃ (a : Fin 512) (l : Fin 768), x = ix2 a l := ⟨x 0, x 1, eq_ix2 x⟩
    obtain rfl : r = a := Fin.ext h0
    replace h1 : j.val = 2048 + l.val := h1
    exact (act2 X Sh Sc W r l (by omega)).trans (congrArg (bAct X Sh Sc W r) (Fin.ext h1.symm))
  · obtain ⟨a, l, rfl⟩ : ∃ (a : Fin 512) (l : Fin 1024), x = ix2 a l := ⟨x 0, x 1, eq_ix2 x⟩
    obtain rfl : r = a := Fin.ext h0
    replace h1 : j.val = 1024 + l.val := h1
    exact (act1 X Sh Sc W r l (by omega)).trans (congrArg (bAct X Sh Sc W r) (Fin.ext h1.symm))
  · obtain ⟨a, l, rfl⟩ : ∃ (a : Fin 512) (l : Fin 1024), x = ix2 a l := ⟨x 0, x 1, eq_ix2 x⟩
    obtain rfl : r = a := Fin.ext h0
    replace h1 : j.val = l.val := h1
    exact (act0 X Sh Sc W r l (by omega)).trans (congrArg (bAct X Sh Sc W r) (Fin.ext h1.symm))

end Blocks

variable (m : (ℓ : Loc nD τ sig) → Buf (Elt Ideal) ℓ)

/-- The blocks of a point: its 512 tokens, and their sequence. -/
theorem idx0 : ∀ t : Fin cfg0.N, win0_0.index t = ![t.val, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val / 4, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![0, t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![t.val / 4, 0, 0] := (by decide +kernel : ∀ t : Fin grid0.N, _)

abbrev aX (c : Dev nD) : Tok := m ((c : Thread nD τ).loc main_arg0)
abbrev aSh (c : Dev nD) : Row := m ((c : Thread nD τ).loc main_arg1)
abbrev aSc (c : Dev nD) : Row := m ((c : Thread nD τ).loc main_arg2)
abbrev aGt (c : Dev nD) : Row := m ((c : Thread nD τ).loc main_arg3)
abbrev aW (c : Dev nD) : UpW := m ((c : Thread nD τ).loc main_arg4)
abbrev aD (c : Dev nD) : DownW := m ((c : Thread nD τ).loc main_arg5)
abbrev aLg (c : Dev nD) : LnRow := m ((c : Thread nD τ).loc main_arg6)
abbrev aLb (c : Dev nD) : LnRow := m ((c : Thread nD τ).loc main_arg7)
abbrev aTg (c : Dev nD) : Tok := m ((c : Thread nD τ).loc main_arg8)

theorem blk0 (c : Dev nD) (t : Fin cfg0.N) (r : Fin 512) (d : Fin 1024) :
    iblk m c 0 t (ix2 r d) = aX m c (ix3 (sOf t) (pOf t r) d) := by
  unfold sOf pOf; blk_ext! [iblk, V, idx0]
theorem blk1 (c : Dev nD) (t : Fin cfg0.N) (d : Fin 1024) : iblk m c 1 t (ix3 0 0 d) = aSh m c (ix3 (sOf t) 0 d) := by
  unfold sOf; blk_ext! [iblk, V, idx1]
theorem blk2 (c : Dev nD) (t : Fin cfg0.N) (d : Fin 1024) : iblk m c 2 t (ix3 0 0 d) = aSc m c (ix3 (sOf t) 0 d) := by
  unfold sOf; blk_ext! [iblk, V, idx2]
theorem blk3 (c : Dev nD) (t : Fin cfg0.N) (d : Fin 1024) : iblk m c 3 t (ix3 0 0 d) = aGt m c (ix3 (sOf t) 0 d) := by
  unfold sOf; blk_ext! [iblk, V, idx3]
theorem blk4 (c : Dev nD) (t : Fin cfg0.N) (k : Fin 2) (j : Fin 2816) (d : Fin 1024) :
    iblk m c 4 t (ix3 k j d) = aW m c (ix2 d (colOf k j)) := by
  unfold colOf; blk_ext! [iblk, V, idx4]
theorem blk5 (c : Dev nD) (t : Fin cfg0.N) (j : Fin 2816) (d : Fin 1024) :
    iblk m c 5 t (ix2 j d) = aD m c (ix2 j d) := by
  blk_ext! [iblk, V, idx5]
theorem blk6 (c : Dev nD) (t : Fin cfg0.N) (d : Fin 1024) : iblk m c 6 t (ix2 0 d) = aLg m c (ix2 0 d) := by
  blk_ext! [iblk, V, idx6]
theorem blk7 (c : Dev nD) (t : Fin cfg0.N) (d : Fin 1024) : iblk m c 7 t (ix2 0 d) = aLb m c (ix2 0 d) := by
  blk_ext! [iblk, V, idx7]
theorem blk8 (c : Dev nD) (t : Fin cfg0.N) (r : Fin 512) (d : Fin 1024) :
    iblk m c 8 t (ix2 r d) = aTg m c (ix3 (sOf t) (pOf t r) d) := by
  unfold sOf pOf; blk_ext! [iblk, V, idx8]

/-- A point's products and sums. -/
theorem bGu_blk (c : Dev nD) (t : Fin cfg0.N) (k : Fin 2) (r : Fin 512) (j : Fin 2816) :
    bGu (iblk m c 0 t) (iblk m c 1 t) (iblk m c 2 t) (iblk m c 4 t) k r j
      = gu (aX m c) (aSh m c) (aSc m c) (aW m c) (sOf t) (pOf t r) (colOf k j) := by
  unfold bGu gu
  simp only [blk0, blk1, blk2, blk4]
theorem bAct_blk (c : Dev nD) (t : Fin cfg0.N) (r : Fin 512) (j : Fin 2816) :
    bAct (iblk m c 0 t) (iblk m c 1 t) (iblk m c 2 t) (iblk m c 4 t) r j
      = act (aX m c) (aSh m c) (aSc m c) (aW m c) (sOf t) (pOf t r) j := by
  unfold bAct act
  simp only [bGu_blk]
theorem bFf_blk (c : Dev nD) (t : Fin cfg0.N) (r : Fin 512) (d : Fin 1024) :
    bFf (iblk m c 0 t) (iblk m c 1 t) (iblk m c 2 t) (iblk m c 4 t) (iblk m c 5 t) r d
      = ff (aX m c) (aSh m c) (aSc m c) (aW m c) (aD m c) (sOf t) (pOf t r) d := by
  unfold bFf ff
  simp only [bAct_blk, blk5]
theorem bRes_blk (c : Dev nD) (t : Fin cfg0.N) (r : Fin 512) :
    bRes (iblk m c 0 t) (iblk m c 1 t) (iblk m c 2 t) (iblk m c 3 t) (iblk m c 4 t) (iblk m c 5 t) r
      = res (aX m c) (aSh m c) (aSc m c) (aGt m c) (aW m c) (aD m c) (sOf t) (pOf t r) := by
  funext d
  unfold bRes res
  simp only [bFf_blk, blk0, blk3]

/-- A point's row scale, normalised rows, output less target, and gradient at the residual sum. -/
abbrev rstdP (c : Dev nD) (t : Fin cfg0.N) : FVec Ideal S512x1 .f32 :=
  rstdB (iblk m c 0 t) (iblk m c 1 t) (iblk m c 2 t) (iblk m c 3 t) (iblk m c 4 t) (iblk m c 5 t)
abbrev nrmP (c : Dev nD) (t : Fin cfg0.N) : FVec Ideal S512x1024 .f32 :=
  nrmB (iblk m c 0 t) (iblk m c 1 t) (iblk m c 2 t) (iblk m c 3 t) (iblk m c 4 t) (iblk m c 5 t)
abbrev errP (c : Dev nD) (t : Fin cfg0.N) : FVec Ideal S512x1024 .f32 :=
  errB (iblk m c 0 t) (iblk m c 1 t) (iblk m c 2 t) (iblk m c 3 t) (iblk m c 4 t) (iblk m c 5 t) (iblk m c 6 t) (iblk m c 7 t)
    (iblk m c 8 t)
abbrev drP (c : Dev nD) (t : Fin cfg0.N) : FVec Ideal S512x1024 .f32 :=
  k0_pay31 (rstdP m c t) (nrmP m c t) (errP m c t) k0_pay29 (iblk m c 6 t)
abbrev ffP (c : Dev nD) (t : Fin cfg0.N) : FVec Ideal S512x1024 .f32 :=
  k0_pay23 (accB (iblk m c 0 t) (iblk m c 1 t) (iblk m c 2 t) (iblk m c 4 t) (iblk m c 5 t))
    (lastB (iblk m c 0 t) (iblk m c 1 t) (iblk m c 2 t) (iblk m c 4 t)) (d2 (iblk m c 5 t))

theorem ffP_at (c : Dev nD) (t : Fin cfg0.N) (r : Fin 512) (d : Fin 1024) :
    ffP m c t (ix2 r d) = ff (aX m c) (aSh m c) (aSc m c) (aW m c) (aD m c) (sOf t) (pOf t r) d :=
  (ffB_at _ _ _ _ _ r d).trans (bFf_blk m c t r d)
theorem nrmP_at (c : Dev nD) (t : Fin cfg0.N) (r : Fin 512) (d : Fin 1024) :
    nrmP m c t (ix2 r d) = nrm (res (aX m c) (aSh m c) (aSc m c) (aGt m c) (aW m c) (aD m c) (sOf t) (pOf t r)) d := by
  unfold nrmP nrmB
  rw [pay27_at, resB, bRes_blk]
theorem errP_at (c : Dev nD) (t : Fin cfg0.N) (r : Fin 512) (d : Fin 1024) :
    errP m c t (ix2 r d) = errT (aX m c) (aSh m c) (aSc m c) (aGt m c) (aW m c) (aD m c) (aLg m c) (aLb m c) (aTg m c) (sOf t) (pOf t r) d := by
  unfold errP errB errT
  rw [pay28_at, resB, bRes_blk]
  simp only [blk6, blk7, blk8]
theorem drP_at (c : Dev nD) (t : Fin cfg0.N) (r : Fin 512) (d : Fin 1024) :
    drP m c t (ix2 r d) = dRes (aX m c) (aSh m c) (aSc m c) (aGt m c) (aW m c) (aD m c) (aLg m c) (aLb m c) (aTg m c) (sOf t) (pOf t r) d := by
  unfold drP rstdP nrmP errP rstdB nrmB errB dRes
  rw [pay31_at, resB, bRes_blk]
  simp only [blk6, blk7, blk8]

/-- What every point leaves in the outputs of its own blocks. -/
theorem outs9 (c : Dev nD) (t : Fin cfg0.N) : (outsAt0 m c t.val t.isLt).1 = drP m c t := by
  by_cases h1 : t.val % 4 = 0
  · by_cases h0 : t.val % 8 = 0
    · rw [outsAt0_A m c t h0 h1]; frame_out
    · rw [outsAt0_C m c t h0 h1]; frame_out
  · rw [outsAt0_B m c t (by omega) h1]; frame_out
theorem outs10 (c : Dev nD) (t : Fin cfg0.N) : (outsAt0 m c t.val t.isLt).2.1
    = k0_pay34 (k0_pay24 (iblk m c 3 t)) (rstdP m c t) (nrmP m c t) (errP m c t) k0_pay29 (iblk m c 6 t) := by
  by_cases h1 : t.val % 4 = 0
  · by_cases h0 : t.val % 8 = 0
    · rw [outsAt0_A m c t h0 h1]; frame_out
    · rw [outsAt0_C m c t h0 h1]; frame_out
  · rw [outsAt0_B m c t (by omega) h1]; frame_out
theorem outs11 (c : Dev nD) (t : Fin cfg0.N) : (outsAt0 m c t.val t.isLt).2.2.1
    = guParts (iblk m c 0 t) (iblk m c 1 t) (iblk m c 2 t) (iblk m c 4 t) := by
  by_cases h1 : t.val % 4 = 0
  · by_cases h0 : t.val % 8 = 0
    · rw [outsAt0_A m c t h0 h1]; frame_out
    · rw [outsAt0_C m c t h0 h1]; frame_out
  · rw [outsAt0_B m c t (by omega) h1]; frame_out
theorem outs12 (c : Dev nD) (t : Fin cfg0.N) : (outsAt0 m c t.val t.isLt).2.2.2.1
    = actParts (iblk m c 0 t) (iblk m c 1 t) (iblk m c 2 t) (iblk m c 4 t) := by
  by_cases h1 : t.val % 4 = 0
  · by_cases h0 : t.val % 8 = 0
    · rw [outsAt0_A m c t h0 h1]; frame_out
    · rw [outsAt0_C m c t h0 h1]; frame_out
  · rw [outsAt0_B m c t (by omega) h1]; frame_out
theorem outs13 (c : Dev nD) (t : Fin cfg0.N) : (outsAt0 m c t.val t.isLt).2.2.2.2.1
    = k0_pay3 (iblk m c 0 t) (iblk m c 2 t) (iblk m c 1 t) := by
  by_cases h1 : t.val % 4 = 0
  · by_cases h0 : t.val % 8 = 0
    · rw [outsAt0_A m c t h0 h1]; frame_out
    · rw [outsAt0_C m c t h0 h1]; frame_out
  · rw [outsAt0_B m c t (by omega) h1]; frame_out
/-- The running sums after a point. -/
theorem outs14_first (c : Dev nD) (t : Fin cfg0.N) (h0 : t.val % 8 = 0) : (outsAt0 m c t.val t.isLt).2.2.2.2.2.1
    = k0_pay38 (errP m c t) (k0_pay35 (F := Ideal)) := by
  rw [outsAt0_A m c t h0 (by omega)]; frame_out
theorem outs14_next (c : Dev nD) (t : Fin cfg0.N) (h0 : ¬t.val % 8 = 0) : (outsAt0 m c t.val t.isLt).2.2.2.2.2.1
    = k0_pay38 (errP m c t) (outsAt0 m c (t.val - 1) (Nat.lt_of_le_of_lt (Nat.sub_le _ _) t.isLt)).2.2.2.2.2.1 := by
  by_cases h1 : t.val % 4 = 0
  · rw [outsAt0_C m c t h0 h1]; frame_out
  · rw [outsAt0_B m c t h0 h1]; frame_out
theorem outs16_first (c : Dev nD) (t : Fin cfg0.N) (h1 : t.val % 4 = 0) : (outsAt0 m c t.val t.isLt).2.2.2.2.2.2.2
    = k0_pay1 (k0_pay41 (k0_pay37 (F := Ideal))) (k0_pay42 (ffP m c t) (drP m c t)) := by
  by_cases h0 : t.val % 8 = 0
  · rw [outsAt0_A m c t h0 h1]; frame_out
  · rw [outsAt0_C m c t h0 h1]; frame_out
theorem outs16_next (c : Dev nD) (t : Fin cfg0.N) (h1 : ¬t.val % 4 = 0) : (outsAt0 m c t.val t.isLt).2.2.2.2.2.2.2
    = k0_pay1 (k0_pay41 (outsAt0 m c (t.val - 1) (Nat.lt_of_le_of_lt (Nat.sub_le _ _) t.isLt)).2.2.2.2.2.2.2)
        (k0_pay42 (ffP m c t) (drP m c t)) := by
  rw [outsAt0_B m c t (by omega) h1]; frame_out

/-- Two stored rows read back at an index: the row's own store. -/
theorem rows_at (P1 P0 : Vec Ideal S1x1024 .f32) (L : List (View.Piece (Elt Ideal) S2x1024 .f32)) (k : Fin 2) (d : Fin 1024)
    (i1 i0) : View.canon (⟨Rect.unit (s := S2x1024) ![1, 0] ![1, 1024] i1, P1⟩
      :: ⟨Rect.unit (s := S2x1024) ![0, 0] ![1, 1024] i0, P0⟩ :: L) (ix2 k d)
      = if k.val = 0 then P0 (ix2 0 d) else P1 (ix2 0 d) := by
  have hit : ∀ (o : Nat) (ho : o < 2) (inb) (P : Vec Ideal S1x1024 .f32) (M : List (View.Piece (Elt Ideal) S2x1024 .f32)),
      View.canon (⟨Rect.unit (s := S2x1024) ![o, 0] ![1, 1024] inb, P⟩ :: M) (ix2 ⟨o, ho⟩ d) = P (ix2 0 d) := by
    intro o ho inb P M
    rw [← View.canon_cons_emb (Rect.unit (s := S2x1024) ![o, 0] ![1, 1024] inb) P M (ix2 0 d)]
    congr 1
    funext a; apply Fin.ext
    rw [ValueKit.rect_emb_unit_val]
    match a with
    | ⟨0, _⟩ => rfl
    | ⟨1, _⟩ => show d.val = 0 + d.val; omega
  match k with
  | ⟨1, _⟩ => exact hit 1 (by omega) i1 P1 _
  | ⟨0, _⟩ =>
    refine (View.canon_cons_of_not_mem (⟨Rect.unit (s := S2x1024) ![1, 0] ![1, 1024] i1, P1⟩) _ fun h => ?_).trans (hit 0 (by omega) i0 P0 L)
    have := ((Rect.mem_set_unit (inb := i1)).mp h (0 : Fin 2)).1
    exact absurd this (by show ¬(1 ≤ 0); omega)

/-- A token's term at a point's row. -/
abbrev lnAt (c : Dev nD) (k : Fin 2) (d : Fin 1024) (s : Fin 2) (r : Fin 2048) : EReal :=
  lnTerm (aX m c) (aSh m c) (aSc m c) (aGt m c) (aW m c) (aD m c) (aLg m c) (aLb m c) (aTg m c) k d s r

/-- The running sums after the first point: the point's share; after a later one: what was there, and the point's share. -/
theorem outs15_first (c : Dev nD) (t : Fin cfg0.N) (h0 : t.val % 8 = 0) (k : Fin 2) (d : Fin 1024) :
    (outsAt0 m c t.val t.isLt).2.2.2.2.2.2.1 (ix2 k d) = 0 + ∑ r : Fin 512, lnAt m c k d (sOf t) (pOf t r) := by
  rw [outsAt0_A m c t h0 (by omega)]; frame_out
  simp (disch := decide) only [View.readCov_skip, View.readCov_fill]
  rw [rows_at, pay39_at, pay40_at, ldM _ 0 (by omega), ldM _ 1 (by omega), pay36_at, pay36_at, pay32_at, pay33_at]
  simp only [pay29_at]
  have e := errP_at m c t
  have n := nrmP_at m c t
  unfold errP at e
  unfold nrmP at n
  simp only [e, n]
  unfold lnAt lnTerm
  match k with
  | ⟨0, _⟩ => rfl
  | ⟨1, _⟩ => rfl
theorem outs15_next (c : Dev nD) (t : Fin cfg0.N) (h0 : ¬t.val % 8 = 0) (k : Fin 2) (d : Fin 1024) :
    (outsAt0 m c t.val t.isLt).2.2.2.2.2.2.1 (ix2 k d)
      = (outsAt0 m c (t.val - 1) (Nat.lt_of_le_of_lt (Nat.sub_le _ _) t.isLt)).2.2.2.2.2.2.1 (ix2 k d)
        + ∑ r : Fin 512, lnAt m c k d (sOf t) (pOf t r) := by
  have e := errP_at m c t
  have n := nrmP_at m c t
  unfold errP at e
  unfold nrmP at n
  by_cases h1 : t.val % 4 = 0
  · rw [outsAt0_C m c t h0 h1]; frame_out
    rw [rows_at, pay39_at, pay40_at, ldM _ 0 (by omega), ldM _ 1 (by omega), pay32_at, pay33_at]
    simp only [pay29_at, e, n]
    unfold lnAt lnTerm
    match k with
    | ⟨0, _⟩ => rfl
    | ⟨1, _⟩ => rfl
  · rw [outsAt0_B m c t h0 h1]; frame_out
    rw [rows_at, pay39_at, pay40_at, ldM _ 0 (by omega), ldM _ 1 (by omega), pay32_at, pay33_at]
    simp only [pay29_at, e, n]
    unfold lnAt lnTerm
    match k with
    | ⟨0, _⟩ => rfl
    | ⟨1, _⟩ => rfl

theorem emb9 (t : Fin cfg0.N) (r : Fin 512) (d : Fin 1024) :
    ((win0_9.blk t).view.emb (ix2 r d) : S4096x1024.Idx) = ix2 (tOf t r) d := by
  unfold tOf; blk_ext [idx9]
theorem emb10 (t : Fin cfg0.N) (r : Fin 512) (d : Fin 1024) :
    ((win0_10.blk t).view.emb (ix2 r d) : S4096x1024.Idx) = ix2 (tOf t r) d := by
  unfold tOf; blk_ext [idx10]
theorem emb11 (t : Fin cfg0.N) (k : Fin 2) (r : Fin 512) (j : Fin 2816) :
    ((win0_11.blk t).view.emb (ix3 k r j) : S2x4096x2816.Idx) = ix3 k (tOf t r) j := by
  unfold tOf; blk_ext [idx11]
theorem emb12 (t : Fin cfg0.N) (r : Fin 512) (j : Fin 2816) :
    ((win0_12.blk t).view.emb (ix2 r j) : S4096x2816.Idx) = ix2 (tOf t r) j := by
  unfold tOf; blk_ext [idx12]
theorem emb13 (t : Fin cfg0.N) (r : Fin 512) (d : Fin 1024) :
    ((win0_13.blk t).view.emb (ix2 r d) : S4096x1024.Idx) = ix2 (tOf t r) d := by
  unfold tOf; blk_ext [idx13]
theorem emb15 (t : Fin cfg0.N) (k : Fin 2) (d : Fin 1024) :
    ((win0_15.blk t).view.emb (ix2 k d) : S2x1024.Idx) = ix2 k d := by
  blk_ext [idx15]
theorem emb16 (t : Fin cfg0.N) (d : Fin 1024) :
    ((win0_16.blk t).view.emb (ix3 0 0 d) : S2x1x1024.Idx) = ix3 (sOf t) 0 d := by
  unfold sOf; blk_ext [idx16]

/-- The first result: the gradient at the residual sum. -/
theorem final9 (c : Dev nD) : (dats m 0 c).arrAt 9 cfg0.N
    = fun i => dRes (aX m c) (aSh m c) (aSc m c) (aGt m c) (aW m c) (aD m c) (aLg m c) (aLb m c) (aTg m c)
        (seqOf (i 0)) (posOf (i 0)) (i 1) := by
  refine (dats m 0 c).arrAt_eq_of_covers 9 _ (by decide +kernel) fun t hf y => ?_
  blk_simp
  rw [after0_9, outs9]
  obtain ⟨r, d, rfl⟩ : ∃ (r : Fin 512) (d : Fin 1024), y = ix2 r d := ⟨y 0, y 1, eq_ix2 y⟩
  rw [emb9, drP_at]
  show _ = dRes _ _ _ _ _ _ _ _ _ (seqOf (tOf t r)) (posOf (tOf t r)) d
  rw [seqOf_tOf t r, posOf_tOf t r]
/-- The second: the gradient at the half-step. -/
theorem final10 (c : Dev nD) : (dats m 0 c).arrAt 10 cfg0.N
    = fun i => dFf (aX m c) (aSh m c) (aSc m c) (aGt m c) (aW m c) (aD m c) (aLg m c) (aLb m c) (aTg m c)
        (seqOf (i 0)) (posOf (i 0)) (i 1) := by
  refine (dats m 0 c).arrAt_eq_of_covers 10 _ (by decide +kernel) fun t hf y => ?_
  blk_simp
  rw [after0_10, outs10]
  obtain ⟨r, d, rfl⟩ : ∃ (r : Fin 512) (d : Fin 1024), y = ix2 r d := ⟨y 0, y 1, eq_ix2 y⟩
  rw [emb10, pay34_at, blk3]
  have e := drP_at m c t r d
  unfold drP at e
  rw [e]
  show _ = dFf _ _ _ _ _ _ _ _ _ (seqOf (tOf t r)) (posOf (tOf t r)) d
  rw [seqOf_tOf t r, posOf_tOf t r]
  rfl
/-- The third: the gate and up products. -/
theorem final11 (c : Dev nD) : (dats m 0 c).arrAt 11 cfg0.N
    = fun i => gu (aX m c) (aSh m c) (aSc m c) (aW m c) (seqOf (i 1)) (posOf (i 1)) (colOf (i 0) (i 2)) := by
  refine (dats m 0 c).arrAt_eq_of_covers 11 _ (by decide +kernel) fun t hf y => ?_
  blk_simp
  rw [after0_11, outs11]
  obtain ⟨k, r, j, rfl⟩ : ∃ (k : Fin 2) (r : Fin 512) (j : Fin 2816), y = ix3 k r j := ⟨y 0, y 1, y 2, eq_ix3 y⟩
  rw [emb11, guParts_at, bGu_blk]
  show _ = gu _ _ _ _ (seqOf (tOf t r)) (posOf (tOf t r)) (colOf k j)
  rw [seqOf_tOf t r, posOf_tOf t r]
/-- The fourth: the activations. -/
theorem final12 (c : Dev nD) : (dats m 0 c).arrAt 12 cfg0.N
    = fun i => act (aX m c) (aSh m c) (aSc m c) (aW m c) (seqOf (i 0)) (posOf (i 0)) (i 1) := by
  refine (dats m 0 c).arrAt_eq_of_covers 12 _ (by decide +kernel) fun t hf y => ?_
  blk_simp
  rw [after0_12, outs12]
  obtain ⟨r, j, rfl⟩ : ∃ (r : Fin 512) (j : Fin 2816), y = ix2 r j := ⟨y 0, y 1, eq_ix2 y⟩
  rw [emb12, actParts_at, bAct_blk]
  show _ = act _ _ _ _ (seqOf (tOf t r)) (posOf (tOf t r)) j
  rw [seqOf_tOf t r, posOf_tOf t r]
/-- The fifth: the modulated input. -/
theorem final13 (c : Dev nD) : (dats m 0 c).arrAt 13 cfg0.N
    = fun i => hid (aX m c) (aSh m c) (aSc m c) (seqOf (i 0)) (posOf (i 0)) (i 1) := by
  refine (dats m 0 c).arrAt_eq_of_covers 13 _ (by decide +kernel) fun t hf y => ?_
  blk_simp
  rw [after0_13, outs13]
  obtain ⟨r, d, rfl⟩ : ∃ (r : Fin 512) (d : Fin 1024), y = ix2 r d := ⟨y 0, y 1, eq_ix2 y⟩
  rw [emb13, pay3_at, blk0, blk1, blk2]
  show _ = hid _ _ _ (seqOf (tOf t r)) (posOf (tOf t r)) d
  rw [seqOf_tOf t r, posOf_tOf t r]
  rfl
/-- The sixth: the loss, in every lane. -/
theorem final14 (c : Dev nD) : (dats m 0 c).arrAt 14 cfg0.N
    = fun _ => loss (aX m c) (aSh m c) (aSc m c) (aGt m c) (aW m c) (aD m c) (aLg m c) (aLb m c) (aTg m c) := by
  refine (dats m 0 c).arrAt_eq_of_covers 14 _ (by decide +kernel) fun t hf y => ?_
  blk_simp
  obtain ⟨l, rfl⟩ : ∃ (l : Fin 128), y = ix2 0 l :=
    ⟨y 1, (eq_ix2 y).trans (congrArg (fun z : Fin 1 => ix2 z _) (Subsingleton.elim (α := Fin 1) _ _))⟩
  have h7 := (flush0_14 t).mp hf
  have ht : t.val < 8 := t.isLt
  obtain rfl : t = ⟨7, by decide⟩ := Fin.ext (by show t.val = 7; omega)
  rw [after0_14]
  show _ = loss _ _ _ _ _ _ _ _ _
  unfold loss
  refine run_eight (fun n h => (outsAt0 m c n h).2.2.2.2.2.1 (ix2 0 l)) (fun n h => cHalfInv * ∑ r : Fin 512, ∑ d : Fin 1024,
    errT (aX m c) (aSh m c) (aSc m c) (aGt m c) (aW m c) (aD m c) (aLg m c) (aLb m c) (aTg m c) (sOf ⟨n, h⟩) (pOf ⟨n, h⟩ r) d
      * errT (aX m c) (aSh m c) (aSc m c) (aGt m c) (aW m c) (aD m c) (aLg m c) (aLb m c) (aTg m c) (sOf ⟨n, h⟩) (pOf ⟨n, h⟩ r) d) ?_ ?_
  · refine (congrFun (outs14_first m c ⟨0, by decide⟩ rfl) _).trans ((pay38_at _ _ l).trans ?_)
    rw [pay35_at]
    simp only [errP_at]
    rfl
  · intro n hn
    refine (congrFun (outs14_next m c ⟨n + 1, hn⟩ (by show ¬(n + 1) % 8 = 0; omega)) _).trans ((pay38_at _ _ l).trans ?_)
    simp only [errP_at]
    rfl
/-- The seventh: the gradient at the gain and the bias. -/
theorem final15 (c : Dev nD) : (dats m 0 c).arrAt 15 cfg0.N
    = fun i => dLn (aX m c) (aSh m c) (aSc m c) (aGt m c) (aW m c) (aD m c) (aLg m c) (aLb m c) (aTg m c) (i 0) (i 1) := by
  refine (dats m 0 c).arrAt_eq_of_covers 15 _ (by decide +kernel) fun t hf y => ?_
  blk_simp
  obtain ⟨k, d, rfl⟩ : ∃ (k : Fin 2) (d : Fin 1024), y = ix2 k d := ⟨y 0, y 1, eq_ix2 y⟩
  have h7 := (flush0_15 t).mp hf
  have ht : t.val < 8 := t.isLt
  obtain rfl : t = ⟨7, by decide⟩ := Fin.ext (by show t.val = 7; omega)
  rw [after0_15, emb15]
  show _ = dLn _ _ _ _ _ _ _ _ _ k d
  unfold dLn
  rw [sum_blocks]
  refine run_eight (fun n h => (outsAt0 m c n h).2.2.2.2.2.2.1 (ix2 k d))
    (fun n h => ∑ r : Fin 512, lnAt m c k d (sOf ⟨n, h⟩) (pOf ⟨n, h⟩ r)) ?_ ?_
  · exact outs15_first m c ⟨0, by decide⟩ rfl k d
  · exact fun n hn => outs15_next m c ⟨n + 1, hn⟩ (by show ¬(n + 1) % 8 = 0; omega) k d
/-- A token's term of the gradient at the gate. -/
abbrev gtAt (c : Dev nD) (d : Fin 1024) (s : Fin 2) (r : Fin 2048) : EReal :=
  dRes (aX m c) (aSh m c) (aSc m c) (aGt m c) (aW m c) (aD m c) (aLg m c) (aLb m c) (aTg m c) s r d
    * (cHalf * ff (aX m c) (aSh m c) (aSc m c) (aW m c) (aD m c) s r d)
theorem first16 (c : Dev nD) (t : Fin cfg0.N) (h : t.val % 4 = 0) (d : Fin 1024) :
    (outsAt0 m c t.val t.isLt).2.2.2.2.2.2.2 (ix3 0 0 d) = 0 + ∑ r : Fin 512, gtAt m c d (sOf t) (pOf t r) := by
  rw [outs16_first m c t h, pay1_at, pay37_at]
  simp only [drP_at, ffP_at]
theorem next16 (c : Dev nD) (t : Fin cfg0.N) (h : ¬t.val % 4 = 0) (d : Fin 1024) :
    (outsAt0 m c t.val t.isLt).2.2.2.2.2.2.2 (ix3 0 0 d)
      = (outsAt0 m c (t.val - 1) (Nat.lt_of_le_of_lt (Nat.sub_le _ _) t.isLt)).2.2.2.2.2.2.2 (ix3 0 0 d)
        + ∑ r : Fin 512, gtAt m c d (sOf t) (pOf t r) := by
  rw [outs16_next m c t h, pay1_at]
  simp only [drP_at, ffP_at]
/-- The eighth: the gradient at the gate. -/
theorem final16 (c : Dev nD) : (dats m 0 c).arrAt 16 cfg0.N
    = fun i => dGt (aX m c) (aSh m c) (aSc m c) (aGt m c) (aW m c) (aD m c) (aLg m c) (aLb m c) (aTg m c) (i 0) (i 2) := by
  refine (dats m 0 c).arrAt_eq_of_covers 16 _ (by decide +kernel) fun t hf y => ?_
  blk_simp
  obtain ⟨d, rfl⟩ : ∃ (d : Fin 1024), y = ix3 0 0 d :=
    ⟨y 2, (eq_ix3 y).trans (congrArg₂ (fun z w : Fin 1 => ix3 z w _) (Subsingleton.elim (α := Fin 1) _ _)
      (Subsingleton.elim (α := Fin 1) _ _))⟩
  have h3 : t.val % 4 = 3 := (flush0_16 t).mp hf
  have ht : t.val < 8 := t.isLt
  have lt : ∀ n, t.val - n < cfg0.N := fun n => Nat.lt_of_le_of_lt (Nat.sub_le _ _) t.isLt
  rw [after0_16, emb16, next16 m c t (by omega)]
  have s1 := next16 m c ⟨t.val - 1, lt 1⟩ (by show ¬(t.val - 1) % 4 = 0; omega) d
  have s2 := next16 m c ⟨t.val - 1 - 1, by have := lt 2; omega⟩ (by show ¬(t.val - 1 - 1) % 4 = 0; omega) d
  have s3 := first16 m c ⟨t.val - 1 - 1 - 1, by have := lt 3; omega⟩ (by show (t.val - 1 - 1 - 1) % 4 = 0; omega) d
  rw [s1, s2, s3, zero_add]
  show _ = dGt _ _ _ _ _ _ _ _ _ (sOf t) d
  have q : ∀ (u : Fin cfg0.N) (n : Nat) (hn : n < 4), u.val / 4 = t.val / 4 → u.val % 4 = n →
      ∑ r : Fin 512, gtAt m c d (sOf u) (pOf u r) = ∑ r : Fin 512, gtAt m c d (sOf t) ⟨n * 512 + r.val, by omega⟩ := by
    intro u n hn hs hr
    rw [show sOf u = sOf t from Fin.ext hs]
    exact Finset.sum_congr rfl fun r _ => congrArg _ (Fin.ext (by show u.val % 4 * 512 + r.val = _; rw [hr]))
  unfold dGt
  rw [sum_quarters]
  rw [q _ 0 (by omega) (by show (t.val - 1 - 1 - 1) / 4 = _; omega) (by show (t.val - 1 - 1 - 1) % 4 = _; omega),
    q _ 1 (by omega) (by show (t.val - 1 - 1) / 4 = _; omega) (by show (t.val - 1 - 1) % 4 = _; omega),
    q _ 2 (by omega) (by show (t.val - 1) / 4 = _; omega) (by show (t.val - 1) % 4 = _; omega),
    q t 3 (by omega) rfl h3]

end Cert.Proof.Loss

end
-- ==== Proof.LossReal.lean ====
/-
  Hand-written. At real numbers: the two ways of writing a layer normalisation's gradient, the loss's gradient at the
  output, and the loss, agree.
-/
module

public import proofs.«01_k».proof.Proof.LossMath

@[expose] public section

noncomputable section

namespace Cert.Proof.Loss

open Idealize.ShloMosaic
open Cert.Proof.Ffn (IsReal logistic Tok Row UpW DownW gateCol upCol seqOf posOf gu)

/-- A sum of reals as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by the row's length at a real. -/
theorem div_cN (a : ℝ) : Ideal.div (a : EReal) cN = ((a * (1 / 1024) : ℝ) : EReal) := by
  rw [cN_eq, Ideal.div_coe (by norm_num), EReal.coe_mul]

/-- A real row's mean. -/
theorem mean_coe (f : Fin 1024 → ℝ) : mean (fun d => (f d : EReal)) = (((∑ d, f d) * (1 / 1024) : ℝ) : EReal) := by
  unfold mean
  rw [← coe_sum, div_cN]

/-- A negated real. -/
theorem coe_neg' (a : ℝ) : -(a : EReal) = ((-a : ℝ) : EReal) := (EReal.coe_neg a).symm

section Row
variable (r : Fin 1024 → ℝ)

/-- A real row less its mean, and its sum. -/
def rc (d : Fin 1024) : ℝ := r d - (∑ k, r k) * (1 / 1024)
theorem ctr_coe (d : Fin 1024) : ctr (fun k => (r k : EReal)) d = (rc r d : EReal) := by
  unfold ctr rc
  rw [mean_coe, EReal.coe_sub]
theorem sum_rc : ∑ d, rc r d = 0 := by
  unfold rc
  rw [Finset.sum_sub_distrib, Finset.sum_const, Finset.card_univ, Fintype.card_fin, nsmul_eq_mul]
  ring
/-- The variance is a positive real, and the scale its inverse root. -/
theorem var_coe : ∃ q p : ℝ, 0 < q ∧ p * p = 1 / q ∧ var (fun k => (r k : EReal)) = (q : EReal)
    ∧ rstd (fun k => (r k : EReal)) = (p : EReal) := by
  obtain ⟨e, he, hE⟩ := cEps_pos
  have hq : 0 < (∑ d, rc r d * rc r d) * (1 / 1024) + e := by
    have : 0 ≤ ∑ d, rc r d * rc r d := Finset.sum_nonneg fun d _ => mul_self_nonneg _
    positivity
  have hv : var (fun k => (r k : EReal)) = (((∑ d, rc r d * rc r d) * (1 / 1024) + e : ℝ) : EReal) := by
    unfold var
    simp only [ctr_coe, ← EReal.coe_mul]
    rw [mean_coe, hE, EReal.coe_add]
  refine ⟨_, (Real.sqrt ((∑ d, rc r d * rc r d) * (1 / 1024) + e))⁻¹, hq, ?_, hv, ?_⟩
  · rw [← mul_inv, Real.mul_self_sqrt hq.le]; exact (one_div _).symm
  · unfold rstd
    rw [hv, Ideal.rsqrt_coe, if_neg (not_lt.mpr hq.le), if_neg hq.ne']

end Row

/-- The gradient at a row, as the derivative rules of its steps give it. -/
def dRowRef (R V : Fin 1024 → EReal) (d : Fin 1024) : EReal :=
  (V d * rstd R
    + Ideal.div ((∑ k, ctr R k * V k) * (cNegHalf * Ideal.div (rstd R) (var R))) cN * (cTwo * ctr R d))
  + Ideal.div (∑ k, -(V k * rstd R)
      + ∑ k, -(Ideal.div ((∑ k, ctr R k * V k) * (cNegHalf * Ideal.div (rstd R) (var R))) cN * (cTwo * ctr R k))) cN

/-- It is the gradient in its usual form, at real numbers. -/
theorem dRowRef_eq (R V : Fin 1024 → EReal) (hR : ∀ d, IsReal (R d)) (hV : ∀ d, IsReal (V d)) (d : Fin 1024) :
    dRowRef R V d = rstd R * (V d - mean V - nrm R d * mean (fun k => V k * nrm R k)) := by
  choose r hr using hR
  choose v hv using hV
  obtain rfl : (fun k => (r k : EReal)) = R := funext hr
  obtain rfl : (fun k => (v k : EReal)) = V := funext hv
  obtain ⟨q, p, hq, hp, hvar, hstd⟩ := var_coe r
  unfold dRowRef nrm
  simp only [hvar, hstd, ctr_coe, cNegHalf_eq, cTwo_eq, ← EReal.coe_mul, ← coe_sum, Ideal.div_coe hq.ne', div_cN, coe_neg',
    ← EReal.coe_add, mean_coe, ← EReal.coe_sub]
  refine congrArg _ ?_
  have e1 : ∑ k, -(v k * p) = -((∑ k, v k) * p) := by rw [Finset.sum_neg_distrib, Finset.sum_mul]
  have e2 : ∀ K : ℝ, ∑ k, -(K * (2 * rc r k)) = 0 := by
    intro K
    rw [Finset.sum_neg_distrib, ← Finset.mul_sum, ← Finset.mul_sum, sum_rc]; ring
  have e3 : ∑ k, v k * (rc r k * p) = (∑ k, rc r k * v k) * p := by
    rw [Finset.sum_mul]; exact Finset.sum_congr rfl fun k _ => by ring
  rw [e1, e2, e3, ← hp]
  ring

/-- The loss's gradient at the output, as the derivative rules give it. -/
theorem dOut_eq (e : EReal) : Ideal.div cHalf cN * (cTwo * e) = e * cInv := by
  rw [cHalf_eq, div_cN, cTwo_eq, cInv_eq, ← mul_assoc, ← EReal.coe_mul, mul_comm]
  norm_num

/-- The sums of squares in blocks, each scaled, make half the sum over the tokens of a token's mean. -/
theorem loss_eq (E : Fin 2 → Fin 2048 → Fin 1024 → EReal) (hE : ∀ s r d, IsReal (E s r d)) :
    cHalf * ∑ s, ∑ r, Ideal.div (∑ d, E s r d) cN
      = ∑ t : Fin 8, cHalfInv * ∑ r : Fin 512, ∑ d : Fin 1024, E (sOf t) (pOf t r) d := by
  choose e he using hE
  simp only [← he, ← coe_sum, div_cN, cHalf_eq, cHalfInv_eq, ← EReal.coe_mul]
  refine congrArg _ ?_
  rw [sum_blocks, Finset.mul_sum]
  refine Finset.sum_congr rfl fun t _ => ?_
  rw [← Finset.sum_mul]; ring

/-- Half of a sum of products. -/
theorem half_sum (f g : Fin 2048 → EReal) (hf : ∀ r, IsReal (f r)) (hg : ∀ r, IsReal (g r)) :
    cHalf * ∑ r, f r * g r = ∑ r, f r * (cHalf * g r) := by
  choose a ha using hf
  choose b hb using hg
  simp only [← ha, ← hb, cHalf_eq, ← EReal.coe_mul, ← coe_sum]
  refine congrArg _ ?_
  rw [Finset.mul_sum]
  exact Finset.sum_congr rfl fun r _ => by ring

theorem real_sub {a b : EReal} (ha : IsReal a) (hb : IsReal b) : IsReal (a - b) := by
  obtain ⟨p, rfl⟩ := ha; obtain ⟨q, rfl⟩ := hb; exact ⟨p - q, EReal.coe_sub p q⟩
/-- At real rows, the normalisation and its gradient are real. -/
theorem nrm_real (R : Fin 1024 → EReal) (hR : ∀ d, IsReal (R d)) (d : Fin 1024) : IsReal (nrm R d) := by
  choose r hr using hR
  obtain rfl : (fun k => (r k : EReal)) = R := funext hr
  obtain ⟨q, p, -, -, -, hstd⟩ := var_coe r
  unfold nrm
  rw [hstd, ctr_coe, ← EReal.coe_mul]
  exact ⟨_, rfl⟩
theorem err_real (R G B T : Fin 1024 → EReal) (hR : ∀ d, IsReal (R d)) (hG : ∀ d, IsReal (G d)) (hB : ∀ d, IsReal (B d))
    (hT : ∀ d, IsReal (T d)) (d : Fin 1024) : IsReal (err R G B T d) :=
  real_sub (((nrm_real R hR d).mul (hG d)).add (hB d)) (hT d)
theorem dNrm_real (R G B T : Fin 1024 → EReal) (hR : ∀ d, IsReal (R d)) (hG : ∀ d, IsReal (G d)) (hB : ∀ d, IsReal (B d))
    (hT : ∀ d, IsReal (T d)) (d : Fin 1024) : IsReal (dNrm R G B T d) :=
  ((err_real R G B T hR hG hB hT d).mul ⟨_, cInv_eq.symm⟩).mul (hG d)
theorem mean_real (f : Fin 1024 → EReal) (hf : ∀ d, IsReal (f d)) : IsReal (mean f) := by
  choose r hr using hf
  obtain rfl : (fun k => (r k : EReal)) = f := funext hr
  rw [mean_coe]; exact ⟨_, rfl⟩
theorem dRow_real (R G B T : Fin 1024 → EReal) (hR : ∀ d, IsReal (R d)) (hG : ∀ d, IsReal (G d)) (hB : ∀ d, IsReal (B d))
    (hT : ∀ d, IsReal (T d)) (d : Fin 1024) : IsReal (dRow R G B T d) := by
  have hV := dNrm_real R G B T hR hG hB hT
  have hN := nrm_real R hR
  refine IsReal.mul ?_ (real_sub (real_sub (hV d) (mean_real _ hV)) ((hN d).mul (mean_real _ fun k => (hV k).mul (hN k))))
  choose r hr using hR
  obtain rfl : (fun k => (r k : EReal)) = R := funext hr
  obtain ⟨q, p, -, -, -, hstd⟩ := var_coe r
  exact ⟨p, hstd.symm⟩

section Arrays
variable (x : Tok) (sh sc gt : Row) (W : UpW) (D : DownW) (lg lb : LnRow) (tg : Tok)

/-- Every argument's elements are reals. -/
structure Finite : Prop where
  x : ∀ i, IsReal (x i)
  sh : ∀ i, IsReal (sh i)
  sc : ∀ i, IsReal (sc i)
  gt : ∀ i, IsReal (gt i)
  W : ∀ i, IsReal (W i)
  D : ∀ i, IsReal (D i)
  lg : ∀ i, IsReal (lg i)
  lb : ∀ i, IsReal (lb i)
  tg : ∀ i, IsReal (tg i)

variable {x sh sc gt W D lg lb tg}

theorem Finite.gu (h : Finite x sh sc gt W D lg lb tg) (s r k) : IsReal (gu x sh sc W s r k) :=
  IsReal.sum _ _ fun _ => (((h.x _).mul (IsReal.one.add (h.sc _))).add (h.sh _)).mul (h.W _)
theorem Finite.act (h : Finite x sh sc gt W D lg lb tg) (s r j) : IsReal (act x sh sc W s r j) :=
  ((h.gu _ _ _).mul (h.gu _ _ _).logistic).mul (h.gu _ _ _)
theorem Finite.ff (h : Finite x sh sc gt W D lg lb tg) (s r d) : IsReal (ff x sh sc W D s r d) :=
  IsReal.sum _ _ fun _ => (h.act _ _ _).mul (h.D _)
theorem Finite.res (h : Finite x sh sc gt W D lg lb tg) (s r d) : IsReal (res x sh sc gt W D s r d) :=
  (cAlpha_real.mul (h.x _)).add ((IsReal.half.mul (IsReal.one.add (h.gt _))).mul (h.ff _ _ _))
theorem Finite.err (h : Finite x sh sc gt W D lg lb tg) (s r d) : IsReal (errT x sh sc gt W D lg lb tg s r d) :=
  err_real _ _ _ _ (h.res s r) (fun _ => h.lg _) (fun _ => h.lb _) (fun _ => h.tg _) d
theorem Finite.dRes (h : Finite x sh sc gt W D lg lb tg) (s r d) : IsReal (dRes x sh sc gt W D lg lb tg s r d) :=
  dRow_real _ _ _ _ (h.res s r) (fun _ => h.lg _) (fun _ => h.lb _) (fun _ => h.tg _) d

end Arrays

end Cert.Proof.Loss

end
-- ==== Proof.LossReference.lean ====
/-
  Hand-written. The reference's second feed-forward half-step with the loss head, and its gradients, read to the plain
  formulas, each of its eight results at an index.
-/
module

public import proofs.«01_k».proof.Proof.Gen.Reference5Ideal.Run
public import proofs.«01_k».proof.Proof.Gen.Reference5Ideal.Read
public import proofs.«01_k».proof.Proof.LossReal
public import proofs.«01_k».proof.Proof.ConvReference

@[expose] public section

noncomputable section

namespace Cert.Proof.Loss

open Idealize.ShloMosaic Cert.Reference5Ideal Cert.Reference5Ideal.Read
open Cert.Proof.Ffn (IsReal logistic Tok Row UpW DownW gateCol upCol seqOf posOf gu)

/-- The reference's arrays. -/
abbrev RTok := (⟨S2x2048x1024, .f32⟩ : BufTy).Contents (Elt Ideal)
abbrev RRow := (⟨S2x1x1024, .f32⟩ : BufTy).Contents (Elt Ideal)
abbrev RUpW := (⟨S1024x5632, .f32⟩ : BufTy).Contents (Elt Ideal)
abbrev RDownW := (⟨S2816x1024, .f32⟩ : BufTy).Contents (Elt Ideal)
abbrev RLn := (⟨S1x1024, .f32⟩ : BufTy).Contents (Elt Ideal)

variable (x : RTok) (sh sc gt : RRow) (W : RUpW) (D : RDownW) (lg lb : RLn) (tg : RTok)

/-- The modulated input, and the gate and up products. -/
theorem hid_at (s : Fin 2) (r : Fin 2048) (d : Fin 1024) :
    val_main_v6 (F := Ideal) x sh sc (ix3 s r d) = hid x sh sc s r d := by
  pointwise [val_main_v6, val_main_v5, val_main_v4, val_main_v3, val_main_v2, val_main_v1, val_main_cst_0]
  rfl
theorem gu_at (s : Fin 2) (r : Fin 2048) (k : Fin 5632) :
    val_main_v7 (F := Ideal) x sh sc W (ix3 s r k) = gu x sh sc W s r k := by
  pointwise [val_main_v7]
  simp only [hid_at]
  rfl
theorem colOf_zero (j : Fin 2816) : colOf 0 j = gateCol j := Fin.ext (by show 0 * 2816 + j.val = j.val; omega)
theorem colOf_one (j : Fin 2816) : colOf 1 j = upCol j := Fin.ext (by show 1 * 2816 + j.val = 2816 + j.val; omega)
/-- The activations. -/
theorem act_at (s : Fin 2) (r : Fin 2048) (j : Fin 2816) :
    val_main_v11 (F := Ideal) x sh sc W (ix3 s r j) = act x sh sc W s r j := by
  pointwise [val_main_v11, val_main_v10, val_main_call0_v5, val_main_call0_v4, val_main_call0_v3, val_main_call0_v2,
    val_main_call0_v1, val_main_call0_v0, val_main_call0_cst, val_main_call0_cst_0, val_main_v8, val_main_v9]
  rw [gu_at, gu_at]
  unfold act
  rw [colOf_zero, colOf_one]
  rfl
/-- The half-step's product with the down weight. -/
theorem ff_at (s : Fin 2) (r : Fin 2048) (d : Fin 1024) :
    val_main_v13 (F := Ideal) x sh sc W D (ix3 s r d) = ff x sh sc W D s r d := by
  pointwise [val_main_v13, val_main_v12, val_main_v0, val_main_cst]
  simp only [act_at]
  rfl
/-- The residual sum. -/
theorem res_at (s : Fin 2) (r : Fin 2048) (d : Fin 1024) :
    val_main_v23 (F := Ideal) x sh sc gt W D (ix3 s r d) = res x sh sc gt W D s r d := by
  pointwise [val_main_v23, val_main_v22, val_main_v21, val_main_v20, val_main_v19, val_main_v18, val_main_v17, val_main_v16,
    val_main_v15, val_main_v14, val_main_v0, val_main_cst, val_main_cst_1, val_main_cst_2, val_main_cst_3]
  rw [ff_at]
  rfl
/-- It less its mean; the variance; the scale; the normalised row. -/
theorem mean_at (s : Fin 2) (r : Fin 2048) : val_main_v27 (F := Ideal) x sh sc gt W D (ix3 s r 0) = mean (res x sh sc gt W D s r) := by
  pointwise [val_main_v27, val_main_v26, val_main_v25, val_main_v24, val_main_cst_4, val_main_cst_5]
  simp only [res_at]
  rfl
theorem ctr_at (s : Fin 2) (r : Fin 2048) (d : Fin 1024) :
    val_main_v38 (F := Ideal) x sh sc gt W D (ix3 s r d) = ctr (res x sh sc gt W D s r) d := by
  pointwise [val_main_v38, val_main_v37]
  rw [res_at, mean_at]
  rfl
theorem ctr_at' (s : Fin 2) (r : Fin 2048) (d : Fin 1024) :
    val_main_v29 (F := Ideal) x sh sc gt W D (ix3 s r d) = ctr (res x sh sc gt W D s r) d := by
  pointwise [val_main_v29, val_main_v28]
  rw [res_at, mean_at]
  rfl
theorem var_at (s : Fin 2) (r : Fin 2048) : val_main_v40 (F := Ideal) x sh sc gt W D (ix3 s r 0) = var (res x sh sc gt W D s r) := by
  pointwise [val_main_v40, val_main_v39, val_main_v36, val_main_v35, val_main_v34, val_main_v33, val_main_v30, val_main_cst_7,
    val_main_cst_8, val_main_cst_9]
  simp only [ctr_at']
  rfl
theorem rstd_at (s : Fin 2) (r : Fin 2048) : val_main_v41 (F := Ideal) x sh sc gt W D (ix3 s r 0) = rstd (res x sh sc gt W D s r) := by
  pointwise [val_main_v41]
  rw [var_at]
  rfl
theorem nrm_at (s : Fin 2) (r : Fin 2048) (d : Fin 1024) :
    val_main_v46 (F := Ideal) x sh sc gt W D (ix3 s r d) = nrm (res x sh sc gt W D s r) d := by
  pointwise [val_main_v46, val_main_v45]
  rw [ctr_at, rstd_at]
  rfl
/-- The output less the target, and the loss's gradient there. -/
theorem err_at (s : Fin 2) (r : Fin 2048) (d : Fin 1024) :
    val_main_v53 (F := Ideal) x sh sc gt W D lg lb tg (ix3 s r d) = errT x sh sc gt W D lg lb tg s r d := by
  pointwise [val_main_v53, val_main_v52, val_main_v51, val_main_v50, val_main_v49, val_main_v48, val_main_v47]
  rw [nrm_at]
  rfl
theorem dOut_at (s : Fin 2) (r : Fin 2048) (d : Fin 1024) :
    val_main_v67 (F := Ideal) x sh sc gt W D lg lb tg (ix3 s r d) = errT x sh sc gt W D lg lb tg s r d * cInv := by
  pointwise [val_main_v67, val_main_v66, val_main_v65, val_main_v64, val_main_v63, val_main_v62, val_main_v56, val_main_v55,
    val_main_cst_11, val_main_cst_16, val_main_cst_17, val_main_cst_18]
  rw [err_at]
  exact dOut_eq _
theorem dNrm_at (s : Fin 2) (r : Fin 2048) (d : Fin 1024) :
    val_main_v76 (F := Ideal) x sh sc gt W D lg lb tg (ix3 s r d)
      = dNrm (res x sh sc gt W D s r) (fun k => lg (ix2 0 k)) (fun k => lb (ix2 0 k)) (fun k => tg (ix3 s r k)) d := by
  pointwise [val_main_v76, val_main_v75, val_main_v47]
  rw [dOut_at]
  rfl

/-- The factor of the variance's gradient. -/
theorem fac_at (s : Fin 2) (r : Fin 2048) :
    val_main_v90 (F := Ideal) x sh sc gt W D lg lb tg (ix2 s r)
      = Ideal.div ((∑ k, ctr (res x sh sc gt W D s r) k
          * dNrm (res x sh sc gt W D s r) (fun k => lg (ix2 0 k)) (fun k => lb (ix2 0 k)) (fun k => tg (ix3 s r k)) k)
        * (cNegHalf * Ideal.div (rstd (res x sh sc gt W D s r)) (var (res x sh sc gt W D s r)))) cN := by
  pointwise [val_main_v90, val_main_v89, val_main_v88, val_main_v84, val_main_v81, val_main_v80, val_main_v79, val_main_v44,
    val_main_v43, val_main_v42, val_main_cst_10, val_main_cst_23, val_main_cst_25, val_main_cst_26]
  refine (Fin.sum_univ_one _).trans ?_
  simp only [ctr_at, dNrm_at, rstd_at, var_at]
/-- The gradient at the residual sum. -/
theorem dRef_at (s : Fin 2) (r : Fin 2048) (d : Fin 1024) :
    val_main_v102 (F := Ideal) x sh sc gt W D lg lb tg (ix3 s r d)
      = dRowRef (res x sh sc gt W D s r)
          (dNrm (res x sh sc gt W D s r) (fun k => lg (ix2 0 k)) (fun k => lb (ix2 0 k)) (fun k => tg (ix3 s r k))) d := by
  pointwise [val_main_v102, val_main_v101, val_main_v100, val_main_v99, val_main_v98, val_main_v97, val_main_v96, val_main_v95,
    val_main_v94, val_main_v93, val_main_v92, val_main_v91, val_main_v87, val_main_v86, val_main_v85, val_main_v83, val_main_v82,
    val_main_v32, val_main_v31, val_main_cst_6, val_main_cst_24, val_main_cst_27, val_main_cst_28, val_main_cst_29]
  simp only [ctr_at', dNrm_at, rstd_at, fac_at]
  exact congrArg _ (Fin.sum_univ_one _)

section Results
variable (hf : Finite x sh sc gt W D lg lb tg)
include hf
theorem dRes_at (s : Fin 2) (r : Fin 2048) (d : Fin 1024) :
    val_main_v102 (F := Ideal) x sh sc gt W D lg lb tg (ix3 s r d) = dRes x sh sc gt W D lg lb tg s r d :=
  (dRef_at x sh sc gt W D lg lb tg s r d).trans (dRowRef_eq _ _ (hf.res s r)
    (dNrm_real _ _ _ _ (hf.res s r) (fun _ => hf.lg _) (fun _ => hf.lb _) (fun _ => hf.tg _)) d)

/-- The half-step's gradient, the gate's, the gain's and the bias's, and the loss. -/
theorem dFf_at (s : Fin 2) (r : Fin 2048) (d : Fin 1024) :
    val_main_v104 (F := Ideal) x sh sc gt W D lg lb tg (ix3 s r d) = dFf x sh sc gt W D lg lb tg s r d := by
  pointwise [val_main_v104, val_main_v103, val_main_v19, val_main_v18, val_main_v17, val_main_v16, val_main_cst_2, val_main_cst_3]
  rw [dRes_at x sh sc gt W D lg lb tg hf]
  rfl
theorem dGt_at (s : Fin 2) (d : Fin 1024) :
    val_main_v109 (F := Ideal) x sh sc gt W D lg lb tg (ix3 s 0 d) = dGt x sh sc gt W D lg lb tg s d := by
  pointwise [val_main_v109, val_main_v108, val_main_v107, val_main_v106, val_main_v105, val_main_cst_30, val_main_cst_31]
  simp only [dRes_at x sh sc gt W D lg lb tg hf, ff_at]
  exact half_sum _ _ (fun r => hf.dRes s r d) (fun r => hf.ff s r d)
theorem loss_at : val_main_v61 (F := Ideal) x sh sc gt W D lg lb tg (fun a => a.elim0) = loss x sh sc gt W D lg lb tg := by
  pointwise [val_main_v61, val_main_v60, val_main_v59, val_main_v58, val_main_v57, val_main_v54, val_main_cst_12, val_main_cst_13,
    val_main_cst_14, val_main_cst_15]
  simp only [err_at]
  exact loss_eq (fun s r d => errT x sh sc gt W D lg lb tg s r d * errT x sh sc gt W D lg lb tg s r d)
    fun s r d => (hf.err s r d).mul (hf.err s r d)
omit hf in
/-- The bias's gradient and the gain's. -/
theorem v71_at (d : Fin 1024) : val_main_v71 (F := Ideal) x sh sc gt W D lg lb tg (ix2 0 d)
    = ∑ s : Fin 2, ∑ r : Fin 2048, errT x sh sc gt W D lg lb tg s r d * cInv := by
  pointwise [val_main_v71, val_main_v70, val_main_cst_20]
  rw [Conv.sum_first_two, Fin.sum_univ_one, Fin.sum_univ_one]
  pointwise [val_main_v69, val_main_v68, val_main_cst_19]
  rw [Conv.sum_first_two]
  simp only [dOut_at]
omit hf in
theorem v78_at (d : Fin 1024) : val_main_v78 (F := Ideal) x sh sc gt W D lg lb tg (ix2 0 d)
    = ∑ s : Fin 2, ∑ r : Fin 2048, errT x sh sc gt W D lg lb tg s r d * cInv * nrm (res x sh sc gt W D s r) d := by
  pointwise [val_main_v78, val_main_v77, val_main_cst_22]
  rw [Conv.sum_first_two, Fin.sum_univ_one, Fin.sum_univ_one]
  pointwise [val_main_v74, val_main_v73, val_main_cst_21]
  rw [Conv.sum_first_two]
  refine Finset.sum_congr rfl fun s _ => Finset.sum_congr rfl fun r _ => ?_
  pointwise [val_main_v72]
  rw [dOut_at, nrm_at]
  exact mul_comm _ _
omit hf in
theorem dLn_at (k : Fin 2) (d : Fin 1024) :
    val_main_v121 (F := Ideal) x sh sc gt W D lg lb tg (ix2 k d) = dLn x sh sc gt W D lg lb tg k d := by
  unfold dLn lnTerm
  match k with
  | ⟨0, _⟩ =>
    pointwise [val_main_v121]
    exact v78_at x sh sc gt W D lg lb tg d
  | ⟨1, _⟩ =>
    pointwise [val_main_v121]
    exact v71_at x sh sc gt W D lg lb tg d

/-- The reference's eight results. -/
theorem ref1 : val_main_v113 (F := Ideal) x sh sc gt W D lg lb tg
    = fun i => dRes x sh sc gt W D lg lb tg (seqOf (i 0)) (posOf (i 0)) (i 1) := by
  have h : ∀ (i : Fin 4096) (d : Fin 1024), val_main_v113 (F := Ideal) x sh sc gt W D lg lb tg (ix2 i d)
      = dRes x sh sc gt W D lg lb tg (seqOf i) (posOf i) d := by
    intro i d
    pointwise [val_main_v113]
    exact dRes_at x sh sc gt W D lg lb tg hf (seqOf i) (posOf i) d
  funext i
  rw [eq_ix2 i]
  exact h (i 0) (i 1)
theorem ref2 : val_main_v118 (F := Ideal) x sh sc gt W D lg lb tg
    = fun i => dFf x sh sc gt W D lg lb tg (seqOf (i 0)) (posOf (i 0)) (i 1) := by
  have h : ∀ (i : Fin 4096) (d : Fin 1024), val_main_v118 (F := Ideal) x sh sc gt W D lg lb tg (ix2 i d)
      = dFf x sh sc gt W D lg lb tg (seqOf i) (posOf i) d := by
    intro i d
    pointwise [val_main_v118, val_main_v114]
    exact dFf_at x sh sc gt W D lg lb tg hf (seqOf i) (posOf i) d
  funext i
  rw [eq_ix2 i]
  exact h (i 0) (i 1)
omit hf in
theorem ref3 : val_main_v112 (F := Ideal) x sh sc W
    = fun i => gu x sh sc W (seqOf (i 1)) (posOf (i 1)) (colOf (i 0) (i 2)) := by
  have h : ∀ (k : Fin 2) (i : Fin 4096) (j : Fin 2816), val_main_v112 (F := Ideal) x sh sc W (ix3 k i j)
      = gu x sh sc W (seqOf i) (posOf i) (colOf k j) := by
    intro k i j
    pointwise [val_main_v112, val_main_v111, val_main_v110]
    exact gu_at x sh sc W (seqOf i) (posOf i) (colOf k j)
  funext i
  rw [eq_ix3 i]
  exact h (i 0) (i 1) (i 2)
omit hf in
theorem ref4 : val_main_v117 (F := Ideal) x sh sc W = fun i => act x sh sc W (seqOf (i 0)) (posOf (i 0)) (i 1) := by
  have h : ∀ (i : Fin 4096) (j : Fin 2816), val_main_v117 (F := Ideal) x sh sc W (ix2 i j)
      = act x sh sc W (seqOf i) (posOf i) j := by
    intro i j
    pointwise [val_main_v117, val_main_v116]
    exact act_at x sh sc W (seqOf i) (posOf i) j
  funext i
  rw [eq_ix2 i]
  exact h (i 0) (i 1)
omit hf in
theorem ref5 : val_main_v119 (F := Ideal) x sh sc = fun i => hid x sh sc (seqOf (i 0)) (posOf (i 0)) (i 1) := by
  have h : ∀ (i : Fin 4096) (d : Fin 1024), val_main_v119 (F := Ideal) x sh sc (ix2 i d) = hid x sh sc (seqOf i) (posOf i) d := by
    intro i d
    pointwise [val_main_v119, val_main_v115]
    exact hid_at x sh sc (seqOf i) (posOf i) d
  funext i
  rw [eq_ix2 i]
  exact h (i 0) (i 1)
theorem ref6 : val_main_v120 (F := Ideal) x sh sc gt W D lg lb tg = fun _ => loss x sh sc gt W D lg lb tg := by
  funext i
  rw [val_main_v120_apply]
  exact (congrArg _ (funext fun a => a.elim0)).trans (loss_at x sh sc gt W D lg lb tg hf)
omit hf in
theorem ref7 : val_main_v121 (F := Ideal) x sh sc gt W D lg lb tg = fun i => dLn x sh sc gt W D lg lb tg (i 0) (i 1) := by
  funext i
  rw [eq_ix2 i]
  exact dLn_at x sh sc gt W D lg lb tg (i 0) (i 1)
theorem ref8 : val_main_v109 (F := Ideal) x sh sc gt W D lg lb tg = fun i => dGt x sh sc gt W D lg lb tg (i 0) (i 2) := by
  funext i
  obtain ⟨s, d, rfl⟩ : ∃ (s : Fin 2) (d : Fin 1024), i = ix3 s 0 d :=
    ⟨i 0, i 2, (eq_ix3 i).trans (congrArg (fun z : Fin 1 => ix3 _ z _) (Subsingleton.elim (α := Fin 1) _ _))⟩
  exact dGt_at x sh sc gt W D lg lb tg hf s d

end Results

end Cert.Proof.Loss

end
-- ==== Proof.LossClaim.lean ====
/-
  Hand-written. The second half-step with the loss and its gradient: the kernel's run and the reference's run end at the
  same eight arrays, from memories that agree on the arguments and hold finite numbers there.
-/
module

public import proofs.«01_k».proof.Defs
public import proofs.«01_k».proof.Proof.Gen.Pre_all_finite
public import proofs.«01_k».proof.Proof.FfnClaim
public import proofs.«01_k».proof.Proof.LossKernel
public import proofs.«01_k».proof.Proof.LossReference

@[expose] public section

set_option maxRecDepth 16384

noncomputable section

namespace Cert.Proof.Loss

open Idealize.ShloMosaic Idealize.SL.Sem
open Cert.Proof.Ffn (seqOf posOf gu)

/-- The precondition says that every argument's elements are reals. -/
theorem finite_of_pre (m : (ℓ : Loc Cert.Kernel5Ideal.nD Cert.Kernel5Ideal.τ Cert.Kernel5Ideal.sig) → Buf (Elt Ideal) ℓ)
    (h : Cert.Pre_Kernel5Ideal_all_finite (hPre_all_finite := Cert.Pre_all_finite.Gen.facts) m) (c : Dev Cert.Kernel5Ideal.nD) :
    Finite (aX m c) (aSh m c) (aSc m c) (aGt m c) (aW m c) (aD m c) (aLg m c) (aLb m c) (aTg m c) := by
  obtain ⟨h0, h1, h2, h3, h4, h5, h6, h7, h8⟩ := h c
  exact ⟨Ffn.real_of_test _ _ h0, Ffn.real_of_test _ _ h1, Ffn.real_of_test _ _ h2, Ffn.real_of_test _ _ h3,
    Ffn.real_of_test _ _ h4, Ffn.real_of_test _ _ h5, Ffn.real_of_test _ _ h6, Ffn.real_of_test _ _ h7,
    Ffn.real_of_test _ _ h8⟩

/-- The kernel and the reference compute the same loss, saved arrays and gradients of the half-step, at finite numbers. -/
theorem algebraic :
    Cert.algebraic_Kernel5Ideal_Reference5Ideal_pre_all_finite (hPre_all_finite := Cert.Pre_all_finite.Gen.facts) :=
  fun m ρ m' ρ' hpre hag =>
  ⟨fun c i => dRes (aX m c) (aSh m c) (aSc m c) (aGt m c) (aW m c) (aD m c) (aLg m c) (aLb m c) (aTg m c)
      (seqOf (i 0)) (posOf (i 0)) (i 1),
    fun c i => dFf (aX m c) (aSh m c) (aSc m c) (aGt m c) (aW m c) (aD m c) (aLg m c) (aLb m c) (aTg m c)
      (seqOf (i 0)) (posOf (i 0)) (i 1),
    fun c i => gu (aX m c) (aSh m c) (aSc m c) (aW m c) (seqOf (i 1)) (posOf (i 1)) (colOf (i 0) (i 2)),
    fun c i => act (aX m c) (aSh m c) (aSc m c) (aW m c) (seqOf (i 0)) (posOf (i 0)) (i 1),
    fun c i => hid (aX m c) (aSh m c) (aSc m c) (seqOf (i 0)) (posOf (i 0)) (i 1),
    fun c _ => loss (aX m c) (aSh m c) (aSc m c) (aGt m c) (aW m c) (aD m c) (aLg m c) (aLb m c) (aTg m c),
    fun c i => dLn (aX m c) (aSh m c) (aSc m c) (aGt m c) (aW m c) (aD m c) (aLg m c) (aLb m c) (aTg m c) (i 0) (i 1),
    fun c i => dGt (aX m c) (aSh m c) (aSc m c) (aGt m c) (aW m c) (aD m c) (aLg m c) (aLb m c) (aTg m c) (i 0) (i 2),
    (θ_run _ _ _).mono (fun _ h c => by
      obtain ⟨h0, h1, h2, h3, h4, h5, h6, h7, ha⟩ := h c
      exact ⟨h0.trans (final9 m c), h1.trans (final10 m c), h2.trans (final11 m c), h3.trans (final12 m c),
        h4.trans (final13 m c), h5.trans (final14 m c), h6.trans (final15 m c), h7.trans (final16 m c), ha⟩)
      (Cert.Kernel5Ideal.Value.run_blocks m ρ),
    (θ_run _ _ _).mono (fun _ h c => by
      obtain ⟨h0, h1, h2, h3, h4, h5, h6, h7, ha⟩ := h c
      obtain ⟨e0, e1, e2, e3, e4, e5, e6, e7, e8⟩ := hag c
      have hf := finite_of_pre m hpre c
      change StableHlo.launchContents m' c (Proc.tc.devRef Cert.Reference5Ideal.main_arg0) = aX m c at e0
      change StableHlo.launchContents m' c (Proc.tc.devRef Cert.Reference5Ideal.main_arg1) = aSh m c at e1
      change StableHlo.launchContents m' c (Proc.tc.devRef Cert.Reference5Ideal.main_arg2) = aSc m c at e2
      change StableHlo.launchContents m' c (Proc.tc.devRef Cert.Reference5Ideal.main_arg3) = aGt m c at e3
      change StableHlo.launchContents m' c (Proc.tc.devRef Cert.Reference5Ideal.main_arg4) = aW m c at e4
      change StableHlo.launchContents m' c (Proc.tc.devRef Cert.Reference5Ideal.main_arg5) = aD m c at e5
      change StableHlo.launchContents m' c (Proc.tc.devRef Cert.Reference5Ideal.main_arg6) = aLg m c at e6
      change StableHlo.launchContents m' c (Proc.tc.devRef Cert.Reference5Ideal.main_arg7) = aLb m c at e7
      change StableHlo.launchContents m' c (Proc.tc.devRef Cert.Reference5Ideal.main_arg8) = aTg m c at e8
      rw [Cert.Reference5Ideal.Read.val_main_v113_eq, e0, e1, e2, e3, e4, e5, e6, e7, e8] at h0
      rw [Cert.Reference5Ideal.Read.val_main_v118_eq, e0, e1, e2, e3, e4, e5, e6, e7, e8] at h1
      rw [Cert.Reference5Ideal.Read.val_main_v112_eq, e0, e1, e2, e4] at h2
      rw [Cert.Reference5Ideal.Read.val_main_v117_eq, e0, e1, e2, e4] at h3
      rw [Cert.Reference5Ideal.Read.val_main_v119_eq, e0, e1, e2] at h4
      rw [Cert.Reference5Ideal.Read.val_main_v120_eq, e0, e1, e2, e3, e4, e5, e6, e7, e8] at h5
      rw [Cert.Reference5Ideal.Read.val_main_v121_eq, e0, e1, e2, e3, e4, e5, e6, e7, e8] at h6
      rw [Cert.Reference5Ideal.Read.val_main_v109_eq, e0, e1, e2, e3, e4, e5, e6, e7, e8] at h7
      exact ⟨h0.trans (ref1 _ _ _ _ _ _ _ _ _ hf), h1.trans (ref2 _ _ _ _ _ _ _ _ _ hf), h2.trans (ref3 _ _ _ _),
        h3.trans (ref4 _ _ _ _), h4.trans (ref5 _ _ _), h5.trans (ref6 _ _ _ _ _ _ _ _ _ hf),
        h6.trans (ref7 _ _ _ _ _ _ _ _ _), h7.trans (ref8 _ _ _ _ _ _ _ _ _ hf), ha⟩)
      (Cert.Reference5Ideal.Value.run m' ρ')⟩

end Cert.Proof.Loss

end
-- ==== Proof.OptMath.lean ====
/-
  Hand-written. One step of the optimiser at one element of a weight, as plain formulas over the extended reals.
-/
module

public import Idealize.ShloMosaic.PureOps.Ideal

@[expose] public section

noncomputable section

namespace Cert.Proof.Opt

open Idealize.ShloMosaic

/-- The factors by which the moments decay, and what is left of one. -/
def cB1 : EReal := Ideal.ofBits .f32 0x3F666666#32
def cN1 : EReal := Ideal.ofBits .f32 0x3DCCCCCD#32
def cB2 : EReal := Ideal.ofBits .f32 0x3F7FBE77#32
def cN2 : EReal := Ideal.ofBits .f32 0x3A83126F#32
/-- The corrections of the two moments at this step. -/
def cK1 : EReal := Ideal.ofBits .f32 0x3F26BD02#32
def cK2 : EReal := Ideal.ofBits .f32 0x3C231ACC#32
/-- The term that keeps the division from zero, the weight decay, and minus the learning rate. -/
def cEps : EReal := Ideal.ofBits .f32 0x322BCC77#32
def cWd : EReal := Ideal.ofBits .f32 0x3C23D70A#32
def cLr : EReal := Ideal.ofBits .f32 0xBA83126F#32

/-- The new first moment. -/
def newM (m g : EReal) : EReal := cB1 * m + cN1 * g
/-- The new second moment. -/
def newV (v g : EReal) : EReal := cB2 * v + cN2 * (g * g)
/-- The step of the weight. -/
def step (w m v g : EReal) : EReal :=
  cLr * (Ideal.div (Ideal.div (newM m g) cK1) (Ideal.sqrt (Ideal.div (newV v g) cK2) + cEps) + cWd * w)
/-- The gradient that one pair of cores holds, with what the three others send. -/
def total (o a b c : EReal) : EReal := o + a + b + c

/-- The same, with the three others summed first. -/
theorem add_sum_three (o : EReal) (f : Fin 3 → EReal) : o + ∑ k : Fin 3, f k = total o (f 0) (f 1) (f 2) := by
  rw [Fin.sum_univ_three, total, add_assoc, add_assoc, add_assoc]

end Cert.Proof.Opt

end
-- ==== Proof.Opt6.lean ====
/-
  Hand-written. The optimiser's step for the first half-step's gate and up weight: kernel and reference agree.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt6

open Idealize.ShloMosaic Idealize.SL.Sem Idealize.ShloMosaic.TcCoe Cert.Proof.Opt
open Idealize.ShloMosaic.Pipeline (Dat Cfg Window)

/-- Two halves of a row of 1024 side by side. -/
def join (a b : Fin 512 → EReal) (d : Fin 1024) : EReal :=
  if h : d.val < 512 then a ⟨d.val, h⟩ else b ⟨d.val - 512, by omega⟩

/-- The halves joined before the parts are added, or after. -/
theorem join_total (g h : Fin 512 → EReal) (f l : Fin 3 → Fin 512 → EReal) (d : Fin 1024) :
    join g h d + ∑ k : Fin 3, join (f k) (l k) d
      = join (fun e => total (g e) (f 0 e) (f 1 e) (f 2 e)) (fun e => total (h e) (l 0 e) (l 1 e) (l 2 e)) d := by
  rw [add_sum_three]
  unfold join
  split <;> rfl

section Kernel

open Cert.Kernel6Ideal Cert.Kernel6Ideal.Gen

section Block

variable (w u v : Vec Ideal S352x1024 .f32) (g h : Vec Ideal S352x512 .f32) (f l : Vec Ideal S3x352x512 .bf16)
  (r : Fin 352) (d : Fin 1024)

/-- A block's gradient. -/
def blkGrad : EReal :=
  join (fun e => total (g (ix2 r e)) (f (ix3 0 r e)) (f (ix3 1 r e)) (f (ix3 2 r e)))
    (fun e => total (h (ix2 r e)) (l (ix3 0 r e)) (l (ix3 1 r e)) (l (ix3 2 r e))) d

/-- What the body leaves in the four output blocks. -/
theorem out7_at : out0_7 (F := Ideal) w u v g h f l (ix2 r d)
    = blkGrad g h f l r d := by
  unfold out0_7
  frame_out
  pointwise [k0_pay4]
  rfl
theorem out8_at : out0_8 (F := Ideal) w u v g h f l (ix2 r d)
    = step (w (ix2 r d)) (u (ix2 r d)) (v (ix2 r d)) (blkGrad g h f l r d) := by
  unfold out0_8 k0_pay6
  frame_out
  pointwise [k0_pay1, k0_pay2, k0_pay3, k0_pay4, k0_pay5]
  rfl
theorem out9_at : out0_9 (F := Ideal) w u v g h f l (ix2 r d)
    = newM (u (ix2 r d)) (blkGrad g h f l r d) := by
  unfold out0_9 k0_pay6
  frame_out
  pointwise [k0_pay1, k0_pay4]
  rfl
theorem out10_at : out0_10 (F := Ideal) w u v g h f l (ix2 r d)
    = newV (v (ix2 r d)) (blkGrad g h f l r d) := by
  unfold out0_10 k0_pay6
  frame_out
  pointwise [k0_pay2, k0_pay4]
  rfl

end Block

variable (m : (ℓ : Loc nD τ sig) → Buf (Elt Ideal) ℓ)

/-- The weight, its moments, and the two halves of the parts of its gradient. -/
abbrev aW (c : Dev nD) : Vec Ideal S1x1024x704 .f32 := m ((c : Thread nD τ).loc main_arg0)
abbrev aM (c : Dev nD) : Vec Ideal S1x1024x704 .f32 := m ((c : Thread nD τ).loc main_arg1)
abbrev aV (c : Dev nD) : Vec Ideal S1x1024x704 .f32 := m ((c : Thread nD τ).loc main_arg2)
abbrev aL (c : Dev nD) : Vec Ideal S704x512 .f32 := m ((c : Thread nD τ).loc main_arg3)
abbrev aR (c : Dev nD) : Vec Ideal S704x512 .f32 := m ((c : Thread nD τ).loc main_arg4)
abbrev aFL (c : Dev nD) : Vec Ideal S3x704x512 .bf16 := m ((c : Thread nD τ).loc main_arg5)
abbrev aFR (c : Dev nD) : Vec Ideal S3x704x512 .bf16 := m ((c : Thread nD τ).loc main_arg6)

/-- The row of the whole array where a block's row lies. -/
def rowOf (t : Fin cfg0.N) (r : Fin 352) : Fin 704 :=
  ⟨t.val * 352 + r.val, by have h : t.val < 2 := t.isLt; omega⟩

/-- The whole gradient. -/
abbrev grad (g h : Vec Ideal S704x512 .f32) (f l : Vec Ideal S3x704x512 .bf16) (r : Fin 704) (d : Fin 1024) : EReal :=
  join (fun e => total (g (ix2 r e)) (f (ix3 0 r e)) (f (ix3 1 r e)) (f (ix3 2 r e)))
    (fun e => total (h (ix2 r e)) (l (ix3 0 r e)) (l (ix3 1 r e)) (l (ix3 2 r e))) d

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

section Point

variable (c : Dev nD) (t : Fin cfg0.N) (r : Fin 352) (d : Fin 1024) (e : Fin 512) (k : Fin 3)

/-- What a point's input blocks hold. -/
theorem blk0 : iblk m c 0 t (ix2 r d) = aW m c (ix3 0 d (rowOf t r)) := by unfold rowOf; blk_ext! [iblk, V, idx0]
theorem blk1 : iblk m c 1 t (ix2 r d) = aM m c (ix3 0 d (rowOf t r)) := by unfold rowOf; blk_ext! [iblk, V, idx1]
theorem blk2 : iblk m c 2 t (ix2 r d) = aV m c (ix3 0 d (rowOf t r)) := by unfold rowOf; blk_ext! [iblk, V, idx2]
theorem blk3 : iblk m c 3 t (ix2 r e) = aL m c (ix2 (rowOf t r) e) := by unfold rowOf; blk_ext! [iblk, V, idx3]
theorem blk4 : iblk m c 4 t (ix2 r e) = aR m c (ix2 (rowOf t r) e) := by unfold rowOf; blk_ext! [iblk, V, idx4]
theorem blk5 : iblk m c 5 t (ix3 k r e) = aFL m c (ix3 k (rowOf t r) e) := by
  unfold rowOf; blk_ext! [iblk, V, idx5]
theorem blk6 : iblk m c 6 t (ix3 k r e) = aFR m c (ix3 k (rowOf t r) e) := by
  unfold rowOf; blk_ext! [iblk, V, idx6]

/-- A point's gradient is the whole gradient's block. -/
theorem blkGrad_eq : blkGrad (iblk m c 3 t) (iblk m c 4 t) (iblk m c 5 t) (iblk m c 6 t) r d
    = grad (aL m c) (aR m c) (aFL m c) (aFR m c) (rowOf t r) d := by
  unfold blkGrad
  simp only [blk3, blk4, blk5, blk6]

/-- Where a point's output blocks lie. -/
theorem emb7 : ((win0_7.blk t).view.emb (ix2 r d) : S704x1024.Idx) = ix2 (rowOf t r) d := by unfold rowOf; blk_ext [idx7]
theorem emb8 : ((win0_8.blk t).view.emb (ix2 r d) : S704x1024.Idx) = ix2 (rowOf t r) d := by unfold rowOf; blk_ext [idx8]
theorem emb9 : ((win0_9.blk t).view.emb (ix2 r d) : S704x1024.Idx) = ix2 (rowOf t r) d := by unfold rowOf; blk_ext [idx9]
theorem emb10 : ((win0_10.blk t).view.emb (ix2 r d) : S704x1024.Idx) = ix2 (rowOf t r) d := by unfold rowOf; blk_ext [idx10]

end Point

variable (c : Dev nD)

/-- The four results: the gradient, the step, and the new moments. -/
theorem final7 : (dats m 0 c).arrAt 7 cfg0.N = fun i =>
    grad (aL m c) (aR m c) (aFL m c) (aFR m c) (i 0) (i 1) := by
  refine (dats m 0 c).arrAt_eq_of_covers 7 _ (by decide +kernel) fun t hf y => ?_
  blk_simp
  obtain ⟨r, d, rfl⟩ : ∃ (r : Fin 352) (d : Fin 1024), y = ix2 r d := ⟨y 0, y 1, eq_ix2 y⟩
  rw [after0_7, out7_at, emb7, blkGrad_eq]
  rfl
theorem final8 : (dats m 0 c).arrAt 8 cfg0.N = fun i =>
    step (aW m c (ix3 0 (i 1) (i 0))) (aM m c (ix3 0 (i 1) (i 0))) (aV m c (ix3 0 (i 1) (i 0))) (grad (aL m c) (aR m c) (aFL m c) (aFR m c) (i 0) (i 1)) := by
  refine (dats m 0 c).arrAt_eq_of_covers 8 _ (by decide +kernel) fun t hf y => ?_
  blk_simp
  obtain ⟨r, d, rfl⟩ : ∃ (r : Fin 352) (d : Fin 1024), y = ix2 r d := ⟨y 0, y 1, eq_ix2 y⟩
  rw [after0_8, out8_at, emb8, blk0, blk1, blk2, blkGrad_eq]
  rfl
theorem final9 : (dats m 0 c).arrAt 9 cfg0.N = fun i =>
    newM (aM m c (ix3 0 (i 1) (i 0))) (grad (aL m c) (aR m c) (aFL m c) (aFR m c) (i 0) (i 1)) := by
  refine (dats m 0 c).arrAt_eq_of_covers 9 _ (by decide +kernel) fun t hf y => ?_
  blk_simp
  obtain ⟨r, d, rfl⟩ : ∃ (r : Fin 352) (d : Fin 1024), y = ix2 r d := ⟨y 0, y 1, eq_ix2 y⟩
  rw [after0_9, out9_at, emb9, blk1, blkGrad_eq]
  rfl
theorem final10 : (dats m 0 c).arrAt 10 cfg0.N = fun i =>
    newV (aV m c (ix3 0 (i 1) (i 0))) (grad (aL m c) (aR m c) (aFL m c) (aFR m c) (i 0) (i 1)) := by
  refine (dats m 0 c).arrAt_eq_of_covers 10 _ (by decide +kernel) fun t hf y => ?_
  blk_simp
  obtain ⟨r, d, rfl⟩ : ∃ (r : Fin 352) (d : Fin 1024), y = ix2 r d := ⟨y 0, y 1, eq_ix2 y⟩
  rw [after0_10, out10_at, emb10, blk2, blkGrad_eq]
  rfl

end Kernel

section Reference

open Cert.Reference6Ideal Cert.Reference6Ideal.Read

variable (w u v : Vec Ideal S1x1024x704 .f32) (g h : Vec Ideal S704x512 .f32) (f l : Vec Ideal S3x704x512 .bf16)

/-- The reference's four results. -/
theorem ref7 : val_main_v33 (F := Ideal) g h f l = fun i => grad g h f l (i 0) (i 1) := by
  have e : ∀ (r : Fin 704) (d : Fin 1024), val_main_v33 (F := Ideal) g h f l (ix2 r d) = grad g h f l r d := fun r d => by
    pointwise [val_main_v0, val_main_v1, val_main_v2, val_main_cst, val_main_v3, val_main_v4, val_main_v5, val_main_v6, val_main_v7, val_main_v8, val_main_cst_0, val_main_v9, val_main_v10, val_main_cst_1, val_main_v11, val_main_v12, val_main_v13, val_main_cst_2, val_main_v14, val_main_v15, val_main_v16, val_main_cst_3, val_main_v17, val_main_v18, val_main_v19, val_main_cst_4, val_main_v20, val_main_v21, val_main_cst_5, val_main_v22, val_main_v23, val_main_v24, val_main_cst_6, val_main_v25, val_main_v26, val_main_v27, val_main_cst_7, val_main_v28, val_main_v29, val_main_v30, val_main_cst_8, val_main_v31, val_main_v32, val_main_v33, val_main_v34, val_main_v35, val_main_v36]
    exact join_total (fun e => g (ix2 r e)) (fun e => h (ix2 r e)) (fun k e => f (ix3 k r e)) (fun k e => l (ix3 k r e)) d
  funext i
  rw [eq_ix2 i]
  exact e (i 0) (i 1)
theorem ref8 : val_main_v34 (F := Ideal) w u v g h f l = fun i => step (w (ix3 0 (i 1) (i 0))) (u (ix3 0 (i 1) (i 0))) (v (ix3 0 (i 1) (i 0))) (grad g h f l (i 0) (i 1)) := by
  have e : ∀ (r : Fin 704) (d : Fin 1024), val_main_v34 (F := Ideal) w u v g h f l (ix2 r d) = step (w (ix3 0 d r)) (u (ix3 0 d r)) (v (ix3 0 d r)) (grad g h f l r d) := fun r d => by
    pointwise [val_main_v0, val_main_v1, val_main_v2, val_main_cst, val_main_v3, val_main_v4, val_main_v5, val_main_v6, val_main_v7, val_main_v8, val_main_cst_0, val_main_v9, val_main_v10, val_main_cst_1, val_main_v11, val_main_v12, val_main_v13, val_main_cst_2, val_main_v14, val_main_v15, val_main_v16, val_main_cst_3, val_main_v17, val_main_v18, val_main_v19, val_main_cst_4, val_main_v20, val_main_v21, val_main_cst_5, val_main_v22, val_main_v23, val_main_v24, val_main_cst_6, val_main_v25, val_main_v26, val_main_v27, val_main_cst_7, val_main_v28, val_main_v29, val_main_v30, val_main_cst_8, val_main_v31, val_main_v32, val_main_v33, val_main_v34, val_main_v35, val_main_v36]
    exact congrArg (step (w (ix3 0 d r)) (u (ix3 0 d r)) (v (ix3 0 d r)))
      (join_total (fun e => g (ix2 r e)) (fun e => h (ix2 r e)) (fun k e => f (ix3 k r e)) (fun k e => l (ix3 k r e)) d)
  funext i
  rw [eq_ix2 i]
  exact e (i 0) (i 1)
theorem ref9 : val_main_v35 (F := Ideal) u g h f l = fun i => newM (u (ix3 0 (i 1) (i 0))) (grad g h f l (i 0) (i 1)) := by
  have e : ∀ (r : Fin 704) (d : Fin 1024), val_main_v35 (F := Ideal) u g h f l (ix2 r d) = newM (u (ix3 0 d r)) (grad g h f l r d) := fun r d => by
    pointwise [val_main_v0, val_main_v1, val_main_v2, val_main_cst, val_main_v3, val_main_v4, val_main_v5, val_main_v6, val_main_v7, val_main_v8, val_main_cst_0, val_main_v9, val_main_v10, val_main_cst_1, val_main_v11, val_main_v12, val_main_v13, val_main_cst_2, val_main_v14, val_main_v15, val_main_v16, val_main_cst_3, val_main_v17, val_main_v18, val_main_v19, val_main_cst_4, val_main_v20, val_main_v21, val_main_cst_5, val_main_v22, val_main_v23, val_main_v24, val_main_cst_6, val_main_v25, val_main_v26, val_main_v27, val_main_cst_7, val_main_v28, val_main_v29, val_main_v30, val_main_cst_8, val_main_v31, val_main_v32, val_main_v33, val_main_v34, val_main_v35, val_main_v36]
    exact congrArg (newM (u (ix3 0 d r)))
      (join_total (fun e => g (ix2 r e)) (fun e => h (ix2 r e)) (fun k e => f (ix3 k r e)) (fun k e => l (ix3 k r e)) d)
  funext i
  rw [eq_ix2 i]
  exact e (i 0) (i 1)
theorem ref10 : val_main_v36 (F := Ideal) v g h f l = fun i => newV (v (ix3 0 (i 1) (i 0))) (grad g h f l (i 0) (i 1)) := by
  have e : ∀ (r : Fin 704) (d : Fin 1024), val_main_v36 (F := Ideal) v g h f l (ix2 r d) = newV (v (ix3 0 d r)) (grad g h f l r d) := fun r d => by
    pointwise [val_main_v0, val_main_v1, val_main_v2, val_main_cst, val_main_v3, val_main_v4, val_main_v5, val_main_v6, val_main_v7, val_main_v8, val_main_cst_0, val_main_v9, val_main_v10, val_main_cst_1, val_main_v11, val_main_v12, val_main_v13, val_main_cst_2, val_main_v14, val_main_v15, val_main_v16, val_main_cst_3, val_main_v17, val_main_v18, val_main_v19, val_main_cst_4, val_main_v20, val_main_v21, val_main_cst_5, val_main_v22, val_main_v23, val_main_v24, val_main_cst_6, val_main_v25, val_main_v26, val_main_v27, val_main_cst_7, val_main_v28, val_main_v29, val_main_v30, val_main_cst_8, val_main_v31, val_main_v32, val_main_v33, val_main_v34, val_main_v35, val_main_v36]
    exact congrArg (newV (v (ix3 0 d r)))
      (join_total (fun e => g (ix2 r e)) (fun e => h (ix2 r e)) (fun k e => f (ix3 k r e)) (fun k e => l (ix3 k r e)) d)
  funext i
  rw [eq_ix2 i]
  exact e (i 0) (i 1)

end Reference

/-- The kernel and the reference make the same gradient, step and moments. -/
theorem algebraic : Cert.algebraic_Kernel6Ideal_Reference6Ideal := fun m ρ m' ρ' _ hag =>
  ⟨fun c i => grad (aL m c) (aR m c) (aFL m c) (aFR m c) (i 0) (i 1),
    fun c i => step (aW m c (ix3 0 (i 1) (i 0))) (aM m c (ix3 0 (i 1) (i 0))) (aV m c (ix3 0 (i 1) (i 0))) (grad (aL m c) (aR m c) (aFL m c) (aFR m c) (i 0) (i 1)),
    fun c i => newM (aM m c (ix3 0 (i 1) (i 0))) (grad (aL m c) (aR m c) (aFL m c) (aFR m c) (i 0) (i 1)),
    fun c i => newV (aV m c (ix3 0 (i 1) (i 0))) (grad (aL m c) (aR m c) (aFL m c) (aFR m c) (i 0) (i 1)),
    (θ_run _ _ _).mono (fun _ h c => by
      obtain ⟨h0, h1, h2, h3, ha⟩ := h c
      exact ⟨h0.trans (final7 m c), h1.trans (final8 m c), h2.trans (final9 m c), h3.trans (final10 m c), ha⟩)
      (Cert.Kernel6Ideal.Value.run_blocks m ρ),
    (θ_run _ _ _).mono (fun _ h c => by
      obtain ⟨h0, h1, h2, h3, ha⟩ := h c
      obtain ⟨e0, e1, e2, e3, e4, e5, e6⟩ := hag c
      rw [Cert.Reference6Ideal.Read.val_main_v33_eq, e3, e4, e5, e6] at h0
      rw [Cert.Reference6Ideal.Read.val_main_v34_eq, e0, e1, e2, e3, e4, e5, e6] at h1
      rw [Cert.Reference6Ideal.Read.val_main_v35_eq, e1, e3, e4, e5, e6] at h2
      rw [Cert.Reference6Ideal.Read.val_main_v36_eq, e2, e3, e4, e5, e6] at h3
      exact ⟨h0.trans (ref7 _ _ _ _), h1.trans (ref8 _ _ _ _ _ _ _), h2.trans (ref9 _ _ _ _ _), h3.trans (ref10 _ _ _ _ _), ha⟩)
      (Cert.Reference6Ideal.Value.run m' ρ')⟩

end Cert.Proof.Opt6

end
-- ==== Proof.Opt7.lean ====
/-
  Hand-written. The optimiser's step for the second half-step's gate and up weight: kernel and reference agree.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt7

open Idealize.ShloMosaic Idealize.SL.Sem Idealize.ShloMosaic.TcCoe Cert.Proof.Opt
open Idealize.ShloMosaic.Pipeline (Dat Cfg Window)

section Kernel

open Cert.Kernel7Ideal Cert.Kernel7Ideal.Gen

section Block

variable (w u v g : Vec Ideal S352x1024 .f32) (f : Vec Ideal S3x352x1024 .bf16) (r : Fin 352) (d : Fin 1024)

/-- A block's gradient. -/
abbrev blkGrad : EReal := total (g (ix2 r d)) (f (ix3 0 r d)) (f (ix3 1 r d)) (f (ix3 2 r d))

/-- What the body leaves in the four output blocks. -/
theorem out5_at : out0_5 (F := Ideal) w u v g f (ix2 r d) = blkGrad g f r d := by
  unfold out0_5
  frame_out
  pointwise [k0_pay2]
  rfl
theorem out6_at : out0_6 (F := Ideal) w u v g f (ix2 r d)
    = step (w (ix2 r d)) (u (ix2 r d)) (v (ix2 r d)) (blkGrad g f r d) := by
  unfold out0_6 k0_pay7
  frame_out
  pointwise [k0_pay1, k0_pay2, k0_pay3, k0_pay4, k0_pay5, k0_pay6]
  rfl
theorem out7_at : out0_7 (F := Ideal) w u v g f (ix2 r d) = newM (u (ix2 r d)) (blkGrad g f r d) := by
  unfold out0_7
  frame_out
  pointwise [k0_pay2, k0_pay4]
  rfl
theorem out8_at : out0_8 (F := Ideal) w u v g f (ix2 r d) = newV (v (ix2 r d)) (blkGrad g f r d) := by
  unfold out0_8 k0_pay7
  frame_out
  pointwise [k0_pay2, k0_pay5]
  rfl

end Block

variable (m : (ℓ : Loc nD τ sig) → Buf (Elt Ideal) ℓ)

/-- The weight, its moments and the parts of its gradient. -/
abbrev aW (c : Dev nD) : Vec Ideal S1x1024x704 .f32 := m ((c : Thread nD τ).loc main_arg0)
abbrev aM (c : Dev nD) : Vec Ideal S1x1024x704 .f32 := m ((c : Thread nD τ).loc main_arg1)
abbrev aV (c : Dev nD) : Vec Ideal S1x1024x704 .f32 := m ((c : Thread nD τ).loc main_arg2)
abbrev aG (c : Dev nD) : Vec Ideal S704x1024 .f32 := m ((c : Thread nD τ).loc main_arg3)
abbrev aF (c : Dev nD) : Vec Ideal S3x704x1024 .bf16 := m ((c : Thread nD τ).loc main_arg4)

/-- The row of the whole array where a block's row lies. -/
def rowOf (t : Fin cfg0.N) (r : Fin 352) : Fin 704 :=
  ⟨t.val * 352 + r.val, by have h : t.val < 2 := t.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section Point

variable (c : Dev nD) (t : Fin cfg0.N) (r : Fin 352) (d : Fin 1024)

/-- What a point's input blocks hold. -/
theorem blk0 : iblk m c 0 t (ix2 r d) = aW m c (ix3 0 d (rowOf t r)) := by unfold rowOf; blk_ext! [iblk, V, idx0]
theorem blk1 : iblk m c 1 t (ix2 r d) = aM m c (ix3 0 d (rowOf t r)) := by unfold rowOf; blk_ext! [iblk, V, idx1]
theorem blk2 : iblk m c 2 t (ix2 r d) = aV m c (ix3 0 d (rowOf t r)) := by unfold rowOf; blk_ext! [iblk, V, idx2]
theorem blk3 : iblk m c 3 t (ix2 r d) = aG m c (ix2 (rowOf t r) d) := by unfold rowOf; blk_ext! [iblk, V, idx3]
theorem blk4 (k : Fin 3) : iblk m c 4 t (ix3 k r d) = aF m c (ix3 k (rowOf t r) d) := by
  unfold rowOf; blk_ext! [iblk, V, idx4]

/-- Where a point's output blocks lie. -/
theorem emb5 : ((win0_5.blk t).view.emb (ix2 r d) : S704x1024.Idx) = ix2 (rowOf t r) d := by unfold rowOf; blk_ext [idx5]
theorem emb6 : ((win0_6.blk t).view.emb (ix2 r d) : S704x1024.Idx) = ix2 (rowOf t r) d := by unfold rowOf; blk_ext [idx6]
theorem emb7 : ((win0_7.blk t).view.emb (ix2 r d) : S704x1024.Idx) = ix2 (rowOf t r) d := by unfold rowOf; blk_ext [idx7]
theorem emb8 : ((win0_8.blk t).view.emb (ix2 r d) : S704x1024.Idx) = ix2 (rowOf t r) d := by unfold rowOf; blk_ext [idx8]

end Point

variable (c : Dev nD)

/-- The whole gradient. -/
abbrev grad (g : Vec Ideal S704x1024 .f32) (f : Vec Ideal S3x704x1024 .bf16) (r : Fin 704) (d : Fin 1024) : EReal :=
  total (g (ix2 r d)) (f (ix3 0 r d)) (f (ix3 1 r d)) (f (ix3 2 r d))

/-- The four results: the gradient, the step, and the new moments. -/
theorem final5 : (dats m 0 c).arrAt 5 cfg0.N = fun i => grad (aG m c) (aF m c) (i 0) (i 1) := by
  refine (dats m 0 c).arrAt_eq_of_covers 5 _ (by decide +kernel) fun t hf y => ?_
  blk_simp
  obtain ⟨r, d, rfl⟩ : ∃ (r : Fin 352) (d : Fin 1024), y = ix2 r d := ⟨y 0, y 1, eq_ix2 y⟩
  rw [after0_5, out5_at, emb5]
  unfold blkGrad
  rw [blk3, blk4, blk4, blk4]
  rfl
theorem final6 : (dats m 0 c).arrAt 6 cfg0.N = fun i =>
    step (aW m c (ix3 0 (i 1) (i 0))) (aM m c (ix3 0 (i 1) (i 0))) (aV m c (ix3 0 (i 1) (i 0))) (grad (aG m c) (aF m c) (i 0) (i 1)) := by
  refine (dats m 0 c).arrAt_eq_of_covers 6 _ (by decide +kernel) fun t hf y => ?_
  blk_simp
  obtain ⟨r, d, rfl⟩ : ∃ (r : Fin 352) (d : Fin 1024), y = ix2 r d := ⟨y 0, y 1, eq_ix2 y⟩
  rw [after0_6, out6_at, emb6]
  unfold blkGrad
  rw [blk0, blk1, blk2, blk3, blk4, blk4, blk4]
  rfl
theorem final7 : (dats m 0 c).arrAt 7 cfg0.N = fun i => newM (aM m c (ix3 0 (i 1) (i 0))) (grad (aG m c) (aF m c) (i 0) (i 1)) := by
  refine (dats m 0 c).arrAt_eq_of_covers 7 _ (by decide +kernel) fun t hf y => ?_
  blk_simp
  obtain ⟨r, d, rfl⟩ : ∃ (r : Fin 352) (d : Fin 1024), y = ix2 r d := ⟨y 0, y 1, eq_ix2 y⟩
  rw [after0_7, out7_at, emb7]
  unfold blkGrad
  rw [blk1, blk3, blk4, blk4, blk4]
  rfl
theorem final8 : (dats m 0 c).arrAt 8 cfg0.N = fun i => newV (aV m c (ix3 0 (i 1) (i 0))) (grad (aG m c) (aF m c) (i 0) (i 1)) := by
  refine (dats m 0 c).arrAt_eq_of_covers 8 _ (by decide +kernel) fun t hf y => ?_
  blk_simp
  obtain ⟨r, d, rfl⟩ : ∃ (r : Fin 352) (d : Fin 1024), y = ix2 r d := ⟨y 0, y 1, eq_ix2 y⟩
  rw [after0_8, out8_at, emb8]
  unfold blkGrad
  rw [blk2, blk3, blk4, blk4, blk4]
  rfl

end Kernel

section Reference

open Cert.Reference7Ideal Cert.Reference7Ideal.Read

variable (w u v : Vec Ideal S1x1024x704 .f32) (g : Vec Ideal S704x1024 .f32) (f : Vec Ideal S3x704x1024 .bf16)

/-- The reference's four results. -/
theorem ref5 : val_main_v31 (F := Ideal) g f = fun i => grad g f (i 0) (i 1) := by
  have h : ∀ (r : Fin 704) (d : Fin 1024), val_main_v31 (F := Ideal) g f (ix2 r d) = grad g f r d := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    exact add_sum_three _ _
  funext i
  rw [eq_ix2 i]
  exact h (i 0) (i 1)
theorem ref6 : val_main_v32 (F := Ideal) w u v g f = fun i => step (w (ix3 0 (i 1) (i 0))) (u (ix3 0 (i 1) (i 0))) (v (ix3 0 (i 1) (i 0))) (grad g f (i 0) (i 1)) := by
  have h : ∀ (r : Fin 704) (d : Fin 1024), val_main_v32 (F := Ideal) w u v g f (ix2 r d)
      = step (w (ix3 0 d r)) (u (ix3 0 d r)) (v (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)
theorem ref7 : val_main_v33 (F := Ideal) u g f = fun i => newM (u (ix3 0 (i 1) (i 0))) (grad g f (i 0) (i 1)) := by
  have h : ∀ (r : Fin 704) (d : Fin 1024), val_main_v33 (F := Ideal) u g f (ix2 r d) = newM (u (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)
theorem ref8 : val_main_v34 (F := Ideal) v g f = fun i => newV (v (ix3 0 (i 1) (i 0))) (grad g f (i 0) (i 1)) := by
  have h : ∀ (r : Fin 704) (d : Fin 1024), val_main_v34 (F := Ideal) v g f (ix2 r d) = newV (v (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)

end Reference

/-- The kernel and the reference make the same gradient, step and moments. -/
theorem algebraic : Cert.algebraic_Kernel7Ideal_Reference7Ideal := fun m ρ m' ρ' _ hag =>
  ⟨fun c i => grad (aG m c) (aF m c) (i 0) (i 1),
    fun c i => step (aW m c (ix3 0 (i 1) (i 0))) (aM m c (ix3 0 (i 1) (i 0))) (aV m c (ix3 0 (i 1) (i 0))) (grad (aG m c) (aF m c) (i 0) (i 1)),
    fun c i => newM (aM m c (ix3 0 (i 1) (i 0))) (grad (aG m c) (aF m c) (i 0) (i 1)),
    fun c i => newV (aV m c (ix3 0 (i 1) (i 0))) (grad (aG m c) (aF m c) (i 0) (i 1)),
    (θ_run _ _ _).mono (fun _ h c => by
      obtain ⟨h0, h1, h2, h3, ha⟩ := h c
      exact ⟨h0.trans (final5 m c), h1.trans (final6 m c), h2.trans (final7 m c), h3.trans (final8 m c), ha⟩)
      (Cert.Kernel7Ideal.Value.run_blocks m ρ),
    (θ_run _ _ _).mono (fun _ h c => by
      obtain ⟨h0, h1, h2, h3, ha⟩ := h c
      obtain ⟨e0, e1, e2, e3, e4⟩ := hag c
      rw [Cert.Reference7Ideal.Read.val_main_v31_eq, e3, e4] at h0
      rw [Cert.Reference7Ideal.Read.val_main_v32_eq, e0, e1, e2, e3, e4] at h1
      rw [Cert.Reference7Ideal.Read.val_main_v33_eq, e1, e3, e4] at h2
      rw [Cert.Reference7Ideal.Read.val_main_v34_eq, e2, e3, e4] at h3
      exact ⟨h0.trans (ref5 _ _), h1.trans (ref6 _ _ _ _ _), h2.trans (ref7 _ _ _), h3.trans (ref8 _ _ _), ha⟩)
      (Cert.Reference7Ideal.Value.run m' ρ')⟩

end Cert.Proof.Opt7

end
-- ==== Proof.Opt8.lean ====
/-
  Hand-written. The optimiser's step for a half-step's down weight: kernel and reference agree.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt8

open Idealize.ShloMosaic Idealize.SL.Sem Idealize.ShloMosaic.TcCoe Cert.Proof.Opt
open Idealize.ShloMosaic.Pipeline (Dat Cfg Window)

section Kernel

open Cert.Kernel8Ideal Cert.Kernel8Ideal.Gen

section Block

variable (w u v g : Vec Ideal S352x1024 .f32) (f : Vec Ideal S3x352x1024 .bf16) (r : Fin 352) (d : Fin 1024)

/-- A block's gradient. -/
abbrev blkGrad : EReal := total (g (ix2 r d)) (f (ix3 0 r d)) (f (ix3 1 r d)) (f (ix3 2 r d))

/-- What the body leaves in the four output blocks. -/
theorem out5_at : out0_5 (F := Ideal) w u v g f (ix2 r d) = blkGrad g f r d := by
  unfold out0_5
  frame_out
  pointwise [k0_pay2]
  rfl
theorem out6_at : out0_6 (F := Ideal) w u v g f (ix2 r d)
    = step (w (ix2 r d)) (u (ix2 r d)) (v (ix2 r d)) (blkGrad g f r d) := by
  unfold out0_6 k0_pay7
  frame_out
  pointwise [k0_pay1, k0_pay2, k0_pay3, k0_pay4, k0_pay5, k0_pay6]
  rfl
theorem out7_at : out0_7 (F := Ideal) w u v g f (ix2 r d) = newM (u (ix2 r d)) (blkGrad g f r d) := by
  unfold out0_7
  frame_out
  pointwise [k0_pay2, k0_pay4]
  rfl
theorem out8_at : out0_8 (F := Ideal) w u v g f (ix2 r d) = newV (v (ix2 r d)) (blkGrad g f r d) := by
  unfold out0_8 k0_pay7
  frame_out
  pointwise [k0_pay2, k0_pay5]
  rfl

end Block

variable (m : (ℓ : Loc nD τ sig) → Buf (Elt Ideal) ℓ)

/-- The weight, its moments and the parts of its gradient. -/
abbrev aW (c : Dev nD) : Vec Ideal S1x352x1024 .f32 := m ((c : Thread nD τ).loc main_arg0)
abbrev aM (c : Dev nD) : Vec Ideal S1x352x1024 .f32 := m ((c : Thread nD τ).loc main_arg1)
abbrev aV (c : Dev nD) : Vec Ideal S1x352x1024 .f32 := m ((c : Thread nD τ).loc main_arg2)
abbrev aG (c : Dev nD) : Vec Ideal S352x1024 .f32 := m ((c : Thread nD τ).loc main_arg3)
abbrev aF (c : Dev nD) : Vec Ideal S3x352x1024 .bf16 := m ((c : Thread nD τ).loc main_arg4)

/-- The row of the whole array where a block's row lies. -/
def rowOf (t : Fin cfg0.N) (r : Fin 352) : Fin 352 :=
  ⟨t.val * 352 + r.val, by have h : t.val < 1 := t.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section Point

variable (c : Dev nD) (t : Fin cfg0.N) (r : Fin 352) (d : Fin 1024)

/-- What a point's input blocks hold. -/
theorem blk0 : iblk m c 0 t (ix2 r d) = aW m c (ix3 0 (rowOf t r) d) := by unfold rowOf; blk_ext! [iblk, V, idx0]
theorem blk1 : iblk m c 1 t (ix2 r d) = aM m c (ix3 0 (rowOf t r) d) := by unfold rowOf; blk_ext! [iblk, V, idx1]
theorem blk2 : iblk m c 2 t (ix2 r d) = aV m c (ix3 0 (rowOf t r) d) := by unfold rowOf; blk_ext! [iblk, V, idx2]
theorem blk3 : iblk m c 3 t (ix2 r d) = aG m c (ix2 (rowOf t r) d) := by unfold rowOf; blk_ext! [iblk, V, idx3]
theorem blk4 (k : Fin 3) : iblk m c 4 t (ix3 k r d) = aF m c (ix3 k (rowOf t r) d) := by
  unfold rowOf; blk_ext! [iblk, V, idx4]

/-- Where a point's output blocks lie. -/
theorem emb5 : ((win0_5.blk t).view.emb (ix2 r d) : S352x1024.Idx) = ix2 (rowOf t r) d := by unfold rowOf; blk_ext [idx5]
theorem emb6 : ((win0_6.blk t).view.emb (ix2 r d) : S352x1024.Idx) = ix2 (rowOf t r) d := by unfold rowOf; blk_ext [idx6]
theorem emb7 : ((win0_7.blk t).view.emb (ix2 r d) : S352x1024.Idx) = ix2 (rowOf t r) d := by unfold rowOf; blk_ext [idx7]
theorem emb8 : ((win0_8.blk t).view.emb (ix2 r d) : S352x1024.Idx) = ix2 (rowOf t r) d := by unfold rowOf; blk_ext [idx8]

end Point

variable (c : Dev nD)

/-- The whole gradient. -/
abbrev grad (g : Vec Ideal S352x1024 .f32) (f : Vec Ideal S3x352x1024 .bf16) (r : Fin 352) (d : Fin 1024) : EReal :=
  total (g (ix2 r d)) (f (ix3 0 r d)) (f (ix3 1 r d)) (f (ix3 2 r d))

/-- The four results: the gradient, the step, and the new moments. -/
theorem final5 : (dats m 0 c).arrAt 5 cfg0.N = fun i => grad (aG m c) (aF m c) (i 0) (i 1) := by
  refine (dats m 0 c).arrAt_eq_of_covers 5 _ (by decide +kernel) fun t hf y => ?_
  blk_simp
  obtain ⟨r, d, rfl⟩ : ∃ (r : Fin 352) (d : Fin 1024), y = ix2 r d := ⟨y 0, y 1, eq_ix2 y⟩
  rw [after0_5, out5_at, emb5]
  unfold blkGrad
  rw [blk3, blk4, blk4, blk4]
  rfl
theorem final6 : (dats m 0 c).arrAt 6 cfg0.N = fun i =>
    step (aW m c (ix3 0 (i 0) (i 1))) (aM m c (ix3 0 (i 0) (i 1))) (aV m c (ix3 0 (i 0) (i 1))) (grad (aG m c) (aF m c) (i 0) (i 1)) := by
  refine (dats m 0 c).arrAt_eq_of_covers 6 _ (by decide +kernel) fun t hf y => ?_
  blk_simp
  obtain ⟨r, d, rfl⟩ : ∃ (r : Fin 352) (d : Fin 1024), y = ix2 r d := ⟨y 0, y 1, eq_ix2 y⟩
  rw [after0_6, out6_at, emb6]
  unfold blkGrad
  rw [blk0, blk1, blk2, blk3, blk4, blk4, blk4]
  rfl
theorem final7 : (dats m 0 c).arrAt 7 cfg0.N = fun i => newM (aM m c (ix3 0 (i 0) (i 1))) (grad (aG m c) (aF m c) (i 0) (i 1)) := by
  refine (dats m 0 c).arrAt_eq_of_covers 7 _ (by decide +kernel) fun t hf y => ?_
  blk_simp
  obtain ⟨r, d, rfl⟩ : ∃ (r : Fin 352) (d : Fin 1024), y = ix2 r d := ⟨y 0, y 1, eq_ix2 y⟩
  rw [after0_7, out7_at, emb7]
  unfold blkGrad
  rw [blk1, blk3, blk4, blk4, blk4]
  rfl
theorem final8 : (dats m 0 c).arrAt 8 cfg0.N = fun i => newV (aV m c (ix3 0 (i 0) (i 1))) (grad (aG m c) (aF m c) (i 0) (i 1)) := by
  refine (dats m 0 c).arrAt_eq_of_covers 8 _ (by decide +kernel) fun t hf y => ?_
  blk_simp
  obtain ⟨r, d, rfl⟩ : ∃ (r : Fin 352) (d : Fin 1024), y = ix2 r d := ⟨y 0, y 1, eq_ix2 y⟩
  rw [after0_8, out8_at, emb8]
  unfold blkGrad
  rw [blk2, blk3, blk4, blk4, blk4]
  rfl

end Kernel

section Reference

open Cert.Reference8Ideal Cert.Reference8Ideal.Read

variable (w u v : Vec Ideal S1x352x1024 .f32) (g : Vec Ideal S352x1024 .f32) (f : Vec Ideal S3x352x1024 .bf16)

/-- The reference's four results. -/
theorem ref5 : val_main_v2 (F := Ideal) g f = fun i => grad g f (i 0) (i 1) := by
  have h : ∀ (r : Fin 352) (d : Fin 1024), val_main_v2 (F := Ideal) g f (ix2 r d) = grad g f r d := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    exact add_sum_three _ _
  funext i
  rw [eq_ix2 i]
  exact h (i 0) (i 1)
theorem ref6 : val_main_v29 (F := Ideal) w u v g f = fun i => step (w (ix3 0 (i 0) (i 1))) (u (ix3 0 (i 0) (i 1))) (v (ix3 0 (i 0) (i 1))) (grad g f (i 0) (i 1)) := by
  have h : ∀ (r : Fin 352) (d : Fin 1024), val_main_v29 (F := Ideal) w u v g f (ix2 r d)
      = step (w (ix3 0 r d)) (u (ix3 0 r d)) (v (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)
theorem ref7 : val_main_v10 (F := Ideal) u g f = fun i => newM (u (ix3 0 (i 0) (i 1))) (grad g f (i 0) (i 1)) := by
  have h : ∀ (r : Fin 352) (d : Fin 1024), val_main_v10 (F := Ideal) u g f (ix2 r d) = newM (u (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)
theorem ref8 : val_main_v16 (F := Ideal) v g f = fun i => newV (v (ix3 0 (i 0) (i 1))) (grad g f (i 0) (i 1)) := by
  have h : ∀ (r : Fin 352) (d : Fin 1024), val_main_v16 (F := Ideal) v g f (ix2 r d) = newV (v (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)

end Reference

/-- The kernel and the reference make the same gradient, step and moments. -/
theorem algebraic : Cert.algebraic_Kernel8Ideal_Reference8Ideal := fun m ρ m' ρ' _ hag =>
  ⟨fun c i => grad (aG m c) (aF m c) (i 0) (i 1),
    fun c i => step (aW m c (ix3 0 (i 0) (i 1))) (aM m c (ix3 0 (i 0) (i 1))) (aV m c (ix3 0 (i 0) (i 1))) (grad (aG m c) (aF m c) (i 0) (i 1)),
    fun c i => newM (aM m c (ix3 0 (i 0) (i 1))) (grad (aG m c) (aF m c) (i 0) (i 1)),
    fun c i => newV (aV m c (ix3 0 (i 0) (i 1))) (grad (aG m c) (aF m c) (i 0) (i 1)),
    (θ_run _ _ _).mono (fun _ h c => by
      obtain ⟨h0, h1, h2, h3, ha⟩ := h c
      exact ⟨h0.trans (final5 m c), h1.trans (final6 m c), h2.trans (final7 m c), h3.trans (final8 m c), ha⟩)
      (Cert.Kernel8Ideal.Value.run_blocks m ρ),
    (θ_run _ _ _).mono (fun _ h c => by
      obtain ⟨h0, h1, h2, h3, ha⟩ := h c
      obtain ⟨e0, e1, e2, e3, e4⟩ := hag c
      rw [Cert.Reference8Ideal.Read.val_main_v2_eq, e3, e4] at h0
      rw [Cert.Reference8Ideal.Read.val_main_v29_eq, e0, e1, e2, e3, e4] at h1
      rw [Cert.Reference8Ideal.Read.val_main_v10_eq, e1, e3, e4] at h2
      rw [Cert.Reference8Ideal.Read.val_main_v16_eq, e2, e3, e4] at h3
      exact ⟨h0.trans (ref5 _ _), h1.trans (ref6 _ _ _ _ _), h2.trans (ref7 _ _ _), h3.trans (ref8 _ _ _), ha⟩)
      (Cert.Reference8Ideal.Value.run m' ρ')⟩

end Cert.Proof.Opt8

end
-- ==== Proof.Opt9.lean ====
/-
  Hand-written. The optimiser's step for the mixing layer's input weight: kernel and reference agree.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt9

open Idealize.ShloMosaic Idealize.SL.Sem Idealize.ShloMosaic.TcCoe Cert.Proof.Opt
open Idealize.ShloMosaic.Pipeline (Dat Cfg Window)

section Kernel

open Cert.Kernel9Ideal Cert.Kernel9Ideal.Gen

section Block

variable (w u v g : Vec Ideal S288x1024 .f32) (f : Vec Ideal S3x288x1024 .bf16) (r : Fin 288) (d : Fin 1024)

/-- A block's gradient. -/
abbrev blkGrad : EReal := total (g (ix2 r d)) (f (ix3 0 r d)) (f (ix3 1 r d)) (f (ix3 2 r d))

/-- What the body leaves in the four output blocks. -/
theorem out5_at : out0_5 (F := Ideal) w u v g f (ix2 r d) = blkGrad g f r d := by
  unfold out0_5
  frame_out
  pointwise [k0_pay2]
  rfl
theorem out6_at : out0_6 (F := Ideal) w u v g f (ix2 r d)
    = step (w (ix2 r d)) (u (ix2 r d)) (v (ix2 r d)) (blkGrad g f r d) := by
  unfold out0_6 k0_pay7
  frame_out
  pointwise [k0_pay1, k0_pay2, k0_pay3, k0_pay4, k0_pay5, k0_pay6]
  rfl
theorem out7_at : out0_7 (F := Ideal) w u v g f (ix2 r d) = newM (u (ix2 r d)) (blkGrad g f r d) := by
  unfold out0_7
  frame_out
  pointwise [k0_pay2, k0_pay4]
  rfl
theorem out8_at : out0_8 (F := Ideal) w u v g f (ix2 r d) = newV (v (ix2 r d)) (blkGrad g f r d) := by
  unfold out0_8 k0_pay7
  frame_out
  pointwise [k0_pay2, k0_pay5]
  rfl

end Block

variable (m : (ℓ : Loc nD τ sig) → Buf (Elt Ideal) ℓ)

/-- The weight, its moments and the parts of its gradient. -/
abbrev aW (c : Dev nD) : Vec Ideal S1x1024x288 .f32 := m ((c : Thread nD τ).loc main_arg0)
abbrev aM (c : Dev nD) : Vec Ideal S1x1024x288 .f32 := m ((c : Thread nD τ).loc main_arg1)
abbrev aV (c : Dev nD) : Vec Ideal S1x1024x288 .f32 := m ((c : Thread nD τ).loc main_arg2)
abbrev aG (c : Dev nD) : Vec Ideal S288x1024 .f32 := m ((c : Thread nD τ).loc main_arg3)
abbrev aF (c : Dev nD) : Vec Ideal S3x288x1024 .bf16 := m ((c : Thread nD τ).loc main_arg4)

/-- The row of the whole array where a block's row lies. -/
def rowOf (t : Fin cfg0.N) (r : Fin 288) : Fin 288 :=
  ⟨t.val * 288 + r.val, by have h : t.val < 1 := t.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section Point

variable (c : Dev nD) (t : Fin cfg0.N) (r : Fin 288) (d : Fin 1024)

/-- What a point's input blocks hold. -/
theorem blk0 : iblk m c 0 t (ix2 r d) = aW m c (ix3 0 d (rowOf t r)) := by unfold rowOf; blk_ext! [iblk, V, idx0]
theorem blk1 : iblk m c 1 t (ix2 r d) = aM m c (ix3 0 d (rowOf t r)) := by unfold rowOf; blk_ext! [iblk, V, idx1]
theorem blk2 : iblk m c 2 t (ix2 r d) = aV m c (ix3 0 d (rowOf t r)) := by unfold rowOf; blk_ext! [iblk, V, idx2]
theorem blk3 : iblk m c 3 t (ix2 r d) = aG m c (ix2 (rowOf t r) d) := by unfold rowOf; blk_ext! [iblk, V, idx3]
theorem blk4 (k : Fin 3) : iblk m c 4 t (ix3 k r d) = aF m c (ix3 k (rowOf t r) d) := by
  unfold rowOf; blk_ext! [iblk, V, idx4]

/-- Where a point's output blocks lie. -/
theorem emb5 : ((win0_5.blk t).view.emb (ix2 r d) : S288x1024.Idx) = ix2 (rowOf t r) d := by unfold rowOf; blk_ext [idx5]
theorem emb6 : ((win0_6.blk t).view.emb (ix2 r d) : S288x1024.Idx) = ix2 (rowOf t r) d := by unfold rowOf; blk_ext [idx6]
theorem emb7 : ((win0_7.blk t).view.emb (ix2 r d) : S288x1024.Idx) = ix2 (rowOf t r) d := by unfold rowOf; blk_ext [idx7]
theorem emb8 : ((win0_8.blk t).view.emb (ix2 r d) : S288x1024.Idx) = ix2 (rowOf t r) d := by unfold rowOf; blk_ext [idx8]

end Point

variable (c : Dev nD)

/-- The whole gradient. -/
abbrev grad (g : Vec Ideal S288x1024 .f32) (f : Vec Ideal S3x288x1024 .bf16) (r : Fin 288) (d : Fin 1024) : EReal :=
  total (g (ix2 r d)) (f (ix3 0 r d)) (f (ix3 1 r d)) (f (ix3 2 r d))

/-- The four results: the gradient, the step, and the new moments. -/
theorem final5 : (dats m 0 c).arrAt 5 cfg0.N = fun i => grad (aG m c) (aF m c) (i 0) (i 1) := by
  refine (dats m 0 c).arrAt_eq_of_covers 5 _ (by decide +kernel) fun t hf y => ?_
  blk_simp
  obtain ⟨r, d, rfl⟩ : ∃ (r : Fin 288) (d : Fin 1024), y = ix2 r d := ⟨y 0, y 1, eq_ix2 y⟩
  rw [after0_5, out5_at, emb5]
  unfold blkGrad
  rw [blk3, blk4, blk4, blk4]
  rfl
theorem final6 : (dats m 0 c).arrAt 6 cfg0.N = fun i =>
    step (aW m c (ix3 0 (i 1) (i 0))) (aM m c (ix3 0 (i 1) (i 0))) (aV m c (ix3 0 (i 1) (i 0))) (grad (aG m c) (aF m c) (i 0) (i 1)) := by
  refine (dats m 0 c).arrAt_eq_of_covers 6 _ (by decide +kernel) fun t hf y => ?_
  blk_simp
  obtain ⟨r, d, rfl⟩ : ∃ (r : Fin 288) (d : Fin 1024), y = ix2 r d := ⟨y 0, y 1, eq_ix2 y⟩
  rw [after0_6, out6_at, emb6]
  unfold blkGrad
  rw [blk0, blk1, blk2, blk3, blk4, blk4, blk4]
  rfl
theorem final7 : (dats m 0 c).arrAt 7 cfg0.N = fun i => newM (aM m c (ix3 0 (i 1) (i 0))) (grad (aG m c) (aF m c) (i 0) (i 1)) := by
  refine (dats m 0 c).arrAt_eq_of_covers 7 _ (by decide +kernel) fun t hf y => ?_
  blk_simp
  obtain ⟨r, d, rfl⟩ : ∃ (r : Fin 288) (d : Fin 1024), y = ix2 r d := ⟨y 0, y 1, eq_ix2 y⟩
  rw [after0_7, out7_at, emb7]
  unfold blkGrad
  rw [blk1, blk3, blk4, blk4, blk4]
  rfl
theorem final8 : (dats m 0 c).arrAt 8 cfg0.N = fun i => newV (aV m c (ix3 0 (i 1) (i 0))) (grad (aG m c) (aF m c) (i 0) (i 1)) := by
  refine (dats m 0 c).arrAt_eq_of_covers 8 _ (by decide +kernel) fun t hf y => ?_
  blk_simp
  obtain ⟨r, d, rfl⟩ : ∃ (r : Fin 288) (d : Fin 1024), y = ix2 r d := ⟨y 0, y 1, eq_ix2 y⟩
  rw [after0_8, out8_at, emb8]
  unfold blkGrad
  rw [blk2, blk3, blk4, blk4, blk4]
  rfl

end Kernel

section Reference

open Cert.Reference9Ideal Cert.Reference9Ideal.Read

variable (w u v : Vec Ideal S1x1024x288 .f32) (g : Vec Ideal S288x1024 .f32) (f : Vec Ideal S3x288x1024 .bf16)

/-- The reference's four results. -/
theorem ref5 : val_main_v31 (F := Ideal) g f = fun i => grad g f (i 0) (i 1) := by
  have h : ∀ (r : Fin 288) (d : Fin 1024), val_main_v31 (F := Ideal) g f (ix2 r d) = grad g f r d := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    exact add_sum_three _ _
  funext i
  rw [eq_ix2 i]
  exact h (i 0) (i 1)
theorem ref6 : val_main_v32 (F := Ideal) w u v g f = fun i => step (w (ix3 0 (i 1) (i 0))) (u (ix3 0 (i 1) (i 0))) (v (ix3 0 (i 1) (i 0))) (grad g f (i 0) (i 1)) := by
  have h : ∀ (r : Fin 288) (d : Fin 1024), val_main_v32 (F := Ideal) w u v g f (ix2 r d)
      = step (w (ix3 0 d r)) (u (ix3 0 d r)) (v (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)
theorem ref7 : val_main_v33 (F := Ideal) u g f = fun i => newM (u (ix3 0 (i 1) (i 0))) (grad g f (i 0) (i 1)) := by
  have h : ∀ (r : Fin 288) (d : Fin 1024), val_main_v33 (F := Ideal) u g f (ix2 r d) = newM (u (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)
theorem ref8 : val_main_v34 (F := Ideal) v g f = fun i => newV (v (ix3 0 (i 1) (i 0))) (grad g f (i 0) (i 1)) := by
  have h : ∀ (r : Fin 288) (d : Fin 1024), val_main_v34 (F := Ideal) v g f (ix2 r d) = newV (v (ix3 0 d r)) (grad g f r d) := fun r d => by
    pointwise [val_main_v0, val_main_cst, val_main_v1, val_main_v2, val_main_v3, val_main_v4, val_main_v5, val_main_v6, val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30, val_main_v31, val_main_v32, val_main_v33, val_main_v34]
    simp only [add_sum_three]
    rfl
  funext i
  rw [eq_ix2 i]
  exact h (i 0) (i 1)

end Reference

/-- The kernel and the reference make the same gradient, step and moments. -/
theorem algebraic : Cert.algebraic_Kernel9Ideal_Reference9Ideal := fun m ρ m' ρ' _ hag =>
  ⟨fun c i => grad (aG m c) (aF m c) (i 0) (i 1),
    fun c i => step (aW m c (ix3 0 (i 1) (i 0))) (aM m c (ix3 0 (i 1) (i 0))) (aV m c (ix3 0 (i 1) (i 0))) (grad (aG m c) (aF m c) (i 0) (i 1)),
    fun c i => newM (aM m c (ix3 0 (i 1) (i 0))) (grad (aG m c) (aF m c) (i 0) (i 1)),
    fun c i => newV (aV m c (ix3 0 (i 1) (i 0))) (grad (aG m c) (aF m c) (i 0) (i 1)),
    (θ_run _ _ _).mono (fun _ h c => by
      obtain ⟨h0, h1, h2, h3, ha⟩ := h c
      exact ⟨h0.trans (final5 m c), h1.trans (final6 m c), h2.trans (final7 m c), h3.trans (final8 m c), ha⟩)
      (Cert.Kernel9Ideal.Value.run_blocks m ρ),
    (θ_run _ _ _).mono (fun _ h c => by
      obtain ⟨h0, h1, h2, h3, ha⟩ := h c
      obtain ⟨e0, e1, e2, e3, e4⟩ := hag c
      rw [Cert.Reference9Ideal.Read.val_main_v31_eq, e3, e4] at h0
      rw [Cert.Reference9Ideal.Read.val_main_v32_eq, e0, e1, e2, e3, e4] at h1
      rw [Cert.Reference9Ideal.Read.val_main_v33_eq, e1, e3, e4] at h2
      rw [Cert.Reference9Ideal.Read.val_main_v34_eq, e2, e3, e4] at h3
      exact ⟨h0.trans (ref5 _ _), h1.trans (ref6 _ _ _ _ _), h2.trans (ref7 _ _ _), h3.trans (ref8 _ _ _), ha⟩)
      (Cert.Reference9Ideal.Value.run m' ρ')⟩

end Cert.Proof.Opt9

end
-- ==== Proof.Opt10.lean ====
/-
  Hand-written. The optimiser's step for the mixing layer's output weight: kernel and reference agree.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt10

open Idealize.ShloMosaic Idealize.SL.Sem Idealize.ShloMosaic.TcCoe Cert.Proof.Opt
open Idealize.ShloMosaic.Pipeline (Dat Cfg Window)

section Kernel

open Cert.Kernel10Ideal Cert.Kernel10Ideal.Gen

section Block

variable (w u v g : Vec Ideal S128x1024 .f32) (f : Vec Ideal S3x128x1024 .bf16) (r : Fin 128) (d : Fin 1024)

/-- A block's gradient. -/
abbrev blkGrad : EReal := total (g (ix2 r d)) (f (ix3 0 r d)) (f (ix3 1 r d)) (f (ix3 2 r d))

/-- What the body leaves in the four output blocks. -/
theorem out5_at : out0_5 (F := Ideal) w u v g f (ix2 r d) = blkGrad g f r d := by
  unfold out0_5
  frame_out
  pointwise [k0_pay2]
  rfl
theorem out6_at : out0_6 (F := Ideal) w u v g f (ix2 r d)
    = step (w (ix2 r d)) (u (ix2 r d)) (v (ix2 r d)) (blkGrad g f r d) := by
  unfold out0_6 k0_pay7
  frame_out
  pointwise [k0_pay1, k0_pay2, k0_pay3, k0_pay4, k0_pay5, k0_pay6]
  rfl
theorem out7_at : out0_7 (F := Ideal) w u v g f (ix2 r d) = newM (u (ix2 r d)) (blkGrad g f r d) := by
  unfold out0_7
  frame_out
  pointwise [k0_pay2, k0_pay4]
  rfl
theorem out8_at : out0_8 (F := Ideal) w u v g f (ix2 r d) = newV (v (ix2 r d)) (blkGrad g f r d) := by
  unfold out0_8 k0_pay7
  frame_out
  pointwise [k0_pay2, k0_pay5]
  rfl

end Block

variable (m : (ℓ : Loc nD τ sig) → Buf (Elt Ideal) ℓ)

/-- The weight, its moments and the parts of its gradient. -/
abbrev aW (c : Dev nD) : Vec Ideal S1x128x1024 .f32 := m ((c : Thread nD τ).loc main_arg0)
abbrev aM (c : Dev nD) : Vec Ideal S1x128x1024 .f32 := m ((c : Thread nD τ).loc main_arg1)
abbrev aV (c : Dev nD) : Vec Ideal S1x128x1024 .f32 := m ((c : Thread nD τ).loc main_arg2)
abbrev aG (c : Dev nD) : Vec Ideal S128x1024 .f32 := m ((c : Thread nD τ).loc main_arg3)
abbrev aF (c : Dev nD) : Vec Ideal S3x128x1024 .bf16 := m ((c : Thread nD τ).loc main_arg4)

/-- The row of the whole array where a block's row lies. -/
def rowOf (t : Fin cfg0.N) (r : Fin 128) : Fin 128 :=
  ⟨t.val * 128 + r.val, by have h : t.val < 1 := t.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section Point

variable (c : Dev nD) (t : Fin cfg0.N) (r : Fin 128) (d : Fin 1024)

/-- What a point's input blocks hold. -/
theorem blk0 : iblk m c 0 t (ix2 r d) = aW m c (ix3 0 (rowOf t r) d) := by unfold rowOf; blk_ext! [iblk, V, idx0]
theorem blk1 : iblk m c 1 t (ix2 r d) = aM m c (ix3 0 (rowOf t r) d) := by unfold rowOf; blk_ext! [iblk, V, idx1]
theorem blk2 : iblk m c 2 t (ix2 r d) = aV m c (ix3 0 (rowOf t r) d) := by unfold rowOf; blk_ext! [iblk, V, idx2]
theorem blk3 : iblk m c 3 t (ix2 r d) = aG m c (ix2 (rowOf t r) d) := by unfold rowOf; blk_ext! [iblk, V, idx3]
theorem blk4 (k : Fin 3) : iblk m c 4 t (ix3 k r d) = aF m c (ix3 k (rowOf t r) d) := by
  unfold rowOf; blk_ext! [iblk, V, idx4]

/-- Where a point's output blocks lie. -/
theorem emb5 : ((win0_5.blk t).view.emb (ix2 r d) : S128x1024.Idx) = ix2 (rowOf t r) d := by unfold rowOf; blk_ext [idx5]
theorem emb6 : ((win0_6.blk t).view.emb (ix2 r d) : S128x1024.Idx) = ix2 (rowOf t r) d := by unfold rowOf; blk_ext [idx6]
theorem emb7 : ((win0_7.blk t).view.emb (ix2 r d) : S128x1024.Idx) = ix2 (rowOf t r) d := by unfold rowOf; blk_ext [idx7]
theorem emb8 : ((win0_8.blk t).view.emb (ix2 r d) : S128x1024.Idx) = ix2 (rowOf t r) d := by unfold rowOf; blk_ext [idx8]

end Point

variable (c : Dev nD)

/-- The whole gradient. -/
abbrev grad (g : Vec Ideal S128x1024 .f32) (f : Vec Ideal S3x128x1024 .bf16) (r : Fin 128) (d : Fin 1024) : EReal :=
  total (g (ix2 r d)) (f (ix3 0 r d)) (f (ix3 1 r d)) (f (ix3 2 r d))

/-- The four results: the gradient, the step, and the new moments. -/
theorem final5 : (dats m 0 c).arrAt 5 cfg0.N = fun i => grad (aG m c) (aF m c) (i 0) (i 1) := by
  refine (dats m 0 c).arrAt_eq_of_covers 5 _ (by decide +kernel) fun t hf y => ?_
  blk_simp
  obtain ⟨r, d, rfl⟩ : ∃ (r : Fin 128) (d : Fin 1024), y = ix2 r d := ⟨y 0, y 1, eq_ix2 y⟩
  rw [after0_5, out5_at, emb5]
  unfold blkGrad
  rw [blk3, blk4, blk4, blk4]
  rfl
theorem final6 : (dats m 0 c).arrAt 6 cfg0.N = fun i =>
    step (aW m c (ix3 0 (i 0) (i 1))) (aM m c (ix3 0 (i 0) (i 1))) (aV m c (ix3 0 (i 0) (i 1))) (grad (aG m c) (aF m c) (i 0) (i 1)) := by
  refine (dats m 0 c).arrAt_eq_of_covers 6 _ (by decide +kernel) fun t hf y => ?_
  blk_simp
  obtain ⟨r, d, rfl⟩ : ∃ (r : Fin 128) (d : Fin 1024), y = ix2 r d := ⟨y 0, y 1, eq_ix2 y⟩
  rw [after0_6, out6_at, emb6]
  unfold blkGrad
  rw [blk0, blk1, blk2, blk3, blk4, blk4, blk4]
  rfl
theorem final7 : (dats m 0 c).arrAt 7 cfg0.N = fun i => newM (aM m c (ix3 0 (i 0) (i 1))) (grad (aG m c) (aF m c) (i 0) (i 1)) := by
  refine (dats m 0 c).arrAt_eq_of_covers 7 _ (by decide +kernel) fun t hf y => ?_
  blk_simp
  obtain ⟨r, d, rfl⟩ : ∃ (r : Fin 128) (d : Fin 1024), y = ix2 r d := ⟨y 0, y 1, eq_ix2 y⟩
  rw [after0_7, out7_at, emb7]
  unfold blkGrad
  rw [blk1, blk3, blk4, blk4, blk4]
  rfl
theorem final8 : (dats m 0 c).arrAt 8 cfg0.N = fun i => newV (aV m c (ix3 0 (i 0) (i 1))) (grad (aG m c) (aF m c) (i 0) (i 1)) := by
  refine (dats m 0 c).arrAt_eq_of_covers 8 _ (by decide +kernel) fun t hf y => ?_
  blk_simp
  obtain ⟨r, d, rfl⟩ : ∃ (r : Fin 128) (d : Fin 1024), y = ix2 r d := ⟨y 0, y 1, eq_ix2 y⟩
  rw [after0_8, out8_at, emb8]
  unfold blkGrad
  rw [blk2, blk3, blk4, blk4, blk4]
  rfl

end Kernel

section Reference

open Cert.Reference10Ideal Cert.Reference10Ideal.Read

variable (w u v : Vec Ideal S1x128x1024 .f32) (g : Vec Ideal S128x1024 .f32) (f : Vec Ideal S3x128x1024 .bf16)

/-- The reference's four results. -/
theorem ref5 : val_main_v2 (F := Ideal) g f = fun i => grad g f (i 0) (i 1) := by
  have h : ∀ (r : Fin 128) (d : Fin 1024), val_main_v2 (F := Ideal) g f (ix2 r d) = grad g f r d := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    exact add_sum_three _ _
  funext i
  rw [eq_ix2 i]
  exact h (i 0) (i 1)
theorem ref6 : val_main_v29 (F := Ideal) w u v g f = fun i => step (w (ix3 0 (i 0) (i 1))) (u (ix3 0 (i 0) (i 1))) (v (ix3 0 (i 0) (i 1))) (grad g f (i 0) (i 1)) := by
  have h : ∀ (r : Fin 128) (d : Fin 1024), val_main_v29 (F := Ideal) w u v g f (ix2 r d)
      = step (w (ix3 0 r d)) (u (ix3 0 r d)) (v (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)
theorem ref7 : val_main_v10 (F := Ideal) u g f = fun i => newM (u (ix3 0 (i 0) (i 1))) (grad g f (i 0) (i 1)) := by
  have h : ∀ (r : Fin 128) (d : Fin 1024), val_main_v10 (F := Ideal) u g f (ix2 r d) = newM (u (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)
theorem ref8 : val_main_v16 (F := Ideal) v g f = fun i => newV (v (ix3 0 (i 0) (i 1))) (grad g f (i 0) (i 1)) := by
  have h : ∀ (r : Fin 128) (d : Fin 1024), val_main_v16 (F := Ideal) v g f (ix2 r d) = newV (v (ix3 0 r d)) (grad g f r d) := fun r d => by
    pointwise [val_main_v0, val_main_cst, val_main_v1, val_main_v2, val_main_v3, val_main_v4, val_main_v5, val_main_cst_0, val_main_v6, val_main_v7, val_main_cst_1, val_main_v8, val_main_v9, val_main_v10, val_main_cst_2, val_main_v11, val_main_v12, val_main_v13, val_main_cst_3, val_main_v14, val_main_v15, val_main_v16, val_main_cst_4, val_main_v17, val_main_v18, val_main_cst_5, val_main_v19, val_main_v20, val_main_v21, val_main_cst_6, val_main_v22, val_main_v23, val_main_v24, val_main_cst_7, val_main_v25, val_main_v26, val_main_v27, val_main_cst_8, val_main_v28, val_main_v29]
    simp only [add_sum_three]
    rfl
  funext i
  rw [eq_ix2 i]
  exact h (i 0) (i 1)

end Reference

/-- The kernel and the reference make the same gradient, step and moments. -/
theorem algebraic : Cert.algebraic_Kernel10Ideal_Reference10Ideal := fun m ρ m' ρ' _ hag =>
  ⟨fun c i => grad (aG m c) (aF m c) (i 0) (i 1),
    fun c i => step (aW m c (ix3 0 (i 0) (i 1))) (aM m c (ix3 0 (i 0) (i 1))) (aV m c (ix3 0 (i 0) (i 1))) (grad (aG m c) (aF m c) (i 0) (i 1)),
    fun c i => newM (aM m c (ix3 0 (i 0) (i 1))) (grad (aG m c) (aF m c) (i 0) (i 1)),
    fun c i => newV (aV m c (ix3 0 (i 0) (i 1))) (grad (aG m c) (aF m c) (i 0) (i 1)),
    (θ_run _ _ _).mono (fun _ h c => by
      obtain ⟨h0, h1, h2, h3, ha⟩ := h c
      exact ⟨h0.trans (final5 m c), h1.trans (final6 m c), h2.trans (final7 m c), h3.trans (final8 m c), ha⟩)
      (Cert.Kernel10Ideal.Value.run_blocks m ρ),
    (θ_run _ _ _).mono (fun _ h c => by
      obtain ⟨h0, h1, h2, h3, ha⟩ := h c
      obtain ⟨e0, e1, e2, e3, e4⟩ := hag c
      rw [Cert.Reference10Ideal.Read.val_main_v2_eq, e3, e4] at h0
      rw [Cert.Reference10Ideal.Read.val_main_v29_eq, e0, e1, e2, e3, e4] at h1
      rw [Cert.Reference10Ideal.Read.val_main_v10_eq, e1, e3, e4] at h2
      rw [Cert.Reference10Ideal.Read.val_main_v16_eq, e2, e3, e4] at h3
      exact ⟨h0.trans (ref5 _ _), h1.trans (ref6 _ _ _ _ _), h2.trans (ref7 _ _ _), h3.trans (ref8 _ _ _), ha⟩)
      (Cert.Reference10Ideal.Value.run m' ρ')⟩

end Cert.Proof.Opt10

end
-- ==== Proof.Opt11.lean ====
/-
  Hand-written. The optimiser's step for the conditioning's weight: kernel and reference agree.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt11

open Idealize.ShloMosaic Idealize.SL.Sem Idealize.ShloMosaic.TcCoe Cert.Proof.Opt
open Idealize.ShloMosaic.Pipeline (Dat Cfg Window)

section Kernel

open Cert.Kernel11Ideal Cert.Kernel11Ideal.Gen

section Block

variable (w u v g : Vec Ideal S512x1152 .f32) (r : Fin 512) (d : Fin 1152)

/-- What the body leaves in the three output blocks. -/
theorem out4_at : out0_4 (F := Ideal) w u v g (ix2 r d)
    = step (w (ix2 r d)) (u (ix2 r d)) (v (ix2 r d)) (g (ix2 r d)) := by
  unfold out0_4
  frame_out
  pointwise [k0_pay1, k0_pay2, k0_pay3]
  rfl
theorem out5_at : out0_5 (F := Ideal) w u v g (ix2 r d) = newM (u (ix2 r d)) (g (ix2 r d)) := by
  unfold out0_5
  frame_out
  pointwise [k0_pay1]
  rfl
theorem out6_at : out0_6 (F := Ideal) w u v g (ix2 r d) = newV (v (ix2 r d)) (g (ix2 r d)) := by
  unfold out0_6
  frame_out
  pointwise [k0_pay2]
  rfl

end Block

variable (m : (ℓ : Loc nD τ sig) → Buf (Elt Ideal) ℓ)

/-- The weight, its moments and its gradient. -/
abbrev aW (c : Dev nD) : Vec Ideal S1x1024x1152 .f32 := m ((c : Thread nD τ).loc main_arg0)
abbrev aM (c : Dev nD) : Vec Ideal S1x1024x1152 .f32 := m ((c : Thread nD τ).loc main_arg1)
abbrev aV (c : Dev nD) : Vec Ideal S1x1024x1152 .f32 := m ((c : Thread nD τ).loc main_arg2)
abbrev aG (c : Dev nD) : Vec Ideal S1024x1152 .f32 := m ((c : Thread nD τ).loc main_arg3)

/-- The row of the whole array where a block's row lies. -/
def rowOf (t : Fin cfg0.N) (r : Fin 512) : Fin 1024 :=
  ⟨t.val * 512 + r.val, by have h : t.val < 2 := t.isLt; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

section Point

variable (c : Dev nD) (t : Fin cfg0.N) (r : Fin 512) (d : Fin 1152)

/-- What a point's input blocks hold. -/
theorem blk0 : iblk m c 0 t (ix2 r d) = aW m c (ix3 0 (rowOf t r) d) := by unfold rowOf; blk_ext! [iblk, V, idx0]
theorem blk1 : iblk m c 1 t (ix2 r d) = aM m c (ix3 0 (rowOf t r) d) := by unfold rowOf; blk_ext! [iblk, V, idx1]
theorem blk2 : iblk m c 2 t (ix2 r d) = aV m c (ix3 0 (rowOf t r) d) := by unfold rowOf; blk_ext! [iblk, V, idx2]
theorem blk3 : iblk m c 3 t (ix2 r d) = aG m c (ix2 (rowOf t r) d) := by unfold rowOf; blk_ext! [iblk, V, idx3]

/-- Where a point's output blocks lie. -/
theorem emb4 : ((win0_4.blk t).view.emb (ix2 r d) : S1024x1152.Idx) = ix2 (rowOf t r) d := by unfold rowOf; blk_ext [idx4]
theorem emb5 : ((win0_5.blk t).view.emb (ix2 r d) : S1024x1152.Idx) = ix2 (rowOf t r) d := by unfold rowOf; blk_ext [idx5]
theorem emb6 : ((win0_6.blk t).view.emb (ix2 r d) : S1024x1152.Idx) = ix2 (rowOf t r) d := by unfold rowOf; blk_ext [idx6]

end Point

variable (c : Dev nD)

/-- The three results: the step and the new moments. -/
theorem final4 : (dats m 0 c).arrAt 4 cfg0.N = fun i =>
    step (aW m c (ix3 0 (i 0) (i 1))) (aM m c (ix3 0 (i 0) (i 1))) (aV m c (ix3 0 (i 0) (i 1))) (aG m c (ix2 (i 0) (i 1))) := by
  refine (dats m 0 c).arrAt_eq_of_covers 4 _ (by decide +kernel) fun t hf y => ?_
  blk_simp
  obtain ⟨r, d, rfl⟩ : ∃ (r : Fin 512) (d : Fin 1152), y = ix2 r d := ⟨y 0, y 1, eq_ix2 y⟩
  rw [after0_4, out4_at, emb4, blk0, blk1, blk2, blk3]
  rfl
theorem final5 : (dats m 0 c).arrAt 5 cfg0.N = fun i =>
    newM (aM m c (ix3 0 (i 0) (i 1))) (aG m c (ix2 (i 0) (i 1))) := by
  refine (dats m 0 c).arrAt_eq_of_covers 5 _ (by decide +kernel) fun t hf y => ?_
  blk_simp
  obtain ⟨r, d, rfl⟩ : ∃ (r : Fin 512) (d : Fin 1152), y = ix2 r d := ⟨y 0, y 1, eq_ix2 y⟩
  rw [after0_5, out5_at, emb5, blk1, blk3]
  rfl
theorem final6 : (dats m 0 c).arrAt 6 cfg0.N = fun i =>
    newV (aV m c (ix3 0 (i 0) (i 1))) (aG m c (ix2 (i 0) (i 1))) := by
  refine (dats m 0 c).arrAt_eq_of_covers 6 _ (by decide +kernel) fun t hf y => ?_
  blk_simp
  obtain ⟨r, d, rfl⟩ : ∃ (r : Fin 512) (d : Fin 1152), y = ix2 r d := ⟨y 0, y 1, eq_ix2 y⟩
  rw [after0_6, out6_at, emb6, blk2, blk3]
  rfl

end Kernel

section Reference

open Cert.Reference11Ideal Cert.Reference11Ideal.Read

variable (w u v : Vec Ideal S1x1024x1152 .f32) (g : Vec Ideal S1024x1152 .f32)

/-- The reference's three results. -/
theorem ref4 : val_main_v26 (F := Ideal) w u v g = fun i => step (w (ix3 0 (i 0) (i 1))) (u (ix3 0 (i 0) (i 1))) (v (ix3 0 (i 0) (i 1))) (g (ix2 (i 0) (i 1))) := by
  have h : ∀ (r : Fin 1024) (d : Fin 1152), val_main_v26 (F := Ideal) w u v g (ix2 r d) = step (w (ix3 0 r d)) (u (ix3 0 r d)) (v (ix3 0 r d)) (g (ix2 r d)) := fun r d => by
    pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
    rfl
  funext i
  rw [eq_ix2 i]
  exact h (i 0) (i 1)
theorem ref5 : val_main_v7 (F := Ideal) u g = fun i => newM (u (ix3 0 (i 0) (i 1))) (g (ix2 (i 0) (i 1))) := by
  have h : ∀ (r : Fin 1024) (d : Fin 1152), val_main_v7 (F := Ideal) u g (ix2 r d) = newM (u (ix3 0 r d)) (g (ix2 r d)) := fun r d => by
    pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
    rfl
  funext i
  rw [eq_ix2 i]
  exact h (i 0) (i 1)
theorem ref6 : val_main_v13 (F := Ideal) v g = fun i => newV (v (ix3 0 (i 0) (i 1))) (g (ix2 (i 0) (i 1))) := by
  have h : ∀ (r : Fin 1024) (d : Fin 1152), val_main_v13 (F := Ideal) v g (ix2 r d) = newV (v (ix3 0 r d)) (g (ix2 r d)) := fun r d => by
    pointwise [val_main_v0, val_main_v1, val_main_v2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
    rfl
  funext i
  rw [eq_ix2 i]
  exact h (i 0) (i 1)

end Reference

/-- The kernel and the reference make the same step and moments. -/
theorem algebraic : Cert.algebraic_Kernel11Ideal_Reference11Ideal := fun m ρ m' ρ' _ hag =>
  ⟨fun c i => step (aW m c (ix3 0 (i 0) (i 1))) (aM m c (ix3 0 (i 0) (i 1))) (aV m c (ix3 0 (i 0) (i 1))) (aG m c (ix2 (i 0) (i 1))),
    fun c i => newM (aM m c (ix3 0 (i 0) (i 1))) (aG m c (ix2 (i 0) (i 1))),
    fun c i => newV (aV m c (ix3 0 (i 0) (i 1))) (aG m c (ix2 (i 0) (i 1))),
    (θ_run _ _ _).mono (fun _ h c => by
      obtain ⟨h0, h1, h2, ha⟩ := h c
      exact ⟨h0.trans (final4 m c), h1.trans (final5 m c), h2.trans (final6 m c), ha⟩)
      (Cert.Kernel11Ideal.Value.run_blocks m ρ),
    (θ_run _ _ _).mono (fun _ h c => by
      obtain ⟨h0, h1, h2, ha⟩ := h c
      obtain ⟨e0, e1, e2, e3⟩ := hag c
      rw [Cert.Reference11Ideal.Read.val_main_v26_eq, e0, e1, e2, e3] at h0
      rw [Cert.Reference11Ideal.Read.val_main_v7_eq, e1, e3] at h1
      rw [Cert.Reference11Ideal.Read.val_main_v13_eq, e2, e3] at h2
      exact ⟨h0.trans (ref4 _ _ _ _), h1.trans (ref5 _ _), h2.trans (ref6 _ _), ha⟩)
      (Cert.Reference11Ideal.Value.run m' ρ')⟩

end Cert.Proof.Opt11

end
-- ==== Proof.SmallBody.lean ====
/-
  Hand-written. The optimiser's step for the small weights: what one call of the body does.
-/
module

public import proofs.«01_k».proof.Proof.Gen.Kernel12Ideal.Skeleton
public import proofs.«01_k».proof.Proof.Gen.Kernel12Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (UR sig nD τ) ℕ

/-- The whole of each shape of block. -/
abbrev r0_0 : Rect S1x9216 := Rect.unit (s := S1x9216) ![0, 0] S1x9216.size inb_S1x9216_S1x9216_0_0
abbrev r0_1 : Rect S1x1024 := Rect.unit (s := S1x1024) ![0, 0] S1x1024.size inb_S1x1024_S1x1024_0_0
abbrev r0_2 : Rect S3x1x64 := Rect.unit (s := S3x1x64) ![0, 0, 0] S3x1x64.size inb_S3x1x64_S3x1x64_0_0_0
abbrev r0_3 : Rect S1x8 := Rect.unit (s := S1x8) ![0, 0] S1x8.size inb_S1x8_S1x8_0_0

/-- What the body leaves of a weight, a gradient and its moments: per shape the step and the new moments. -/
def stepA (w g u v : Vec F S1x9216 .f32) : Vec F S1x9216 .f32 := View.canon [⟨r0_0, k0_pay6 (View.ld w r0_0) (View.ld g r0_0) (View.ld u r0_0) (View.ld v r0_0)⟩]
def momA (g u : Vec F S1x9216 .f32) : Vec F S1x9216 .f32 := View.canon [⟨r0_0, k0_pay4 (View.ld g r0_0) (View.ld u r0_0)⟩]
def varA (g v : Vec F S1x9216 .f32) : Vec F S1x9216 .f32 := View.canon [⟨r0_0, k0_pay5 (View.ld g r0_0) (View.ld v r0_0)⟩]
def stepB (w g u v : Vec F S1x1024 .f32) : Vec F S1x1024 .f32 := View.canon [⟨r0_1, k0_pay9 (View.ld w r0_1) (View.ld g r0_1) (View.ld u r0_1) (View.ld v r0_1)⟩]
def momB (g u : Vec F S1x1024 .f32) : Vec F S1x1024 .f32 := View.canon [⟨r0_1, k0_pay7 (View.ld g r0_1) (View.ld u r0_1)⟩]
def varB (g v : Vec F S1x1024 .f32) : Vec F S1x1024 .f32 := View.canon [⟨r0_1, k0_pay8 (View.ld g r0_1) (View.ld v r0_1)⟩]
def stepC (w g u v : Vec F S3x1x64 .f32) : Vec F S3x1x64 .f32 := View.canon [⟨r0_2, k0_pay17 (k0_pay13 (View.ld w r0_2)) (View.ld g r0_2) (View.ld u r0_2) (View.ld v r0_2)⟩]
def momC (g u : Vec F S3x1x64 .f32) : Vec F S3x1x64 .f32 := View.canon [⟨r0_2, k0_pay15 (View.ld g r0_2) (View.ld u r0_2)⟩]
def varC (g v : Vec F S3x1x64 .f32) : Vec F S3x1x64 .f32 := View.canon [⟨r0_2, k0_pay16 (View.ld g r0_2) (View.ld v r0_2)⟩]
def stepD (w g u v : Vec F S1x8 .f32) : Vec F S1x8 .f32 := View.canon [⟨r0_3, k0_pay20 (View.ld w r0_3) (View.ld g r0_3) (View.ld u r0_3) (View.ld v r0_3)⟩]
def momD (g u : Vec F S1x8 .f32) : Vec F S1x8 .f32 := View.canon [⟨r0_3, k0_pay18 (View.ld g r0_3) (View.ld u r0_3)⟩]
def varD (g v : Vec F S1x8 .f32) : Vec F S1x8 .f32 := View.canon [⟨r0_3, k0_pay19 (View.ld g r0_3) (View.ld v r0_3)⟩]

/-- One store of the whole covers a block. -/
theorem coverA (p : Vec F S1x9216 .f32) (y : S1x9216.Idx) :
    ∃ pc ∈ ([⟨r0_0, p⟩] : List (View.Piece (Elt F) S1x9216 .f32)), y ∈ pc.1.set :=
  View.cover_of_tiled [⟨r0_0, p⟩] S1x9216.size (by rfl) y
theorem coverB (p : Vec F S1x1024 .f32) (y : S1x1024.Idx) :
    ∃ pc ∈ ([⟨r0_1, p⟩] : List (View.Piece (Elt F) S1x1024 .f32)), y ∈ pc.1.set :=
  View.cover_of_tiled [⟨r0_1, p⟩] S1x1024.size (by rfl) y
theorem coverC (p : Vec F S3x1x64 .f32) (y : S3x1x64.Idx) :
    ∃ pc ∈ ([⟨r0_2, p⟩] : List (View.Piece (Elt F) S3x1x64 .f32)), y ∈ pc.1.set :=
  View.cover_of_tiled [⟨r0_2, p⟩] S3x1x64.size (by rfl) y
theorem coverD (p : Vec F S1x8 .f32) (y : S1x8.Idx) :
    ∃ pc ∈ ([⟨r0_3, p⟩] : List (View.Piece (Elt F) S1x8 .f32)), y ∈ pc.1.set :=
  View.cover_of_tiled [⟨r0_3, p⟩] S1x8.size (by rfl) y

set_option maxHeartbeats 4000000 in
/-- One call of the body: it keeps its inputs and leaves the steps and the new moments. -/
theorem sound_kernel (c : Dev nD) (E : Set ℕ) (arg0 : Memref sig .tc .vmem S1x9216 .f32) (harg0 : arg0.IsWhole)
    (arg1 : Memref sig .tc .vmem S1x9216 .f32) (harg1 : arg1.IsWhole)
    (arg2 : Memref sig .tc .vmem S1x9216 .f32) (harg2 : arg2.IsWhole)
    (arg3 : Memref sig .tc .vmem S1x9216 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S3x1x64 .f32) (harg12 : arg12.IsWhole)
    (arg13 : Memref sig .tc .vmem S3x1x64 .f32) (harg13 : arg13.IsWhole)
    (arg14 : Memref sig .tc .vmem S3x1x64 .f32) (harg14 : arg14.IsWhole)
    (arg15 : Memref sig .tc .vmem S3x1x64 .f32) (harg15 : arg15.IsWhole)
    (arg16 : Memref sig .tc .vmem S1x8 .f32) (harg16 : arg16.IsWhole)
    (arg17 : Memref sig .tc .vmem S1x8 .f32) (harg17 : arg17.IsWhole)
    (arg18 : Memref sig .tc .vmem S1x8 .f32) (harg18 : arg18.IsWhole)
    (arg19 : Memref sig .tc .vmem S1x8 .f32) (harg19 : arg19.IsWhole)
    (arg20 : Memref sig .tc .vmem S1x1024 .f32) (harg20 : arg20.IsWhole)
    (arg21 : Memref sig .tc .vmem S1x1024 .f32) (harg21 : arg21.IsWhole)
    (arg22 : Memref sig .tc .vmem S1x1024 .f32) (harg22 : arg22.IsWhole)
    (arg23 : Memref sig .tc .vmem S1x1024 .f32) (harg23 : arg23.IsWhole)
    (arg24 : Memref sig .tc .vmem S1x1024 .f32) (harg24 : arg24.IsWhole)
    (arg25 : Memref sig .tc .vmem S1x1024 .f32) (harg25 : arg25.IsWhole)
    (arg26 : Memref sig .tc .vmem S1x1024 .f32) (harg26 : arg26.IsWhole)
    (arg27 : Memref sig .tc .vmem S1x1024 .f32) (harg27 : arg27.IsWhole)
    (arg28 : Memref sig .tc .vmem S1x1024 .f32) (harg28 : arg28.IsWhole)
    (arg29 : Memref sig .tc .vmem S1x1024 .f32) (harg29 : arg29.IsWhole)
    (arg30 : Memref sig .tc .vmem S1x1024 .f32) (harg30 : arg30.IsWhole)
    (arg31 : Memref sig .tc .vmem S1x1024 .f32) (harg31 : arg31.IsWhole)
    (arg32 : Memref sig .tc .vmem S1x1024 .f32) (harg32 : arg32.IsWhole)
    (arg33 : Memref sig .tc .vmem S1x1024 .f32) (harg33 : arg33.IsWhole)
    (arg34 : Memref sig .tc .vmem S1x1024 .f32) (harg34 : arg34.IsWhole)
    (arg35 : Memref sig .tc .vmem S1x1024 .f32) (harg35 : arg35.IsWhole)
    (arg36 : Memref sig .tc .vmem S1x9216 .f32) (harg36 : arg36.IsWhole)
    (arg37 : Memref sig .tc .vmem S1x9216 .f32) (harg37 : arg37.IsWhole)
    (arg38 : Memref sig .tc .vmem S1x9216 .f32) (harg38 : arg38.IsWhole)
    (arg39 : Memref sig .tc .vmem S1x1024 .f32) (harg39 : arg39.IsWhole)
    (arg40 : Memref sig .tc .vmem S1x1024 .f32) (harg40 : arg40.IsWhole)
    (arg41 : Memref sig .tc .vmem S1x1024 .f32) (harg41 : arg41.IsWhole)
    (arg42 : Memref sig .tc .vmem S1x1024 .f32) (harg42 : arg42.IsWhole)
    (arg43 : Memref sig .tc .vmem S1x1024 .f32) (harg43 : arg43.IsWhole)
    (arg44 : Memref sig .tc .vmem S1x1024 .f32) (harg44 : arg44.IsWhole)
    (arg45 : Memref sig .tc .vmem S3x1x64 .f32) (harg45 : arg45.IsWhole)
    (arg46 : Memref sig .tc .vmem S3x1x64 .f32) (harg46 : arg46.IsWhole)
    (arg47 : Memref sig .tc .vmem S3x1x64 .f32) (harg47 : arg47.IsWhole)
    (arg48 : Memref sig .tc .vmem S1x8 .f32) (harg48 : arg48.IsWhole)
    (arg49 : Memref sig .tc .vmem S1x8 .f32) (harg49 : arg49.IsWhole)
    (arg50 : Memref sig .tc .vmem S1x8 .f32) (harg50 : arg50.IsWhole)
    (arg51 : Memref sig .tc .vmem S1x1024 .f32) (harg51 : arg51.IsWhole)
    (arg52 : Memref sig .tc .vmem S1x1024 .f32) (harg52 : arg52.IsWhole)
    (arg53 : Memref sig .tc .vmem S1x1024 .f32) (harg53 : arg53.IsWhole)
    (arg54 : Memref sig .tc .vmem S1x1024 .f32) (harg54 : arg54.IsWhole)
    (arg55 : Memref sig .tc .vmem S1x1024 .f32) (harg55 : arg55.IsWhole)
    (arg56 : Memref sig .tc .vmem S1x1024 .f32) (harg56 : arg56.IsWhole)
    (arg57 : Memref sig .tc .vmem S1x1024 .f32) (harg57 : arg57.IsWhole)
    (arg58 : Memref sig .tc .vmem S1x1024 .f32) (harg58 : arg58.IsWhole)
    (arg59 : Memref sig .tc .vmem S1x1024 .f32) (harg59 : arg59.IsWhole)
    (arg60 : Memref sig .tc .vmem S1x1024 .f32) (harg60 : arg60.IsWhole)
    (arg61 : Memref sig .tc .vmem S1x1024 .f32) (harg61 : arg61.IsWhole)
    (arg62 : Memref sig .tc .vmem S1x1024 .f32) (harg62 : arg62.IsWhole)
    (x0 x1 x2 x3 : Vec F S1x9216 .f32) (x4 x5 x6 x7 : Vec F S1x1024 .f32) (x8 x9 x10 x11 : Vec F S1x1024 .f32)
    (x12 x13 x14 x15 : Vec F S3x1x64 .f32) (x16 x17 x18 x19 : Vec F S1x8 .f32)
    (x20 x21 x22 x23 : Vec F S1x1024 .f32) (x24 x25 x26 x27 : Vec F S1x1024 .f32)
    (x28 x29 x30 x31 : Vec F S1x1024 .f32) (x32 x33 x34 x35 : Vec F S1x1024 .f32)
    (y36 y37 y38 : (S1x9216.Idx → Elt F .f32) → S1x9216.Idx → Elt F .f32)
    (y39 y40 y41 : (S1x1024.Idx → Elt F .f32) → S1x1024.Idx → Elt F .f32)
    (y42 y43 y44 : (S1x1024.Idx → Elt F .f32) → S1x1024.Idx → Elt F .f32)
    (y45 y46 y47 : (S3x1x64.Idx → Elt F .f32) → S3x1x64.Idx → Elt F .f32)
    (y48 y49 y50 : (S1x8.Idx → Elt F .f32) → S1x8.Idx → Elt F .f32)
    (y51 y52 y53 : (S1x1024.Idx → Elt F .f32) → S1x1024.Idx → Elt F .f32)
    (y54 y55 y56 : (S1x1024.Idx → Elt F .f32) → S1x1024.Idx → Elt F .f32)
    (y57 y58 y59 : (S1x1024.Idx → Elt F .f32) → S1x1024.Idx → Elt F .f32)
    (y60 y61 y62 : (S1x1024.Idx → Elt F .f32) → S1x1024.Idx → Elt F .f32) :
    (iprop((∃ _ : S1x9216.Idx → Elt F .f32, owns (c : Thread nD τ) arg0 fullShare x0)
        ∗ (∃ _ : S1x9216.Idx → Elt F .f32, owns (c : Thread nD τ) arg1 fullShare x1)
        ∗ (∃ _ : S1x9216.Idx → Elt F .f32, owns (c : Thread nD τ) arg2 fullShare x2)
        ∗ (∃ _ : S1x9216.Idx → Elt F .f32, owns (c : Thread nD τ) arg3 fullShare x3)
        ∗ (∃ _ : S1x1024.Idx → Elt F .f32, owns (c : Thread nD τ) arg4 fullShare x4)
        ∗ (∃ _ : S1x1024.Idx → Elt F .f32, owns (c : Thread nD τ) arg5 fullShare x5)
        ∗ (∃ _ : S1x1024.Idx → Elt F .f32, owns (c : Thread nD τ) arg6 fullShare x6)
        ∗ (∃ _ : S1x1024.Idx → Elt F .f32, owns (c : Thread nD τ) arg7 fullShare x7)
        ∗ (∃ _ : S1x1024.Idx → Elt F .f32, owns (c : Thread nD τ) arg8 fullShare x8)
        ∗ (∃ _ : S1x1024.Idx → Elt F .f32, owns (c : Thread nD τ) arg9 fullShare x9)
        ∗ (∃ _ : S1x1024.Idx → Elt F .f32, owns (c : Thread nD τ) arg10 fullShare x10)
        ∗ (∃ _ : S1x1024.Idx → Elt F .f32, owns (c : Thread nD τ) arg11 fullShare x11)
        ∗ (∃ _ : S3x1x64.Idx → Elt F .f32, owns (c : Thread nD τ) arg12 fullShare x12)
        ∗ (∃ _ : S3x1x64.Idx → Elt F .f32, owns (c : Thread nD τ) arg13 fullShare x13)
        ∗ (∃ _ : S3x1x64.Idx → Elt F .f32, owns (c : Thread nD τ) arg14 fullShare x14)
        ∗ (∃ _ : S3x1x64.Idx → Elt F .f32, owns (c : Thread nD τ) arg15 fullShare x15)
        ∗ (∃ _ : S1x8.Idx → Elt F .f32, owns (c : Thread nD τ) arg16 fullShare x16)
        ∗ (∃ _ : S1x8.Idx → Elt F .f32, owns (c : Thread nD τ) arg17 fullShare x17)
        ∗ (∃ _ : S1x8.Idx → Elt F .f32, owns (c : Thread nD τ) arg18 fullShare x18)
        ∗ (∃ _ : S1x8.Idx → Elt F .f32, owns (c : Thread nD τ) arg19 fullShare x19)
        ∗ (∃ _ : S1x1024.Idx → Elt F .f32, owns (c : Thread nD τ) arg20 fullShare x20)
        ∗ (∃ _ : S1x1024.Idx → Elt F .f32, owns (c : Thread nD τ) arg21 fullShare x21)
        ∗ (∃ _ : S1x1024.Idx → Elt F .f32, owns (c : Thread nD τ) arg22 fullShare x22)
        ∗ (∃ _ : S1x1024.Idx → Elt F .f32, owns (c : Thread nD τ) arg23 fullShare x23)
        ∗ (∃ _ : S1x1024.Idx → Elt F .f32, owns (c : Thread nD τ) arg24 fullShare x24)
        ∗ (∃ _ : S1x1024.Idx → Elt F .f32, owns (c : Thread nD τ) arg25 fullShare x25)
        ∗ (∃ _ : S1x1024.Idx → Elt F .f32, owns (c : Thread nD τ) arg26 fullShare x26)
        ∗ (∃ _ : S1x1024.Idx → Elt F .f32, owns (c : Thread nD τ) arg27 fullShare x27)
        ∗ (∃ _ : S1x1024.Idx → Elt F .f32, owns (c : Thread nD τ) arg28 fullShare x28)
        ∗ (∃ _ : S1x1024.Idx → Elt F .f32, owns (c : Thread nD τ) arg29 fullShare x29)
        ∗ (∃ _ : S1x1024.Idx → Elt F .f32, owns (c : Thread nD τ) arg30 fullShare x30)
        ∗ (∃ _ : S1x1024.Idx → Elt F .f32, owns (c : Thread nD τ) arg31 fullShare x31)
        ∗ (∃ _ : S1x1024.Idx → Elt F .f32, owns (c : Thread nD τ) arg32 fullShare x32)
        ∗ (∃ _ : S1x1024.Idx → Elt F .f32, owns (c : Thread nD τ) arg33 fullShare x33)
        ∗ (∃ _ : S1x1024.Idx → Elt F .f32, owns (c : Thread nD τ) arg34 fullShare x34)
        ∗ (∃ _ : S1x1024.Idx → Elt F .f32, owns (c : Thread nD τ) arg35 fullShare x35)
        ∗ (∃ d : S1x9216.Idx → Elt F .f32, owns (c : Thread nD τ) arg36 fullShare (y36 d))
        ∗ (∃ d : S1x9216.Idx → Elt F .f32, owns (c : Thread nD τ) arg37 fullShare (y37 d))
        ∗ (∃ d : S1x9216.Idx → Elt F .f32, owns (c : Thread nD τ) arg38 fullShare (y38 d))
        ∗ (∃ d : S1x1024.Idx → Elt F .f32, owns (c : Thread nD τ) arg39 fullShare (y39 d))
        ∗ (∃ d : S1x1024.Idx → Elt F .f32, owns (c : Thread nD τ) arg40 fullShare (y40 d))
        ∗ (∃ d : S1x1024.Idx → Elt F .f32, owns (c : Thread nD τ) arg41 fullShare (y41 d))
        ∗ (∃ d : S1x1024.Idx → Elt F .f32, owns (c : Thread nD τ) arg42 fullShare (y42 d))
        ∗ (∃ d : S1x1024.Idx → Elt F .f32, owns (c : Thread nD τ) arg43 fullShare (y43 d))
        ∗ (∃ d : S1x1024.Idx → Elt F .f32, owns (c : Thread nD τ) arg44 fullShare (y44 d))
        ∗ (∃ d : S3x1x64.Idx → Elt F .f32, owns (c : Thread nD τ) arg45 fullShare (y45 d))
        ∗ (∃ d : S3x1x64.Idx → Elt F .f32, owns (c : Thread nD τ) arg46 fullShare (y46 d))
        ∗ (∃ d : S3x1x64.Idx → Elt F .f32, owns (c : Thread nD τ) arg47 fullShare (y47 d))
        ∗ (∃ d : S1x8.Idx → Elt F .f32, owns (c : Thread nD τ) arg48 fullShare (y48 d))
        ∗ (∃ d : S1x8.Idx → Elt F .f32, owns (c : Thread nD τ) arg49 fullShare (y49 d))
        ∗ (∃ d : S1x8.Idx → Elt F .f32, owns (c : Thread nD τ) arg50 fullShare (y50 d))
        ∗ (∃ d : S1x1024.Idx → Elt F .f32, owns (c : Thread nD τ) arg51 fullShare (y51 d))
        ∗ (∃ d : S1x1024.Idx → Elt F .f32, owns (c : Thread nD τ) arg52 fullShare (y52 d))
        ∗ (∃ d : S1x1024.Idx → Elt F .f32, owns (c : Thread nD τ) arg53 fullShare (y53 d))
        ∗ (∃ d : S1x1024.Idx → Elt F .f32, owns (c : Thread nD τ) arg54 fullShare (y54 d))
        ∗ (∃ d : S1x1024.Idx → Elt F .f32, owns (c : Thread nD τ) arg55 fullShare (y55 d))
        ∗ (∃ d : S1x1024.Idx → Elt F .f32, owns (c : Thread nD τ) arg56 fullShare (y56 d))
        ∗ (∃ d : S1x1024.Idx → Elt F .f32, owns (c : Thread nD τ) arg57 fullShare (y57 d))
        ∗ (∃ d : S1x1024.Idx → Elt F .f32, owns (c : Thread nD τ) arg58 fullShare (y58 d))
        ∗ (∃ d : S1x1024.Idx → Elt F .f32, owns (c : Thread nD τ) arg59 fullShare (y59 d))
        ∗ (∃ d : S1x1024.Idx → Elt F .f32, owns (c : Thread nD τ) arg60 fullShare (y60 d))
        ∗ (∃ d : S1x1024.Idx → Elt F .f32, owns (c : Thread nD τ) arg61 fullShare (y61 d))
        ∗ (∃ d : S1x1024.Idx → Elt F .f32, owns (c : Thread nD τ) arg62 fullShare (y62 d))) : sProp 𝕄)
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 harg18 arg19 harg19 arg20 harg20 arg21 harg21 arg22 harg22 arg23 harg23 arg24 harg24 arg25 harg25
        arg26 harg26 arg27 harg27 arg28 harg28 arg29 harg29 arg30 harg30 arg31 harg31 arg32 harg32 arg33 harg33
        arg34 harg34 arg35 harg35 arg36 harg36 arg37 harg37 arg38 harg38 arg39 harg39 arg40 harg40 arg41 harg41
        arg42 harg42 arg43 harg43 arg44 harg44 arg45 harg45 arg46 harg46 arg47 harg47 arg48 harg48 arg49 harg49
        arg50 harg50 arg51 harg51 arg52 harg52 arg53 harg53 arg54 harg54 arg55 harg55 arg56 harg56 arg57 harg57
        arg58 harg58 arg59 harg59 arg60 harg60 arg61 harg61 arg62 harg62)
        fun _ => iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare x9
        ∗ owns (c : Thread nD τ) arg10 fullShare x10 ∗ owns (c : Thread nD τ) arg11 fullShare x11
        ∗ owns (c : Thread nD τ) arg12 fullShare x12 ∗ owns (c : Thread nD τ) arg13 fullShare x13
        ∗ owns (c : Thread nD τ) arg14 fullShare x14 ∗ owns (c : Thread nD τ) arg15 fullShare x15
        ∗ owns (c : Thread nD τ) arg16 fullShare x16 ∗ owns (c : Thread nD τ) arg17 fullShare x17
        ∗ owns (c : Thread nD τ) arg18 fullShare x18 ∗ owns (c : Thread nD τ) arg19 fullShare x19
        ∗ owns (c : Thread nD τ) arg20 fullShare x20 ∗ owns (c : Thread nD τ) arg21 fullShare x21
        ∗ owns (c : Thread nD τ) arg22 fullShare x22 ∗ owns (c : Thread nD τ) arg23 fullShare x23
        ∗ owns (c : Thread nD τ) arg24 fullShare x24 ∗ owns (c : Thread nD τ) arg25 fullShare x25
        ∗ owns (c : Thread nD τ) arg26 fullShare x26 ∗ owns (c : Thread nD τ) arg27 fullShare x27
        ∗ owns (c : Thread nD τ) arg28 fullShare x28 ∗ owns (c : Thread nD τ) arg29 fullShare x29
        ∗ owns (c : Thread nD τ) arg30 fullShare x30 ∗ owns (c : Thread nD τ) arg31 fullShare x31
        ∗ owns (c : Thread nD τ) arg32 fullShare x32 ∗ owns (c : Thread nD τ) arg33 fullShare x33
        ∗ owns (c : Thread nD τ) arg34 fullShare x34 ∗ owns (c : Thread nD τ) arg35 fullShare x35
        ∗ owns (c : Thread nD τ) arg36 fullShare (stepA x0 x1 x2 x3) ∗ owns (c : Thread nD τ) arg37 fullShare (momA x1 x2)
        ∗ owns (c : Thread nD τ) arg38 fullShare (varA x1 x3) ∗ owns (c : Thread nD τ) arg39 fullShare (stepB x4 x5 x6 x7)
        ∗ owns (c : Thread nD τ) arg40 fullShare (momB x5 x6) ∗ owns (c : Thread nD τ) arg41 fullShare (varB x5 x7)
        ∗ owns (c : Thread nD τ) arg42 fullShare (stepB x8 x9 x10 x11)
        ∗ owns (c : Thread nD τ) arg43 fullShare (momB x9 x10) ∗ owns (c : Thread nD τ) arg44 fullShare (varB x9 x11)
        ∗ owns (c : Thread nD τ) arg45 fullShare (stepC x12 x13 x14 x15)
        ∗ owns (c : Thread nD τ) arg46 fullShare (momC x13 x14) ∗ owns (c : Thread nD τ) arg47 fullShare (varC x13 x15)
        ∗ owns (c : Thread nD τ) arg48 fullShare (stepD x16 x17 x18 x19)
        ∗ owns (c : Thread nD τ) arg49 fullShare (momD x17 x18) ∗ owns (c : Thread nD τ) arg50 fullShare (varD x17 x19)
        ∗ owns (c : Thread nD τ) arg51 fullShare (stepB x20 x21 x22 x23)
        ∗ owns (c : Thread nD τ) arg52 fullShare (momB x21 x22) ∗ owns (c : Thread nD τ) arg53 fullShare (varB x21 x23)
        ∗ owns (c : Thread nD τ) arg54 fullShare (stepB x24 x25 x26 x27)
        ∗ owns (c : Thread nD τ) arg55 fullShare (momB x25 x26) ∗ owns (c : Thread nD τ) arg56 fullShare (varB x25 x27)
        ∗ owns (c : Thread nD τ) arg57 fullShare (stepB x28 x29 x30 x31)
        ∗ owns (c : Thread nD τ) arg58 fullShare (momB x29 x30) ∗ owns (c : Thread nD τ) arg59 fullShare (varB x29 x31)
        ∗ owns (c : Thread nD τ) arg60 fullShare (stepB x32 x33 x34 x35)
        ∗ owns (c : Thread nD τ) arg61 fullShare (momB x33 x34) ∗ owns (c : Thread nD τ) arg62 fullShare (varB x33 x35)) := by
  simp only [cc0_adamw_small_eq_skeleton]; unfold cc0_adamw_small_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩, ⟨%d8, %f8, %hf8, H8⟩, ⟨%d9, %f9, %hf9, H9⟩,
    ⟨%d10, %f10, %hf10, H10⟩, ⟨%d11, %f11, %hf11, H11⟩, ⟨%d12, %f12, %hf12, H12⟩, ⟨%d13, %f13, %hf13, H13⟩,
    ⟨%d14, %f14, %hf14, H14⟩, ⟨%d15, %f15, %hf15, H15⟩, ⟨%d16, %f16, %hf16, H16⟩, ⟨%d17, %f17, %hf17, H17⟩,
    ⟨%d18, %f18, %hf18, H18⟩, ⟨%d19, %f19, %hf19, H19⟩, ⟨%d20, %f20, %hf20, H20⟩, ⟨%d21, %f21, %hf21, H21⟩,
    ⟨%d22, %f22, %hf22, H22⟩, ⟨%d23, %f23, %hf23, H23⟩, ⟨%d24, %f24, %hf24, H24⟩, ⟨%d25, %f25, %hf25, H25⟩,
    ⟨%d26, %f26, %hf26, H26⟩, ⟨%d27, %f27, %hf27, H27⟩, ⟨%d28, %f28, %hf28, H28⟩, ⟨%d29, %f29, %hf29, H29⟩,
    ⟨%d30, %f30, %hf30, H30⟩, ⟨%d31, %f31, %hf31, H31⟩, ⟨%d32, %f32, %hf32, H32⟩, ⟨%d33, %f33, %hf33, H33⟩,
    ⟨%d34, %f34, %hf34, H34⟩, ⟨%d35, %f35, %hf35, H35⟩, ⟨%d36, %f36, %hf36, H36⟩, ⟨%d37, %f37, %hf37, H37⟩,
    ⟨%d38, %f38, %hf38, H38⟩, ⟨%d39, %f39, %hf39, H39⟩, ⟨%d40, %f40, %hf40, H40⟩, ⟨%d41, %f41, %hf41, H41⟩,
    ⟨%d42, %f42, %hf42, H42⟩, ⟨%d43, %f43, %hf43, H43⟩, ⟨%d44, %f44, %hf44, H44⟩, ⟨%d45, %f45, %hf45, H45⟩,
    ⟨%d46, %f46, %hf46, H46⟩, ⟨%d47, %f47, %hf47, H47⟩, ⟨%d48, %f48, %hf48, H48⟩, ⟨%d49, %f49, %hf49, H49⟩,
    ⟨%d50, %f50, %hf50, H50⟩, ⟨%d51, %f51, %hf51, H51⟩, ⟨%d52, %f52, %hf52, H52⟩, ⟨%d53, %f53, %hf53, H53⟩,
    ⟨%d54, %f54, %hf54, H54⟩, ⟨%d55, %f55, %hf55, H55⟩, ⟨%d56, %f56, %hf56, H56⟩, ⟨%d57, %f57, %hf57, H57⟩,
    ⟨%d58, %f58, %hf58, H58⟩, ⟨%d59, %f59, %hf59, H59⟩, ⟨%d60, %f60, %hf60, H60⟩, ⟨%d61, %f61, %hf61, H61⟩,
    ⟨%d62, %f62, %hf62, H62⟩⟩
  subst hf0 hf1 hf2 hf3 hf4 hf5 hf6 hf7 hf8 hf9 hf10 hf11 hf12 hf13 hf14 hf15 hf16 hf17 hf18 hf19 hf20 hf21 hf22 hf23
    hf24 hf25 hf26 hf27 hf28 hf29 hf30 hf31 hf32 hf33 hf34 hf35
  sl_exec
  sl_step
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  isplitl [H11]; · iexists f11; isplitr; swap; (· iexact H11); ipureintro; rfl
  isplitl [H12]; · iexists f12; isplitr; swap; (· iexact H12); ipureintro; rfl
  isplitl [H13]; · iexists f13; isplitr; swap; (· iexact H13); ipureintro; rfl
  isplitl [H14]; · iexists f14; isplitr; swap; (· iexact H14); ipureintro; rfl
  isplitl [H15]; · iexists f15; isplitr; swap; (· iexact H15); ipureintro; rfl
  isplitl [H16]; · iexists f16; isplitr; swap; (· iexact H16); ipureintro; rfl
  isplitl [H17]; · iexists f17; isplitr; swap; (· iexact H17); ipureintro; rfl
  isplitl [H18]; · iexists f18; isplitr; swap; (· iexact H18); ipureintro; rfl
  isplitl [H19]; · iexists f19; isplitr; swap; (· iexact H19); ipureintro; rfl
  isplitl [H20]; · iexists f20; isplitr; swap; (· iexact H20); ipureintro; rfl
  isplitl [H21]; · iexists f21; isplitr; swap; (· iexact H21); ipureintro; rfl
  isplitl [H22]; · iexists f22; isplitr; swap; (· iexact H22); ipureintro; rfl
  isplitl [H23]; · iexists f23; isplitr; swap; (· iexact H23); ipureintro; rfl
  isplitl [H24]; · iexists f24; isplitr; swap; (· iexact H24); ipureintro; rfl
  isplitl [H25]; · iexists f25; isplitr; swap; (· iexact H25); ipureintro; rfl
  isplitl [H26]; · iexists f26; isplitr; swap; (· iexact H26); ipureintro; rfl
  isplitl [H27]; · iexists f27; isplitr; swap; (· iexact H27); ipureintro; rfl
  isplitl [H28]; · iexists f28; isplitr; swap; (· iexact H28); ipureintro; rfl
  isplitl [H29]; · iexists f29; isplitr; swap; (· iexact H29); ipureintro; rfl
  isplitl [H30]; · iexists f30; isplitr; swap; (· iexact H30); ipureintro; rfl
  isplitl [H31]; · iexists f31; isplitr; swap; (· iexact H31); ipureintro; rfl
  isplitl [H32]; · iexists f32; isplitr; swap; (· iexact H32); ipureintro; rfl
  isplitl [H33]; · iexists f33; isplitr; swap; (· iexact H33); ipureintro; rfl
  isplitl [H34]; · iexists f34; isplitr; swap; (· iexact H34); ipureintro; rfl
  isplitl [H35]; · iexists f35; isplitr; swap; (· iexact H35); ipureintro; rfl
  isplitl [H36]; · iexists _; isplitr; swap; (· iexact H36); ipureintro; exact View.read_writes_eq_canon _ _ _ (coverA _)
  isplitl [H37]; · iexists _; isplitr; swap; (· iexact H37); ipureintro; exact View.read_writes_eq_canon _ _ _ (coverA _)
  isplitl [H38]; · iexists _; isplitr; swap; (· iexact H38); ipureintro; exact View.read_writes_eq_canon _ _ _ (coverA _)
  isplitl [H39]; · iexists _; isplitr; swap; (· iexact H39); ipureintro; exact View.read_writes_eq_canon _ _ _ (coverB _)
  isplitl [H40]; · iexists _; isplitr; swap; (· iexact H40); ipureintro; exact View.read_writes_eq_canon _ _ _ (coverB _)
  isplitl [H41]; · iexists _; isplitr; swap; (· iexact H41); ipureintro; exact View.read_writes_eq_canon _ _ _ (coverB _)
  isplitl [H42]; · iexists _; isplitr; swap; (· iexact H42); ipureintro; exact View.read_writes_eq_canon _ _ _ (coverB _)
  isplitl [H43]; · iexists _; isplitr; swap; (· iexact H43); ipureintro; exact View.read_writes_eq_canon _ _ _ (coverB _)
  isplitl [H44]; · iexists _; isplitr; swap; (· iexact H44); ipureintro; exact View.read_writes_eq_canon _ _ _ (coverB _)
  isplitl [H45]; · iexists _; isplitr; swap; (· iexact H45); ipureintro; exact View.read_writes_eq_canon _ _ _ (coverC _)
  isplitl [H46]; · iexists _; isplitr; swap; (· iexact H46); ipureintro; exact View.read_writes_eq_canon _ _ _ (coverC _)
  isplitl [H47]; · iexists _; isplitr; swap; (· iexact H47); ipureintro; exact View.read_writes_eq_canon _ _ _ (coverC _)
  isplitl [H48]; · iexists _; isplitr; swap; (· iexact H48); ipureintro; exact View.read_writes_eq_canon _ _ _ (coverD _)
  isplitl [H49]; · iexists _; isplitr; swap; (· iexact H49); ipureintro; exact View.read_writes_eq_canon _ _ _ (coverD _)
  isplitl [H50]; · iexists _; isplitr; swap; (· iexact H50); ipureintro; exact View.read_writes_eq_canon _ _ _ (coverD _)
  isplitl [H51]; · iexists _; isplitr; swap; (· iexact H51); ipureintro; exact View.read_writes_eq_canon _ _ _ (coverB _)
  isplitl [H52]; · iexists _; isplitr; swap; (· iexact H52); ipureintro; exact View.read_writes_eq_canon _ _ _ (coverB _)
  isplitl [H53]; · iexists _; isplitr; swap; (· iexact H53); ipureintro; exact View.read_writes_eq_canon _ _ _ (coverB _)
  isplitl [H54]; · iexists _; isplitr; swap; (· iexact H54); ipureintro; exact View.read_writes_eq_canon _ _ _ (coverB _)
  isplitl [H55]; · iexists _; isplitr; swap; (· iexact H55); ipureintro; exact View.read_writes_eq_canon _ _ _ (coverB _)
  isplitl [H56]; · iexists _; isplitr; swap; (· iexact H56); ipureintro; exact View.read_writes_eq_canon _ _ _ (coverB _)
  isplitl [H57]; · iexists _; isplitr; swap; (· iexact H57); ipureintro; exact View.read_writes_eq_canon _ _ _ (coverB _)
  isplitl [H58]; · iexists _; isplitr; swap; (· iexact H58); ipureintro; exact View.read_writes_eq_canon _ _ _ (coverB _)
  isplitl [H59]; · iexists _; isplitr; swap; (· iexact H59); ipureintro; exact View.read_writes_eq_canon _ _ _ (coverB _)
  isplitl [H60]; · iexists _; isplitr; swap; (· iexact H60); ipureintro; exact View.read_writes_eq_canon _ _ _ (coverB _)
  isplitl [H61]; · iexists _; isplitr; swap; (· iexact H61); ipureintro; exact View.read_writes_eq_canon _ _ _ (coverB _)
  iexists _; isplitr; swap; (· iexact H62); ipureintro; exact View.read_writes_eq_canon _ _ _ (coverB _)

end Cert.Proof.Small

end
-- ==== Proof.SmallData.lean ====
/-
  Hand-written. The optimiser's step for the small weights: what every point finds and leaves.
-/
module

public import proofs.«01_k».proof.Proof.SmallBody
public import proofs.«01_k».proof.Proof.Gen.Kernel12Ideal.Launch

@[expose] public section

set_option maxRecDepth 16384

noncomputable section

namespace Cert.Proof.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the call finds in a buffer, after the host's transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host's part is the transposes, and then the call. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no transpose writes is as at the start. -/
theorem V_arg (c : Dev nD) {b : Ref sig .tc} (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    exact ⟨StableHlo.devRef_ne_of_ne h0, StableHlo.devRef_ne_of_ne h1, StableHlo.devRef_ne_of_ne h2,
      StableHlo.devRef_ne_of_ne h3⟩))

/-- A window's block at a point. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The arrays, and what the body leaves at a point: an input's block, and an output's step or moment. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => stepA (iblk m c 0 t) (iblk m c 1 t) (iblk m c 2 t) (iblk m c 3 t)
    | ⟨37, _⟩ => momA (iblk m c 1 t) (iblk m c 2 t)
    | ⟨38, _⟩ => varA (iblk m c 1 t) (iblk m c 3 t)
    | ⟨39, _⟩ => stepB (iblk m c 4 t) (iblk m c 5 t) (iblk m c 6 t) (iblk m c 7 t)
    | ⟨40, _⟩ => momB (iblk m c 5 t) (iblk m c 6 t)
    | ⟨41, _⟩ => varB (iblk m c 5 t) (iblk m c 7 t)
    | ⟨42, _⟩ => stepB (iblk m c 8 t) (iblk m c 9 t) (iblk m c 10 t) (iblk m c 11 t)
    | ⟨43, _⟩ => momB (iblk m c 9 t) (iblk m c 10 t)
    | ⟨44, _⟩ => varB (iblk m c 9 t) (iblk m c 11 t)
    | ⟨45, _⟩ => stepC (iblk m c 12 t) (iblk m c 13 t) (iblk m c 14 t) (iblk m c 15 t)
    | ⟨46, _⟩ => momC (iblk m c 13 t) (iblk m c 14 t)
    | ⟨47, _⟩ => varC (iblk m c 13 t) (iblk m c 15 t)
    | ⟨48, _⟩ => stepD (iblk m c 16 t) (iblk m c 17 t) (iblk m c 18 t) (iblk m c 19 t)
    | ⟨49, _⟩ => momD (iblk m c 17 t) (iblk m c 18 t)
    | ⟨50, _⟩ => varD (iblk m c 17 t) (iblk m c 19 t)
    | ⟨51, _⟩ => stepB (iblk m c 20 t) (iblk m c 21 t) (iblk m c 22 t) (iblk m c 23 t)
    | ⟨52, _⟩ => momB (iblk m c 21 t) (iblk m c 22 t)
    | ⟨53, _⟩ => varB (iblk m c 21 t) (iblk m c 23 t)
    | ⟨54, _⟩ => stepB (iblk m c 24 t) (iblk m c 25 t) (iblk m c 26 t) (iblk m c 27 t)
    | ⟨55, _⟩ => momB (iblk m c 25 t) (iblk m c 26 t)
    | ⟨56, _⟩ => varB (iblk m c 25 t) (iblk m c 27 t)
    | ⟨57, _⟩ => stepB (iblk m c 28 t) (iblk m c 29 t) (iblk m c 30 t) (iblk m c 31 t)
    | ⟨58, _⟩ => momB (iblk m c 29 t) (iblk m c 30 t)
    | ⟨59, _⟩ => varB (iblk m c 29 t) (iblk m c 31 t)
    | ⟨60, _⟩ => stepB (iblk m c 32 t) (iblk m c 33 t) (iblk m c 34 t) (iblk m c 35 t)
    | ⟨61, _⟩ => momB (iblk m c 33 t) (iblk m c 34 t)
    | ⟨62, _⟩ => varB (iblk m c 33 t) (iblk m c 35 t)
    | ⟨_ + 63, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

section Point

variable (c : Dev nD) (t : Fin cfg0.N)

/-- What the body leaves, window by window. -/
theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = iblk m c 22 t := by dsimp only [dats]
theorem after23 : (dats m 0 c).after 23 t = iblk m c 23 t := by dsimp only [dats]
theorem after24 : (dats m 0 c).after 24 t = iblk m c 24 t := by dsimp only [dats]
theorem after25 : (dats m 0 c).after 25 t = iblk m c 25 t := by dsimp only [dats]
theorem after26 : (dats m 0 c).after 26 t = iblk m c 26 t := by dsimp only [dats]
theorem after27 : (dats m 0 c).after 27 t = iblk m c 27 t := by dsimp only [dats]
theorem after28 : (dats m 0 c).after 28 t = iblk m c 28 t := by dsimp only [dats]
theorem after29 : (dats m 0 c).after 29 t = iblk m c 29 t := by dsimp only [dats]
theorem after30 : (dats m 0 c).after 30 t = iblk m c 30 t := by dsimp only [dats]
theorem after31 : (dats m 0 c).after 31 t = iblk m c 31 t := by dsimp only [dats]
theorem after32 : (dats m 0 c).after 32 t = iblk m c 32 t := by dsimp only [dats]
theorem after33 : (dats m 0 c).after 33 t = iblk m c 33 t := by dsimp only [dats]
theorem after34 : (dats m 0 c).after 34 t = iblk m c 34 t := by dsimp only [dats]
theorem after35 : (dats m 0 c).after 35 t = iblk m c 35 t := by dsimp only [dats]
theorem after36 : (dats m 0 c).after 36 t = stepA (iblk m c 0 t) (iblk m c 1 t) (iblk m c 2 t) (iblk m c 3 t) := by dsimp only [dats]
theorem after37 : (dats m 0 c).after 37 t = momA (iblk m c 1 t) (iblk m c 2 t) := by dsimp only [dats]
theorem after38 : (dats m 0 c).after 38 t = varA (iblk m c 1 t) (iblk m c 3 t) := by dsimp only [dats]
theorem after39 : (dats m 0 c).after 39 t = stepB (iblk m c 4 t) (iblk m c 5 t) (iblk m c 6 t) (iblk m c 7 t) := by dsimp only [dats]
theorem after40 : (dats m 0 c).after 40 t = momB (iblk m c 5 t) (iblk m c 6 t) := by dsimp only [dats]
theorem after41 : (dats m 0 c).after 41 t = varB (iblk m c 5 t) (iblk m c 7 t) := by dsimp only [dats]
theorem after42 : (dats m 0 c).after 42 t = stepB (iblk m c 8 t) (iblk m c 9 t) (iblk m c 10 t) (iblk m c 11 t) := by dsimp only [dats]
theorem after43 : (dats m 0 c).after 43 t = momB (iblk m c 9 t) (iblk m c 10 t) := by dsimp only [dats]
theorem after44 : (dats m 0 c).after 44 t = varB (iblk m c 9 t) (iblk m c 11 t) := by dsimp only [dats]
theorem after45 : (dats m 0 c).after 45 t = stepC (iblk m c 12 t) (iblk m c 13 t) (iblk m c 14 t) (iblk m c 15 t) := by dsimp only [dats]
theorem after46 : (dats m 0 c).after 46 t = momC (iblk m c 13 t) (iblk m c 14 t) := by dsimp only [dats]
theorem after47 : (dats m 0 c).after 47 t = varC (iblk m c 13 t) (iblk m c 15 t) := by dsimp only [dats]
theorem after48 : (dats m 0 c).after 48 t = stepD (iblk m c 16 t) (iblk m c 17 t) (iblk m c 18 t) (iblk m c 19 t) := by dsimp only [dats]
theorem after49 : (dats m 0 c).after 49 t = momD (iblk m c 17 t) (iblk m c 18 t) := by dsimp only [dats]
theorem after50 : (dats m 0 c).after 50 t = varD (iblk m c 17 t) (iblk m c 19 t) := by dsimp only [dats]
theorem after51 : (dats m 0 c).after 51 t = stepB (iblk m c 20 t) (iblk m c 21 t) (iblk m c 22 t) (iblk m c 23 t) := by dsimp only [dats]
theorem after52 : (dats m 0 c).after 52 t = momB (iblk m c 21 t) (iblk m c 22 t) := by dsimp only [dats]
theorem after53 : (dats m 0 c).after 53 t = varB (iblk m c 21 t) (iblk m c 23 t) := by dsimp only [dats]
theorem after54 : (dats m 0 c).after 54 t = stepB (iblk m c 24 t) (iblk m c 25 t) (iblk m c 26 t) (iblk m c 27 t) := by dsimp only [dats]
theorem after55 : (dats m 0 c).after 55 t = momB (iblk m c 25 t) (iblk m c 26 t) := by dsimp only [dats]
theorem after56 : (dats m 0 c).after 56 t = varB (iblk m c 25 t) (iblk m c 27 t) := by dsimp only [dats]
theorem after57 : (dats m 0 c).after 57 t = stepB (iblk m c 28 t) (iblk m c 29 t) (iblk m c 30 t) (iblk m c 31 t) := by dsimp only [dats]
theorem after58 : (dats m 0 c).after 58 t = momB (iblk m c 29 t) (iblk m c 30 t) := by dsimp only [dats]
theorem after59 : (dats m 0 c).after 59 t = varB (iblk m c 29 t) (iblk m c 31 t) := by dsimp only [dats]
theorem after60 : (dats m 0 c).after 60 t = stepB (iblk m c 32 t) (iblk m c 33 t) (iblk m c 34 t) (iblk m c 35 t) := by dsimp only [dats]
theorem after61 : (dats m 0 c).after 61 t = momB (iblk m c 33 t) (iblk m c 34 t) := by dsimp only [dats]
theorem after62 : (dats m 0 c).after 62 t = varB (iblk m c 33 t) (iblk m c 35 t) := by dsimp only [dats]

/-- What the body finds in an input window: the block that is fetched there. -/
theorem before_in (w : Fin cfg0.W) (hw : (cfg0.win w).isOut = false) (hi : ∀ i, cfg0.idle w i = false)
    (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dats m 0 c).after w t) = (dats m 0 c).blockOf w t) (d) :
    (dats m 0 c).before w t d = (dats m 0 c).fetched w t d :=
  (dats m 0 c).before_in_eq_fetched w hw hi hc hk t d
theorem before0 (d) : (dats m 0 c).before 0 t d = iblk m c 0 t :=
  (before_in m c t 0 rfl (fun _ => rfl) (fun _ _ _ => rfl) (fun t => by rw [after0]; rfl) d).trans rfl
theorem before1 (d) : (dats m 0 c).before 1 t d = iblk m c 1 t :=
  (before_in m c t 1 rfl (fun _ => rfl) (fun _ _ _ => rfl) (fun t => by rw [after1]; rfl) d).trans rfl
theorem before2 (d) : (dats m 0 c).before 2 t d = iblk m c 2 t :=
  (before_in m c t 2 rfl (fun _ => rfl) (fun _ _ _ => rfl) (fun t => by rw [after2]; rfl) d).trans rfl
theorem before3 (d) : (dats m 0 c).before 3 t d = iblk m c 3 t :=
  (before_in m c t 3 rfl (fun _ => rfl) (fun _ _ _ => rfl) (fun t => by rw [after3]; rfl) d).trans rfl
theorem before4 (d) : (dats m 0 c).before 4 t d = iblk m c 4 t :=
  (before_in m c t 4 rfl (fun _ => rfl) (fun _ _ _ => rfl) (fun t => by rw [after4]; rfl) d).trans rfl
theorem before5 (d) : (dats m 0 c).before 5 t d = iblk m c 5 t :=
  (before_in m c t 5 rfl (fun _ => rfl) (fun _ _ _ => rfl) (fun t => by rw [after5]; rfl) d).trans rfl
theorem before6 (d) : (dats m 0 c).before 6 t d = iblk m c 6 t :=
  (before_in m c t 6 rfl (fun _ => rfl) (fun _ _ _ => rfl) (fun t => by rw [after6]; rfl) d).trans rfl
theorem before7 (d) : (dats m 0 c).before 7 t d = iblk m c 7 t :=
  (before_in m c t 7 rfl (fun _ => rfl) (fun _ _ _ => rfl) (fun t => by rw [after7]; rfl) d).trans rfl
theorem before8 (d) : (dats m 0 c).before 8 t d = iblk m c 8 t :=
  (before_in m c t 8 rfl (fun _ => rfl) (fun _ _ _ => rfl) (fun t => by rw [after8]; rfl) d).trans rfl
theorem before9 (d) : (dats m 0 c).before 9 t d = iblk m c 9 t :=
  (before_in m c t 9 rfl (fun _ => rfl) (fun _ _ _ => rfl) (fun t => by rw [after9]; rfl) d).trans rfl
theorem before10 (d) : (dats m 0 c).before 10 t d = iblk m c 10 t :=
  (before_in m c t 10 rfl (fun _ => rfl) (fun _ _ _ => rfl) (fun t => by rw [after10]; rfl) d).trans rfl
theorem before11 (d) : (dats m 0 c).before 11 t d = iblk m c 11 t :=
  (before_in m c t 11 rfl (fun _ => rfl) (fun _ _ _ => rfl) (fun t => by rw [after11]; rfl) d).trans rfl
theorem before12 (d) : (dats m 0 c).before 12 t d = iblk m c 12 t :=
  (before_in m c t 12 rfl (fun _ => rfl) (fun _ _ _ => rfl) (fun t => by rw [after12]; rfl) d).trans rfl
theorem before13 (d) : (dats m 0 c).before 13 t d = iblk m c 13 t :=
  (before_in m c t 13 rfl (fun _ => rfl) (fun _ _ _ => rfl) (fun t => by rw [after13]; rfl) d).trans rfl
theorem before14 (d) : (dats m 0 c).before 14 t d = iblk m c 14 t :=
  (before_in m c t 14 rfl (fun _ => rfl) (fun _ _ _ => rfl) (fun t => by rw [after14]; rfl) d).trans rfl
theorem before15 (d) : (dats m 0 c).before 15 t d = iblk m c 15 t :=
  (before_in m c t 15 rfl (fun _ => rfl) (fun _ _ _ => rfl) (fun t => by rw [after15]; rfl) d).trans rfl
theorem before16 (d) : (dats m 0 c).before 16 t d = iblk m c 16 t :=
  (before_in m c t 16 rfl (fun _ => rfl) (fun _ _ _ => rfl) (fun t => by rw [after16]; rfl) d).trans rfl
theorem before17 (d) : (dats m 0 c).before 17 t d = iblk m c 17 t :=
  (before_in m c t 17 rfl (fun _ => rfl) (fun _ _ _ => rfl) (fun t => by rw [after17]; rfl) d).trans rfl
theorem before18 (d) : (dats m 0 c).before 18 t d = iblk m c 18 t :=
  (before_in m c t 18 rfl (fun _ => rfl) (fun _ _ _ => rfl) (fun t => by rw [after18]; rfl) d).trans rfl
theorem before19 (d) : (dats m 0 c).before 19 t d = iblk m c 19 t :=
  (before_in m c t 19 rfl (fun _ => rfl) (fun _ _ _ => rfl) (fun t => by rw [after19]; rfl) d).trans rfl
theorem before20 (d) : (dats m 0 c).before 20 t d = iblk m c 20 t :=
  (before_in m c t 20 rfl (fun _ => rfl) (fun _ _ _ => rfl) (fun t => by rw [after20]; rfl) d).trans rfl
theorem before21 (d) : (dats m 0 c).before 21 t d = iblk m c 21 t :=
  (before_in m c t 21 rfl (fun _ => rfl) (fun _ _ _ => rfl) (fun t => by rw [after21]; rfl) d).trans rfl
theorem before22 (d) : (dats m 0 c).before 22 t d = iblk m c 22 t :=
  (before_in m c t 22 rfl (fun _ => rfl) (fun _ _ _ => rfl) (fun t => by rw [after22]; rfl) d).trans rfl
theorem before23 (d) : (dats m 0 c).before 23 t d = iblk m c 23 t :=
  (before_in m c t 23 rfl (fun _ => rfl) (fun _ _ _ => rfl) (fun t => by rw [after23]; rfl) d).trans rfl
theorem before24 (d) : (dats m 0 c).before 24 t d = iblk m c 24 t :=
  (before_in m c t 24 rfl (fun _ => rfl) (fun _ _ _ => rfl) (fun t => by rw [after24]; rfl) d).trans rfl
theorem before25 (d) : (dats m 0 c).before 25 t d = iblk m c 25 t :=
  (before_in m c t 25 rfl (fun _ => rfl) (fun _ _ _ => rfl) (fun t => by rw [after25]; rfl) d).trans rfl
theorem before26 (d) : (dats m 0 c).before 26 t d = iblk m c 26 t :=
  (before_in m c t 26 rfl (fun _ => rfl) (fun _ _ _ => rfl) (fun t => by rw [after26]; rfl) d).trans rfl
theorem before27 (d) : (dats m 0 c).before 27 t d = iblk m c 27 t :=
  (before_in m c t 27 rfl (fun _ => rfl) (fun _ _ _ => rfl) (fun t => by rw [after27]; rfl) d).trans rfl
theorem before28 (d) : (dats m 0 c).before 28 t d = iblk m c 28 t :=
  (before_in m c t 28 rfl (fun _ => rfl) (fun _ _ _ => rfl) (fun t => by rw [after28]; rfl) d).trans rfl
theorem before29 (d) : (dats m 0 c).before 29 t d = iblk m c 29 t :=
  (before_in m c t 29 rfl (fun _ => rfl) (fun _ _ _ => rfl) (fun t => by rw [after29]; rfl) d).trans rfl
theorem before30 (d) : (dats m 0 c).before 30 t d = iblk m c 30 t :=
  (before_in m c t 30 rfl (fun _ => rfl) (fun _ _ _ => rfl) (fun t => by rw [after30]; rfl) d).trans rfl
theorem before31 (d) : (dats m 0 c).before 31 t d = iblk m c 31 t :=
  (before_in m c t 31 rfl (fun _ => rfl) (fun _ _ _ => rfl) (fun t => by rw [after31]; rfl) d).trans rfl
theorem before32 (d) : (dats m 0 c).before 32 t d = iblk m c 32 t :=
  (before_in m c t 32 rfl (fun _ => rfl) (fun _ _ _ => rfl) (fun t => by rw [after32]; rfl) d).trans rfl
theorem before33 (d) : (dats m 0 c).before 33 t d = iblk m c 33 t :=
  (before_in m c t 33 rfl (fun _ => rfl) (fun _ _ _ => rfl) (fun t => by rw [after33]; rfl) d).trans rfl
theorem before34 (d) : (dats m 0 c).before 34 t d = iblk m c 34 t :=
  (before_in m c t 34 rfl (fun _ => rfl) (fun _ _ _ => rfl) (fun t => by rw [after34]; rfl) d).trans rfl
theorem before35 (d) : (dats m 0 c).before 35 t d = iblk m c 35 t :=
  (before_in m c t 35 rfl (fun _ => rfl) (fun _ _ _ => rfl) (fun t => by rw [after35]; rfl) d).trans rfl

end Point

theorem defs₀_row (t : Fin cfg0.N) : defs₀ (F := F) .tc cfg0.body (cfg0.bodyArgs t (cfg0.slots t)) = bodyAt0 t := by
  unfold defs₀; rw [Defs.onTc_tc]

end Cert.Proof.Small

end
-- ==== Proof.SmallStep.lean ====
/-
  Hand-written. The optimiser's step for the small weights: the body at every point.
-/
module

public import proofs.«01_k».proof.Proof.SmallData

@[expose] public section

set_option maxRecDepth 16384

noncomputable section

namespace Cert.Proof.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point, between what it finds and what it leaves. -/
theorem sound_body (c : Dev nD) (t : Fin cfg0.N) :
    (bigSep Finset.univ fun w : Fin cfg0.W =>
        iprop(∃ d, owns (c : Thread nD τ) ((cfg0.win w).stage (cfg0.slots t w)) fullShare ((dats m 0 c).before w t d)) : sProp 𝕄)
    ⊢ wp frame (wpE (defs₀ (F := F)) Variants.none c none) Set.univ (bodyAt0 t) fun _ =>
      bigSep Finset.univ fun w : Fin cfg0.W =>
        owns (c : Thread nD τ) ((cfg0.win w).stage (cfg0.slots t w)) fullShare ((dats m 0 c).after w t) := by
  unfold bodyAt0
  rw [bigSep_W0, bigSep_W0]
  simp only [before0, before1, before2, before3, before4, before5, before6, before7, before8, before9, before10, before11,
    before12, before13, before14, before15, before16, before17, before18, before19, before20, before21, before22,
    before23, before24, before25, before26, before27, before28, before29, before30, before31, before32, before33,
    before34, before35, after0, after1, after2, after3, after4, after5, after6, after7, after8, after9, after10,
    after11, after12, after13, after14, after15, after16, after17, after18, after19, after20, after21, after22,
    after23, after24, after25, after26, after27, after28, after29, after30, after31, after32, after33, after34,
    after35, after36, after37, after38, after39, after40, after41, after42, after43, after44, after45, after46,
    after47, after48, after49, after50, after51, after52, after53, after54, after55, after56, after57, after58,
    after59, after60, after61, after62]
  exact sound_kernel c Set.univ (stage0_0 0) (hstage0_0 0) (stage0_1 0) (hstage0_1 0) (stage0_2 0) (hstage0_2 0) (stage0_3 0) (hstage0_3 0)
      (stage0_4 0) (hstage0_4 0) (stage0_5 0) (hstage0_5 0) (stage0_6 0) (hstage0_6 0) (stage0_7 0) (hstage0_7 0)
      (stage0_8 0) (hstage0_8 0) (stage0_9 0) (hstage0_9 0) (stage0_10 0) (hstage0_10 0) (stage0_11 0) (hstage0_11 0)
      (stage0_12 0) (hstage0_12 0) (stage0_13 0) (hstage0_13 0) (stage0_14 0) (hstage0_14 0)
      (stage0_15 0) (hstage0_15 0) (stage0_16 0) (hstage0_16 0) (stage0_17 0) (hstage0_17 0)
      (stage0_18 0) (hstage0_18 0) (stage0_19 0) (hstage0_19 0) (stage0_20 0) (hstage0_20 0)
      (stage0_21 0) (hstage0_21 0) (stage0_22 0) (hstage0_22 0) (stage0_23 0) (hstage0_23 0)
      (stage0_24 0) (hstage0_24 0) (stage0_25 0) (hstage0_25 0) (stage0_26 0) (hstage0_26 0)
      (stage0_27 0) (hstage0_27 0) (stage0_28 0) (hstage0_28 0) (stage0_29 0) (hstage0_29 0)
      (stage0_30 0) (hstage0_30 0) (stage0_31 0) (hstage0_31 0) (stage0_32 0) (hstage0_32 0)
      (stage0_33 0) (hstage0_33 0) (stage0_34 0) (hstage0_34 0) (stage0_35 0) (hstage0_35 0)
      (stage0_36 0) (hstage0_36 0) (stage0_37 0) (hstage0_37 0) (stage0_38 0) (hstage0_38 0)
      (stage0_39 0) (hstage0_39 0) (stage0_40 0) (hstage0_40 0) (stage0_41 0) (hstage0_41 0)
      (stage0_42 0) (hstage0_42 0) (stage0_43 0) (hstage0_43 0) (stage0_44 0) (hstage0_44 0)
      (stage0_45 0) (hstage0_45 0) (stage0_46 0) (hstage0_46 0) (stage0_47 0) (hstage0_47 0)
      (stage0_48 0) (hstage0_48 0) (stage0_49 0) (hstage0_49 0) (stage0_50 0) (hstage0_50 0)
      (stage0_51 0) (hstage0_51 0) (stage0_52 0) (hstage0_52 0) (stage0_53 0) (hstage0_53 0)
      (stage0_54 0) (hstage0_54 0) (stage0_55 0) (hstage0_55 0) (stage0_56 0) (hstage0_56 0)
      (stage0_57 0) (hstage0_57 0) (stage0_58 0) (hstage0_58 0) (stage0_59 0) (hstage0_59 0)
      (stage0_60 0) (hstage0_60 0) (stage0_61 0) (hstage0_61 0) (stage0_62 0) (hstage0_62 0)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) (iblk m c 18 t) (iblk m c 19 t) (iblk m c 20 t)
      (iblk m c 21 t) (iblk m c 22 t) (iblk m c 23 t) (iblk m c 24 t) (iblk m c 25 t) (iblk m c 26 t) (iblk m c 27 t)
      (iblk m c 28 t) (iblk m c 29 t) (iblk m c 30 t) (iblk m c 31 t) (iblk m c 32 t) (iblk m c 33 t) (iblk m c 34 t)
      (iblk m c 35 t) ((dats m 0 c).before 36 t) ((dats m 0 c).before 37 t) ((dats m 0 c).before 38 t)
      ((dats m 0 c).before 39 t) ((dats m 0 c).before 40 t) ((dats m 0 c).before 41 t) ((dats m 0 c).before 42 t)
      ((dats m 0 c).before 43 t) ((dats m 0 c).before 44 t) ((dats m 0 c).before 45 t) ((dats m 0 c).before 46 t)
      ((dats m 0 c).before 47 t) ((dats m 0 c).before 48 t) ((dats m 0 c).before 49 t) ((dats m 0 c).before 50 t)
      ((dats m 0 c).before 51 t) ((dats m 0 c).before 52 t) ((dats m 0 c).before 53 t) ((dats m 0 c).before 54 t)
      ((dats m 0 c).before 55 t) ((dats m 0 c).before 56 t) ((dats m 0 c).before 57 t) ((dats m 0 c).before 58 t)
      ((dats m 0 c).before 59 t) ((dats m 0 c).before 60 t) ((dats m 0 c).before 61 t) ((dats m 0 c).before 62 t)

/-- So the body does at every point what the pipeline asks of it. -/
theorem body_obligation (c : Dev nD) : BodyObligation (dats (F := F) m 0 c) (defs₀ (F := F)) Variants.none () Set.univ := fun t =>
  triple_restated (P := iprop((dats m 0 c).Φ t.castSucc ∗ (dats m 0 c).owesAt () t.castSucc
      ∗ bigSep Finset.univ fun w : Fin cfg0.W =>
        iprop(∃ d, owns (c : Thread nD τ) ((cfg0.win w).stage (cfg0.slots t w)) fullShare ((dats m 0 c).before w t d))))
    ((sep_mono_r ((sep_mono_r (sound_body m c t)).trans (wp_frame_l _ _ _))).trans (wp_frame_l _ _ _))
    (by rw [defs₀_row]) .rfl fun _ => .rfl

end Cert.Proof.Small

end
-- ==== Proof.SmallRun.lean ====
/-
  Hand-written. The optimiser's step for the small weights: the kernel's whole run, over any reading of the floats.
-/
module

public import proofs.«01_k».proof.Proof.SmallStep
public import Idealize.ShloMosaic.Lib.Pipeline.Value

@[expose] public section

set_option maxRecDepth 16384

noncomputable section

namespace Cert.Proof.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel12Ideal Cert.Kernel12Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 800000 in
/-- The run, and no counter left up. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input that the call reads is as at the start. -/
theorem kept {c : Dev nD} (w : Fin cfg0.W) (hw : (cfg0.win w).isOut = false)
    {x : Buf (Elt F) ((c : Thread nD τ).loc (Pipeline.arrRef spec0 w))} (h : x = (dats m 0 c).arrAt w cfg0.N) :
    x = V m c (Pipeline.arrRef spec0 w) :=
  h.trans (((dats m 0 c).arrAt_in w hw _).trans (A_eq m c w))

set_option maxHeartbeats 8000000 in
/-- The run: the results are the output arrays, and the arguments are as at the start. -/
theorem run_results : θ_run defs (onTc (τ := τ) (main (F := F))) ⟨m, fun _ => 0, ρ⟩ fun r => (∀ c : Dev nD,
      r.2.mem ((c : Thread nD τ).loc main_v4_0) = (dats m 0 c).arrAt 36 cfg0.N
      ∧ r.2.mem ((c : Thread nD τ).loc main_v4_1) = (dats m 0 c).arrAt 37 cfg0.N
      ∧ r.2.mem ((c : Thread nD τ).loc main_v4_2) = (dats m 0 c).arrAt 38 cfg0.N
      ∧ r.2.mem ((c : Thread nD τ).loc main_v4_3) = (dats m 0 c).arrAt 39 cfg0.N
      ∧ r.2.mem ((c : Thread nD τ).loc main_v4_4) = (dats m 0 c).arrAt 40 cfg0.N
      ∧ r.2.mem ((c : Thread nD τ).loc main_v4_5) = (dats m 0 c).arrAt 41 cfg0.N
      ∧ r.2.mem ((c : Thread nD τ).loc main_v4_6) = (dats m 0 c).arrAt 42 cfg0.N
      ∧ r.2.mem ((c : Thread nD τ).loc main_v4_7) = (dats m 0 c).arrAt 43 cfg0.N
      ∧ r.2.mem ((c : Thread nD τ).loc main_v4_8) = (dats m 0 c).arrAt 44 cfg0.N
      ∧ r.2.mem ((c : Thread nD τ).loc main_v4_9) = (dats m 0 c).arrAt 45 cfg0.N
      ∧ r.2.mem ((c : Thread nD τ).loc main_v4_10) = (dats m 0 c).arrAt 46 cfg0.N
      ∧ r.2.mem ((c : Thread nD τ).loc main_v4_11) = (dats m 0 c).arrAt 47 cfg0.N
      ∧ r.2.mem ((c : Thread nD τ).loc main_v4_12) = (dats m 0 c).arrAt 48 cfg0.N
      ∧ r.2.mem ((c : Thread nD τ).loc main_v4_13) = (dats m 0 c).arrAt 49 cfg0.N
      ∧ r.2.mem ((c : Thread nD τ).loc main_v4_14) = (dats m 0 c).arrAt 50 cfg0.N
      ∧ r.2.mem ((c : Thread nD τ).loc main_v4_15) = (dats m 0 c).arrAt 51 cfg0.N
      ∧ r.2.mem ((c : Thread nD τ).loc main_v4_16) = (dats m 0 c).arrAt 52 cfg0.N
      ∧ r.2.mem ((c : Thread nD τ).loc main_v4_17) = (dats m 0 c).arrAt 53 cfg0.N
      ∧ r.2.mem ((c : Thread nD τ).loc main_v4_18) = (dats m 0 c).arrAt 54 cfg0.N
      ∧ r.2.mem ((c : Thread nD τ).loc main_v4_19) = (dats m 0 c).arrAt 55 cfg0.N
      ∧ r.2.mem ((c : Thread nD τ).loc main_v4_20) = (dats m 0 c).arrAt 56 cfg0.N
      ∧ r.2.mem ((c : Thread nD τ).loc main_v4_21) = (dats m 0 c).arrAt 57 cfg0.N
      ∧ r.2.mem ((c : Thread nD τ).loc main_v4_22) = (dats m 0 c).arrAt 58 cfg0.N
      ∧ r.2.mem ((c : Thread nD τ).loc main_v4_23) = (dats m 0 c).arrAt 59 cfg0.N
      ∧ r.2.mem ((c : Thread nD τ).loc main_v4_24) = (dats m 0 c).arrAt 60 cfg0.N
      ∧ r.2.mem ((c : Thread nD τ).loc main_v4_25) = (dats m 0 c).arrAt 61 cfg0.N
      ∧ r.2.mem ((c : Thread nD τ).loc main_v4_26) = (dats m 0 c).arrAt 62 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0 :=
  (θ_run defs _ _).mono (fun r h' => by
    obtain ⟨h, hs⟩ := h'
    exact ⟨fun c => ⟨(h c).1 36,
      (h c).1 37,
      (h c).1 38,
      (h c).1 39,
      (h c).1 40,
      (h c).1 41,
      (h c).1 42,
      (h c).1 43,
      (h c).1 44,
      (h c).1 45,
      (h c).1 46,
      (h c).1 47,
      (h c).1 48,
      (h c).1 49,
      (h c).1 50,
      (h c).1 51,
      (h c).1 52,
      (h c).1 53,
      (h c).1 54,
      (h c).1 55,
      (h c).1 56,
      (h c).1 57,
      (h c).1 58,
      (h c).1 59,
      (h c).1 60,
      (h c).1 61,
      (h c).1 62,
      (kept m 0 rfl ((h c).1 0)).trans (V_arg m c (by decide) (by decide) (by decide) (by decide)),
      (kept m 1 rfl ((h c).1 1)).trans (V_arg m c (by decide) (by decide) (by decide) (by decide)),
      (kept m 2 rfl ((h c).1 2)).trans (V_arg m c (by decide) (by decide) (by decide) (by decide)),
      (kept m 3 rfl ((h c).1 3)).trans (V_arg m c (by decide) (by decide) (by decide) (by decide)),
      (kept m 4 rfl ((h c).1 4)).trans (V_arg m c (by decide) (by decide) (by decide) (by decide)),
      (kept m 5 rfl ((h c).1 5)).trans (V_arg m c (by decide) (by decide) (by decide) (by decide)),
      (kept m 6 rfl ((h c).1 6)).trans (V_arg m c (by decide) (by decide) (by decide) (by decide)),
      (kept m 7 rfl ((h c).1 7)).trans (V_arg m c (by decide) (by decide) (by decide) (by decide)),
      (kept m 8 rfl ((h c).1 8)).trans (V_arg m c (by decide) (by decide) (by decide) (by decide)),
      (kept m 9 rfl ((h c).1 9)).trans (V_arg m c (by decide) (by decide) (by decide) (by decide)),
      (kept m 10 rfl ((h c).1 10)).trans (V_arg m c (by decide) (by decide) (by decide) (by decide)),
      (kept m 11 rfl ((h c).1 11)).trans (V_arg m c (by decide) (by decide) (by decide) (by decide)),
      ((h c).2 main_arg12 (Pipeline.mem_restRefs_of main_arg12 (by decide) (by decide))).trans (V_arg m c (by decide) (by decide) (by decide) (by decide)),
      ((h c).2 main_arg13 (Pipeline.mem_restRefs_of main_arg13 (by decide) (by decide))).trans (V_arg m c (by decide) (by decide) (by decide) (by decide)),
      ((h c).2 main_arg14 (Pipeline.mem_restRefs_of main_arg14 (by decide) (by decide))).trans (V_arg m c (by decide) (by decide) (by decide) (by decide)),
      ((h c).2 main_arg15 (Pipeline.mem_restRefs_of main_arg15 (by decide) (by decide))).trans (V_arg m c (by decide) (by decide) (by decide) (by decide)),
      (kept m 16 rfl ((h c).1 16)).trans (V_arg m c (by decide) (by decide) (by decide) (by decide)),
      (kept m 17 rfl ((h c).1 17)).trans (V_arg m c (by decide) (by decide) (by decide) (by decide)),
      (kept m 18 rfl ((h c).1 18)).trans (V_arg m c (by decide) (by decide) (by decide) (by decide)),
      (kept m 19 rfl ((h c).1 19)).trans (V_arg m c (by decide) (by decide) (by decide) (by decide)),
      (kept m 20 rfl ((h c).1 20)).trans (V_arg m c (by decide) (by decide) (by decide) (by decide)),
      (kept m 21 rfl ((h c).1 21)).trans (V_arg m c (by decide) (by decide) (by decide) (by decide)),
      (kept m 22 rfl ((h c).1 22)).trans (V_arg m c (by decide) (by decide) (by decide) (by decide)),
      (kept m 23 rfl ((h c).1 23)).trans (V_arg m c (by decide) (by decide) (by decide) (by decide)),
      (kept m 24 rfl ((h c).1 24)).trans (V_arg m c (by decide) (by decide) (by decide) (by decide)),
      (kept m 25 rfl ((h c).1 25)).trans (V_arg m c (by decide) (by decide) (by decide) (by decide)),
      (kept m 26 rfl ((h c).1 26)).trans (V_arg m c (by decide) (by decide) (by decide) (by decide)),
      (kept m 27 rfl ((h c).1 27)).trans (V_arg m c (by decide) (by decide) (by decide) (by decide)),
      (kept m 28 rfl ((h c).1 28)).trans (V_arg m c (by decide) (by decide) (by decide) (by decide)),
      (kept m 29 rfl ((h c).1 29)).trans (V_arg m c (by decide) (by decide) (by decide) (by decide)),
      (kept m 30 rfl ((h c).1 30)).trans (V_arg m c (by decide) (by decide) (by decide) (by decide)),
      (kept m 31 rfl ((h c).1 31)).trans (V_arg m c (by decide) (by decide) (by decide) (by decide)),
      (kept m 32 rfl ((h c).1 32)).trans (V_arg m c (by decide) (by decide) (by decide) (by decide)),
      (kept m 33 rfl ((h c).1 33)).trans (V_arg m c (by decide) (by decide) (by decide) (by decide)),
      (kept m 34 rfl ((h c).1 34)).trans (V_arg m c (by decide) (by decide) (by decide) (by decide)),
      (kept m 35 rfl ((h c).1 35)).trans (V_arg m c (by decide) (by decide) (by decide) (by decide))⟩, hs⟩) (run_main m ρ)

end Cert.Proof.Small

end
-- ==== Proof.Opt12.lean ====
/-
  Hand-written. The optimiser's step for the small weights: kernel and reference agree.
-/
module

public import proofs.«01_k».proof.Defs
public import proofs.«01_k».proof.Proof.SmallRun
public import proofs.«01_k».proof.Proof.Gen.Kernel12
public import proofs.«01_k».proof.Proof.Gen.Reference12Ideal.Run
public import proofs.«01_k».proof.Proof.Gen.Reference12Ideal.Read
public import proofs.«01_k».proof.Proof.OptMath
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Opt12

open Idealize.ShloMosaic Idealize.SL.Sem Idealize.ShloMosaic.TcCoe Cert.Proof.Opt
open Idealize.ShloMosaic.Pipeline (Dat Cfg Window)

/-- The step and the new moments of a whole array. -/
def stepS {s : Shape} (w g u v : Vec Ideal s .f32) : Vec Ideal s .f32 := fun i => step (w i) (u i) (v i) (g i)
def momS {s : Shape} (g u : Vec Ideal s .f32) : Vec Ideal s .f32 := fun i => newM (u i) (g i)
def varS {s : Shape} (g v : Vec Ideal s .f32) : Vec Ideal s .f32 := fun i => newV (v i) (g i)

section Congr

variable {s : Shape} {w g u v w' g' u' v' : Vec Ideal s .f32}

theorem step_congr (hw : w = w') (hg : g = g') (hu : u = u') (hv : v = v') : stepS w g u v = stepS w' g' u' v' := by
  rw [hw, hg, hu, hv]
theorem mom_congr (hg : g = g') (hu : u = u') : momS g u = momS g' u' := by rw [hg, hu]
theorem var_congr (hg : g = g') (hv : v = v') : varS g v = varS g' v' := by rw [hg, hv]

end Congr

section Kernel

open Cert.Kernel12Ideal Cert.Kernel12Ideal.Gen Cert.Proof.Small

/-- The taps' index in the layout that the caller holds. -/
def swap (i : S3x1x64.Idx) : S1x3x64.Idx := ix3 (i 1) (i 0) (i 2)
theorem swap_eq (i : S3x1x64.Idx) : swap i = ix3 0 (i 0) (i 2) :=
  congrArg (fun k : Fin 1 => (ix3 k (i 0) (i 2) : S1x3x64.Idx)) (Subsingleton.elim (α := Fin 1) (i 1) 0)

/-- What the body leaves in an output block, per shape. -/
theorem stepA_eq (w g u v : Vec Ideal S1x9216 .f32) : stepA (F := Ideal) w g u v = stepS w g u v := by
  funext i
  unfold stepA
  rw [eq_ix2 i]
  frame_out
  pointwise [k0_pay6, k0_pay4, k0_pay5]
  rfl
theorem momA_eq (g u : Vec Ideal S1x9216 .f32) : momA (F := Ideal) g u = momS g u := by
  funext i
  unfold momA
  rw [eq_ix2 i]
  frame_out
  pointwise [k0_pay4]
  rfl
theorem varA_eq (g v : Vec Ideal S1x9216 .f32) : varA (F := Ideal) g v = varS g v := by
  funext i
  unfold varA
  rw [eq_ix2 i]
  frame_out
  pointwise [k0_pay5]
  rfl
theorem stepB_eq (w g u v : Vec Ideal S1x1024 .f32) : stepB (F := Ideal) w g u v = stepS w g u v := by
  funext i
  unfold stepB
  rw [eq_ix2 i]
  frame_out
  pointwise [k0_pay9, k0_pay7, k0_pay8]
  rfl
theorem momB_eq (g u : Vec Ideal S1x1024 .f32) : momB (F := Ideal) g u = momS g u := by
  funext i
  unfold momB
  rw [eq_ix2 i]
  frame_out
  pointwise [k0_pay7]
  rfl
theorem varB_eq (g v : Vec Ideal S1x1024 .f32) : varB (F := Ideal) g v = varS g v := by
  funext i
  unfold varB
  rw [eq_ix2 i]
  frame_out
  pointwise [k0_pay8]
  rfl
theorem stepC_eq (w g u v : Vec Ideal S3x1x64 .f32) : stepC (F := Ideal) w g u v = stepS w g u v := by
  funext i
  unfold stepC
  rw [eq_ix3 i]
  frame_out
  pointwise [k0_pay17, k0_pay15, k0_pay16, k0_pay14, k0_pay13]
  rfl
theorem momC_eq (g u : Vec Ideal S3x1x64 .f32) : momC (F := Ideal) g u = momS g u := by
  funext i
  unfold momC
  rw [eq_ix3 i]
  frame_out
  pointwise [k0_pay15, k0_pay14]
  rfl
theorem varC_eq (g v : Vec Ideal S3x1x64 .f32) : varC (F := Ideal) g v = varS g v := by
  funext i
  unfold varC
  rw [eq_ix3 i]
  frame_out
  pointwise [k0_pay16, k0_pay14]
  rfl
theorem stepD_eq (w g u v : Vec Ideal S1x8 .f32) : stepD (F := Ideal) w g u v = stepS w g u v := by
  funext i
  unfold stepD
  rw [eq_ix2 i]
  frame_out
  pointwise [k0_pay20, k0_pay18, k0_pay19]
  rfl
theorem momD_eq (g u : Vec Ideal S1x8 .f32) : momD (F := Ideal) g u = momS g u := by
  funext i
  unfold momD
  rw [eq_ix2 i]
  frame_out
  pointwise [k0_pay18]
  rfl
theorem varD_eq (g v : Vec Ideal S1x8 .f32) : varD (F := Ideal) g v = varS g v := by
  funext i
  unfold varD
  rw [eq_ix2 i]
  frame_out
  pointwise [k0_pay19]
  rfl

variable (m : (ℓ : Loc nD τ sig) → Buf (Elt Ideal) ℓ)

/-- Per weight: itself, its gradient and its moments. -/
abbrev a0 (c : Dev nD) : Vec Ideal S1x9216 .f32 := m ((c : Thread nD τ).loc main_arg0)
abbrev a1 (c : Dev nD) : Vec Ideal S1x9216 .f32 := m ((c : Thread nD τ).loc main_arg1)
abbrev a2 (c : Dev nD) : Vec Ideal S1x9216 .f32 := m ((c : Thread nD τ).loc main_arg2)
abbrev a3 (c : Dev nD) : Vec Ideal S1x9216 .f32 := m ((c : Thread nD τ).loc main_arg3)
abbrev a4 (c : Dev nD) : Vec Ideal S1x1024 .f32 := m ((c : Thread nD τ).loc main_arg4)
abbrev a5 (c : Dev nD) : Vec Ideal S1x1024 .f32 := m ((c : Thread nD τ).loc main_arg5)
abbrev a6 (c : Dev nD) : Vec Ideal S1x1024 .f32 := m ((c : Thread nD τ).loc main_arg6)
abbrev a7 (c : Dev nD) : Vec Ideal S1x1024 .f32 := m ((c : Thread nD τ).loc main_arg7)
abbrev a8 (c : Dev nD) : Vec Ideal S1x1024 .f32 := m ((c : Thread nD τ).loc main_arg8)
abbrev a9 (c : Dev nD) : Vec Ideal S1x1024 .f32 := m ((c : Thread nD τ).loc main_arg9)
abbrev a10 (c : Dev nD) : Vec Ideal S1x1024 .f32 := m ((c : Thread nD τ).loc main_arg10)
abbrev a11 (c : Dev nD) : Vec Ideal S1x1024 .f32 := m ((c : Thread nD τ).loc main_arg11)
abbrev a12 (c : Dev nD) : Vec Ideal S1x3x64 .f32 := m ((c : Thread nD τ).loc main_arg12)
abbrev a13 (c : Dev nD) : Vec Ideal S1x3x64 .f32 := m ((c : Thread nD τ).loc main_arg13)
abbrev a14 (c : Dev nD) : Vec Ideal S1x3x64 .f32 := m ((c : Thread nD τ).loc main_arg14)
abbrev a15 (c : Dev nD) : Vec Ideal S1x3x64 .f32 := m ((c : Thread nD τ).loc main_arg15)
abbrev a16 (c : Dev nD) : Vec Ideal S1x8 .f32 := m ((c : Thread nD τ).loc main_arg16)
abbrev a17 (c : Dev nD) : Vec Ideal S1x8 .f32 := m ((c : Thread nD τ).loc main_arg17)
abbrev a18 (c : Dev nD) : Vec Ideal S1x8 .f32 := m ((c : Thread nD τ).loc main_arg18)
abbrev a19 (c : Dev nD) : Vec Ideal S1x8 .f32 := m ((c : Thread nD τ).loc main_arg19)
abbrev a20 (c : Dev nD) : Vec Ideal S1x1024 .f32 := m ((c : Thread nD τ).loc main_arg20)
abbrev a21 (c : Dev nD) : Vec Ideal S1x1024 .f32 := m ((c : Thread nD τ).loc main_arg21)
abbrev a22 (c : Dev nD) : Vec Ideal S1x1024 .f32 := m ((c : Thread nD τ).loc main_arg22)
abbrev a23 (c : Dev nD) : Vec Ideal S1x1024 .f32 := m ((c : Thread nD τ).loc main_arg23)
abbrev a24 (c : Dev nD) : Vec Ideal S1x1024 .f32 := m ((c : Thread nD τ).loc main_arg24)
abbrev a25 (c : Dev nD) : Vec Ideal S1x1024 .f32 := m ((c : Thread nD τ).loc main_arg25)
abbrev a26 (c : Dev nD) : Vec Ideal S1x1024 .f32 := m ((c : Thread nD τ).loc main_arg26)
abbrev a27 (c : Dev nD) : Vec Ideal S1x1024 .f32 := m ((c : Thread nD τ).loc main_arg27)
abbrev a28 (c : Dev nD) : Vec Ideal S1x1024 .f32 := m ((c : Thread nD τ).loc main_arg28)
abbrev a29 (c : Dev nD) : Vec Ideal S1x1024 .f32 := m ((c : Thread nD τ).loc main_arg29)
abbrev a30 (c : Dev nD) : Vec Ideal S1x1024 .f32 := m ((c : Thread nD τ).loc main_arg30)
abbrev a31 (c : Dev nD) : Vec Ideal S1x1024 .f32 := m ((c : Thread nD τ).loc main_arg31)
abbrev a32 (c : Dev nD) : Vec Ideal S1x1024 .f32 := m ((c : Thread nD τ).loc main_arg32)
abbrev a33 (c : Dev nD) : Vec Ideal S1x1024 .f32 := m ((c : Thread nD τ).loc main_arg33)
abbrev a34 (c : Dev nD) : Vec Ideal S1x1024 .f32 := m ((c : Thread nD τ).loc main_arg34)
abbrev a35 (c : Dev nD) : Vec Ideal S1x1024 .f32 := m ((c : Thread nD τ).loc main_arg35)

/-- Every block is the whole array. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0, 0] := (by decide +kernel : ∀ t : Fin grid0.N, _)
theorem idx13 : ∀ t : Fin cfg0.N, win0_13.index t = ![0, 0, 0] := (by decide +kernel : ∀ t : Fin grid0.N, _)
theorem idx14 : ∀ t : Fin cfg0.N, win0_14.index t = ![0, 0, 0] := (by decide +kernel : ∀ t : Fin grid0.N, _)
theorem idx15 : ∀ t : Fin cfg0.N, win0_15.index t = ![0, 0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![0, 0] := (by decide +kernel : ∀ t : Fin grid0.N, _)
theorem idx33 : ∀ t : Fin cfg0.N, win0_33.index t = ![0, 0] := (by decide +kernel : ∀ t : Fin grid0.N, _)
theorem idx34 : ∀ t : Fin cfg0.N, win0_34.index t = ![0, 0] := (by decide +kernel : ∀ t : Fin grid0.N, _)
theorem idx35 : ∀ t : Fin cfg0.N, win0_35.index t = ![0, 0] := (by decide +kernel : ∀ t : Fin grid0.N, _)
theorem idx36 : ∀ t : Fin cfg0.N, win0_36.index t = ![0, 0] := (by decide +kernel : ∀ t : Fin grid0.N, _)
theorem idx37 : ∀ t : Fin cfg0.N, win0_37.index t = ![0, 0] := (by decide +kernel : ∀ t : Fin grid0.N, _)
theorem idx38 : ∀ t : Fin cfg0.N, win0_38.index t = ![0, 0] := (by decide +kernel : ∀ t : Fin grid0.N, _)
theorem idx39 : ∀ t : Fin cfg0.N, win0_39.index t = ![0, 0] := (by decide +kernel : ∀ t : Fin grid0.N, _)
theorem idx40 : ∀ t : Fin cfg0.N, win0_40.index t = ![0, 0] := (by decide +kernel : ∀ t : Fin grid0.N, _)
theorem idx41 : ∀ t : Fin cfg0.N, win0_41.index t = ![0, 0] := (by decide +kernel : ∀ t : Fin grid0.N, _)
theorem idx42 : ∀ t : Fin cfg0.N, win0_42.index t = ![0, 0] := (by decide +kernel : ∀ t : Fin grid0.N, _)
theorem idx43 : ∀ t : Fin cfg0.N, win0_43.index t = ![0, 0] := (by decide +kernel : ∀ t : Fin grid0.N, _)
theorem idx44 : ∀ t : Fin cfg0.N, win0_44.index t = ![0, 0] := (by decide +kernel : ∀ t : Fin grid0.N, _)
theorem idx45 : ∀ t : Fin cfg0.N, win0_45.index t = ![0, 0, 0] := (by decide +kernel : ∀ t : Fin grid0.N, _)
theorem idx46 : ∀ t : Fin cfg0.N, win0_46.index t = ![0, 0, 0] := (by decide +kernel : ∀ t : Fin grid0.N, _)
theorem idx47 : ∀ t : Fin cfg0.N, win0_47.index t = ![0, 0, 0] := (by decide +kernel : ∀ t : Fin grid0.N, _)
theorem idx48 : ∀ t : Fin cfg0.N, win0_48.index t = ![0, 0] := (by decide +kernel : ∀ t : Fin grid0.N, _)
theorem idx49 : ∀ t : Fin cfg0.N, win0_49.index t = ![0, 0] := (by decide +kernel : ∀ t : Fin grid0.N, _)
theorem idx50 : ∀ t : Fin cfg0.N, win0_50.index t = ![0, 0] := (by decide +kernel : ∀ t : Fin grid0.N, _)
theorem idx51 : ∀ t : Fin cfg0.N, win0_51.index t = ![0, 0] := (by decide +kernel : ∀ t : Fin grid0.N, _)
theorem idx52 : ∀ t : Fin cfg0.N, win0_52.index t = ![0, 0] := (by decide +kernel : ∀ t : Fin grid0.N, _)
theorem idx53 : ∀ t : Fin cfg0.N, win0_53.index t = ![0, 0] := (by decide +kernel : ∀ t : Fin grid0.N, _)
theorem idx54 : ∀ t : Fin cfg0.N, win0_54.index t = ![0, 0] := (by decide +kernel : ∀ t : Fin grid0.N, _)
theorem idx55 : ∀ t : Fin cfg0.N, win0_55.index t = ![0, 0] := (by decide +kernel : ∀ t : Fin grid0.N, _)
theorem idx56 : ∀ t : Fin cfg0.N, win0_56.index t = ![0, 0] := (by decide +kernel : ∀ t : Fin grid0.N, _)
theorem idx57 : ∀ t : Fin cfg0.N, win0_57.index t = ![0, 0] := (by decide +kernel : ∀ t : Fin grid0.N, _)
theorem idx58 : ∀ t : Fin cfg0.N, win0_58.index t = ![0, 0] := (by decide +kernel : ∀ t : Fin grid0.N, _)
theorem idx59 : ∀ t : Fin cfg0.N, win0_59.index t = ![0, 0] := (by decide +kernel : ∀ t : Fin grid0.N, _)
theorem idx60 : ∀ t : Fin cfg0.N, win0_60.index t = ![0, 0] := (by decide +kernel : ∀ t : Fin grid0.N, _)
theorem idx61 : ∀ t : Fin cfg0.N, win0_61.index t = ![0, 0] := (by decide +kernel : ∀ t : Fin grid0.N, _)
theorem idx62 : ∀ t : Fin cfg0.N, win0_62.index t = ![0, 0] := (by decide +kernel : ∀ t : Fin grid0.N, _)

variable (c : Dev nD)

section Point

variable (t : Fin cfg0.N)

/-- What the point's input blocks hold. -/
theorem blk0 : iblk m c 0 t = a0 m c := by funext i; rw [eq_ix2 i]; blk_ext! [iblk, V, idx0]
theorem blk1 : iblk m c 1 t = a1 m c := by funext i; rw [eq_ix2 i]; blk_ext! [iblk, V, idx1]
theorem blk2 : iblk m c 2 t = a2 m c := by funext i; rw [eq_ix2 i]; blk_ext! [iblk, V, idx2]
theorem blk3 : iblk m c 3 t = a3 m c := by funext i; rw [eq_ix2 i]; blk_ext! [iblk, V, idx3]
theorem blk4 : iblk m c 4 t = a4 m c := by funext i; rw [eq_ix2 i]; blk_ext! [iblk, V, idx4]
theorem blk5 : iblk m c 5 t = a5 m c := by funext i; rw [eq_ix2 i]; blk_ext! [iblk, V, idx5]
theorem blk6 : iblk m c 6 t = a6 m c := by funext i; rw [eq_ix2 i]; blk_ext! [iblk, V, idx6]
theorem blk7 : iblk m c 7 t = a7 m c := by funext i; rw [eq_ix2 i]; blk_ext! [iblk, V, idx7]
theorem blk8 : iblk m c 8 t = a8 m c := by funext i; rw [eq_ix2 i]; blk_ext! [iblk, V, idx8]
theorem blk9 : iblk m c 9 t = a9 m c := by funext i; rw [eq_ix2 i]; blk_ext! [iblk, V, idx9]
theorem blk10 : iblk m c 10 t = a10 m c := by funext i; rw [eq_ix2 i]; blk_ext! [iblk, V, idx10]
theorem blk11 : iblk m c 11 t = a11 m c := by funext i; rw [eq_ix2 i]; blk_ext! [iblk, V, idx11]
theorem blk12 : iblk m c 12 t = fun i : S3x1x64.Idx => a12 m c (swap i) := by
  funext i
  rw [eq_ix3 i]
  exact (by blk_ext! [iblk, V, idx12] : iblk m c 12 t (ix3 (i 0) (i 1) (i 2)) = a12 m c (ix3 (i 1) (i 0) (i 2)))
theorem blk13 : iblk m c 13 t = fun i : S3x1x64.Idx => a13 m c (swap i) := by
  funext i
  rw [eq_ix3 i]
  exact (by blk_ext! [iblk, V, idx13] : iblk m c 13 t (ix3 (i 0) (i 1) (i 2)) = a13 m c (ix3 (i 1) (i 0) (i 2)))
theorem blk14 : iblk m c 14 t = fun i : S3x1x64.Idx => a14 m c (swap i) := by
  funext i
  rw [eq_ix3 i]
  exact (by blk_ext! [iblk, V, idx14] : iblk m c 14 t (ix3 (i 0) (i 1) (i 2)) = a14 m c (ix3 (i 1) (i 0) (i 2)))
theorem blk15 : iblk m c 15 t = fun i : S3x1x64.Idx => a15 m c (swap i) := by
  funext i
  rw [eq_ix3 i]
  exact (by blk_ext! [iblk, V, idx15] : iblk m c 15 t (ix3 (i 0) (i 1) (i 2)) = a15 m c (ix3 (i 1) (i 0) (i 2)))
theorem blk16 : iblk m c 16 t = a16 m c := by funext i; rw [eq_ix2 i]; blk_ext! [iblk, V, idx16]
theorem blk17 : iblk m c 17 t = a17 m c := by funext i; rw [eq_ix2 i]; blk_ext! [iblk, V, idx17]
theorem blk18 : iblk m c 18 t = a18 m c := by funext i; rw [eq_ix2 i]; blk_ext! [iblk, V, idx18]
theorem blk19 : iblk m c 19 t = a19 m c := by funext i; rw [eq_ix2 i]; blk_ext! [iblk, V, idx19]
theorem blk20 : iblk m c 20 t = a20 m c := by funext i; rw [eq_ix2 i]; blk_ext! [iblk, V, idx20]
theorem blk21 : iblk m c 21 t = a21 m c := by funext i; rw [eq_ix2 i]; blk_ext! [iblk, V, idx21]
theorem blk22 : iblk m c 22 t = a22 m c := by funext i; rw [eq_ix2 i]; blk_ext! [iblk, V, idx22]
theorem blk23 : iblk m c 23 t = a23 m c := by funext i; rw [eq_ix2 i]; blk_ext! [iblk, V, idx23]
theorem blk24 : iblk m c 24 t = a24 m c := by funext i; rw [eq_ix2 i]; blk_ext! [iblk, V, idx24]
theorem blk25 : iblk m c 25 t = a25 m c := by funext i; rw [eq_ix2 i]; blk_ext! [iblk, V, idx25]
theorem blk26 : iblk m c 26 t = a26 m c := by funext i; rw [eq_ix2 i]; blk_ext! [iblk, V, idx26]
theorem blk27 : iblk m c 27 t = a27 m c := by funext i; rw [eq_ix2 i]; blk_ext! [iblk, V, idx27]
theorem blk28 : iblk m c 28 t = a28 m c := by funext i; rw [eq_ix2 i]; blk_ext! [iblk, V, idx28]
theorem blk29 : iblk m c 29 t = a29 m c := by funext i; rw [eq_ix2 i]; blk_ext! [iblk, V, idx29]
theorem blk30 : iblk m c 30 t = a30 m c := by funext i; rw [eq_ix2 i]; blk_ext! [iblk, V, idx30]
theorem blk31 : iblk m c 31 t = a31 m c := by funext i; rw [eq_ix2 i]; blk_ext! [iblk, V, idx31]
theorem blk32 : iblk m c 32 t = a32 m c := by funext i; rw [eq_ix2 i]; blk_ext! [iblk, V, idx32]
theorem blk33 : iblk m c 33 t = a33 m c := by funext i; rw [eq_ix2 i]; blk_ext! [iblk, V, idx33]
theorem blk34 : iblk m c 34 t = a34 m c := by funext i; rw [eq_ix2 i]; blk_ext! [iblk, V, idx34]
theorem blk35 : iblk m c 35 t = a35 m c := by funext i; rw [eq_ix2 i]; blk_ext! [iblk, V, idx35]

/-- Where the point's output blocks lie. -/
theorem emb36 (y : S1x9216.Idx) : ((win0_36.blk t).view.emb y : S1x9216.Idx) = y := by blk_ext [idx36]
theorem emb37 (y : S1x9216.Idx) : ((win0_37.blk t).view.emb y : S1x9216.Idx) = y := by blk_ext [idx37]
theorem emb38 (y : S1x9216.Idx) : ((win0_38.blk t).view.emb y : S1x9216.Idx) = y := by blk_ext [idx38]
theorem emb39 (y : S1x1024.Idx) : ((win0_39.blk t).view.emb y : S1x1024.Idx) = y := by blk_ext [idx39]
theorem emb40 (y : S1x1024.Idx) : ((win0_40.blk t).view.emb y : S1x1024.Idx) = y := by blk_ext [idx40]
theorem emb41 (y : S1x1024.Idx) : ((win0_41.blk t).view.emb y : S1x1024.Idx) = y := by blk_ext [idx41]
theorem emb42 (y : S1x1024.Idx) : ((win0_42.blk t).view.emb y : S1x1024.Idx) = y := by blk_ext [idx42]
theorem emb43 (y : S1x1024.Idx) : ((win0_43.blk t).view.emb y : S1x1024.Idx) = y := by blk_ext [idx43]
theorem emb44 (y : S1x1024.Idx) : ((win0_44.blk t).view.emb y : S1x1024.Idx) = y := by blk_ext [idx44]
theorem emb45 (y : S3x1x64.Idx) : ((win0_45.blk t).view.emb y : S3x1x64.Idx) = y := by blk_ext [idx45]
theorem emb46 (y : S3x1x64.Idx) : ((win0_46.blk t).view.emb y : S3x1x64.Idx) = y := by blk_ext [idx46]
theorem emb47 (y : S3x1x64.Idx) : ((win0_47.blk t).view.emb y : S3x1x64.Idx) = y := by blk_ext [idx47]
theorem emb48 (y : S1x8.Idx) : ((win0_48.blk t).view.emb y : S1x8.Idx) = y := by blk_ext [idx48]
theorem emb49 (y : S1x8.Idx) : ((win0_49.blk t).view.emb y : S1x8.Idx) = y := by blk_ext [idx49]
theorem emb50 (y : S1x8.Idx) : ((win0_50.blk t).view.emb y : S1x8.Idx) = y := by blk_ext [idx50]
theorem emb51 (y : S1x1024.Idx) : ((win0_51.blk t).view.emb y : S1x1024.Idx) = y := by blk_ext [idx51]
theorem emb52 (y : S1x1024.Idx) : ((win0_52.blk t).view.emb y : S1x1024.Idx) = y := by blk_ext [idx52]
theorem emb53 (y : S1x1024.Idx) : ((win0_53.blk t).view.emb y : S1x1024.Idx) = y := by blk_ext [idx53]
theorem emb54 (y : S1x1024.Idx) : ((win0_54.blk t).view.emb y : S1x1024.Idx) = y := by blk_ext [idx54]
theorem emb55 (y : S1x1024.Idx) : ((win0_55.blk t).view.emb y : S1x1024.Idx) = y := by blk_ext [idx55]
theorem emb56 (y : S1x1024.Idx) : ((win0_56.blk t).view.emb y : S1x1024.Idx) = y := by blk_ext [idx56]
theorem emb57 (y : S1x1024.Idx) : ((win0_57.blk t).view.emb y : S1x1024.Idx) = y := by blk_ext [idx57]
theorem emb58 (y : S1x1024.Idx) : ((win0_58.blk t).view.emb y : S1x1024.Idx) = y := by blk_ext [idx58]
theorem emb59 (y : S1x1024.Idx) : ((win0_59.blk t).view.emb y : S1x1024.Idx) = y := by blk_ext [idx59]
theorem emb60 (y : S1x1024.Idx) : ((win0_60.blk t).view.emb y : S1x1024.Idx) = y := by blk_ext [idx60]
theorem emb61 (y : S1x1024.Idx) : ((win0_61.blk t).view.emb y : S1x1024.Idx) = y := by blk_ext [idx61]
theorem emb62 (y : S1x1024.Idx) : ((win0_62.blk t).view.emb y : S1x1024.Idx) = y := by blk_ext [idx62]

end Point

/-- The results. -/
theorem final36 : (dats m 0 c).arrAt 36 cfg0.N = stepS (a0 m c) (a1 m c) (a2 m c) (a3 m c) := by
  refine (dats m 0 c).arrAt_eq_of_covers 36 _ (by decide +kernel) fun t hf y => ?_
  blk_simp
  rw [after36, stepA_eq, emb36, blk0, blk1, blk2, blk3]
theorem final37 : (dats m 0 c).arrAt 37 cfg0.N = momS (a1 m c) (a2 m c) := by
  refine (dats m 0 c).arrAt_eq_of_covers 37 _ (by decide +kernel) fun t hf y => ?_
  blk_simp
  rw [after37, momA_eq, emb37, blk1, blk2]
theorem final38 : (dats m 0 c).arrAt 38 cfg0.N = varS (a1 m c) (a3 m c) := by
  refine (dats m 0 c).arrAt_eq_of_covers 38 _ (by decide +kernel) fun t hf y => ?_
  blk_simp
  rw [after38, varA_eq, emb38, blk1, blk3]
theorem final39 : (dats m 0 c).arrAt 39 cfg0.N = stepS (a4 m c) (a5 m c) (a6 m c) (a7 m c) := by
  refine (dats m 0 c).arrAt_eq_of_covers 39 _ (by decide +kernel) fun t hf y => ?_
  blk_simp
  rw [after39, stepB_eq, emb39, blk4, blk5, blk6, blk7]
theorem final40 : (dats m 0 c).arrAt 40 cfg0.N = momS (a5 m c) (a6 m c) := by
  refine (dats m 0 c).arrAt_eq_of_covers 40 _ (by decide +kernel) fun t hf y => ?_
  blk_simp
  rw [after40, momB_eq, emb40, blk5, blk6]
theorem final41 : (dats m 0 c).arrAt 41 cfg0.N = varS (a5 m c) (a7 m c) := by
  refine (dats m 0 c).arrAt_eq_of_covers 41 _ (by decide +kernel) fun t hf y => ?_
  blk_simp
  rw [after41, varB_eq, emb41, blk5, blk7]
theorem final42 : (dats m 0 c).arrAt 42 cfg0.N = stepS (a8 m c) (a9 m c) (a10 m c) (a11 m c) := by
  refine (dats m 0 c).arrAt_eq_of_covers 42 _ (by decide +kernel) fun t hf y => ?_
  blk_simp
  rw [after42, stepB_eq, emb42, blk8, blk9, blk10, blk11]
theorem final43 : (dats m 0 c).arrAt 43 cfg0.N = momS (a9 m c) (a10 m c) := by
  refine (dats m 0 c).arrAt_eq_of_covers 43 _ (by decide +kernel) fun t hf y => ?_
  blk_simp
  rw [after43, momB_eq, emb43, blk9, blk10]
theorem final44 : (dats m 0 c).arrAt 44 cfg0.N = varS (a9 m c) (a11 m c) := by
  refine (dats m 0 c).arrAt_eq_of_covers 44 _ (by decide +kernel) fun t hf y => ?_
  blk_simp
  rw [after44, varB_eq, emb44, blk9, blk11]
theorem final45 : (dats m 0 c).arrAt 45 cfg0.N = fun i => stepS (a12 m c) (a13 m c) (a14 m c) (a15 m c) (swap i) := by
  refine (dats m 0 c).arrAt_eq_of_covers 45 _ (by decide +kernel) fun t hf y => ?_
  blk_simp
  rw [after45, stepC_eq, emb45, blk12, blk13, blk14, blk15]
  rfl
theorem final46 : (dats m 0 c).arrAt 46 cfg0.N = fun i => momS (a13 m c) (a14 m c) (swap i) := by
  refine (dats m 0 c).arrAt_eq_of_covers 46 _ (by decide +kernel) fun t hf y => ?_
  blk_simp
  rw [after46, momC_eq, emb46, blk13, blk14]
  rfl
theorem final47 : (dats m 0 c).arrAt 47 cfg0.N = fun i => varS (a13 m c) (a15 m c) (swap i) := by
  refine (dats m 0 c).arrAt_eq_of_covers 47 _ (by decide +kernel) fun t hf y => ?_
  blk_simp
  rw [after47, varC_eq, emb47, blk13, blk15]
  rfl
theorem final48 : (dats m 0 c).arrAt 48 cfg0.N = stepS (a16 m c) (a17 m c) (a18 m c) (a19 m c) := by
  refine (dats m 0 c).arrAt_eq_of_covers 48 _ (by decide +kernel) fun t hf y => ?_
  blk_simp
  rw [after48, stepD_eq, emb48, blk16, blk17, blk18, blk19]
theorem final49 : (dats m 0 c).arrAt 49 cfg0.N = momS (a17 m c) (a18 m c) := by
  refine (dats m 0 c).arrAt_eq_of_covers 49 _ (by decide +kernel) fun t hf y => ?_
  blk_simp
  rw [after49, momD_eq, emb49, blk17, blk18]
theorem final50 : (dats m 0 c).arrAt 50 cfg0.N = varS (a17 m c) (a19 m c) := by
  refine (dats m 0 c).arrAt_eq_of_covers 50 _ (by decide +kernel) fun t hf y => ?_
  blk_simp
  rw [after50, varD_eq, emb50, blk17, blk19]
theorem final51 : (dats m 0 c).arrAt 51 cfg0.N = stepS (a20 m c) (a21 m c) (a22 m c) (a23 m c) := by
  refine (dats m 0 c).arrAt_eq_of_covers 51 _ (by decide +kernel) fun t hf y => ?_
  blk_simp
  rw [after51, stepB_eq, emb51, blk20, blk21, blk22, blk23]
theorem final52 : (dats m 0 c).arrAt 52 cfg0.N = momS (a21 m c) (a22 m c) := by
  refine (dats m 0 c).arrAt_eq_of_covers 52 _ (by decide +kernel) fun t hf y => ?_
  blk_simp
  rw [after52, momB_eq, emb52, blk21, blk22]
theorem final53 : (dats m 0 c).arrAt 53 cfg0.N = varS (a21 m c) (a23 m c) := by
  refine (dats m 0 c).arrAt_eq_of_covers 53 _ (by decide +kernel) fun t hf y => ?_
  blk_simp
  rw [after53, varB_eq, emb53, blk21, blk23]
theorem final54 : (dats m 0 c).arrAt 54 cfg0.N = stepS (a24 m c) (a25 m c) (a26 m c) (a27 m c) := by
  refine (dats m 0 c).arrAt_eq_of_covers 54 _ (by decide +kernel) fun t hf y => ?_
  blk_simp
  rw [after54, stepB_eq, emb54, blk24, blk25, blk26, blk27]
theorem final55 : (dats m 0 c).arrAt 55 cfg0.N = momS (a25 m c) (a26 m c) := by
  refine (dats m 0 c).arrAt_eq_of_covers 55 _ (by decide +kernel) fun t hf y => ?_
  blk_simp
  rw [after55, momB_eq, emb55, blk25, blk26]
theorem final56 : (dats m 0 c).arrAt 56 cfg0.N = varS (a25 m c) (a27 m c) := by
  refine (dats m 0 c).arrAt_eq_of_covers 56 _ (by decide +kernel) fun t hf y => ?_
  blk_simp
  rw [after56, varB_eq, emb56, blk25, blk27]
theorem final57 : (dats m 0 c).arrAt 57 cfg0.N = stepS (a28 m c) (a29 m c) (a30 m c) (a31 m c) := by
  refine (dats m 0 c).arrAt_eq_of_covers 57 _ (by decide +kernel) fun t hf y => ?_
  blk_simp
  rw [after57, stepB_eq, emb57, blk28, blk29, blk30, blk31]
theorem final58 : (dats m 0 c).arrAt 58 cfg0.N = momS (a29 m c) (a30 m c) := by
  refine (dats m 0 c).arrAt_eq_of_covers 58 _ (by decide +kernel) fun t hf y => ?_
  blk_simp
  rw [after58, momB_eq, emb58, blk29, blk30]
theorem final59 : (dats m 0 c).arrAt 59 cfg0.N = varS (a29 m c) (a31 m c) := by
  refine (dats m 0 c).arrAt_eq_of_covers 59 _ (by decide +kernel) fun t hf y => ?_
  blk_simp
  rw [after59, varB_eq, emb59, blk29, blk31]
theorem final60 : (dats m 0 c).arrAt 60 cfg0.N = stepS (a32 m c) (a33 m c) (a34 m c) (a35 m c) := by
  refine (dats m 0 c).arrAt_eq_of_covers 60 _ (by decide +kernel) fun t hf y => ?_
  blk_simp
  rw [after60, stepB_eq, emb60, blk32, blk33, blk34, blk35]
theorem final61 : (dats m 0 c).arrAt 61 cfg0.N = momS (a33 m c) (a34 m c) := by
  refine (dats m 0 c).arrAt_eq_of_covers 61 _ (by decide +kernel) fun t hf y => ?_
  blk_simp
  rw [after61, momB_eq, emb61, blk33, blk34]
theorem final62 : (dats m 0 c).arrAt 62 cfg0.N = varS (a33 m c) (a35 m c) := by
  refine (dats m 0 c).arrAt_eq_of_covers 62 _ (by decide +kernel) fun t hf y => ?_
  blk_simp
  rw [after62, varB_eq, emb62, blk33, blk35]

end Kernel

section Reference

open Cert.Reference12Ideal Cert.Reference12Ideal.Read

/-- The reference's results: one weight of each shape, and the others by it. -/
theorem ref36 (w g u v : Vec Ideal S1x9216 .f32) : val_main_v23 (F := Ideal) w g u v = stepS w g u v := by
  funext i
  rw [eq_ix2 i]
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3,
    val_main_v11, val_main_v12, val_main_cst_4, val_main_v13, val_main_v14, val_main_v15, val_main_cst_5,
    val_main_v16, val_main_v17, val_main_v18, val_main_cst_6, val_main_v19, val_main_v20, val_main_v21,
    val_main_cst_7, val_main_v22, val_main_v23]
  rfl
theorem ref37 (g u : Vec Ideal S1x9216 .f32) : val_main_v4 (F := Ideal) g u = momS g u := by
  funext i
  rw [eq_ix2 i]
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3,
    val_main_v11, val_main_v12, val_main_cst_4, val_main_v13, val_main_v14, val_main_v15, val_main_cst_5,
    val_main_v16, val_main_v17, val_main_v18, val_main_cst_6, val_main_v19, val_main_v20, val_main_v21,
    val_main_cst_7, val_main_v22, val_main_v23]
  rfl
theorem ref38 (g v : Vec Ideal S1x9216 .f32) : val_main_v10 (F := Ideal) g v = varS g v := by
  funext i
  rw [eq_ix2 i]
  pointwise [val_main_cst, val_main_v0, val_main_v1, val_main_cst_0, val_main_v2, val_main_v3, val_main_v4, val_main_cst_1,
    val_main_v5, val_main_v6, val_main_v7, val_main_cst_2, val_main_v8, val_main_v9, val_main_v10, val_main_cst_3,
    val_main_v11, val_main_v12, val_main_cst_4, val_main_v13, val_main_v14, val_main_v15, val_main_cst_5,
    val_main_v16, val_main_v17, val_main_v18, val_main_cst_6, val_main_v19, val_main_v20, val_main_v21,
    val_main_cst_7, val_main_v22, val_main_v23]
  rfl
theorem ref39 (w g u v : Vec Ideal S1x1024 .f32) : val_main_v47 (F := Ideal) w g u v = stepS w g u v := by
  funext i
  rw [eq_ix2 i]
  pointwise [val_main_cst_8, val_main_v24, val_main_v25, val_main_cst_9, val_main_v26, val_main_v27, val_main_v28,
    val_main_cst_10, val_main_v29, val_main_v30, val_main_v31, val_main_cst_11, val_main_v32, val_main_v33,
    val_main_v34, val_main_cst_12, val_main_v35, val_main_v36, val_main_cst_13, val_main_v37, val_main_v38,
    val_main_v39, val_main_cst_14, val_main_v40, val_main_v41, val_main_v42, val_main_cst_15, val_main_v43,
    val_main_v44, val_main_v45, val_main_cst_16, val_main_v46, val_main_v47]
  rfl
theorem ref40 (g u : Vec Ideal S1x1024 .f32) : val_main_v28 (F := Ideal) g u = momS g u := by
  funext i
  rw [eq_ix2 i]
  pointwise [val_main_cst_8, val_main_v24, val_main_v25, val_main_cst_9, val_main_v26, val_main_v27, val_main_v28,
    val_main_cst_10, val_main_v29, val_main_v30, val_main_v31, val_main_cst_11, val_main_v32, val_main_v33,
    val_main_v34, val_main_cst_12, val_main_v35, val_main_v36, val_main_cst_13, val_main_v37, val_main_v38,
    val_main_v39, val_main_cst_14, val_main_v40, val_main_v41, val_main_v42, val_main_cst_15, val_main_v43,
    val_main_v44, val_main_v45, val_main_cst_16, val_main_v46, val_main_v47]
  rfl
theorem ref41 (g v : Vec Ideal S1x1024 .f32) : val_main_v34 (F := Ideal) g v = varS g v := by
  funext i
  rw [eq_ix2 i]
  pointwise [val_main_cst_8, val_main_v24, val_main_v25, val_main_cst_9, val_main_v26, val_main_v27, val_main_v28,
    val_main_cst_10, val_main_v29, val_main_v30, val_main_v31, val_main_cst_11, val_main_v32, val_main_v33,
    val_main_v34, val_main_cst_12, val_main_v35, val_main_v36, val_main_cst_13, val_main_v37, val_main_v38,
    val_main_v39, val_main_cst_14, val_main_v40, val_main_v41, val_main_v42, val_main_cst_15, val_main_v43,
    val_main_v44, val_main_v45, val_main_cst_16, val_main_v46, val_main_v47]
  rfl
theorem ref42 (w g u v : Vec Ideal S1x1024 .f32) : val_main_v71 (F := Ideal) w g u v = stepS w g u v :=
  ref39 w g u v
theorem ref43 (g u : Vec Ideal S1x1024 .f32) : val_main_v52 (F := Ideal) g u = momS g u :=
  ref40 g u
theorem ref44 (g v : Vec Ideal S1x1024 .f32) : val_main_v58 (F := Ideal) g v = varS g v :=
  ref41 g v
theorem ref45 (w g u v : Vec Ideal S1x3x64 .f32) : val_main_v96 (F := Ideal) w g u v = fun i => stepS w g u v (swap i) := by
  funext i
  rw [eq_ix3 i]
  pointwise [val_main_cst_26, val_main_v72, val_main_v73, val_main_cst_27, val_main_v74, val_main_v75, val_main_v76,
    val_main_cst_28, val_main_v77, val_main_v78, val_main_v79, val_main_cst_29, val_main_v80, val_main_v81,
    val_main_v82, val_main_cst_30, val_main_v83, val_main_v84, val_main_cst_31, val_main_v85, val_main_v86,
    val_main_v87, val_main_cst_32, val_main_v88, val_main_v89, val_main_v90, val_main_cst_33, val_main_v91,
    val_main_v92, val_main_v93, val_main_cst_34, val_main_v94, val_main_v95, val_main_v96, val_main_v97,
    val_main_v98]
  exact (congrArg (stepS w g u v) (swap_eq i)).symm
theorem ref46 (g u : Vec Ideal S1x3x64 .f32) : val_main_v97 (F := Ideal) g u = fun i => momS g u (swap i) := by
  funext i
  rw [eq_ix3 i]
  pointwise [val_main_cst_26, val_main_v72, val_main_v73, val_main_cst_27, val_main_v74, val_main_v75, val_main_v76,
    val_main_cst_28, val_main_v77, val_main_v78, val_main_v79, val_main_cst_29, val_main_v80, val_main_v81,
    val_main_v82, val_main_cst_30, val_main_v83, val_main_v84, val_main_cst_31, val_main_v85, val_main_v86,
    val_main_v87, val_main_cst_32, val_main_v88, val_main_v89, val_main_v90, val_main_cst_33, val_main_v91,
    val_main_v92, val_main_v93, val_main_cst_34, val_main_v94, val_main_v95, val_main_v96, val_main_v97,
    val_main_v98]
  exact (congrArg (momS g u) (swap_eq i)).symm
theorem ref47 (g v : Vec Ideal S1x3x64 .f32) : val_main_v98 (F := Ideal) g v = fun i => varS g v (swap i) := by
  funext i
  rw [eq_ix3 i]
  pointwise [val_main_cst_26, val_main_v72, val_main_v73, val_main_cst_27, val_main_v74, val_main_v75, val_main_v76,
    val_main_cst_28, val_main_v77, val_main_v78, val_main_v79, val_main_cst_29, val_main_v80, val_main_v81,
    val_main_v82, val_main_cst_30, val_main_v83, val_main_v84, val_main_cst_31, val_main_v85, val_main_v86,
    val_main_v87, val_main_cst_32, val_main_v88, val_main_v89, val_main_v90, val_main_cst_33, val_main_v91,
    val_main_v92, val_main_v93, val_main_cst_34, val_main_v94, val_main_v95, val_main_v96, val_main_v97,
    val_main_v98]
  exact (congrArg (varS g v) (swap_eq i)).symm
theorem ref48 (w g u v : Vec Ideal S1x8 .f32) : val_main_v122 (F := Ideal) w g u v = stepS w g u v := by
  funext i
  rw [eq_ix2 i]
  pointwise [val_main_cst_35, val_main_v99, val_main_v100, val_main_cst_36, val_main_v101, val_main_v102, val_main_v103,
    val_main_cst_37, val_main_v104, val_main_v105, val_main_v106, val_main_cst_38, val_main_v107, val_main_v108,
    val_main_v109, val_main_cst_39, val_main_v110, val_main_v111, val_main_cst_40, val_main_v112, val_main_v113,
    val_main_v114, val_main_cst_41, val_main_v115, val_main_v116, val_main_v117, val_main_cst_42, val_main_v118,
    val_main_v119, val_main_v120, val_main_cst_43, val_main_v121, val_main_v122]
  rfl
theorem ref49 (g u : Vec Ideal S1x8 .f32) : val_main_v103 (F := Ideal) g u = momS g u := by
  funext i
  rw [eq_ix2 i]
  pointwise [val_main_cst_35, val_main_v99, val_main_v100, val_main_cst_36, val_main_v101, val_main_v102, val_main_v103,
    val_main_cst_37, val_main_v104, val_main_v105, val_main_v106, val_main_cst_38, val_main_v107, val_main_v108,
    val_main_v109, val_main_cst_39, val_main_v110, val_main_v111, val_main_cst_40, val_main_v112, val_main_v113,
    val_main_v114, val_main_cst_41, val_main_v115, val_main_v116, val_main_v117, val_main_cst_42, val_main_v118,
    val_main_v119, val_main_v120, val_main_cst_43, val_main_v121, val_main_v122]
  rfl
theorem ref50 (g v : Vec Ideal S1x8 .f32) : val_main_v109 (F := Ideal) g v = varS g v := by
  funext i
  rw [eq_ix2 i]
  pointwise [val_main_cst_35, val_main_v99, val_main_v100, val_main_cst_36, val_main_v101, val_main_v102, val_main_v103,
    val_main_cst_37, val_main_v104, val_main_v105, val_main_v106, val_main_cst_38, val_main_v107, val_main_v108,
    val_main_v109, val_main_cst_39, val_main_v110, val_main_v111, val_main_cst_40, val_main_v112, val_main_v113,
    val_main_v114, val_main_cst_41, val_main_v115, val_main_v116, val_main_v117, val_main_cst_42, val_main_v118,
    val_main_v119, val_main_v120, val_main_cst_43, val_main_v121, val_main_v122]
  rfl
theorem ref51 (w g u v : Vec Ideal S1x1024 .f32) : val_main_v146 (F := Ideal) w g u v = stepS w g u v :=
  ref39 w g u v
theorem ref52 (g u : Vec Ideal S1x1024 .f32) : val_main_v127 (F := Ideal) g u = momS g u :=
  ref40 g u
theorem ref53 (g v : Vec Ideal S1x1024 .f32) : val_main_v133 (F := Ideal) g v = varS g v :=
  ref41 g v
theorem ref54 (w g u v : Vec Ideal S1x1024 .f32) : val_main_v170 (F := Ideal) w g u v = stepS w g u v :=
  ref39 w g u v
theorem ref55 (g u : Vec Ideal S1x1024 .f32) : val_main_v151 (F := Ideal) g u = momS g u :=
  ref40 g u
theorem ref56 (g v : Vec Ideal S1x1024 .f32) : val_main_v157 (F := Ideal) g v = varS g v :=
  ref41 g v
theorem ref57 (w g u v : Vec Ideal S1x1024 .f32) : val_main_v194 (F := Ideal) w g u v = stepS w g u v :=
  ref39 w g u v
theorem ref58 (g u : Vec Ideal S1x1024 .f32) : val_main_v175 (F := Ideal) g u = momS g u :=
  ref40 g u
theorem ref59 (g v : Vec Ideal S1x1024 .f32) : val_main_v181 (F := Ideal) g v = varS g v :=
  ref41 g v
theorem ref60 (w g u v : Vec Ideal S1x1024 .f32) : val_main_v218 (F := Ideal) w g u v = stepS w g u v :=
  ref39 w g u v
theorem ref61 (g u : Vec Ideal S1x1024 .f32) : val_main_v199 (F := Ideal) g u = momS g u :=
  ref40 g u
theorem ref62 (g v : Vec Ideal S1x1024 .f32) : val_main_v205 (F := Ideal) g v = varS g v :=
  ref41 g v

end Reference

set_option maxHeartbeats 8000000 in
open Cert.Reference12Ideal.Read in
/-- The kernel and the reference make the same steps and moments. -/
theorem algebraic : Cert.algebraic_Kernel12Ideal_Reference12Ideal := fun m ρ m' ρ' _ hag =>
  ⟨fun c => stepS (a0 m c) (a1 m c) (a2 m c) (a3 m c),
    fun c => momS (a1 m c) (a2 m c),
    fun c => varS (a1 m c) (a3 m c),
    fun c => stepS (a4 m c) (a5 m c) (a6 m c) (a7 m c),
    fun c => momS (a5 m c) (a6 m c),
    fun c => varS (a5 m c) (a7 m c),
    fun c => stepS (a8 m c) (a9 m c) (a10 m c) (a11 m c),
    fun c => momS (a9 m c) (a10 m c),
    fun c => varS (a9 m c) (a11 m c),
    fun c => fun i => stepS (a12 m c) (a13 m c) (a14 m c) (a15 m c) (swap i),
    fun c => fun i => momS (a13 m c) (a14 m c) (swap i),
    fun c => fun i => varS (a13 m c) (a15 m c) (swap i),
    fun c => stepS (a16 m c) (a17 m c) (a18 m c) (a19 m c),
    fun c => momS (a17 m c) (a18 m c),
    fun c => varS (a17 m c) (a19 m c),
    fun c => stepS (a20 m c) (a21 m c) (a22 m c) (a23 m c),
    fun c => momS (a21 m c) (a22 m c),
    fun c => varS (a21 m c) (a23 m c),
    fun c => stepS (a24 m c) (a25 m c) (a26 m c) (a27 m c),
    fun c => momS (a25 m c) (a26 m c),
    fun c => varS (a25 m c) (a27 m c),
    fun c => stepS (a28 m c) (a29 m c) (a30 m c) (a31 m c),
    fun c => momS (a29 m c) (a30 m c),
    fun c => varS (a29 m c) (a31 m c),
    fun c => stepS (a32 m c) (a33 m c) (a34 m c) (a35 m c),
    fun c => momS (a33 m c) (a34 m c),
    fun c => varS (a33 m c) (a35 m c),
    (θ_run _ _ _).mono (fun _ h c => by
      obtain ⟨h36, h37, h38, h39, h40, h41, h42, h43, h44, h45, h46, h47, h48, h49, h50, h51, h52, h53, h54, h55, h56, h57,
        h58, h59, h60, h61, h62, ha⟩ := h.1 c
      exact ⟨h36.trans (final36 m c), h37.trans (final37 m c), h38.trans (final38 m c), h39.trans (final39 m c),
        h40.trans (final40 m c), h41.trans (final41 m c), h42.trans (final42 m c), h43.trans (final43 m c),
        h44.trans (final44 m c), h45.trans (final45 m c), h46.trans (final46 m c), h47.trans (final47 m c),
        h48.trans (final48 m c), h49.trans (final49 m c), h50.trans (final50 m c), h51.trans (final51 m c),
        h52.trans (final52 m c), h53.trans (final53 m c), h54.trans (final54 m c), h55.trans (final55 m c),
        h56.trans (final56 m c), h57.trans (final57 m c), h58.trans (final58 m c), h59.trans (final59 m c),
        h60.trans (final60 m c), h61.trans (final61 m c), h62.trans (final62 m c), ha⟩)
      (Cert.Proof.Small.run_results m ρ),
    (θ_run _ _ _).mono (fun _ h c => by
      obtain ⟨h36, h37, h38, h39, h40, h41, h42, h43, h44, h45, h46, h47, h48, h49, h50, h51, h52, h53, h54, h55, h56, h57,
        h58, h59, h60, h61, h62, ha⟩ := h c
      obtain ⟨e0, e1, e2, e3, e4, e5, e6, e7, e8, e9, e10, e11, e12, e13, e14, e15, e16, e17, e18, e19, e20, e21, e22, e23,
        e24, e25, e26, e27, e28, e29, e30, e31, e32, e33, e34, e35⟩ := hag c
      exact ⟨h36.trans ((val_main_v23_eq (StableHlo.launchContents m' c)).trans ((ref36 _ _ _ _).trans (step_congr e0 e1 e2 e3))),
        h37.trans ((val_main_v4_eq (StableHlo.launchContents m' c)).trans ((ref37 _ _).trans (mom_congr e1 e2))),
        h38.trans ((val_main_v10_eq (StableHlo.launchContents m' c)).trans ((ref38 _ _).trans (var_congr e1 e3))),
        h39.trans ((val_main_v47_eq (StableHlo.launchContents m' c)).trans ((ref39 _ _ _ _).trans (step_congr e4 e5 e6 e7))),
        h40.trans ((val_main_v28_eq (StableHlo.launchContents m' c)).trans ((ref40 _ _).trans (mom_congr e5 e6))),
        h41.trans ((val_main_v34_eq (StableHlo.launchContents m' c)).trans ((ref41 _ _).trans (var_congr e5 e7))),
        h42.trans ((val_main_v71_eq (StableHlo.launchContents m' c)).trans ((ref42 _ _ _ _).trans (step_congr e8 e9 e10 e11))),
        h43.trans ((val_main_v52_eq (StableHlo.launchContents m' c)).trans ((ref43 _ _).trans (mom_congr e9 e10))),
        h44.trans ((val_main_v58_eq (StableHlo.launchContents m' c)).trans ((ref44 _ _).trans (var_congr e9 e11))),
        h45.trans ((val_main_v96_eq (StableHlo.launchContents m' c)).trans ((ref45 _ _ _ _).trans (congrArg (· ∘ swap) (step_congr e12 e13 e14 e15)))),
        h46.trans ((val_main_v97_eq (StableHlo.launchContents m' c)).trans ((ref46 _ _).trans (congrArg (· ∘ swap) (mom_congr e13 e14)))),
        h47.trans ((val_main_v98_eq (StableHlo.launchContents m' c)).trans ((ref47 _ _).trans (congrArg (· ∘ swap) (var_congr e13 e15)))),
        h48.trans ((val_main_v122_eq (StableHlo.launchContents m' c)).trans ((ref48 _ _ _ _).trans (step_congr e16 e17 e18 e19))),
        h49.trans ((val_main_v103_eq (StableHlo.launchContents m' c)).trans ((ref49 _ _).trans (mom_congr e17 e18))),
        h50.trans ((val_main_v109_eq (StableHlo.launchContents m' c)).trans ((ref50 _ _).trans (var_congr e17 e19))),
        h51.trans ((val_main_v146_eq (StableHlo.launchContents m' c)).trans ((ref51 _ _ _ _).trans (step_congr e20 e21 e22 e23))),
        h52.trans ((val_main_v127_eq (StableHlo.launchContents m' c)).trans ((ref52 _ _).trans (mom_congr e21 e22))),
        h53.trans ((val_main_v133_eq (StableHlo.launchContents m' c)).trans ((ref53 _ _).trans (var_congr e21 e23))),
        h54.trans ((val_main_v170_eq (StableHlo.launchContents m' c)).trans ((ref54 _ _ _ _).trans (step_congr e24 e25 e26 e27))),
        h55.trans ((val_main_v151_eq (StableHlo.launchContents m' c)).trans ((ref55 _ _).trans (mom_congr e25 e26))),
        h56.trans ((val_main_v157_eq (StableHlo.launchContents m' c)).trans ((ref56 _ _).trans (var_congr e25 e27))),
        h57.trans ((val_main_v194_eq (StableHlo.launchContents m' c)).trans ((ref57 _ _ _ _).trans (step_congr e28 e29 e30 e31))),
        h58.trans ((val_main_v175_eq (StableHlo.launchContents m' c)).trans ((ref58 _ _).trans (mom_congr e29 e30))),
        h59.trans ((val_main_v181_eq (StableHlo.launchContents m' c)).trans ((ref59 _ _).trans (var_congr e29 e31))),
        h60.trans ((val_main_v218_eq (StableHlo.launchContents m' c)).trans ((ref60 _ _ _ _).trans (step_congr e32 e33 e34 e35))),
        h61.trans ((val_main_v199_eq (StableHlo.launchContents m' c)).trans ((ref61 _ _).trans (mom_congr e33 e34))),
        h62.trans ((val_main_v205_eq (StableHlo.launchContents m' c)).trans ((ref62 _ _).trans (var_congr e33 e35))), ha⟩)
      (Cert.Reference12Ideal.Value.run m' ρ')⟩

/-- The kernel keeps its arguments and leaves no counter up. -/
theorem frame_ideal : Cert.quiescent_Kernel12Ideal := fun m ρ _ =>
  (θ_run Cert.Kernel12Ideal.defs _ _).mono (fun _ h => ⟨fun c => (h.1 c).2.2.2.2.2.2.2.2.2.2.2.2.2.2.2.2.2.2.2.2.2.2.2.2.2.2.2, h.2⟩) (Cert.Proof.Small.run_results m ρ)

set_option backward.isDefEq.respectTransparency false in
set_option backward.isDefEq.respectTransparency.types false in
set_option maxHeartbeats 8000000 in
/-- Over the words the program has the same text, so it does the same. -/
theorem same_text (m : (ℓ : Loc Cert.Kernel12.nD Cert.Kernel12.τ Cert.Kernel12.sig) → Buf (Elt Bits) ℓ)
    (ρ : Dev Cert.Kernel12.nD → PrngReg) (Q : PUnit × MemSt Cert.Kernel12.nD Cert.Kernel12.τ Cert.Kernel12.sig (Elt Bits) → Prop)
    (h : θ_run (Cert.Kernel12Ideal.defs (F := Bits)) (onTc (τ := Cert.Kernel12Ideal.τ) Cert.Kernel12Ideal.main) ⟨m, fun _ => 0, ρ⟩ Q) :
    θ_run (Cert.Kernel12.defs (F := Bits)) (onTc (τ := Cert.Kernel12.τ) Cert.Kernel12.main) ⟨m, fun _ => 0, ρ⟩ Q := by
  delta Cert.Kernel12Ideal.defs Cert.Kernel12Ideal.main at h
  delta Cert.Kernel12Ideal.pcfgs Cert.Kernel12Ideal.defs₀ at h
  delta Cert.Kernel12Ideal.cfgs Cert.Kernel12Ideal.defs₀.match_1 Cert.Kernel12Ideal.cc0_adamw_small at h
  delta Cert.Kernel12Ideal.cfg0 at h
  delta Cert.Kernel12Ideal.k0_part1 Cert.Kernel12Ideal.k0_part2 at h
  delta Cert.Kernel12Ideal.k0_part3 Cert.Kernel12Ideal.k0_part4 at h
  delta Cert.Kernel12Ideal.k0_part5 Cert.Kernel12Ideal.k0_part6 at h
  delta Cert.Kernel12Ideal.k0_part7 Cert.Kernel12Ideal.k0_part8 at h
  delta Cert.Kernel12.defs Cert.Kernel12.main
  delta Cert.Kernel12.pcfgs Cert.Kernel12.defs₀
  delta Cert.Kernel12.cfgs Cert.Kernel12.defs₀.match_1 Cert.Kernel12.cc0_adamw_small
  delta Cert.Kernel12.cfg0
  delta Cert.Kernel12.k0_part1 Cert.Kernel12.k0_part2
  delta Cert.Kernel12.k0_part3 Cert.Kernel12.k0_part4
  delta Cert.Kernel12.k0_part5 Cert.Kernel12.k0_part6
  delta Cert.Kernel12.k0_part7 Cert.Kernel12.k0_part8
  exact h

theorem frame : Cert.quiescent_Kernel12 := fun m ρ _ => same_text m ρ _ <|
  (θ_run (Cert.Kernel12Ideal.defs (F := Bits)) _ _).mono (fun _ h => ⟨fun c => (h.1 c).2.2.2.2.2.2.2.2.2.2.2.2.2.2.2.2.2.2.2.2.2.2.2.2.2.2.2, h.2⟩)
    (Cert.Proof.Small.run_results (F := Bits) m ρ)

end Cert.Proof.Opt12

end
-- ==== Proof.Ada13.lean ====
/-
  Hand-written. The gradient of the conditioning's weight and bias: kernel and reference agree.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Ada13

open Idealize.ShloMosaic Idealize.SL.Sem Idealize.ShloMosaic.TcCoe

section Kernel

open Cert.Kernel13Ideal Cert.Kernel13Ideal.Gen

section Block

variable (x : Vec Ideal S16x1024 .bf16) (y : Vec Ideal S16x1152 .f32) (d : Fin 1152)

/-- The two sums over the sequences. -/
def prodSum (r : Fin 1024) : EReal := ∑ b : Fin 16, x (ix2 b r) * y (ix2 b d)
def rowSum : EReal := ∑ b : Fin 16, y (ix2 b d)

/-- What the body leaves in the two output blocks. -/
theorem out2_at (r : Fin 1024) : out0_2 (F := Ideal) x y (ix2 r d) = prodSum x y d r := by
  unfold out0_2
  frame_out
  pointwise [k0_pay1]
  rfl
theorem out3_at (r : Fin 1) : out0_3 (F := Ideal) x y (ix2 r d) = rowSum y d := by
  unfold out0_3
  frame_out
  pointwise [k0_pay2]
  rfl

end Block

/-- The gradient of the weight: the conditioning's activation against the modulations' gradient. -/
def dW (x : Vec Ideal S16x1024 .f32) (y : Vec Ideal S16x1152 .f32) (r : Fin 1024) (d : Fin 1152) : EReal :=
  ∑ b : Fin 16, Cert.Reference13Ideal.Read.val_main_v2 (F := Ideal) x (ix2 b r) * y (ix2 b d)
/-- The gradient of the bias. -/
def dB (y : Vec Ideal S16x1152 .f32) (d : Fin 1152) : EReal := ∑ b : Fin 16, y (ix2 b d)

variable (m : (ℓ : Loc nD τ sig) → Buf (Elt Ideal) ℓ)

/-- The conditioning and the modulations' gradient. -/
abbrev aX (c : Dev nD) : Vec Ideal S16x1024 .f32 := m ((c : Thread nD τ).loc main_arg0)
abbrev aY (c : Dev nD) : Vec Ideal S16x1152 .f32 := m ((c : Thread nD τ).loc main_arg1)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

variable (c : Dev nD)

section Point

variable (t : Fin cfg0.N) (b : Fin 16) (d : Fin 1152)

/-- What the point's input blocks hold: the first the activation that the host program makes. -/
theorem blk0 (r : Fin 1024) : iblk m c 0 t (ix2 b r)
    = Cert.Reference13Ideal.Read.val_main_v2 (F := Ideal) (aX m c) (ix2 b r) := by
  blk_ext! [iblk, V, idx0]
theorem blk1 : iblk m c 1 t (ix2 b d) = aY m c (ix2 b d) := by
  blk_ext! [iblk, V, idx1]

/-- The sums over the blocks are the sums over the arrays. -/
theorem prodSum_eq (r : Fin 1024) : prodSum (iblk m c 0 t) (iblk m c 1 t) d r = dW (aX m c) (aY m c) r d :=
  Finset.sum_congr rfl fun b _ => by rw [blk0, blk1]
theorem rowSum_eq : rowSum (iblk m c 1 t) d = dB (aY m c) d := Finset.sum_congr rfl fun b _ => by rw [blk1]

/-- Where the point's output blocks lie. -/
theorem emb2 (r : Fin 1024) : ((win0_2.blk t).view.emb (ix2 r d) : S1024x1152.Idx) = ix2 r d := by blk_ext [idx2]
theorem emb3 (r : Fin 1) : ((win0_3.blk t).view.emb (ix2 r d) : S1x1152.Idx) = ix2 r d := by blk_ext [idx3]

end Point

/-- The two results. -/
theorem final2 : (dats m 0 c).arrAt 2 cfg0.N = fun i => dW (aX m c) (aY m c) (i 0) (i 1) := by
  refine (dats m 0 c).arrAt_eq_of_covers 2 _ (by decide +kernel) fun t hf y => ?_
  blk_simp
  obtain ⟨r, d, rfl⟩ : ∃ (r : Fin 1024) (d : Fin 1152), y = ix2 r d := ⟨y 0, y 1, eq_ix2 y⟩
  rw [after0_2, out2_at, emb2, prodSum_eq]
  rfl
theorem final3 : (dats m 0 c).arrAt 3 cfg0.N = fun i => dB (aY m c) (i 1) := by
  refine (dats m 0 c).arrAt_eq_of_covers 3 _ (by decide +kernel) fun t hf y => ?_
  blk_simp
  obtain ⟨r, d, rfl⟩ : ∃ (r : Fin 1) (d : Fin 1152), y = ix2 r d := ⟨y 0, y 1, eq_ix2 y⟩
  rw [after0_3, out3_at, emb3, rowSum_eq]
  rfl

end Kernel

section Reference

open Cert.Reference13Ideal Cert.Reference13Ideal.Read

variable (x : Vec Ideal S16x1024 .f32) (y : Vec Ideal S16x1152 .f32)

/-- The reference's two results. -/
theorem ref2 : val_main_v10 (F := Ideal) x y = fun i => dW x y (i 0) (i 1) := by
  have h : ∀ (r : Fin 1024) (d : Fin 1152), val_main_v10 (F := Ideal) x y (ix2 r d) = dW x y r d := fun r d => by
    pointwise [val_main_v10, val_main_v9, val_main_v6]
    exact Finset.sum_congr rfl fun b _ => mul_comm _ _
  funext i
  rw [eq_ix2 i]
  exact h (i 0) (i 1)
theorem ref3 : val_main_v8 (F := Ideal) y = fun i => dB y (i 1) := by
  have h : ∀ (r : Fin 1) (d : Fin 1152), val_main_v8 (F := Ideal) y (ix2 r d) = dB y d := fun r d => by
    pointwise [val_main_v8, val_main_v7, val_main_cst_1]
    rfl
  funext i
  rw [eq_ix2 i]
  exact h (i 0) (i 1)

end Reference

/-- The kernel and the reference make the same two gradients. -/
theorem algebraic : Cert.algebraic_Kernel13Ideal_Reference13Ideal := fun m ρ m' ρ' _ hag =>
  ⟨fun c i => dW (aX m c) (aY m c) (i 0) (i 1),
    fun c i => dB (aY m c) (i 1),
    (θ_run _ _ _).mono (fun _ h c => by
      obtain ⟨h0, h1, ha⟩ := h c
      exact ⟨h0.trans (final2 m c), h1.trans (final3 m c), ha⟩)
      (Cert.Kernel13Ideal.Value.run_blocks m ρ),
    (θ_run _ _ _).mono (fun _ h c => by
      obtain ⟨h0, h1, ha⟩ := h c
      obtain ⟨e0, e1⟩ := hag c
      rw [Cert.Reference13Ideal.Read.val_main_v10_eq, e0, e1] at h0
      rw [Cert.Reference13Ideal.Read.val_main_v8_eq, e1] at h1
      exact ⟨h0.trans (ref2 _ _), h1.trans (ref3 _), ha⟩)
      (Cert.Reference13Ideal.Value.run m' ρ')⟩

end Cert.Proof.Ada13

end
-- ==== Proof.Sum14.lean ====
/-
  Hand-written. The sums of the small gradients over the devices: kernel and reference agree.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Sum14

open Idealize.ShloMosaic Idealize.SL.Sem Idealize.ShloMosaic.TcCoe

open Cert.Kernel14Ideal Cert.Kernel14Ideal.Gen

/-- One row's sum over the devices, as far as `n` columns. -/
def rowSum (a : Vec Ideal S8x8x1024 .f32) (k : Fin 8) (n : Nat) (hn : n ≤ 1024) (d : Fin n) : EReal :=
  ∑ e : Fin 8, a (ix3 e k ⟨d.val, by omega⟩)

variable (a : Vec Ideal S8x8x1024 .f32)

theorem kernel1 : Cert.Kernel14Ideal.Value.G1 (F := Ideal) a = fun i => rowSum a 0 1024 (by omega) (i 1) := by
  have h : ∀ (r : Fin 1) (d : Fin 1024), Cert.Kernel14Ideal.Value.G1 (F := Ideal) a (ix2 r d)
      = rowSum a 0 1024 (by omega) d := fun r d => by
    fin_cases r
    pointwise [k0_pay7, k0_pay6]
    unfold rowSum
    rw [Fin.sum_univ_eight]
  funext i
  rw [eq_ix2 i]
  exact h (i 0) (i 1)
theorem ref1 : Cert.Reference14Ideal.Read.val_main_v1 (F := Ideal) a = fun i => rowSum a 0 1024 (by omega) (i 1) := by
  have h : ∀ (r : Fin 1) (d : Fin 1024), Cert.Reference14Ideal.Read.val_main_v1 (F := Ideal) a (ix2 r d)
      = rowSum a 0 1024 (by omega) d := fun r d => by
    fin_cases r
    pointwise [Cert.Reference14Ideal.Read.val_main_v1, Cert.Reference14Ideal.Read.val_main_v0, Cert.Reference14Ideal.Read.val_main_cst]
    rfl
  funext i
  rw [eq_ix2 i]
  exact h (i 0) (i 1)

theorem kernel2 : Cert.Kernel14Ideal.Value.G2 (F := Ideal) a = fun i => rowSum a 1 1024 (by omega) (i 1) := by
  have h : ∀ (r : Fin 1) (d : Fin 1024), Cert.Kernel14Ideal.Value.G2 (F := Ideal) a (ix2 r d)
      = rowSum a 1 1024 (by omega) d := fun r d => by
    fin_cases r
    pointwise [k0_pay8, k0_pay6]
    unfold rowSum
    rw [Fin.sum_univ_eight]
  funext i
  rw [eq_ix2 i]
  exact h (i 0) (i 1)
theorem ref2 : Cert.Reference14Ideal.Read.val_main_v2 (F := Ideal) a = fun i => rowSum a 1 1024 (by omega) (i 1) := by
  have h : ∀ (r : Fin 1) (d : Fin 1024), Cert.Reference14Ideal.Read.val_main_v2 (F := Ideal) a (ix2 r d)
      = rowSum a 1 1024 (by omega) d := fun r d => by
    fin_cases r
    pointwise [Cert.Reference14Ideal.Read.val_main_v2, Cert.Reference14Ideal.Read.val_main_v0, Cert.Reference14Ideal.Read.val_main_cst]
    rfl
  funext i
  rw [eq_ix2 i]
  exact h (i 0) (i 1)

theorem kernel3 : Cert.Kernel14Ideal.Value.G3 (F := Ideal) a = fun i => rowSum a 2 1024 (by omega) (i 1) := by
  have h : ∀ (r : Fin 1) (d : Fin 1024), Cert.Kernel14Ideal.Value.G3 (F := Ideal) a (ix2 r d)
      = rowSum a 2 1024 (by omega) d := fun r d => by
    fin_cases r
    pointwise [k0_pay9, k0_pay6]
    unfold rowSum
    rw [Fin.sum_univ_eight]
  funext i
  rw [eq_ix2 i]
  exact h (i 0) (i 1)
theorem ref3 : Cert.Reference14Ideal.Read.val_main_v3 (F := Ideal) a = fun i => rowSum a 2 1024 (by omega) (i 1) := by
  have h : ∀ (r : Fin 1) (d : Fin 1024), Cert.Reference14Ideal.Read.val_main_v3 (F := Ideal) a (ix2 r d)
      = rowSum a 2 1024 (by omega) d := fun r d => by
    fin_cases r
    pointwise [Cert.Reference14Ideal.Read.val_main_v3, Cert.Reference14Ideal.Read.val_main_v0, Cert.Reference14Ideal.Read.val_main_cst]
    rfl
  funext i
  rw [eq_ix2 i]
  exact h (i 0) (i 1)

theorem kernel4 : Cert.Kernel14Ideal.Value.G4 (F := Ideal) a = fun i => rowSum a 3 1024 (by omega) (i 1) := by
  have h : ∀ (r : Fin 1) (d : Fin 1024), Cert.Kernel14Ideal.Value.G4 (F := Ideal) a (ix2 r d)
      = rowSum a 3 1024 (by omega) d := fun r d => by
    fin_cases r
    pointwise [k0_pay1, k0_pay10, k0_pay6]
    unfold rowSum
    rw [Fin.sum_univ_eight]
  funext i
  rw [eq_ix2 i]
  exact h (i 0) (i 1)
theorem ref4 : Cert.Reference14Ideal.Read.val_main_v4 (F := Ideal) a = fun i => rowSum a 3 1024 (by omega) (i 1) := by
  have h : ∀ (r : Fin 1) (d : Fin 1024), Cert.Reference14Ideal.Read.val_main_v4 (F := Ideal) a (ix2 r d)
      = rowSum a 3 1024 (by omega) d := fun r d => by
    fin_cases r
    pointwise [Cert.Reference14Ideal.Read.val_main_v4, Cert.Reference14Ideal.Read.val_main_v0, Cert.Reference14Ideal.Read.val_main_cst]
    rfl
  funext i
  rw [eq_ix2 i]
  exact h (i 0) (i 1)

theorem kernel5 : Cert.Kernel14Ideal.Value.G5 (F := Ideal) a = fun i => rowSum a 4 1024 (by omega) (i 1) := by
  have h : ∀ (r : Fin 1) (d : Fin 1024), Cert.Kernel14Ideal.Value.G5 (F := Ideal) a (ix2 r d)
      = rowSum a 4 1024 (by omega) d := fun r d => by
    fin_cases r
    pointwise [k0_pay2, k0_pay10, k0_pay6]
    unfold rowSum
    rw [Fin.sum_univ_eight]
  funext i
  rw [eq_ix2 i]
  exact h (i 0) (i 1)
theorem ref5 : Cert.Reference14Ideal.Read.val_main_v5 (F := Ideal) a = fun i => rowSum a 4 1024 (by omega) (i 1) := by
  have h : ∀ (r : Fin 1) (d : Fin 1024), Cert.Reference14Ideal.Read.val_main_v5 (F := Ideal) a (ix2 r d)
      = rowSum a 4 1024 (by omega) d := fun r d => by
    fin_cases r
    pointwise [Cert.Reference14Ideal.Read.val_main_v5, Cert.Reference14Ideal.Read.val_main_v0, Cert.Reference14Ideal.Read.val_main_cst]
    rfl
  funext i
  rw [eq_ix2 i]
  exact h (i 0) (i 1)

theorem kernel6 : Cert.Kernel14Ideal.Value.G6 (F := Ideal) a = fun i => rowSum a 5 1024 (by omega) (i 1) := by
  have h : ∀ (r : Fin 1) (d : Fin 1024), Cert.Kernel14Ideal.Value.G6 (F := Ideal) a (ix2 r d)
      = rowSum a 5 1024 (by omega) d := fun r d => by
    fin_cases r
    pointwise [k0_pay3, k0_pay10, k0_pay6]
    unfold rowSum
    rw [Fin.sum_univ_eight]
  funext i
  rw [eq_ix2 i]
  exact h (i 0) (i 1)
theorem ref6 : Cert.Reference14Ideal.Read.val_main_v6 (F := Ideal) a = fun i => rowSum a 5 1024 (by omega) (i 1) := by
  have h : ∀ (r : Fin 1) (d : Fin 1024), Cert.Reference14Ideal.Read.val_main_v6 (F := Ideal) a (ix2 r d)
      = rowSum a 5 1024 (by omega) d := fun r d => by
    fin_cases r
    pointwise [Cert.Reference14Ideal.Read.val_main_v6, Cert.Reference14Ideal.Read.val_main_v0, Cert.Reference14Ideal.Read.val_main_cst]
    rfl
  funext i
  rw [eq_ix2 i]
  exact h (i 0) (i 1)

theorem kernel7 : Cert.Kernel14Ideal.Value.G7 (F := Ideal) a = fun i => rowSum a 6 8 (by omega) (i 1) := by
  have h : ∀ (r : Fin 1) (d : Fin 8), Cert.Kernel14Ideal.Value.G7 (F := Ideal) a (ix2 r d)
      = rowSum a 6 8 (by omega) d := fun r d => by
    fin_cases r
    pointwise [k0_pay4, k0_pay10, k0_pay6]
    unfold rowSum
    rw [Fin.sum_univ_eight]
  funext i
  rw [eq_ix2 i]
  exact h (i 0) (i 1)
theorem ref7 : Cert.Reference14Ideal.Read.val_main_v7 (F := Ideal) a = fun i => rowSum a 6 8 (by omega) (i 1) := by
  have h : ∀ (r : Fin 1) (d : Fin 8), Cert.Reference14Ideal.Read.val_main_v7 (F := Ideal) a (ix2 r d)
      = rowSum a 6 8 (by omega) d := fun r d => by
    fin_cases r
    pointwise [Cert.Reference14Ideal.Read.val_main_v7, Cert.Reference14Ideal.Read.val_main_v0, Cert.Reference14Ideal.Read.val_main_cst]
    rfl
  funext i
  rw [eq_ix2 i]
  exact h (i 0) (i 1)

theorem kernel8 : Cert.Kernel14Ideal.Value.G8 (F := Ideal) a = fun i => rowSum a 7 1 (by omega) (i 1) := by
  have h : ∀ (r : Fin 1) (d : Fin 1), Cert.Kernel14Ideal.Value.G8 (F := Ideal) a (ix2 r d)
      = rowSum a 7 1 (by omega) d := fun r d => by
    fin_cases r; fin_cases d
    pointwise [k0_pay5, k0_pay10, k0_pay6]
    unfold rowSum
    rw [Fin.sum_univ_eight]
    rfl
  funext i
  rw [eq_ix2 i]
  exact h (i 0) (i 1)
theorem ref8 : Cert.Reference14Ideal.Read.val_main_v8 (F := Ideal) a = fun i => rowSum a 7 1 (by omega) (i 1) := by
  have h : ∀ (r : Fin 1) (d : Fin 1), Cert.Reference14Ideal.Read.val_main_v8 (F := Ideal) a (ix2 r d)
      = rowSum a 7 1 (by omega) d := fun r d => by
    fin_cases r; fin_cases d
    pointwise [Cert.Reference14Ideal.Read.val_main_v8, Cert.Reference14Ideal.Read.val_main_v0, Cert.Reference14Ideal.Read.val_main_cst]
    rfl
  funext i
  rw [eq_ix2 i]
  exact h (i 0) (i 1)

/-- The array both programs sum. -/
abbrev aA (m : (ℓ : Loc nD τ sig) → Buf (Elt Ideal) ℓ) (c : Dev nD) : Vec Ideal S8x8x1024 .f32 :=
  m ((c : Thread nD τ).loc main_arg0)

/-- The kernel and the reference make the same sums. -/
theorem algebraic : Cert.algebraic_Kernel14Ideal_Reference14Ideal := fun m ρ m' ρ' _ hag =>
  ⟨fun c i => rowSum (aA m c) 0 1024 (by omega) (i 1),
    fun c i => rowSum (aA m c) 1 1024 (by omega) (i 1),
    fun c i => rowSum (aA m c) 2 1024 (by omega) (i 1),
    fun c i => rowSum (aA m c) 3 1024 (by omega) (i 1),
    fun c i => rowSum (aA m c) 4 1024 (by omega) (i 1),
    fun c i => rowSum (aA m c) 5 1024 (by omega) (i 1),
    fun c i => rowSum (aA m c) 6 8 (by omega) (i 1),
    fun c i => rowSum (aA m c) 7 1 (by omega) (i 1),
    (θ_run _ _ _).mono (fun _ h c => by
      obtain ⟨h1, h2, h3, h4, h5, h6, h7, h8, ha⟩ := h c
      exact ⟨h1.trans (kernel1 _), h2.trans (kernel2 _), h3.trans (kernel3 _), h4.trans (kernel4 _), h5.trans (kernel5 _), h6.trans (kernel6 _), h7.trans (kernel7 _), h8.trans (kernel8 _), ha⟩)
      (Cert.Kernel14Ideal.Value.run m ρ),
    (θ_run _ _ _).mono (fun _ h c => by
      obtain ⟨h1, h2, h3, h4, h5, h6, h7, h8, ha⟩ := h c
      have e0 := hag c
      rw [Cert.Reference14Ideal.Read.val_main_v1_eq, e0] at h1
      rw [Cert.Reference14Ideal.Read.val_main_v2_eq, e0] at h2
      rw [Cert.Reference14Ideal.Read.val_main_v3_eq, e0] at h3
      rw [Cert.Reference14Ideal.Read.val_main_v4_eq, e0] at h4
      rw [Cert.Reference14Ideal.Read.val_main_v5_eq, e0] at h5
      rw [Cert.Reference14Ideal.Read.val_main_v6_eq, e0] at h6
      rw [Cert.Reference14Ideal.Read.val_main_v7_eq, e0] at h7
      rw [Cert.Reference14Ideal.Read.val_main_v8_eq, e0] at h8
      exact ⟨h1.trans (ref1 _), h2.trans (ref2 _), h3.trans (ref3 _), h4.trans (ref4 _), h5.trans (ref5 _), h6.trans (ref6 _), h7.trans (ref7 _), h8.trans (ref8 _), ha⟩)
      (Cert.Reference14Ideal.Value.run m' ρ')⟩

end Cert.Proof.Sum14

end
-- ==== Proof.Sum15.lean ====
/-
  Hand-written. The sum of the tap gradients over the devices: kernel and reference agree.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ReadBack
public import Idealize.ShloMosaic.Lib.Pointwise
public import Idealize.ShloMosaic.Lib.Pipeline.ValueKit.Point
public import Idealize.ShloMosaic.Lib.Pipeline.ValueKit.Tiles

@[expose] public section

set_option maxRecDepth 16384

noncomputable section

namespace Cert.Proof.Sum15

open Idealize.ShloMosaic Idealize.SL.Sem Idealize.ShloMosaic.TcCoe

open Cert.Kernel15Ideal Cert.Kernel15Ideal.Gen

/-- One element's sum over the devices. -/
def total (a : Vec Ideal S8x3x512 .f32) (r : Fin 3) (d : Fin 512) : EReal := ∑ e : Fin 8, a (ix3 e r d)

variable (a : Vec Ideal S8x3x512 .f32)

/-- The sum over the devices, kernel and reference. -/
theorem kernel : Cert.Kernel15Ideal.Value.G1 (F := Ideal) a = fun i => total a (i 0) (i 1) := by
  have h : ∀ (r : Fin 3) (d : Fin 512), Cert.Kernel15Ideal.Value.G1 (F := Ideal) a (ix2 r d)
      = total a r d := fun r d => by
    pointwise [k0_pay1]
    rw [total, Fin.sum_univ_eight]
  funext i
  rw [eq_ix2 i]
  exact h (i 0) (i 1)
theorem reference : Cert.Reference15Ideal.Read.val_main_v0 (F := Ideal) a = fun i => total a (i 0) (i 1) := by
  have h : ∀ (r : Fin 3) (d : Fin 512), Cert.Reference15Ideal.Read.val_main_v0 (F := Ideal) a (ix2 r d)
      = total a r d := fun r d => by
    pointwise [Cert.Reference15Ideal.Read.val_main_v0, Cert.Reference15Ideal.Read.val_main_cst]
    rfl
  funext i
  rw [eq_ix2 i]
  exact h (i 0) (i 1)

/-- The array both programs sum. -/
abbrev aA (m : (ℓ : Loc nD τ sig) → Buf (Elt Ideal) ℓ) (c : Dev nD) : Vec Ideal S8x3x512 .f32 :=
  m ((c : Thread nD τ).loc main_arg0)

/-- The kernel and the reference make the same sum. -/
theorem algebraic : Cert.algebraic_Kernel15Ideal_Reference15Ideal := fun m ρ m' ρ' _ hag =>
  ⟨fun c i => total (aA m c) (i 0) (i 1),
    (θ_run _ _ _).mono (fun _ h c => ⟨(h c).1.trans (kernel _), (h c).2⟩) (Cert.Kernel15Ideal.Value.run m ρ),
    (θ_run _ _ _).mono (fun _ h c => by
      obtain ⟨h0, ha⟩ := h c
      have e0 := hag c
      rw [Cert.Reference15Ideal.Read.val_main_v0_eq, e0] at h0
      exact ⟨h0.trans (reference _), ha⟩)
      (Cert.Reference15Ideal.Value.run m' ρ')⟩

end Cert.Proof.Sum15

end
-- ==== Proof.lean ====
/-
  Hand-written. The claim, part by part: each program runs and keeps its arguments, the idealised kernel is the kernel's
  own text, and kernel and reference agree over the extended reals.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite
public import proofs.«01_k».proof.Proof.Gen.Pre_all_finite
public import proofs.«01_k».proof.Proof.ConvClaim
public import proofs.«01_k».proof.Proof.FfnClaim
public import proofs.«01_k».proof.Proof.DownClaim
public import proofs.«01_k».proof.Proof.UpClaim
public import proofs.«01_k».proof.Proof.LossClaim
public import proofs.«01_k».proof.Proof.Opt6
public import proofs.«01_k».proof.Proof.Opt7
public import proofs.«01_k».proof.Proof.Opt8
public import proofs.«01_k».proof.Proof.Opt9
public import proofs.«01_k».proof.Proof.Opt10
public import proofs.«01_k».proof.Proof.Opt11
public import proofs.«01_k».proof.Proof.Opt12
public import proofs.«01_k».proof.Proof.Ada13
public import proofs.«01_k».proof.Proof.Sum14
public import proofs.«01_k».proof.Proof.Sum15

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts, Cert.Pre_all_finite.Gen.facts,
    fun m ρ _ => Cert.Kernel.Gen.frame m ρ, fun m ρ _ => Cert.KernelIdeal.Gen.frame m ρ,
    fun m ρ _ => (θ_run _ _ _).mono (fun r h => ⟨fun c => (h c).2.2.2.2, sem_eq_zero_of_no_sems (by decide) r.2⟩)
      (Cert.ReferenceIdeal.Value.run m ρ),
    fun m ρ _ => Cert.Kernel2.Gen.frame m ρ, fun m ρ _ => Cert.Kernel2Ideal.Gen.frame m ρ,
    fun m ρ _ => Cert.Kernel2Ideal.Gen.frame m ρ,
    fun m ρ _ => (θ_run _ _ _).mono (fun r h => ⟨fun c => (h c).2.2.2, sem_eq_zero_of_no_sems (by decide) r.2⟩)
      (Cert.Reference2Ideal.Value.run m ρ),
    fun m ρ _ => (θ_run _ _ _).mono (fun r h => ⟨fun c => (h c).2.2.2, sem_eq_zero_of_no_sems (by decide) r.2⟩)
      (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2, sem_eq_zero_of_no_sems (by decide) r.2⟩)
      (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2, sem_eq_zero_of_no_sems (by decide) r.2⟩)
      (Cert.Reference4Ideal.Value.run m ρ),
    fun m ρ _ => Cert.Kernel5.Gen.frame m ρ, fun m ρ _ => Cert.Kernel5Ideal.Gen.frame m ρ,
    fun m ρ _ => Cert.Kernel5Ideal.Gen.frame m ρ,
    fun m ρ _ => (θ_run _ _ _).mono (fun r h => ⟨fun c => (h c).2.2.2.2.2.2.2.2, sem_eq_zero_of_no_sems (by decide) r.2⟩)
      (Cert.Reference5Ideal.Value.run m ρ),
    fun m ρ _ => (θ_run _ _ _).mono (fun r h => ⟨fun c => (h c).2.2.2.2.2.2.2.2, sem_eq_zero_of_no_sems (by decide) r.2⟩)
      (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2.2.2.2, sem_eq_zero_of_no_sems (by decide) r.2⟩)
      (Cert.Reference6Ideal.Value.run m ρ),
    fun m ρ _ => Cert.Kernel7.Gen.frame m ρ, fun m ρ _ => Cert.Kernel7Ideal.Gen.frame m ρ,
    fun m ρ _ => (θ_run _ _ _).mono (fun r h => ⟨fun c => (h c).2.2.2.2, sem_eq_zero_of_no_sems (by decide) r.2⟩)
      (Cert.Reference7Ideal.Value.run m ρ),
    fun m ρ _ => Cert.Kernel8.Gen.frame m ρ, fun m ρ _ => Cert.Kernel8Ideal.Gen.frame m ρ,
    fun m ρ _ => (θ_run _ _ _).mono (fun r h => ⟨fun c => (h c).2.2.2.2, sem_eq_zero_of_no_sems (by decide) r.2⟩)
      (Cert.Reference8Ideal.Value.run m ρ),
    fun m ρ _ => Cert.Kernel9.Gen.frame m ρ, fun m ρ _ => Cert.Kernel9Ideal.Gen.frame m ρ,
    fun m ρ _ => (θ_run _ _ _).mono (fun r h => ⟨fun c => (h c).2.2.2.2, sem_eq_zero_of_no_sems (by decide) r.2⟩)
      (Cert.Reference9Ideal.Value.run m ρ),
    fun m ρ _ => Cert.Kernel10.Gen.frame m ρ, fun m ρ _ => Cert.Kernel10Ideal.Gen.frame m ρ,
    fun m ρ _ => (θ_run _ _ _).mono (fun r h => ⟨fun c => (h c).2.2.2.2, sem_eq_zero_of_no_sems (by decide) r.2⟩)
      (Cert.Reference10Ideal.Value.run m ρ),
    fun m ρ _ => Cert.Kernel11.Gen.frame m ρ, fun m ρ _ => Cert.Kernel11Ideal.Gen.frame m ρ,
    fun m ρ _ => (θ_run _ _ _).mono (fun r h => ⟨fun c => (h c).2.2.2, sem_eq_zero_of_no_sems (by decide) r.2⟩)
      (Cert.Reference11Ideal.Value.run m ρ),
    Opt12.frame, Opt12.frame_ideal,
    fun m ρ _ => (θ_run _ _ _).mono (fun r h => ⟨fun c => (h c).2.2.2.2.2.2.2.2.2.2.2.2.2.2.2.2.2.2.2.2.2.2.2.2.2.2.2, sem_eq_zero_of_no_sems (by decide) r.2⟩)
      (Cert.Reference12Ideal.Value.run m ρ),
    fun m ρ _ => Cert.Kernel13.Gen.frame m ρ, fun m ρ _ => Cert.Kernel13Ideal.Gen.frame m ρ,
    fun m ρ _ => (θ_run _ _ _).mono (fun r h => ⟨fun c => (h c).2.2, sem_eq_zero_of_no_sems (by decide) r.2⟩)
      (Cert.Reference13Ideal.Value.run m ρ),
    fun m ρ _ => Cert.Kernel14.Gen.frame m ρ, fun m ρ _ => Cert.Kernel14Ideal.Gen.frame m ρ,
    fun m ρ _ => (θ_run _ _ _).mono (fun r h => ⟨fun c => (h c).2.2.2.2.2.2.2.2, sem_eq_zero_of_no_sems (by decide) r.2⟩)
      (Cert.Reference14Ideal.Value.run m ρ),
    fun m ρ _ => Cert.Kernel15.Gen.frame m ρ, fun m ρ _ => Cert.Kernel15Ideal.Gen.frame m ρ,
    fun m ρ _ => (θ_run _ _ _).mono (fun r h => ⟨fun c => (h c).2, sem_eq_zero_of_no_sems (by decide) r.2⟩)
      (Cert.Reference15Ideal.Value.run m ρ),
    trivial, Conv.algebraic, trivial, Ffn.algebraic, trivial, Down.algebraic, trivial, Up.algebraic, trivial, Loss.algebraic,
    trivial, Opt6.algebraic, trivial, Opt7.algebraic, trivial, Opt8.algebraic, trivial, Opt9.algebraic, trivial, Opt10.algebraic, trivial, Opt11.algebraic, trivial, Opt12.algebraic, trivial, Ada13.algebraic, trivial, Sum14.algebraic, trivial, Sum15.algebraic⟩

end Cert.Proof

end
